-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideReferenceIdeal (m : (ℓ : Loc Cert.WideReferenceIdeal.nD Cert.WideReferenceIdeal.τ Cert.WideReferenceIdeal.sig) → Buf (Elt Ideal) ℓ) : Prop :=
  True

def Pre_Tall (m : (ℓ : Loc Cert.Tall.nD Cert.Tall.τ Cert.Tall.sig) → Buf (Elt Bits) ℓ) : Prop :=
  True

def Pre_TallIdeal (m : (ℓ : Loc Cert.TallIdeal.nD Cert.TallIdeal.τ Cert.TallIdeal.sig) → Buf (Elt Ideal) ℓ) : Prop :=
  True

def Pre_TallReferenceIdeal (m : (ℓ : Loc Cert.TallReferenceIdeal.nD Cert.TallReferenceIdeal.τ Cert.TallReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectBwd (m : (ℓ : Loc Cert.ProjectBwd.nD Cert.ProjectBwd.τ Cert.ProjectBwd.sig) → Buf (Elt Bits) ℓ) : Prop :=
  True

def Pre_ProjectBwdIdeal (m : (ℓ : Loc Cert.ProjectBwdIdeal.nD Cert.ProjectBwdIdeal.τ Cert.ProjectBwdIdeal.sig) → Buf (Elt Ideal) ℓ) : Prop :=
  True

def Pre_ProjectBwdReferenceIdeal (m : (ℓ : Loc Cert.ProjectBwdReferenceIdeal.nD Cert.ProjectBwdReferenceIdeal.τ Cert.ProjectBwdReferenceIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Outer (m : (ℓ : Loc Cert.Outer.nD Cert.Outer.τ Cert.Outer.sig) → Buf (Elt Bits) ℓ) : Prop :=
  True

def Pre_OuterIdeal (m : (ℓ : Loc Cert.OuterIdeal.nD Cert.OuterIdeal.τ Cert.OuterIdeal.sig) → Buf (Elt Ideal) ℓ) : Prop :=
  True

def Pre_OuterReferenceIdeal (m : (ℓ : Loc Cert.OuterReferenceIdeal.nD Cert.OuterReferenceIdeal.τ Cert.OuterReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideReferenceIdeal [hWideReferenceIdeal : Cert.WideReferenceIdeal.Facts] : Prop :=
  ∀ (m : (ℓ : Loc Cert.WideReferenceIdeal.nD Cert.WideReferenceIdeal.τ Cert.WideReferenceIdeal.sig) → Buf (Elt Ideal) ℓ) (g : Dev Cert.WideReferenceIdeal.nD → PrngReg), Pre_WideReferenceIdeal m →
    θ_run (Cert.WideReferenceIdeal.defs (F := Ideal)) (onTc (τ := Cert.WideReferenceIdeal.τ) (Cert.WideReferenceIdeal.main (F := Ideal))) ⟨m, fun _ => 0, g⟩ (fun r => (∀ c : Dev Cert.WideReferenceIdeal.nD,
      r.2.mem ((c.tc : Thread Cert.WideReferenceIdeal.nD Cert.WideReferenceIdeal.τ).loc Cert.WideReferenceIdeal.main_arg0) = m ((c.tc : Thread Cert.WideReferenceIdeal.nD Cert.WideReferenceIdeal.τ).loc Cert.WideReferenceIdeal.main_arg0)
      ∧ r.2.mem ((c.tc : Thread Cert.WideReferenceIdeal.nD Cert.WideReferenceIdeal.τ).loc Cert.WideReferenceIdeal.main_arg1) = m ((c.tc : Thread Cert.WideReferenceIdeal.nD Cert.WideReferenceIdeal.τ).loc Cert.WideReferenceIdeal.main_arg1))
      ∧ r.2.sem = fun _ => 0)

def quiescent_Tall [hTall : Cert.Tall.Facts] : Prop :=
  ∀ (m : (ℓ : Loc Cert.Tall.nD Cert.Tall.τ Cert.Tall.sig) → Buf (Elt Bits) ℓ) (g : Dev Cert.Tall.nD → PrngReg), Pre_Tall m →
    θ_run (Cert.Tall.defs (F := Bits)) (onTc (τ := Cert.Tall.τ) (Cert.Tall.main (F := Bits))) ⟨m, fun _ => 0, g⟩ (fun r => (∀ c : Dev Cert.Tall.nD,
      r.2.mem ((c.tc : Thread Cert.Tall.nD Cert.Tall.τ).loc Cert.Tall.main_arg0) = m ((c.tc : Thread Cert.Tall.nD Cert.Tall.τ).loc Cert.Tall.main_arg0)
      ∧ r.2.mem ((c.tc : Thread Cert.Tall.nD Cert.Tall.τ).loc Cert.Tall.main_arg1) = m ((c.tc : Thread Cert.Tall.nD Cert.Tall.τ).loc Cert.Tall.main_arg1))
      ∧ r.2.sem = fun _ => 0)

def quiescent_TallIdeal [hTallIdeal : Cert.TallIdeal.Facts] : Prop :=
  ∀ (m : (ℓ : Loc Cert.TallIdeal.nD Cert.TallIdeal.τ Cert.TallIdeal.sig) → Buf (Elt Ideal) ℓ) (g : Dev Cert.TallIdeal.nD → PrngReg), Pre_TallIdeal m →
    θ_run (Cert.TallIdeal.defs (F := Ideal)) (onTc (τ := Cert.TallIdeal.τ) (Cert.TallIdeal.main (F := Ideal))) ⟨m, fun _ => 0, g⟩ (fun r => (∀ c : Dev Cert.TallIdeal.nD,
      r.2.mem ((c.tc : Thread Cert.TallIdeal.nD Cert.TallIdeal.τ).loc Cert.TallIdeal.main_arg0) = m ((c.tc : Thread Cert.TallIdeal.nD Cert.TallIdeal.τ).loc Cert.TallIdeal.main_arg0)
      ∧ r.2.mem ((c.tc : Thread Cert.TallIdeal.nD Cert.TallIdeal.τ).loc Cert.TallIdeal.main_arg1) = m ((c.tc : Thread Cert.TallIdeal.nD Cert.TallIdeal.τ).loc Cert.TallIdeal.main_arg1))
      ∧ r.2.sem = fun _ => 0)

def quiescent_TallReferenceIdeal [hTallReferenceIdeal : Cert.TallReferenceIdeal.Facts] : Prop :=
  ∀ (m : (ℓ : Loc Cert.TallReferenceIdeal.nD Cert.TallReferenceIdeal.τ Cert.TallReferenceIdeal.sig) → Buf (Elt Ideal) ℓ) (g : Dev Cert.TallReferenceIdeal.nD → PrngReg), Pre_TallReferenceIdeal m →
    θ_run (Cert.TallReferenceIdeal.defs (F := Ideal)) (onTc (τ := Cert.TallReferenceIdeal.τ) (Cert.TallReferenceIdeal.main (F := Ideal))) ⟨m, fun _ => 0, g⟩ (fun r => (∀ c : Dev Cert.TallReferenceIdeal.nD,
      r.2.mem ((c.tc : Thread Cert.TallReferenceIdeal.nD Cert.TallReferenceIdeal.τ).loc Cert.TallReferenceIdeal.main_arg0) = m ((c.tc : Thread Cert.TallReferenceIdeal.nD Cert.TallReferenceIdeal.τ).loc Cert.TallReferenceIdeal.main_arg0)
      ∧ r.2.mem ((c.tc : Thread Cert.TallReferenceIdeal.nD Cert.TallReferenceIdeal.τ).loc Cert.TallReferenceIdeal.main_arg1) = m ((c.tc : Thread Cert.TallReferenceIdeal.nD Cert.TallReferenceIdeal.τ).loc Cert.TallReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_ProjectBwd [hProjectBwd : Cert.ProjectBwd.Facts] : Prop :=
  ∀ (m : (ℓ : Loc Cert.ProjectBwd.nD Cert.ProjectBwd.τ Cert.ProjectBwd.sig) → Buf (Elt Bits) ℓ) (g : Dev Cert.ProjectBwd.nD → PrngReg), Pre_ProjectBwd m →
    θ_run (Cert.ProjectBwd.defs (F := Bits)) (onTc (τ := Cert.ProjectBwd.τ) (Cert.ProjectBwd.main (F := Bits))) ⟨m, fun _ => 0, g⟩ (fun r => (∀ c : Dev Cert.ProjectBwd.nD,
      r.2.mem ((c.tc : Thread Cert.ProjectBwd.nD Cert.ProjectBwd.τ).loc Cert.ProjectBwd.main_arg0) = m ((c.tc : Thread Cert.ProjectBwd.nD Cert.ProjectBwd.τ).loc Cert.ProjectBwd.main_arg0)
      ∧ r.2.mem ((c.tc : Thread Cert.ProjectBwd.nD Cert.ProjectBwd.τ).loc Cert.ProjectBwd.main_arg1) = m ((c.tc : Thread Cert.ProjectBwd.nD Cert.ProjectBwd.τ).loc Cert.ProjectBwd.main_arg1)
      ∧ r.2.mem ((c.tc : Thread Cert.ProjectBwd.nD Cert.ProjectBwd.τ).loc Cert.ProjectBwd.main_arg2) = m ((c.tc : Thread Cert.ProjectBwd.nD Cert.ProjectBwd.τ).loc Cert.ProjectBwd.main_arg2)
      ∧ r.2.mem ((c.tc : Thread Cert.ProjectBwd.nD Cert.ProjectBwd.τ).loc Cert.ProjectBwd.main_arg3) = m ((c.tc : Thread Cert.ProjectBwd.nD Cert.ProjectBwd.τ).loc Cert.ProjectBwd.main_arg3)
      ∧ r.2.mem ((c.tc : Thread Cert.ProjectBwd.nD Cert.ProjectBwd.τ).loc Cert.ProjectBwd.main_arg4) = m ((c.tc : Thread Cert.ProjectBwd.nD Cert.ProjectBwd.τ).loc Cert.ProjectBwd.main_arg4))
      ∧ r.2.sem = fun _ => 0)

def quiescent_ProjectBwdIdeal [hProjectBwdIdeal : Cert.ProjectBwdIdeal.Facts] : Prop :=
  ∀ (m : (ℓ : Loc Cert.ProjectBwdIdeal.nD Cert.ProjectBwdIdeal.τ Cert.ProjectBwdIdeal.sig) → Buf (Elt Ideal) ℓ) (g : Dev Cert.ProjectBwdIdeal.nD → PrngReg), Pre_ProjectBwdIdeal m →
    θ_run (Cert.ProjectBwdIdeal.defs (F := Ideal)) (onTc (τ := Cert.ProjectBwdIdeal.τ) (Cert.ProjectBwdIdeal.main (F := Ideal))) ⟨m, fun _ => 0, g⟩ (fun r => (∀ c : Dev Cert.ProjectBwdIdeal.nD,
      r.2.mem ((c.tc : Thread Cert.ProjectBwdIdeal.nD Cert.ProjectBwdIdeal.τ).loc Cert.ProjectBwdIdeal.main_arg0) = m ((c.tc : Thread Cert.ProjectBwdIdeal.nD Cert.ProjectBwdIdeal.τ).loc Cert.ProjectBwdIdeal.main_arg0)
      ∧ r.2.mem ((c.tc : Thread Cert.ProjectBwdIdeal.nD Cert.ProjectBwdIdeal.τ).loc Cert.ProjectBwdIdeal.main_arg1) = m ((c.tc : Thread Cert.ProjectBwdIdeal.nD Cert.ProjectBwdIdeal.τ).loc Cert.ProjectBwdIdeal.main_arg1)
      ∧ r.2.mem ((c.tc : Thread Cert.ProjectBwdIdeal.nD Cert.ProjectBwdIdeal.τ).loc Cert.ProjectBwdIdeal.main_arg2) = m ((c.tc : Thread Cert.ProjectBwdIdeal.nD Cert.ProjectBwdIdeal.τ).loc Cert.ProjectBwdIdeal.main_arg2)
      ∧ r.2.mem ((c.tc : Thread Cert.ProjectBwdIdeal.nD Cert.ProjectBwdIdeal.τ).loc Cert.ProjectBwdIdeal.main_arg3) = m ((c.tc : Thread Cert.ProjectBwdIdeal.nD Cert.ProjectBwdIdeal.τ).loc Cert.ProjectBwdIdeal.main_arg3)
      ∧ r.2.mem ((c.tc : Thread Cert.ProjectBwdIdeal.nD Cert.ProjectBwdIdeal.τ).loc Cert.ProjectBwdIdeal.main_arg4) = m ((c.tc : Thread Cert.ProjectBwdIdeal.nD Cert.ProjectBwdIdeal.τ).loc Cert.ProjectBwdIdeal.main_arg4))
      ∧ r.2.sem = fun _ => 0)

def quiescent_ProjectBwdReferenceIdeal [hProjectBwdReferenceIdeal : Cert.ProjectBwdReferenceIdeal.Facts] : Prop :=
  ∀ (m : (ℓ : Loc Cert.ProjectBwdReferenceIdeal.nD Cert.ProjectBwdReferenceIdeal.τ Cert.ProjectBwdReferenceIdeal.sig) → Buf (Elt Ideal) ℓ) (g : Dev Cert.ProjectBwdReferenceIdeal.nD → PrngReg), Pre_ProjectBwdReferenceIdeal m →
    θ_run (Cert.ProjectBwdReferenceIdeal.defs (F := Ideal)) (onTc (τ := Cert.ProjectBwdReferenceIdeal.τ) (Cert.ProjectBwdReferenceIdeal.main (F := Ideal))) ⟨m, fun _ => 0, g⟩ (fun r => (∀ c : Dev Cert.ProjectBwdReferenceIdeal.nD,
      r.2.mem ((c.tc : Thread Cert.ProjectBwdReferenceIdeal.nD Cert.ProjectBwdReferenceIdeal.τ).loc Cert.ProjectBwdReferenceIdeal.main_arg0) = m ((c.tc : Thread Cert.ProjectBwdReferenceIdeal.nD Cert.ProjectBwdReferenceIdeal.τ).loc Cert.ProjectBwdReferenceIdeal.main_arg0)
      ∧ r.2.mem ((c.tc : Thread Cert.ProjectBwdReferenceIdeal.nD Cert.ProjectBwdReferenceIdeal.τ).loc Cert.ProjectBwdReferenceIdeal.main_arg1) = m ((c.tc : Thread Cert.ProjectBwdReferenceIdeal.nD Cert.ProjectBwdReferenceIdeal.τ).loc Cert.ProjectBwdReferenceIdeal.main_arg1)
      ∧ r.2.mem ((c.tc : Thread Cert.ProjectBwdReferenceIdeal.nD Cert.ProjectBwdReferenceIdeal.τ).loc Cert.ProjectBwdReferenceIdeal.main_arg2) = m ((c.tc : Thread Cert.ProjectBwdReferenceIdeal.nD Cert.ProjectBwdReferenceIdeal.τ).loc Cert.ProjectBwdReferenceIdeal.main_arg2)
      ∧ r.2.mem ((c.tc : Thread Cert.ProjectBwdReferenceIdeal.nD Cert.ProjectBwdReferenceIdeal.τ).loc Cert.ProjectBwdReferenceIdeal.main_arg3) = m ((c.tc : Thread Cert.ProjectBwdReferenceIdeal.nD Cert.ProjectBwdReferenceIdeal.τ).loc Cert.ProjectBwdReferenceIdeal.main_arg3)
      ∧ r.2.mem ((c.tc : Thread Cert.ProjectBwdReferenceIdeal.nD Cert.ProjectBwdReferenceIdeal.τ).loc Cert.ProjectBwdReferenceIdeal.main_arg4) = m ((c.tc : Thread Cert.ProjectBwdReferenceIdeal.nD Cert.ProjectBwdReferenceIdeal.τ).loc Cert.ProjectBwdReferenceIdeal.main_arg4))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Outer [hOuter : Cert.Outer.Facts] : Prop :=
  ∀ (m : (ℓ : Loc Cert.Outer.nD Cert.Outer.τ Cert.Outer.sig) → Buf (Elt Bits) ℓ) (g : Dev Cert.Outer.nD → PrngReg), Pre_Outer m →
    θ_run (Cert.Outer.defs (F := Bits)) (onTc (τ := Cert.Outer.τ) (Cert.Outer.main (F := Bits))) ⟨m, fun _ => 0, g⟩ (fun r => (∀ c : Dev Cert.Outer.nD,
      r.2.mem ((c.tc : Thread Cert.Outer.nD Cert.Outer.τ).loc Cert.Outer.main_arg0) = m ((c.tc : Thread Cert.Outer.nD Cert.Outer.τ).loc Cert.Outer.main_arg0)
      ∧ r.2.mem ((c.tc : Thread Cert.Outer.nD Cert.Outer.τ).loc Cert.Outer.main_arg1) = m ((c.tc : Thread Cert.Outer.nD Cert.Outer.τ).loc Cert.Outer.main_arg1))
      ∧ r.2.sem = fun _ => 0)

def quiescent_OuterIdeal [hOuterIdeal : Cert.OuterIdeal.Facts] : Prop :=
  ∀ (m : (ℓ : Loc Cert.OuterIdeal.nD Cert.OuterIdeal.τ Cert.OuterIdeal.sig) → Buf (Elt Ideal) ℓ) (g : Dev Cert.OuterIdeal.nD → PrngReg), Pre_OuterIdeal m →
    θ_run (Cert.OuterIdeal.defs (F := Ideal)) (onTc (τ := Cert.OuterIdeal.τ) (Cert.OuterIdeal.main (F := Ideal))) ⟨m, fun _ => 0, g⟩ (fun r => (∀ c : Dev Cert.OuterIdeal.nD,
      r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
      ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1))
      ∧ r.2.sem = fun _ => 0)

def quiescent_OuterReferenceIdeal [hOuterReferenceIdeal : Cert.OuterReferenceIdeal.Facts] : Prop :=
  ∀ (m : (ℓ : Loc Cert.OuterReferenceIdeal.nD Cert.OuterReferenceIdeal.τ Cert.OuterReferenceIdeal.sig) → Buf (Elt Ideal) ℓ) (g : Dev Cert.OuterReferenceIdeal.nD → PrngReg), Pre_OuterReferenceIdeal m →
    θ_run (Cert.OuterReferenceIdeal.defs (F := Ideal)) (onTc (τ := Cert.OuterReferenceIdeal.τ) (Cert.OuterReferenceIdeal.main (F := Ideal))) ⟨m, fun _ => 0, g⟩ (fun r => (∀ c : Dev Cert.OuterReferenceIdeal.nD,
      r.2.mem ((c.tc : Thread Cert.OuterReferenceIdeal.nD Cert.OuterReferenceIdeal.τ).loc Cert.OuterReferenceIdeal.main_arg0) = m ((c.tc : Thread Cert.OuterReferenceIdeal.nD Cert.OuterReferenceIdeal.τ).loc Cert.OuterReferenceIdeal.main_arg0)
      ∧ r.2.mem ((c.tc : Thread Cert.OuterReferenceIdeal.nD Cert.OuterReferenceIdeal.τ).loc Cert.OuterReferenceIdeal.main_arg1) = m ((c.tc : Thread Cert.OuterReferenceIdeal.nD Cert.OuterReferenceIdeal.τ).loc Cert.OuterReferenceIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v33_1)) (v3 : (c : Dev Cert.KernelIdeal.nD) → Buf (Elt Ideal) ((c.tc : Thread Cert.KernelIdeal.nD Cert.KernelIdeal.τ).loc Cert.KernelIdeal.main_v36)) (v4 : (c : Dev Cert.KernelIdeal.nD) → Buf (Elt Ideal) ((c.tc : Thread Cert.KernelIdeal.nD Cert.KernelIdeal.τ).loc Cert.KernelIdeal.main_v38)) (v5 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v33_1) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_v38) = v4 c
          ∧ r.2.mem ((c.tc : Thread Cert.KernelIdeal.nD Cert.KernelIdeal.τ).loc Cert.KernelIdeal.main_v40) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v12_0)) (v1 : (c : Dev Cert.ForwardIdeal.nD) → Buf (Elt Ideal) ((c.tc : Thread Cert.ForwardIdeal.nD Cert.ForwardIdeal.τ).loc Cert.ForwardIdeal.main_v14)) (v2 : (c : Dev Cert.ForwardIdeal.nD) → Buf (Elt Ideal) ((c.tc : Thread Cert.ForwardIdeal.nD Cert.ForwardIdeal.τ).loc Cert.ForwardIdeal.main_v16)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v12_0) = v0 c
          ∧ r.2.mem ((c.tc : Thread Cert.ForwardIdeal.nD Cert.ForwardIdeal.τ).loc Cert.ForwardIdeal.main_v14) = v1 c
          ∧ r.2.mem ((c.tc : Thread Cert.ForwardIdeal.nD Cert.ForwardIdeal.τ).loc Cert.ForwardIdeal.main_v16) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v33) = v0 c
          ∧ r.2.mem ((c.tc : Thread Cert.ForwardReferenceIdeal.nD Cert.ForwardReferenceIdeal.τ).loc Cert.ForwardReferenceIdeal.main_v35) = v1 c
          ∧ r.2.mem ((c.tc : Thread Cert.ForwardReferenceIdeal.nD Cert.ForwardReferenceIdeal.τ).loc Cert.ForwardReferenceIdeal.main_v37) = v2 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4))

def preserves_Wide_WideIdeal : Prop :=
  True

def algebraic_WideIdeal_WideReferenceIdeal [hWideIdeal : Cert.WideIdeal.Facts] [hWideReferenceIdeal : Cert.WideReferenceIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideReferenceIdeal.nD Cert.WideReferenceIdeal.τ Cert.WideReferenceIdeal.sig) → Buf (Elt Ideal) ℓ) (g' : Dev Cert.WideReferenceIdeal.nD → PrngReg), Pre_WideIdeal m →
    (∀ c : Dev Cert.WideIdeal.nD,
      m' ((c.tc : Thread Cert.WideReferenceIdeal.nD Cert.WideReferenceIdeal.τ).loc Cert.WideReferenceIdeal.main_arg0) = m ((c.tc : Thread Cert.WideIdeal.nD Cert.WideIdeal.τ).loc Cert.WideIdeal.main_arg0)
      ∧ m' ((c.tc : Thread Cert.WideReferenceIdeal.nD Cert.WideReferenceIdeal.τ).loc Cert.WideReferenceIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v5)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v5) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideReferenceIdeal.defs (F := Ideal)) (onTc (τ := Cert.WideReferenceIdeal.τ) (Cert.WideReferenceIdeal.main (F := Ideal))) ⟨m', fun _ => 0, g'⟩ (fun r => ∀ c : Dev Cert.WideReferenceIdeal.nD,
          r.2.mem ((c.tc : Thread Cert.WideReferenceIdeal.nD Cert.WideReferenceIdeal.τ).loc Cert.WideReferenceIdeal.main_v5) = v0 c
          ∧ r.2.mem ((c.tc : Thread Cert.WideReferenceIdeal.nD Cert.WideReferenceIdeal.τ).loc Cert.WideReferenceIdeal.main_arg0) = m' ((c.tc : Thread Cert.WideReferenceIdeal.nD Cert.WideReferenceIdeal.τ).loc Cert.WideReferenceIdeal.main_arg0)
          ∧ r.2.mem ((c.tc : Thread Cert.WideReferenceIdeal.nD Cert.WideReferenceIdeal.τ).loc Cert.WideReferenceIdeal.main_arg1) = m' ((c.tc : Thread Cert.WideReferenceIdeal.nD Cert.WideReferenceIdeal.τ).loc Cert.WideReferenceIdeal.main_arg1))

def preserves_Tall_TallIdeal : Prop :=
  True

def algebraic_TallIdeal_TallReferenceIdeal [hTallIdeal : Cert.TallIdeal.Facts] [hTallReferenceIdeal : Cert.TallReferenceIdeal.Facts] : Prop :=
  ∀ (m : (ℓ : Loc Cert.TallIdeal.nD Cert.TallIdeal.τ Cert.TallIdeal.sig) → Buf (Elt Ideal) ℓ) (g : Dev Cert.TallIdeal.nD → PrngReg)
    (m' : (ℓ : Loc Cert.TallReferenceIdeal.nD Cert.TallReferenceIdeal.τ Cert.TallReferenceIdeal.sig) → Buf (Elt Ideal) ℓ) (g' : Dev Cert.TallReferenceIdeal.nD → PrngReg), Pre_TallIdeal m →
    (∀ c : Dev Cert.TallIdeal.nD,
      m' ((c.tc : Thread Cert.TallReferenceIdeal.nD Cert.TallReferenceIdeal.τ).loc Cert.TallReferenceIdeal.main_arg0) = m ((c.tc : Thread Cert.TallIdeal.nD Cert.TallIdeal.τ).loc Cert.TallIdeal.main_arg0)
      ∧ m' ((c.tc : Thread Cert.TallReferenceIdeal.nD Cert.TallReferenceIdeal.τ).loc Cert.TallReferenceIdeal.main_arg1) = m ((c.tc : Thread Cert.TallIdeal.nD Cert.TallIdeal.τ).loc Cert.TallIdeal.main_arg1)) →
    ∃ (v0 : (c : Dev Cert.TallIdeal.nD) → Buf (Elt Ideal) ((c.tc : Thread Cert.TallIdeal.nD Cert.TallIdeal.τ).loc Cert.TallIdeal.main_v4)),
      θ_run (Cert.TallIdeal.defs (F := Ideal)) (onTc (τ := Cert.TallIdeal.τ) (Cert.TallIdeal.main (F := Ideal))) ⟨m, fun _ => 0, g⟩ (fun r => ∀ c : Dev Cert.TallIdeal.nD,
          r.2.mem ((c.tc : Thread Cert.TallIdeal.nD Cert.TallIdeal.τ).loc Cert.TallIdeal.main_v4) = v0 c
          ∧ r.2.mem ((c.tc : Thread Cert.TallIdeal.nD Cert.TallIdeal.τ).loc Cert.TallIdeal.main_arg0) = m ((c.tc : Thread Cert.TallIdeal.nD Cert.TallIdeal.τ).loc Cert.TallIdeal.main_arg0)
          ∧ r.2.mem ((c.tc : Thread Cert.TallIdeal.nD Cert.TallIdeal.τ).loc Cert.TallIdeal.main_arg1) = m ((c.tc : Thread Cert.TallIdeal.nD Cert.TallIdeal.τ).loc Cert.TallIdeal.main_arg1))
      ∧ θ_run (Cert.TallReferenceIdeal.defs (F := Ideal)) (onTc (τ := Cert.TallReferenceIdeal.τ) (Cert.TallReferenceIdeal.main (F := Ideal))) ⟨m', fun _ => 0, g'⟩ (fun r => ∀ c : Dev Cert.TallReferenceIdeal.nD,
          r.2.mem ((c.tc : Thread Cert.TallReferenceIdeal.nD Cert.TallReferenceIdeal.τ).loc Cert.TallReferenceIdeal.main_v8) = v0 c
          ∧ r.2.mem ((c.tc : Thread Cert.TallReferenceIdeal.nD Cert.TallReferenceIdeal.τ).loc Cert.TallReferenceIdeal.main_arg0) = m' ((c.tc : Thread Cert.TallReferenceIdeal.nD Cert.TallReferenceIdeal.τ).loc Cert.TallReferenceIdeal.main_arg0)
          ∧ r.2.mem ((c.tc : Thread Cert.TallReferenceIdeal.nD Cert.TallReferenceIdeal.τ).loc Cert.TallReferenceIdeal.main_arg1) = m' ((c.tc : Thread Cert.TallReferenceIdeal.nD Cert.TallReferenceIdeal.τ).loc Cert.TallReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v13) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_ProjectBwd_ProjectBwdIdeal : Prop :=
  True

def algebraic_ProjectBwdIdeal_ProjectBwdReferenceIdeal [hProjectBwdIdeal : Cert.ProjectBwdIdeal.Facts] [hProjectBwdReferenceIdeal : Cert.ProjectBwdReferenceIdeal.Facts] : Prop :=
  ∀ (m : (ℓ : Loc Cert.ProjectBwdIdeal.nD Cert.ProjectBwdIdeal.τ Cert.ProjectBwdIdeal.sig) → Buf (Elt Ideal) ℓ) (g : Dev Cert.ProjectBwdIdeal.nD → PrngReg)
    (m' : (ℓ : Loc Cert.ProjectBwdReferenceIdeal.nD Cert.ProjectBwdReferenceIdeal.τ Cert.ProjectBwdReferenceIdeal.sig) → Buf (Elt Ideal) ℓ) (g' : Dev Cert.ProjectBwdReferenceIdeal.nD → PrngReg), Pre_ProjectBwdIdeal m →
    (∀ c : Dev Cert.ProjectBwdIdeal.nD,
      m' ((c.tc : Thread Cert.ProjectBwdReferenceIdeal.nD Cert.ProjectBwdReferenceIdeal.τ).loc Cert.ProjectBwdReferenceIdeal.main_arg0) = m ((c.tc : Thread Cert.ProjectBwdIdeal.nD Cert.ProjectBwdIdeal.τ).loc Cert.ProjectBwdIdeal.main_arg0)
      ∧ m' ((c.tc : Thread Cert.ProjectBwdReferenceIdeal.nD Cert.ProjectBwdReferenceIdeal.τ).loc Cert.ProjectBwdReferenceIdeal.main_arg1) = m ((c.tc : Thread Cert.ProjectBwdIdeal.nD Cert.ProjectBwdIdeal.τ).loc Cert.ProjectBwdIdeal.main_arg1)
      ∧ m' ((c.tc : Thread Cert.ProjectBwdReferenceIdeal.nD Cert.ProjectBwdReferenceIdeal.τ).loc Cert.ProjectBwdReferenceIdeal.main_arg2) = m ((c.tc : Thread Cert.ProjectBwdIdeal.nD Cert.ProjectBwdIdeal.τ).loc Cert.ProjectBwdIdeal.main_arg2)
      ∧ m' ((c.tc : Thread Cert.ProjectBwdReferenceIdeal.nD Cert.ProjectBwdReferenceIdeal.τ).loc Cert.ProjectBwdReferenceIdeal.main_arg3) = m ((c.tc : Thread Cert.ProjectBwdIdeal.nD Cert.ProjectBwdIdeal.τ).loc Cert.ProjectBwdIdeal.main_arg3)
      ∧ m' ((c.tc : Thread Cert.ProjectBwdReferenceIdeal.nD Cert.ProjectBwdReferenceIdeal.τ).loc Cert.ProjectBwdReferenceIdeal.main_arg4) = m ((c.tc : Thread Cert.ProjectBwdIdeal.nD Cert.ProjectBwdIdeal.τ).loc Cert.ProjectBwdIdeal.main_arg4)) →
    ∃ (v0 : (c : Dev Cert.ProjectBwdIdeal.nD) → Buf (Elt Ideal) ((c.tc : Thread Cert.ProjectBwdIdeal.nD Cert.ProjectBwdIdeal.τ).loc Cert.ProjectBwdIdeal.main_v3_0)) (v1 : (c : Dev Cert.ProjectBwdIdeal.nD) → Buf (Elt Ideal) ((c.tc : Thread Cert.ProjectBwdIdeal.nD Cert.ProjectBwdIdeal.τ).loc Cert.ProjectBwdIdeal.main_v4)) (v2 : (c : Dev Cert.ProjectBwdIdeal.nD) → Buf (Elt Ideal) ((c.tc : Thread Cert.ProjectBwdIdeal.nD Cert.ProjectBwdIdeal.τ).loc Cert.ProjectBwdIdeal.main_v3_1)),
      θ_run (Cert.ProjectBwdIdeal.defs (F := Ideal)) (onTc (τ := Cert.ProjectBwdIdeal.τ) (Cert.ProjectBwdIdeal.main (F := Ideal))) ⟨m, fun _ => 0, g⟩ (fun r => ∀ c : Dev Cert.ProjectBwdIdeal.nD,
          r.2.mem ((c.tc : Thread Cert.ProjectBwdIdeal.nD Cert.ProjectBwdIdeal.τ).loc Cert.ProjectBwdIdeal.main_v3_0) = v0 c
          ∧ r.2.mem ((c.tc : Thread Cert.ProjectBwdIdeal.nD Cert.ProjectBwdIdeal.τ).loc Cert.ProjectBwdIdeal.main_v4) = v1 c
          ∧ r.2.mem ((c.tc : Thread Cert.ProjectBwdIdeal.nD Cert.ProjectBwdIdeal.τ).loc Cert.ProjectBwdIdeal.main_v3_1) = v2 c
          ∧ r.2.mem ((c.tc : Thread Cert.ProjectBwdIdeal.nD Cert.ProjectBwdIdeal.τ).loc Cert.ProjectBwdIdeal.main_arg0) = m ((c.tc : Thread Cert.ProjectBwdIdeal.nD Cert.ProjectBwdIdeal.τ).loc Cert.ProjectBwdIdeal.main_arg0)
          ∧ r.2.mem ((c.tc : Thread Cert.ProjectBwdIdeal.nD Cert.ProjectBwdIdeal.τ).loc Cert.ProjectBwdIdeal.main_arg1) = m ((c.tc : Thread Cert.ProjectBwdIdeal.nD Cert.ProjectBwdIdeal.τ).loc Cert.ProjectBwdIdeal.main_arg1)
          ∧ r.2.mem ((c.tc : Thread Cert.ProjectBwdIdeal.nD Cert.ProjectBwdIdeal.τ).loc Cert.ProjectBwdIdeal.main_arg2) = m ((c.tc : Thread Cert.ProjectBwdIdeal.nD Cert.ProjectBwdIdeal.τ).loc Cert.ProjectBwdIdeal.main_arg2)
          ∧ r.2.mem ((c.tc : Thread Cert.ProjectBwdIdeal.nD Cert.ProjectBwdIdeal.τ).loc Cert.ProjectBwdIdeal.main_arg3) = m ((c.tc : Thread Cert.ProjectBwdIdeal.nD Cert.ProjectBwdIdeal.τ).loc Cert.ProjectBwdIdeal.main_arg3)
          ∧ r.2.mem ((c.tc : Thread Cert.ProjectBwdIdeal.nD Cert.ProjectBwdIdeal.τ).loc Cert.ProjectBwdIdeal.main_arg4) = m ((c.tc : Thread Cert.ProjectBwdIdeal.nD Cert.ProjectBwdIdeal.τ).loc Cert.ProjectBwdIdeal.main_arg4))
      ∧ θ_run (Cert.ProjectBwdReferenceIdeal.defs (F := Ideal)) (onTc (τ := Cert.ProjectBwdReferenceIdeal.τ) (Cert.ProjectBwdReferenceIdeal.main (F := Ideal))) ⟨m', fun _ => 0, g'⟩ (fun r => ∀ c : Dev Cert.ProjectBwdReferenceIdeal.nD,
          r.2.mem ((c.tc : Thread Cert.ProjectBwdReferenceIdeal.nD Cert.ProjectBwdReferenceIdeal.τ).loc Cert.ProjectBwdReferenceIdeal.main_v39) = v0 c
          ∧ r.2.mem ((c.tc : Thread Cert.ProjectBwdReferenceIdeal.nD Cert.ProjectBwdReferenceIdeal.τ).loc Cert.ProjectBwdReferenceIdeal.main_v24) = v1 c
          ∧ r.2.mem ((c.tc : Thread Cert.ProjectBwdReferenceIdeal.nD Cert.ProjectBwdReferenceIdeal.τ).loc Cert.ProjectBwdReferenceIdeal.main_v53) = v2 c
          ∧ r.2.mem ((c.tc : Thread Cert.ProjectBwdReferenceIdeal.nD Cert.ProjectBwdReferenceIdeal.τ).loc Cert.ProjectBwdReferenceIdeal.main_arg0) = m' ((c.tc : Thread Cert.ProjectBwdReferenceIdeal.nD Cert.ProjectBwdReferenceIdeal.τ).loc Cert.ProjectBwdReferenceIdeal.main_arg0)
          ∧ r.2.mem ((c.tc : Thread Cert.ProjectBwdReferenceIdeal.nD Cert.ProjectBwdReferenceIdeal.τ).loc Cert.ProjectBwdReferenceIdeal.main_arg1) = m' ((c.tc : Thread Cert.ProjectBwdReferenceIdeal.nD Cert.ProjectBwdReferenceIdeal.τ).loc Cert.ProjectBwdReferenceIdeal.main_arg1)
          ∧ r.2.mem ((c.tc : Thread Cert.ProjectBwdReferenceIdeal.nD Cert.ProjectBwdReferenceIdeal.τ).loc Cert.ProjectBwdReferenceIdeal.main_arg2) = m' ((c.tc : Thread Cert.ProjectBwdReferenceIdeal.nD Cert.ProjectBwdReferenceIdeal.τ).loc Cert.ProjectBwdReferenceIdeal.main_arg2)
          ∧ r.2.mem ((c.tc : Thread Cert.ProjectBwdReferenceIdeal.nD Cert.ProjectBwdReferenceIdeal.τ).loc Cert.ProjectBwdReferenceIdeal.main_arg3) = m' ((c.tc : Thread Cert.ProjectBwdReferenceIdeal.nD Cert.ProjectBwdReferenceIdeal.τ).loc Cert.ProjectBwdReferenceIdeal.main_arg3)
          ∧ r.2.mem ((c.tc : Thread Cert.ProjectBwdReferenceIdeal.nD Cert.ProjectBwdReferenceIdeal.τ).loc Cert.ProjectBwdReferenceIdeal.main_arg4) = m' ((c.tc : Thread Cert.ProjectBwdReferenceIdeal.nD Cert.ProjectBwdReferenceIdeal.τ).loc Cert.ProjectBwdReferenceIdeal.main_arg4))

def preserves_Inner_InnerIdeal : Prop :=
  True

def algebraic_InnerIdeal_InnerReferenceIdeal [hInnerIdeal : Cert.InnerIdeal.Facts] [hInnerReferenceIdeal : Cert.InnerReferenceIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerIdeal m →
    (∀ c : Dev Cert.InnerIdeal.nD,
      m' ((c.tc : Thread Cert.InnerReferenceIdeal.nD Cert.InnerReferenceIdeal.τ).loc Cert.InnerReferenceIdeal.main_arg0) = m ((c.tc : Thread Cert.InnerIdeal.nD Cert.InnerIdeal.τ).loc Cert.InnerIdeal.main_arg0)
      ∧ m' ((c.tc : Thread Cert.InnerReferenceIdeal.nD Cert.InnerReferenceIdeal.τ).loc Cert.InnerReferenceIdeal.main_arg1) = m ((c.tc : Thread Cert.InnerIdeal.nD Cert.InnerIdeal.τ).loc Cert.InnerIdeal.main_arg1)) →
    ∃ (v0 : (c : Dev Cert.InnerIdeal.nD) → Buf (Elt Ideal) ((c.tc : Thread Cert.InnerIdeal.nD Cert.InnerIdeal.τ).loc Cert.InnerIdeal.main_v0)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v0) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v5) = v0 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v20) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Outer_OuterIdeal : Prop :=
  True

def algebraic_OuterIdeal_OuterReferenceIdeal [hOuterIdeal : Cert.OuterIdeal.Facts] [hOuterReferenceIdeal : Cert.OuterReferenceIdeal.Facts] : Prop :=
  ∀ (m : (ℓ : Loc Cert.OuterIdeal.nD Cert.OuterIdeal.τ Cert.OuterIdeal.sig) → Buf (Elt Ideal) ℓ) (g : Dev Cert.OuterIdeal.nD → PrngReg)
    (m' : (ℓ : Loc Cert.OuterReferenceIdeal.nD Cert.OuterReferenceIdeal.τ Cert.OuterReferenceIdeal.sig) → Buf (Elt Ideal) ℓ) (g' : Dev Cert.OuterReferenceIdeal.nD → PrngReg), Pre_OuterIdeal m →
    (∀ c : Dev Cert.OuterIdeal.nD,
      m' ((c.tc : Thread Cert.OuterReferenceIdeal.nD Cert.OuterReferenceIdeal.τ).loc Cert.OuterReferenceIdeal.main_arg0) = m ((c.tc : Thread Cert.OuterIdeal.nD Cert.OuterIdeal.τ).loc Cert.OuterIdeal.main_arg0)
      ∧ m' ((c.tc : Thread Cert.OuterReferenceIdeal.nD Cert.OuterReferenceIdeal.τ).loc Cert.OuterReferenceIdeal.main_arg1) = m ((c.tc : Thread Cert.OuterIdeal.nD Cert.OuterIdeal.τ).loc Cert.OuterIdeal.main_arg1)) →
    ∃ (v0 : (c : Dev Cert.OuterIdeal.nD) → Buf (Elt Ideal) ((c.tc : Thread Cert.OuterIdeal.nD Cert.OuterIdeal.τ).loc Cert.OuterIdeal.main_v0)),
      θ_run (Cert.OuterIdeal.defs (F := Ideal)) (onTc (τ := Cert.OuterIdeal.τ) (Cert.OuterIdeal.main (F := Ideal))) ⟨m, fun _ => 0, g⟩ (fun r => ∀ c : Dev Cert.OuterIdeal.nD,
          r.2.mem ((c.tc : Thread Cert.OuterIdeal.nD Cert.OuterIdeal.τ).loc Cert.OuterIdeal.main_v0) = v0 c
          ∧ r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
          ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1))
      ∧ θ_run (Cert.OuterReferenceIdeal.defs (F := Ideal)) (onTc (τ := Cert.OuterReferenceIdeal.τ) (Cert.OuterReferenceIdeal.main (F := Ideal))) ⟨m', fun _ => 0, g'⟩ (fun r => ∀ c : Dev Cert.OuterReferenceIdeal.nD,
          r.2.mem ((c.tc : Thread Cert.OuterReferenceIdeal.nD Cert.OuterReferenceIdeal.τ).loc Cert.OuterReferenceIdeal.main_v4) = v0 c
          ∧ r.2.mem ((c.tc : Thread Cert.OuterReferenceIdeal.nD Cert.OuterReferenceIdeal.τ).loc Cert.OuterReferenceIdeal.main_arg0) = m' ((c.tc : Thread Cert.OuterReferenceIdeal.nD Cert.OuterReferenceIdeal.τ).loc Cert.OuterReferenceIdeal.main_arg0)
          ∧ r.2.mem ((c.tc : Thread Cert.OuterReferenceIdeal.nD Cert.OuterReferenceIdeal.τ).loc Cert.OuterReferenceIdeal.main_arg1) = m' ((c.tc : Thread Cert.OuterReferenceIdeal.nD Cert.OuterReferenceIdeal.τ).loc Cert.OuterReferenceIdeal.main_arg1))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v4)) (v1 : (c : Dev Cert.GateBwdIdeal.nD) → Buf (Elt Ideal) ((c.tc : Thread Cert.GateBwdIdeal.nD Cert.GateBwdIdeal.τ).loc Cert.GateBwdIdeal.main_v3_1)) (v2 : (c : Dev Cert.GateBwdIdeal.nD) → Buf (Elt Ideal) ((c.tc : Thread Cert.GateBwdIdeal.nD Cert.GateBwdIdeal.τ).loc Cert.GateBwdIdeal.main_v3_2)) (v3 : (c : Dev Cert.GateBwdIdeal.nD) → Buf (Elt Ideal) ((c.tc : Thread Cert.GateBwdIdeal.nD Cert.GateBwdIdeal.τ).loc Cert.GateBwdIdeal.main_v5)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v4) = v0 c
          ∧ r.2.mem ((c.tc : Thread Cert.GateBwdIdeal.nD Cert.GateBwdIdeal.τ).loc Cert.GateBwdIdeal.main_v3_1) = v1 c
          ∧ r.2.mem ((c.tc : Thread Cert.GateBwdIdeal.nD Cert.GateBwdIdeal.τ).loc Cert.GateBwdIdeal.main_v3_2) = v2 c
          ∧ r.2.mem ((c.tc : Thread Cert.GateBwdIdeal.nD Cert.GateBwdIdeal.τ).loc Cert.GateBwdIdeal.main_v5) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v50) = v0 c
          ∧ r.2.mem ((c.tc : Thread Cert.GateBwdReferenceIdeal.nD Cert.GateBwdReferenceIdeal.τ).loc Cert.GateBwdReferenceIdeal.main_v48) = v1 c
          ∧ r.2.mem ((c.tc : Thread Cert.GateBwdReferenceIdeal.nD Cert.GateBwdReferenceIdeal.τ).loc Cert.GateBwdReferenceIdeal.main_v69) = v2 c
          ∧ r.2.mem ((c.tc : Thread Cert.GateBwdReferenceIdeal.nD Cert.GateBwdReferenceIdeal.τ).loc Cert.GateBwdReferenceIdeal.main_v45) = v3 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hWide : Cert.Wide.Facts) (hWideIdeal : Cert.WideIdeal.Facts) (hWideReferenceIdeal : Cert.WideReferenceIdeal.Facts) (hTall : Cert.Tall.Facts) (hTallIdeal : Cert.TallIdeal.Facts) (hTallReferenceIdeal : Cert.TallReferenceIdeal.Facts) (hProject : Cert.Project.Facts) (hProjectIdeal : Cert.ProjectIdeal.Facts) (hProjectReferenceIdeal : Cert.ProjectReferenceIdeal.Facts) (hProjectBwd : Cert.ProjectBwd.Facts) (hProjectBwdIdeal : Cert.ProjectBwdIdeal.Facts) (hProjectBwdReferenceIdeal : Cert.ProjectBwdReferenceIdeal.Facts) (hInner : Cert.Inner.Facts) (hInnerIdeal : Cert.InnerIdeal.Facts) (hInnerReferenceIdeal : Cert.InnerReferenceIdeal.Facts) (hGate : Cert.Gate.Facts) (hGateIdeal : Cert.GateIdeal.Facts) (hGateReferenceIdeal : Cert.GateReferenceIdeal.Facts) (hOuter : Cert.Outer.Facts) (hOuterIdeal : Cert.OuterIdeal.Facts) (hOuterReferenceIdeal : Cert.OuterReferenceIdeal.Facts) (hGateBwd : Cert.GateBwd.Facts) (hGateBwdIdeal : Cert.GateBwdIdeal.Facts) (hGateBwdReferenceIdeal : Cert.GateBwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardReferenceIdeal (hForwardReferenceIdeal := hForwardReferenceIdeal)
    ∧ quiescent_Wide (hWide := hWide)
    ∧ quiescent_WideIdeal (hWideIdeal := hWideIdeal)
    ∧ quiescent_WideReferenceIdeal (hWideReferenceIdeal := hWideReferenceIdeal)
    ∧ quiescent_Tall (hTall := hTall)
    ∧ quiescent_TallIdeal (hTallIdeal := hTallIdeal)
    ∧ quiescent_TallReferenceIdeal (hTallReferenceIdeal := hTallReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectBwd (hProjectBwd := hProjectBwd)
    ∧ quiescent_ProjectBwdIdeal (hProjectBwdIdeal := hProjectBwdIdeal)
    ∧ quiescent_ProjectBwdReferenceIdeal (hProjectBwdReferenceIdeal := hProjectBwdReferenceIdeal)
    ∧ quiescent_Inner (hInner := hInner)
    ∧ quiescent_InnerIdeal (hInnerIdeal := hInnerIdeal)
    ∧ quiescent_InnerReferenceIdeal (hInnerReferenceIdeal := hInnerReferenceIdeal)
    ∧ quiescent_Gate (hGate := hGate)
    ∧ quiescent_GateIdeal (hGateIdeal := hGateIdeal)
    ∧ quiescent_GateReferenceIdeal (hGateReferenceIdeal := hGateReferenceIdeal)
    ∧ quiescent_Outer (hOuter := hOuter)
    ∧ quiescent_OuterIdeal (hOuterIdeal := hOuterIdeal)
    ∧ quiescent_OuterReferenceIdeal (hOuterReferenceIdeal := hOuterReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal (hForwardIdeal := hForwardIdeal) (hForwardReferenceIdeal := hForwardReferenceIdeal)
    ∧ preserves_Wide_WideIdeal
    ∧ algebraic_WideIdeal_WideReferenceIdeal (hWideIdeal := hWideIdeal) (hWideReferenceIdeal := hWideReferenceIdeal)
    ∧ preserves_Tall_TallIdeal
    ∧ algebraic_TallIdeal_TallReferenceIdeal (hTallIdeal := hTallIdeal) (hTallReferenceIdeal := hTallReferenceIdeal)
    ∧ preserves_Project_ProjectIdeal
    ∧ algebraic_ProjectIdeal_ProjectReferenceIdeal (hProjectIdeal := hProjectIdeal) (hProjectReferenceIdeal := hProjectReferenceIdeal)
    ∧ preserves_ProjectBwd_ProjectBwdIdeal
    ∧ algebraic_ProjectBwdIdeal_ProjectBwdReferenceIdeal (hProjectBwdIdeal := hProjectBwdIdeal) (hProjectBwdReferenceIdeal := hProjectBwdReferenceIdeal)
    ∧ preserves_Inner_InnerIdeal
    ∧ algebraic_InnerIdeal_InnerReferenceIdeal (hInnerIdeal := hInnerIdeal) (hInnerReferenceIdeal := hInnerReferenceIdeal)
    ∧ preserves_Gate_GateIdeal
    ∧ algebraic_GateIdeal_GateReferenceIdeal (hGateIdeal := hGateIdeal) (hGateReferenceIdeal := hGateReferenceIdeal)
    ∧ preserves_Outer_OuterIdeal
    ∧ algebraic_OuterIdeal_OuterReferenceIdeal (hOuterIdeal := hOuterIdeal) (hOuterReferenceIdeal := hOuterReferenceIdeal)
    ∧ preserves_GateBwd_GateBwdIdeal
    ∧ algebraic_GateBwdIdeal_GateBwdReferenceIdeal (hGateBwdIdeal := hGateBwdIdeal) (hGateBwdReferenceIdeal := hGateBwdReferenceIdeal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x1x704x1024 : Shape := ⟨4, ![4, 1, 704, 1024]⟩
abbrev S8x128 : Shape := ⟨2, ![8, 128]⟩
abbrev S512x1024 : Shape := ⟨2, ![512, 1024]⟩
abbrev S1x512x704 : Shape := ⟨3, ![1, 512, 704]⟩
abbrev S1x1x1024x704 : Shape := ⟨4, ![1, 1, 1024, 704]⟩
abbrev S1x1x704x1024 : Shape := ⟨4, ![1, 1, 704, 1024]⟩
abbrev S512x704 : Shape := ⟨2, ![512, 704]⟩
abbrev S704x1024 : Shape := ⟨2, ![704, 1024]⟩
abbrev S1024x704 : Shape := ⟨2, ![1024, 704]⟩
abbrev S512 : Shape := ⟨1, ![512]⟩
abbrev S512x1 : Shape := ⟨2, ![512, 1]⟩

abbrev nBuf : Space → Nat
  | .hbm => 56
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x2816, .f32⟩
  | .hbm, ⟨24, _⟩ => ⟨S8192x2816, .bf16⟩
  | .hbm, ⟨25, _⟩ => ⟨S8192x4x704, .bf16⟩
  | .hbm, ⟨26, _⟩ => ⟨S4x8192x704, .bf16⟩
  | .hbm, ⟨27, _⟩ => ⟨S8192x2816, .f32⟩
  | .hbm, ⟨28, _⟩ => ⟨S8192x2816, .bf16⟩
  | .hbm, ⟨29, _⟩ => ⟨S8192x4x704, .bf16⟩
  | .hbm, ⟨30, _⟩ => ⟨S4x8192x704, .bf16⟩
  | .hbm, ⟨31, _⟩ => ⟨S1024x2816, .bf16⟩
  | .hbm, ⟨32, _⟩ => ⟨S1024x4x704, .bf16⟩
  | .hbm, ⟨33, _⟩ => ⟨S4x1024x704, .bf16⟩
  | .hbm, ⟨34, _⟩ => ⟨S4x1x1024x704, .bf16⟩
  | .hbm, ⟨35, _⟩ => ⟨S1024x2816, .bf16⟩
  | .hbm, ⟨36, _⟩ => ⟨S1024x4x704, .bf16⟩
  | .hbm, ⟨37, _⟩ => ⟨S4x1024x704, .bf16⟩
  | .hbm, ⟨38, _⟩ => ⟨S4x1x1024x704, .bf16⟩
  | .hbm, ⟨39, _⟩ => ⟨S2816x1024, .bf16⟩
  | .hbm, ⟨40, _⟩ => ⟨S4x1x704x1024, .bf16⟩
  | .hbm, ⟨41, _⟩ => ⟨S_, .f32⟩
  | .hbm, ⟨42, _⟩ => ⟨S8x128, .f32⟩
  | .hbm, ⟨43, _⟩ => ⟨S8192x1024, .f32⟩
  | .hbm, ⟨44, _⟩ => ⟨S8192x1024, .bf16⟩
  | .hbm, ⟨45, _⟩ => ⟨S4x8192x704, .bf16⟩
  | .hbm, ⟨46, _⟩ => ⟨S4x8192x704, .bf16⟩
  | .hbm, ⟨47, _⟩ => ⟨S4x8192x704, .bf16⟩
  | .hbm, ⟨48, _⟩ => ⟨S1x1024, .f32⟩
  | .hbm, ⟨49, _⟩ => ⟨S1024, .f32⟩
  | .hbm, ⟨50, _⟩ => ⟨S8192x4x704, .bf16⟩
  | .hbm, ⟨51, _⟩ => ⟨S8192x2816, .bf16⟩
  | .hbm, ⟨52, _⟩ => ⟨S8192x4x704, .bf16⟩
  | .hbm, ⟨53, _⟩ => ⟨S8192x2816, .bf16⟩
  | .hbm, ⟨54, _⟩ => ⟨S8192x4x704, .bf16⟩
  | .hbm, ⟨55, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x1x1024x704, .bf16⟩
  | .local _ .vmem, ⟨10, _⟩ => ⟨S1x1x1024x704, .bf16⟩
  | .local _ .vmem, ⟨11, _⟩ => ⟨S1x1x1024x704, .bf16⟩
  | .local _ .vmem, ⟨12, _⟩ => ⟨S1x1x1024x704, .bf16⟩
  | .local _ .vmem, ⟨13, _⟩ => ⟨S1x1x704x1024, .bf16⟩
  | .local _ .vmem, ⟨14, _⟩ => ⟨S1x1x704x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x1024, .f32⟩
  | .local _ .vmem, ⟨26, _⟩ => ⟨S512x1024, .bf16⟩
  | .local _ .vmem, ⟨27, _⟩ => ⟨S512x1024, .f32⟩
  | .local _ .vmem, ⟨28, _⟩ => ⟨S512x704, .bf16⟩
  | .local _ .vmem, ⟨29, _⟩ => ⟨S512x704, .bf16⟩
  | .local _ .vmem, ⟨30, _⟩ => ⟨S512x704, .bf16⟩
  | .local _ .vmem, ⟨31, _⟩ => ⟨S512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v33_4 : Ref sig .tc := ⟨.hbm, 47, rfl⟩
abbrev main_v33_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![16, 5], ![false, false]⟩

def k0_cond6 (i : grid0.Coords) : BitVec 1 :=
  let arg1 : BitVec 32 := BitVec.ofNat 32 (i 1).val
  let c4_i32_23 : BitVec 32 := 4#32
  let v45 : BitVec 1 := Scalar.cmpi .eq arg1 c4_i32_23
  let v46 : BitVec 32 := Scalar.extui v45
  let c0_i32_24 : BitVec 32 := 0#32
  let v47 : BitVec 1 := Scalar.cmpi .ne v46 c0_i32_24
  v47

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c0_i32_6 : BitVec 32 := 0#32
  let v11 : BitVec 1 := Scalar.cmpi .sgt arg1 c0_i32_6
  let c4_i32 : BitVec 32 := 4#32
  let v12 : BitVec 1 := Scalar.cmpi .slt arg1 c4_i32
  let v13 : BitVec 1 := Scalar.andi v11 v12
  let c2_i32 : BitVec 32 := 2#32
  let c0_i32_7 : BitVec 32 := 0#32
  let v14 : BitVec 1 := Scalar.cmpi .eq c2_i32 c0_i32_7
  let c1_i32 : BitVec 32 := 1#32
  let v15 : BitVec 32 := Scalar.select v14 c1_i32 c2_i32
  let v16 : BitVec 32 := Scalar.remsi arg1 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c1_i32_11 : BitVec 32 := 1#32
  let v24 : BitVec 1 := Scalar.cmpi .eq v23 c1_i32_11
  let v25 : BitVec 1 := Scalar.andi v13 v24
  let v26 : BitVec 32 := Scalar.extui v25
  let c0_i32_12 : BitVec 32 := 0#32
  let v27 : BitVec 1 := Scalar.cmpi .ne v26 c0_i32_12
  v27

def k0_cond5 (i : grid0.Coords) : BitVec 1 :=
  let arg1 : BitVec 32 := BitVec.ofNat 32 (i 1).val
  let c0_i32_13 : BitVec 32 := 0#32
  let v28 : BitVec 1 := Scalar.cmpi .sgt arg1 c0_i32_13
  let c4_i32_14 : BitVec 32 := 4#32
  let v29 : BitVec 1 := Scalar.cmpi .slt arg1 c4_i32_14
  let v30 : BitVec 1 := Scalar.andi v28 v29
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi arg1 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_21 : BitVec 32 := 0#32
  let v41 : BitVec 1 := Scalar.cmpi .eq v40 c0_i32_21
  let v42 : BitVec 1 := Scalar.andi v30 v41
  let v43 : BitVec 32 := Scalar.extui v42
  let c0_i32_22 : BitVec 32 := 0#32
  let v44 : BitVec 1 := Scalar.cmpi .ne v43 c0_i32_22
  v44

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x1024, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x1024, .bf16⟩
  | 6 => ⟨S8192x2816, .bf16⟩
  | 7 => ⟨S8192x2816, .bf16⟩
  | 8 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩

abbrev nD : Nat := 1
abbrev τ : Topo := Topo.v7x

variable {F : FTy → Type} [FloatOps F]
-- ==== Forward.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x1x704x1024 : Shape := ⟨4, ![4, 1, 704, 1024]⟩
abbrev S_ : Shape := ⟨0, ![]⟩
abbrev S8x128 : Shape := ⟨2, ![8, 128]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024x1 : Shape := ⟨2, ![1024, 1]⟩
abbrev S1024x704 : Shape := ⟨2, ![1024, 704]⟩
abbrev S704x1024 : Shape := ⟨2, ![704, 1024]⟩
abbrev S8192x4x704 : Shape := ⟨3, ![8192, 4, 704]⟩
abbrev S8192x2816 : Shape := ⟨2, ![8192, 2816]⟩

abbrev nBuf : Space → Nat
  | .hbm => 25
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x4x704, .bf16⟩
  | .hbm, ⟨8, _⟩ => ⟨S4x1024x704, .bf16⟩
  | .hbm, ⟨9, _⟩ => ⟨S4x1x1024x704, .bf16⟩
  | .hbm, ⟨10, _⟩ => ⟨S1024x2816, .bf16⟩
  | .hbm, ⟨11, _⟩ => ⟨S1024x4x704, .bf16⟩
  | .hbm, ⟨12, _⟩ => ⟨S4x1024x704, .bf16⟩
  | .hbm, ⟨13, _⟩ => ⟨S4x1x1024x704, .bf16⟩
  | .hbm, ⟨14, _⟩ => ⟨S2816x1024, .bf16⟩
  | .hbm, ⟨15, _⟩ => ⟨S4x1x704x1024, .bf16⟩
  | .hbm, ⟨16, _⟩ => ⟨S_, .f32⟩
  | .hbm, ⟨17, _⟩ => ⟨S8x128, .f32⟩
  | .hbm, ⟨18, _⟩ => ⟨S8192x1024, .f32⟩
  | .hbm, ⟨19, _⟩ => ⟨S4x8192x704, .bf16⟩
  | .hbm, ⟨20, _⟩ => ⟨S4x8192x704, .bf16⟩
  | .hbm, ⟨21, _⟩ => ⟨S8192x4x704, .bf16⟩
  | .hbm, ⟨22, _⟩ => ⟨S8192x2816, .bf16⟩
  | .hbm, ⟨23, _⟩ => ⟨S8192x4x704, .bf16⟩
  | .hbm, ⟨24, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_29 : BitVec 32 := 0#32
  let v38 : BitVec 1 := Scalar.cmpi .ne v37 c0_i32_29
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ForwardReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .bf16⟩
  | .hbm, ⟨56, _⟩ => ⟨S8192x2816, .f32⟩
  | .hbm, ⟨57, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Wide.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S_ : Shape := ⟨0, ![]⟩
abbrev S8x128 : Shape := ⟨2, ![8, 128]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩
abbrev S1024x4x704 : Shape := ⟨3, ![1024, 4, 704]⟩
abbrev S1024x2816 : Shape := ⟨2, ![1024, 2816]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x4x704, .bf16⟩
  | .hbm, ⟨3, _⟩ => ⟨S4x8192x704, .bf16⟩
  | .hbm, ⟨4, _⟩ => ⟨S_, .f32⟩
  | .hbm, ⟨5, _⟩ => ⟨S8x128, .f32⟩
  | .hbm, ⟨6, _⟩ => ⟨S4x1024x704, .f32⟩
  | .hbm, ⟨7, _⟩ => ⟨S1024x4x704, .f32⟩
  | .hbm, ⟨8, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WideReferenceIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Tall.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S_ : Shape := ⟨0, ![]⟩
abbrev S8x128 : Shape := ⟨2, ![8, 128]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩
abbrev S2816x1024 : Shape := ⟨2, ![2816, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x4x704, .bf16⟩
  | .hbm, ⟨3, _⟩ => ⟨S4x8192x704, .bf16⟩
  | .hbm, ⟨4, _⟩ => ⟨S_, .f32⟩
  | .hbm, ⟨5, _⟩ => ⟨S8x128, .f32⟩
  | .hbm, ⟨6, _⟩ => ⟨S4x704x1024, .f32⟩
  | .hbm, ⟨7, _⟩ => ⟨S2816x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .f32⟩
  | .local _ .vmem, ⟨5, _⟩ => ⟨S1x704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TallReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Project.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S8192x5632 : Shape := ⟨2, ![8192, 5632]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectReferenceIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjectBwd.lean ====
abbrev S8192x1024 : Shape := ⟨2, ![8192, 1024]⟩
abbrev S8192x5632 : Shape := ⟨2, ![8192, 5632]⟩
abbrev S1024 : Shape := ⟨1, ![1024]⟩
abbrev S1024x5632 : Shape := ⟨2, ![1024, 5632]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S8192x1024, .f32⟩
  | .hbm, ⟨3, _⟩ => ⟨S1024, .f32⟩
  | .hbm, ⟨4, _⟩ => ⟨S1024x5632, .f32⟩
  | .hbm, ⟨5, _⟩ => ⟨S1x1024, .f32⟩
  | .hbm, ⟨6, _⟩ => ⟨S1024x5632, .bf16⟩
  | .hbm, ⟨7, _⟩ => ⟨S_, .f32⟩
  | .hbm, ⟨8, _⟩ => ⟨S8x128, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ProjectBwdReferenceIdeal.lean ====
abbrev S8192x1024 : Shape := ⟨2, ![8192, 1024]⟩
abbrev S8192x5632 : Shape := ⟨2, ![8192, 5632]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S8192x1024, .f32⟩
  | .hbm, ⟨3, _⟩ => ⟨S1024, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x5632, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Inner.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InnerReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gate.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S1x2048 : Shape := ⟨2, ![1, 2048]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S1x2048, .f32⟩
  | .hbm, ⟨6, _⟩ => ⟨S2048x1024, .bf16⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S_ : Shape := ⟨0, ![]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x4x512, .f32⟩
  | .hbm, ⟨17, _⟩ => ⟨S4x512, .f32⟩
  | .hbm, ⟨18, _⟩ => ⟨S8192x4x512, .f32⟩
  | .hbm, ⟨19, _⟩ => ⟨S_, .f32⟩
  | .hbm, ⟨20, _⟩ => ⟨S8192x4, .f32⟩
  | .hbm, ⟨21, _⟩ => ⟨S8192x4x1, .f32⟩
  | .hbm, ⟨22, _⟩ => ⟨S_, .f32⟩
  | .hbm, ⟨23, _⟩ => ⟨S8192x4x1, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S8192x4x1, .f32⟩
  | .hbm, ⟨29, _⟩ => ⟨S8192x4x512, .f32⟩
  | .hbm, ⟨30, _⟩ => ⟨S8192x4x512, .f32⟩
  | .hbm, ⟨31, _⟩ => ⟨S1x4x512, .f32⟩
  | .hbm, ⟨32, _⟩ => ⟨S8192x4x512, .f32⟩
  | .hbm, ⟨33, _⟩ => ⟨S8192x4x512, .f32⟩
  | .hbm, ⟨34, _⟩ => ⟨S8192x2048, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Outer.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x512, .f32⟩
  | .local _ .vmem, ⟨3, _⟩ => ⟨S1024x512, .f32⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OuterReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateBwd.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S1x2048 : Shape := ⟨2, ![1, 2048]⟩
abbrev S_ : Shape := ⟨0, ![]⟩
abbrev S8x128 : Shape := ⟨2, ![8, 128]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S1x2048, .f32⟩
  | .hbm, ⟨6, _⟩ => ⟨S2048x1024, .bf16⟩
  | .hbm, ⟨7, _⟩ => ⟨S_, .f32⟩
  | .hbm, ⟨8, _⟩ => ⟨S8x128, .f32⟩
  | .hbm, ⟨9, _⟩ => ⟨S8192x5632, .bf16⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S8192x2048, .bf16⟩
  | .hbm, ⟨14, _⟩ => ⟨S2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateBwdReferenceIdeal.lean ====
abbrev S8192x1024 : Shape := ⟨2, ![8192, 1024]⟩
abbrev S8192x2048 : Shape := ⟨2, ![8192, 2048]⟩
abbrev S8192x5632 : Shape := ⟨2, ![8192, 5632]⟩
abbrev S2048 : Shape := ⟨1, ![2048]⟩
abbrev S2048x1024 : Shape := ⟨2, ![2048, 1024]⟩
abbrev S_ : Shape := ⟨0, ![]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x5632, .f32⟩
  | .hbm, ⟨3, _⟩ => ⟨S2048, .f32⟩
  | .hbm, ⟨4, _⟩ => ⟨S2048x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x4x512, .f32⟩
  | .hbm, ⟨21, _⟩ => ⟨S4x512, .f32⟩
  | .hbm, ⟨22, _⟩ => ⟨S8192x4x512, .f32⟩
  | .hbm, ⟨23, _⟩ => ⟨S_, .f32⟩
  | .hbm, ⟨24, _⟩ => ⟨S8192x4, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x512, .f32⟩
  | .hbm, ⟨38, _⟩ => ⟨S8192x4x512, .f32⟩
  | .hbm, ⟨39, _⟩ => ⟨S1x4x512, .f32⟩
  | .hbm, ⟨40, _⟩ => ⟨S8192x4x512, .f32⟩
  | .hbm, ⟨41, _⟩ => ⟨S8192x4x512, .f32⟩
  | .hbm, ⟨42, _⟩ => ⟨S8192x2048, .f32⟩
  | .hbm, ⟨43, _⟩ => ⟨S8192x1024, .f32⟩
  | .hbm, ⟨44, _⟩ => ⟨S8192x2048, .f32⟩
  | .hbm, ⟨45, _⟩ => ⟨S8192x4x512, .f32⟩
  | .hbm, ⟨46, _⟩ => ⟨S8192x4x512, .f32⟩
  | .hbm, ⟨47, _⟩ => ⟨S_, .f32⟩
  | .hbm, ⟨48, _⟩ => ⟨S4x512, .f32⟩
  | .hbm, ⟨49, _⟩ => ⟨S1x4x512, .f32⟩
  | .hbm, ⟨50, _⟩ => ⟨S8192x4x512, .f32⟩
  | .hbm, ⟨51, _⟩ => ⟨S8192x4x512, .f32⟩
  | .hbm, ⟨52, _⟩ => ⟨S_, .f32⟩
  | .hbm, ⟨53, _⟩ => ⟨S4x512, .f32⟩
  | .hbm, ⟨54, _⟩ => ⟨S8192x4x512, .f32⟩
  | .hbm, ⟨55, _⟩ => ⟨S_, .f32⟩
  | .hbm, ⟨56, _⟩ => ⟨S8192x4, .f32⟩
  | .hbm, ⟨57, _⟩ => ⟨S8192x4x1, .f32⟩
  | .hbm, ⟨58, _⟩ => ⟨S8192x4x512, .f32⟩
  | .hbm, ⟨59, _⟩ => ⟨S8192x4x512, .f32⟩
  | .hbm, ⟨60, _⟩ => ⟨S8192x4x1, .f32⟩
  | .hbm, ⟨61, _⟩ => ⟨S_, .f32⟩
  | .hbm, ⟨62, _⟩ => ⟨S8192x4x1, .f32⟩
  | .hbm, ⟨63, _⟩ => ⟨S8192x4x1, .f32⟩
  | .hbm, ⟨64, _⟩ => ⟨S_, .f32⟩
  | .hbm, ⟨65, _⟩ => ⟨S8192x4, .f32⟩
  | .hbm, ⟨66, _⟩ => ⟨S8192x4x512, .f32⟩
  | .hbm, ⟨67, _⟩ => ⟨S8192x4x512, .f32⟩
  | .hbm, ⟨68, _⟩ => ⟨S8192x4x512, .f32⟩
  | .hbm, ⟨69, _⟩ => ⟨S8192x4x512, .f32⟩
  | .hbm, ⟨70, _⟩ => ⟨S8192x4x512, .f32⟩
  | .hbm, ⟨71, _⟩ => ⟨S2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .bf16⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x4x512, .f32⟩
  | .hbm, ⟨91, _⟩ => ⟨S4x512, .f32⟩
  | .hbm, ⟨92, _⟩ => ⟨S8192x4x512, .f32⟩
  | .hbm, ⟨93, _⟩ => ⟨S_, .f32⟩
  | .hbm, ⟨94, _⟩ => ⟨S8192x4, .f32⟩
  | .hbm, ⟨95, _⟩ => ⟨S8192x4x1, .f32⟩
  | .hbm, ⟨96, _⟩ => ⟨S_, .f32⟩
  | .hbm, ⟨97, _⟩ => ⟨S8192x4x1, .f32⟩
  | .hbm, ⟨98, _⟩ => ⟨S8192x4x1, .f32⟩
  | .hbm, ⟨99, _⟩ => ⟨S_, .f32⟩
  | .hbm, ⟨100, _⟩ => ⟨S8192x4x1, .f32⟩
  | .hbm, ⟨101, _⟩ => ⟨S8192x4x1, .f32⟩
  | .hbm, ⟨102, _⟩ => ⟨S8192x4x1, .f32⟩
  | .hbm, ⟨103, _⟩ => ⟨S8192x4x512, .f32⟩
  | .hbm, ⟨104, _⟩ => ⟨S8192x4x512, .f32⟩
  | .hbm, ⟨105, _⟩ => ⟨S1x4x512, .f32⟩
  | .hbm, ⟨106, _⟩ => ⟨S8192x4x512, .f32⟩
  | .hbm, ⟨107, _⟩ => ⟨S8192x4x512, .f32⟩
  | .hbm, ⟨108, _⟩ => ⟨S8192x2048, .f32⟩
  | .hbm, ⟨109, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v49 : Ref sig .tc := ⟨.hbm, 78, rfl⟩
abbrev main_v50 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_8 : Ref sig .tc := ⟨.hbm, 93, rfl⟩
abbrev main_v56 : Ref sig .tc := ⟨.hbm, 94, rfl⟩
abbrev main_v57 : Ref sig .tc := ⟨.hbm, 95, rfl⟩
abbrev main_cst_9 : Ref sig .tc := ⟨.hbm, 96, rfl⟩
abbrev main_v58 : Ref sig .tc := ⟨.hbm, 97, rfl⟩
abbrev main_v59 : Ref sig .tc := ⟨.hbm, 98, rfl⟩
abbrev main_cst_10 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]
-- ==== Proof.Bwd.Points.lean ====
/-
  The backward half step's grid (16 row tiles by 5 steps): which of the body's branches run at the
  point `t = 5 i + k`, and at which points an output window is left untouched or written back.
-/
module

public import proofs.«01_k».proof.Proof.Gen.KernelIdeal.Frame
public import Idealize.ShloMosaic.Lib.Pipeline.TableIdle

@[expose] public section

set_option maxRecDepth 16384

noncomputable section

namespace Cert.KernelIdeal.Bwd

open Cert.KernelIdeal Cert.KernelIdeal.Gen
open Idealize.ShloMosaic Idealize.ShloMosaic.TcCoe Idealize.SL.Sem
open Idealize.ShloMosaic.Pipeline (Dat Cfg Window)

/-- The condition of the body's first branch, as the body spells it. -/
abbrev cond1 (i : grid0.Coords) : Prop :=
  Scalar.cmpi .ne (Scalar.extui (Scalar.cmpi .eq (BitVec.ofNat 32 (i 1).val) 0#32)) 0#32 = 1#1

theorem n_eq : cfg0.N = 80 := N_0

/-- The first branch (take the tile of `dy`, clear the sum) runs at the first step of a tile. -/
theorem cond1_iff : ∀ t : Fin cfg0.N, cond1 (grid0.coords t) ↔ t.val % 5 = 0 := by decide +kernel
/-- The gain's gradient is cleared at the very first point only. -/
theorem cond2_iff : ∀ t : Fin cfg0.N, k0_cond2 (grid0.coords t) = 1#1 ↔ t.val = 0 := by decide +kernel
/-- The products of the first block of columns are taken at the first step. -/
theorem cond3_iff : ∀ t : Fin cfg0.N, k0_cond3 (grid0.coords t) = 1#1 ↔ t.val % 5 = 0 := by decide +kernel
/-- Steps 1 and 3 read the first pair of carried blocks and write the second. -/
theorem cond4_iff : ∀ t : Fin cfg0.N, k0_cond4 (grid0.coords t) = 1#1 ↔ (t.val % 5 = 1 ∨ t.val % 5 = 3) := by decide +kernel
/-- Step 2 reads the second pair and writes the first. -/
theorem cond5_iff : ∀ t : Fin cfg0.N, k0_cond5 (grid0.coords t) = 1#1 ↔ t.val % 5 = 2 := by decide +kernel
/-- The last step takes the gradient through the normalisation. -/
theorem cond6_iff : ∀ t : Fin cfg0.N, k0_cond6 (grid0.coords t) = 1#1 ↔ t.val % 5 = 4 := by decide +kernel

/-- The inputs are never left out. -/
theorem idle0_in : ∀ t : Fin cfg0.N, cfg0.idle 0 (grid0.coords t) = false ∧ cfg0.idle 1 (grid0.coords t) = false
    ∧ cfg0.idle 2 (grid0.coords t) = false ∧ cfg0.idle 3 (grid0.coords t) = false ∧ cfg0.idle 4 (grid0.coords t) = false
    ∧ cfg0.idle 5 (grid0.coords t) = false ∧ cfg0.idle 6 (grid0.coords t) = false ∧ cfg0.idle 7 (grid0.coords t) = false := by
  decide +kernel

/-- The gradient of the input and the normalised rows are touched at the last step only. -/
theorem idle0_8 : ∀ t : Fin cfg0.N, cfg0.idle 8 (grid0.coords t) = decide (t.val % 5 ≠ 4) := by decide +kernel
theorem idle0_9 : ∀ t : Fin cfg0.N, cfg0.idle 9 (grid0.coords t) = decide (t.val % 5 ≠ 4) := by decide +kernel
/-- The three blocks of columns are touched at every step but the last. -/
theorem idle0_10 : ∀ t : Fin cfg0.N, cfg0.idle 10 (grid0.coords t) = decide (t.val % 5 = 4) := by decide +kernel
theorem idle0_11 : ∀ t : Fin cfg0.N, cfg0.idle 11 (grid0.coords t) = decide (t.val % 5 = 4) := by decide +kernel
theorem idle0_12 : ∀ t : Fin cfg0.N, cfg0.idle 12 (grid0.coords t) = decide (t.val % 5 = 4) := by decide +kernel
/-- The gain's gradient is touched at the first point and at every last step. -/
theorem idle0_13 : ∀ t : Fin cfg0.N, cfg0.idle 13 (grid0.coords t) = decide (t.val ≠ 0 ∧ t.val % 5 ≠ 4) := by decide +kernel

theorem flush8 : ∀ t : Fin cfg0.N, (cfg0.win 8).flush t = decide (t.val % 5 = 4) := by decide +kernel
theorem flush9 : ∀ t : Fin cfg0.N, (cfg0.win 9).flush t = decide (t.val % 5 = 4) := by decide +kernel
/-- A block of columns is written back at the steps 0, 1, 2 and, the one of step 3, at step 4. -/
theorem flush10 : ∀ t : Fin cfg0.N, (cfg0.win 10).flush t = decide (t.val % 5 ≠ 3) := by decide +kernel
theorem flush11 : ∀ t : Fin cfg0.N, (cfg0.win 11).flush t = decide (t.val % 5 ≠ 3) := by decide +kernel
theorem flush12 : ∀ t : Fin cfg0.N, (cfg0.win 12).flush t = decide (t.val % 5 ≠ 3) := by decide +kernel
/-- The gain's gradient is written back once, after the last point. -/
theorem flush13 : ∀ t : Fin cfg0.N, (cfg0.win 13).flush t = decide (t.val = 79) := by decide +kernel

end Cert.KernelIdeal.Bwd

end
-- ==== Proof.Bwd.Step.lean ====
/-
  The backward half step's arithmetic, one function per block the body computes. The body spells the
  same arithmetic several times, once for each branch; here each quantity has one name, and the
  branches' spellings are shown to be it.
-/
module

public import proofs.«01_k».proof.Proof.Gen.KernelIdeal.Skeleton
public import Idealize.ShloMosaic.Lib.Pipeline.Value

@[expose] public section

set_option maxRecDepth 65536

noncomputable section

namespace Cert.KernelIdeal.Bwd

open Cert.KernelIdeal Cert.KernelIdeal.Gen
open Idealize.ShloMosaic Idealize.ShloMosaic.TcCoe Idealize.SL.Sem

variable {F : FTy → Type} [FloatOps F]

/-- Half the incoming gradient of a tile of rows, rounded. -/
def dyHalf (dy : Vec F S512x1024 .f32) : Vec F S512x1024 .bf16 := k0_pay35 dy

/-- The sum of the input's gradient (before the normalisation), with one block of columns added:
    `du + da · w1ᵀ + db · w3ᵀ`. -/
def duAdd (du : Vec F S512x1024 .f32) (da : Vec F S512x704 .bf16) (w1 : Vec F S1x1x1024x704 .bf16)
    (db : Vec F S512x704 .bf16) (w3 : Vec F S1x1x1024x704 .bf16) : Vec F S512x1024 .f32 := k0_pay25 du da w1 db w3

/-- The gradient of the gate's argument, one block of columns. -/
def daOf (dyh : Vec F S512x1024 .bf16) (w2 : Vec F S1x1x704x1024 .bf16) (a b : Vec F S1x512x704 .bf16) :
    Vec F S512x704 .bf16 := k0_pay4 (k0_pay26 dyh w2) (k0_pay27 a) (k0_pay28 b) (k0_pay29 a)

/-- The gradient of the gated factor, one block of columns. -/
def dbOf (dyh : Vec F S512x1024 .bf16) (w2 : Vec F S1x1x704x1024 .bf16) (a : Vec F S1x512x704 .bf16) :
    Vec F S512x704 .bf16 := k0_pay5 (k0_pay26 dyh w2) (k0_pay27 a) (k0_pay29 a)

/-- A block of columns as the output's block. -/
def outOf (d : Vec F S512x704 .bf16) : Vec F S1x512x704 .bf16 := k0_pay38 d

/-- The forward pass's product, `silu a · b`, one block of columns. -/
def sOf (a b : Vec F S1x512x704 .bf16) : Vec F S1x512x704 .bf16 := k0_pay17 a b

/-- The gain's gradient, with one tile of rows added. -/
def dgAdd (h : Vec F S512x1024 .f32) (du : Vec F S512x1024 .f32) (dg : Vec F S1x1024 .f32) : Vec F S1x1024 .f32 :=
  k0_pay10 (k0_pay32 h) du dg

/-- The gradient of the input, one tile of rows. -/
def dhOf (h : Vec F S512x1024 .f32) (g : Vec F S1x1024 .f32) (du dy : Vec F S512x1024 .f32) : Vec F S512x1024 .f32 :=
  k0_pay11 (k0_pay31 h) (k0_pay32 h) (k0_pay33 g) du dy

/-- The normalised rows, scaled by the gain and rounded. -/
def uOf (h : Vec F S512x1024 .f32) (g : Vec F S1x1024 .f32) : Vec F S512x1024 .bf16 := k0_pay34 h g

/-- The cleared sum, and the cleared gradient of the gain. -/
def duZero : Vec F S512x1024 .f32 := k0_pay36
def dgZero : Vec F S1x1024 .f32 := k0_pay37

section
variable (dyh : Vec F S512x1024 .bf16) (w2 : Vec F S1x1x704x1024 .bf16) (a b : Vec F S1x512x704 .bf16)

theorem da_first : k0_pay40 (k0_pay18 dyh w2 a b) = daOf dyh w2 a b := shapeCast_self _ _
theorem db_first : k0_pay41 (k0_pay19 dyh w2 a) = dbOf dyh w2 a := shapeCast_self _ _
theorem oda_first : k0_pay38 (k0_pay18 dyh w2 a b) = outOf (daOf dyh w2 a b) := rfl
theorem odb_first : k0_pay39 (k0_pay19 dyh w2 a) = outOf (dbOf dyh w2 a) := rfl
theorem da_odd : k0_pay49 (k0_pay21 dyh w2) (k0_pay22 a) (k0_pay23 b) (k0_pay24 a) = daOf dyh w2 a b := shapeCast_self _ _
theorem db_odd : k0_pay50 (k0_pay21 dyh w2) (k0_pay22 a) (k0_pay24 a) = dbOf dyh w2 a := shapeCast_self _ _
theorem oda_odd : k0_pay47 (k0_pay21 dyh w2) (k0_pay22 a) (k0_pay23 b) (k0_pay24 a) = outOf (daOf dyh w2 a b) := rfl
theorem odb_odd : k0_pay48 (k0_pay21 dyh w2) (k0_pay22 a) (k0_pay24 a) = outOf (dbOf dyh w2 a) := rfl
theorem s_odd : k0_pay44 (k0_pay22 a) (k0_pay23 b) (k0_pay24 a) = sOf a b := rfl
theorem oda_two : k0_pay6 (k0_pay26 dyh w2) (k0_pay27 a) (k0_pay28 b) (k0_pay29 a) = outOf (daOf dyh w2 a b) := rfl
theorem odb_two : k0_pay7 (k0_pay26 dyh w2) (k0_pay27 a) (k0_pay29 a) = outOf (dbOf dyh w2 a) := rfl
theorem da_two : k0_pay8 (k0_pay26 dyh w2) (k0_pay27 a) (k0_pay28 b) (k0_pay29 a) = daOf dyh w2 a b := shapeCast_self _ _
theorem db_two : k0_pay9 (k0_pay26 dyh w2) (k0_pay27 a) (k0_pay29 a) = dbOf dyh w2 a := shapeCast_self _ _
theorem s_two : k0_pay3 (k0_pay27 a) (k0_pay28 b) (k0_pay29 a) = sOf a b := rfl
end

theorem du_odd (du : Vec F S512x1024 .f32) (da : Vec F S512x704 .bf16) (w1 : Vec F S1x1x1024x704 .bf16)
    (db : Vec F S512x704 .bf16) (w3 : Vec F S1x1x1024x704 .bf16) : k0_pay20 du da w1 db w3 = duAdd du da w1 db w3 := rfl
theorem du_last (du : Vec F S512x1024 .f32) (da : Vec F S512x704 .bf16) (w1 : Vec F S1x1x1024x704 .bf16)
    (db : Vec F S512x704 .bf16) (w3 : Vec F S1x1x1024x704 .bf16) : k0_pay30 du da w1 db w3 = duAdd du da w1 db w3 := rfl

end Cert.KernelIdeal.Bwd

end
-- ==== Proof.Bwd.State.lean ====
/-
  What the backward half step keeps between grid points, and what each point leaves in each window.

  A tile of 512 rows takes five points. The body keeps the rounded half of the tile's incoming gradient,
  the sum of the input's gradient, and two pairs of blocks of products; the pair written at one step is
  read at the next. The gain's gradient is kept in its output window over the whole grid.
-/
module

public import proofs.«01_k».proof.Proof.Bwd.Points
public import proofs.«01_k».proof.Proof.Bwd.Step
public import Idealize.ShloMosaic.Lib.Pipeline.FrameBody
public import Idealize.ShloMosaic.Lib.Tactic

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept between points: the tile's rounded half gradient, the sum, the last pair of products, the last block
    of the forward product, and the gain's gradient so far. -/
structure Kept (F : FTy → Type) where
  dyh : Vec F S512x1024 .bf16
  du : Vec F S512x1024 .f32
  da : Vec F S512x704 .bf16
  db : Vec F S512x704 .bf16
  s : Vec F S1x512x704 .bf16
  dg : Vec F S1x1024 .f32

/-- A tile's first step, from the point's blocks and the gain's gradient so far. -/
def stepFirst (dy : Vec F S512x1024 .f32) (a b : Vec F S1x512x704 .bf16) (w2 : Vec F S1x1x704x1024 .bf16)
    (dg : Vec F S1x1024 .f32) : Kept F :=
  ⟨dyHalf dy, duZero, daOf (dyHalf dy) w2 a b, dbOf (dyHalf dy) w2 a, sOf a b, dg⟩

/-- A tile's middle steps. -/
def stepMid (w1 w3 : Vec F S1x1x1024x704 .bf16) (a b : Vec F S1x512x704 .bf16) (w2 : Vec F S1x1x704x1024 .bf16)
    (p : Kept F) : Kept F :=
  ⟨p.dyh, duAdd p.du p.da w1 p.db w3, daOf p.dyh w2 a b, dbOf p.dyh w2 a, sOf a b, p.dg⟩

/-- A tile's last step. -/
def stepLast (h : Vec F S512x1024 .f32) (w1 w3 : Vec F S1x1x1024x704 .bf16) (p : Kept F) : Kept F :=
  ⟨p.dyh, duAdd p.du p.da w1 p.db w3, p.da, p.db, p.s, dgAdd h (duAdd p.du p.da w1 p.db w3) p.dg⟩

/-- What is kept after point `n`. -/
def st (c : Dev nD) : (n : ℕ) → n < cfg0.N → Kept F
  | 0, h => stepFirst (iblk m c 1 ⟨0, h⟩) (iblk m c 3 ⟨0, h⟩) (iblk m c 4 ⟨0, h⟩) (iblk m c 7 ⟨0, h⟩) dgZero
  | n + 1, h =>
    if (n + 1) % 5 = 0 then
      stepFirst (iblk m c 1 ⟨n + 1, h⟩) (iblk m c 3 ⟨n + 1, h⟩) (iblk m c 4 ⟨n + 1, h⟩) (iblk m c 7 ⟨n + 1, h⟩) (st c n (Nat.lt_of_succ_lt h)).dg
    else if (n + 1) % 5 = 4 then
      stepLast (iblk m c 0 ⟨n + 1, h⟩) (iblk m c 5 ⟨n + 1, h⟩) (iblk m c 6 ⟨n + 1, h⟩) (st c n (Nat.lt_of_succ_lt h))
    else
      stepMid (iblk m c 5 ⟨n + 1, h⟩) (iblk m c 6 ⟨n + 1, h⟩) (iblk m c 3 ⟨n + 1, h⟩) (iblk m c 4 ⟨n + 1, h⟩) (iblk m c 7 ⟨n + 1, h⟩)
        (st c n (Nat.lt_of_succ_lt h))

/-- What is kept before a point that is not the first. -/
def prev (c : Dev nD) (t : Fin cfg0.N) : Kept F := st m c (t.val - 1) (by have := t.isLt; omega)

theorem st_start (c : Dev nD) (t : Fin cfg0.N) (hz : t.val = 0) :
    st m c t.val t.isLt = stepFirst (iblk m c 1 t) (iblk m c 3 t) (iblk m c 4 t) (iblk m c 7 t) dgZero := by
  obtain ⟨n, hn⟩ := t; subst hz; rfl

theorem st_first (c : Dev nD) (t : Fin cfg0.N) (h : t.val % 5 = 0) (hz : t.val ≠ 0) :
    st m c t.val t.isLt = stepFirst (iblk m c 1 t) (iblk m c 3 t) (iblk m c 4 t) (iblk m c 7 t) (prev m c t).dg := by
  obtain ⟨n, hn⟩ := t
  cases n with
  | zero => exact absurd rfl hz
  | succ n => exact if_pos h

theorem st_last (c : Dev nD) (t : Fin cfg0.N) (h : t.val % 5 = 4) :
    st m c t.val t.isLt = stepLast (iblk m c 0 t) (iblk m c 5 t) (iblk m c 6 t) (prev m c t) := by
  obtain ⟨n, hn⟩ := t
  cases n with
  | zero => exact absurd (show 0 % 5 = 4 from h) (by decide)
  | succ n => exact (if_neg (fun e => by have : (n + 1) % 5 = 4 := h; omega)).trans (if_pos h)

theorem st_mid (c : Dev nD) (t : Fin cfg0.N) (h0 : t.val % 5 ≠ 0) (h4 : t.val % 5 ≠ 4) :
    st m c t.val t.isLt = stepMid (iblk m c 5 t) (iblk m c 6 t) (iblk m c 3 t) (iblk m c 4 t) (iblk m c 7 t) (prev m c t) := by
  obtain ⟨n, hn⟩ := t
  cases n with
  | zero => exact absurd rfl h0
  | succ n => exact (if_neg h0).trans (if_neg h4)

theorem da_last (c : Dev nD) (t : Fin cfg0.N) (h : t.val % 5 = 4) (_ : t.val ≠ 0) :
    (st m c t.val t.isLt).da = (st m c (t.val - 1) (by have := t.isLt; omega)).da := by rw [st_last m c t h]; rfl
theorem db_last (c : Dev nD) (t : Fin cfg0.N) (h : t.val % 5 = 4) (_ : t.val ≠ 0) :
    (st m c t.val t.isLt).db = (st m c (t.val - 1) (by have := t.isLt; omega)).db := by rw [st_last m c t h]; rfl
theorem s_last (c : Dev nD) (t : Fin cfg0.N) (h : t.val % 5 = 4) (_ : t.val ≠ 0) :
    (st m c t.val t.isLt).s = (st m c (t.val - 1) (by have := t.isLt; omega)).s := by rw [st_last m c t h]; rfl
/-- The gain's gradient changes at a tile's last step only. -/
theorem dg_kept (c : Dev nD) (t : Fin cfg0.N) (h : t.val % 5 ≠ 4) (hz : t.val ≠ 0) :
    (st m c t.val t.isLt).dg = (st m c (t.val - 1) (by have := t.isLt; omega)).dg := by
  by_cases h0 : t.val % 5 = 0
  · rw [st_first m c t h0 hz]; rfl
  · rw [st_mid m c t h0 h]; rfl

/-! ## What the scratch buffers hold between points -/

abbrev sc0 : Memref sig .tc .vmem S512x1024 .bf16 := Memref.whole cc0_scratch0
abbrev sc1 : Memref sig .tc .vmem S512x1024 .f32 := Memref.whole cc0_scratch1
abbrev sc2 : Memref sig .tc .vmem S512x704 .bf16 := Memref.whole cc0_scratch2
abbrev sc3 : Memref sig .tc .vmem S512x704 .bf16 := Memref.whole cc0_scratch3
abbrev sc4 : Memref sig .tc .vmem S512x704 .bf16 := Memref.whole cc0_scratch4
abbrev sc5 : Memref sig .tc .vmem S512x704 .bf16 := Memref.whole cc0_scratch5

/-- After the steps 0 and 2 the first pair holds the last products. -/
def heldA (c : Dev nD) (k : Kept F) : sProp 𝕄 :=
  iprop(iprop(owns (c : Thread nD τ) sc0 fullShare k.dyh ∗ owns (c : Thread nD τ) sc1 fullShare k.du
    ∗ owns (c : Thread nD τ) sc2 fullShare k.da ∗ owns (c : Thread nD τ) sc3 fullShare k.db
    ∗ (∃ d, owns (c : Thread nD τ) sc4 fullShare d) ∗ (∃ d, owns (c : Thread nD τ) sc5 fullShare d)) ∗ (∃ r, prngReg c r))

/-- After the other steps the second pair does. -/
def heldB (c : Dev nD) (k : Kept F) : sProp 𝕄 :=
  iprop(iprop(owns (c : Thread nD τ) sc0 fullShare k.dyh ∗ owns (c : Thread nD τ) sc1 fullShare k.du
    ∗ (∃ d, owns (c : Thread nD τ) sc2 fullShare d) ∗ (∃ d, owns (c : Thread nD τ) sc3 fullShare d)
    ∗ owns (c : Thread nD τ) sc4 fullShare k.da ∗ owns (c : Thread nD τ) sc5 fullShare k.db) ∗ (∃ r, prngReg c r))

/-- What the region owns besides the windows, before point `n`. -/
def PhiS (c : Dev nD) : (n : ℕ) → n ≤ cfg0.N → sProp 𝕄
  | 0, _ => Pipeline.ΦA spec0 c
  | n + 1, h => if n % 5 = 0 ∨ n % 5 = 2 then heldA c (st m c n h) else heldB c (st m c n h)

theorem PhiA0_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem heldB_forget (c : Dev nD) (k : Kept F) : heldB c k ⊢ (Pipeline.ΦA spec0 c : sProp 𝕄) := by
  rw [PhiA0_eq]; unfold heldB
  iintro ⟨⟨H0, H1, H2, H3, H4, H5⟩, Hg⟩
  isplitl [H0 H1 H2 H3 H4 H5]
  · isplitl [H0]; · iexists _; iexact H0
    isplitl [H1]; · iexists _; iexact H1
    isplitl [H2]; · iexact H2
    isplitl [H3]; · iexact H3
    isplitl [H4]; · iexists _; iexact H4
    iexists _; iexact H5
  iexact Hg

/-- Before a point after step 0 or 2. -/
theorem PhiS_posA (c : Dev nD) (t : Fin cfg0.N) (h : t.val % 5 = 1 ∨ t.val % 5 = 3) :
    PhiS m c t.val (Nat.le_of_lt t.isLt) = heldA c (prev m c t) := by
  obtain ⟨n, hn⟩ := t
  cases n with
  | zero => exact absurd (show 0 % 5 = 1 ∨ 0 % 5 = 3 from h) (by decide)
  | succ n =>
    have h' : (n + 1) % 5 = 1 ∨ (n + 1) % 5 = 3 := h
    exact if_pos (by omega)

/-- Before a point after another step. -/
theorem PhiS_posB (c : Dev nD) (t : Fin cfg0.N) (hz : t.val ≠ 0) (h : ¬(t.val % 5 = 1 ∨ t.val % 5 = 3)) :
    PhiS m c t.val (Nat.le_of_lt t.isLt) = heldB c (prev m c t) := by
  obtain ⟨n, hn⟩ := t
  cases n with
  | zero => exact absurd rfl hz
  | succ n =>
    have h' : ¬((n + 1) % 5 = 1 ∨ (n + 1) % 5 = 3) := h
    exact if_neg (by omega)

theorem PhiS_zero (c : Dev nD) (t : Fin cfg0.N) (hz : t.val = 0) : PhiS m c t.val (Nat.le_of_lt t.isLt) = Pipeline.ΦA spec0 c := by
  obtain ⟨n, hn⟩ := t; subst hz; rfl

/-- After a point. -/
theorem PhiS_succA (c : Dev nD) (t : Fin cfg0.N) (h : t.val % 5 = 0 ∨ t.val % 5 = 2) :
    PhiS m c (t.val + 1) t.isLt = heldA c (st m c t.val t.isLt) := if_pos h
theorem PhiS_succB (c : Dev nD) (t : Fin cfg0.N) (h : ¬(t.val % 5 = 0 ∨ t.val % 5 = 2)) :
    PhiS m c (t.val + 1) t.isLt = heldB c (st m c t.val t.isLt) := if_neg h

/-! ## The run's data -/

/-- What each window holds after each point: an input its block, an output what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dhOf (iblk m c 0 t) (iblk m c 2 t) (st m c t.val t.isLt).du (iblk m c 1 t)
    | ⟨9, _⟩ => uOf (iblk m c 0 t) (iblk m c 2 t)
    | ⟨10, _⟩ => outOf (st m c t.val t.isLt).da
    | ⟨11, _⟩ => outOf (st m c t.val t.isLt).db
    | ⟨12, _⟩ => (st m c t.val t.isLt).s
    | ⟨13, _⟩ => (st m c t.val t.isLt).dg
  Φ t := PhiS m c t.val (Nat.le_of_lt_succ t.isLt)
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dhOf (iblk m c 0 t) (iblk m c 2 t) (st m c t.val t.isLt).du (iblk m c 1 t) := by dsimp only [dats]
theorem after0_9 (c : Dev nD) (t : Fin cfg0.N) : (dats m 0 c).after 9 t = uOf (iblk m c 0 t) (iblk m c 2 t) := by dsimp only [dats]
theorem after0_10 (c : Dev nD) (t : Fin cfg0.N) : (dats m 0 c).after 10 t = outOf (st m c t.val t.isLt).da := by dsimp only [dats]
theorem after0_11 (c : Dev nD) (t : Fin cfg0.N) : (dats m 0 c).after 11 t = outOf (st m c t.val t.isLt).db := by dsimp only [dats]
theorem after0_12 (c : Dev nD) (t : Fin cfg0.N) : (dats m 0 c).after 12 t = (st m c t.val t.isLt).s := by dsimp only [dats]
theorem after0_13 (c : Dev nD) (t : Fin cfg0.N) : (dats m 0 c).after 13 t = (st m c t.val t.isLt).dg := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## What the body finds in the outputs it keeps -/

theorem fresh0_10 : ∀ n, n ≤ cfg0.N → cfg0.fresh 10 n = decide (n % 5 ≠ 4 ∨ n = 0) :=
  cfg0.fresh_tab 10 (fun n => decide (n % 5 ≠ 4 ∨ n = 0)) rfl (by decide +kernel)
theorem fresh0_11 : ∀ n, n ≤ cfg0.N → cfg0.fresh 11 n = decide (n % 5 ≠ 4 ∨ n = 0) :=
  cfg0.fresh_tab 11 (fun n => decide (n % 5 ≠ 4 ∨ n = 0)) rfl (by decide +kernel)
theorem fresh0_12 : ∀ n, n ≤ cfg0.N → cfg0.fresh 12 n = decide (n % 5 ≠ 4 ∨ n = 0) :=
  cfg0.fresh_tab 12 (fun n => decide (n % 5 ≠ 4 ∨ n = 0)) rfl (by decide +kernel)
theorem fresh0_13 : ∀ n, n ≤ cfg0.N → cfg0.fresh 13 n = decide (n = 0 ∨ n = 80) :=
  cfg0.fresh_tab 13 (fun n => decide (n = 0 ∨ n = 80)) rfl (by decide +kernel)

/-- At a tile's last step the blocks of columns of the step before are still there. -/
theorem before0_10 (c : Dev nD) (t : Fin cfg0.N) (h : t.val % 5 = 4) (d) :
    (dats m 0 c).before 10 t d = (dats m 0 c).after 10 t := by
  have hN : t.val < 80 := lt_of_lt_of_eq t.isLt n_eq
  have hz : t.val ≠ 0 := by omega
  rw [(dats m 0 c).before_out_traj 10 rfl (fun _ _ => rfl) (fun t hz hi hf => by
      have h4 : t.val % 5 = 4 := by rw [idle0_10 t] at hi; exact of_decide_eq_true hi
      rw [after0_10, after0_10, da_last m c t h4 hz]) t.val t rfl d,
    fresh0_10 t.val (Nat.le_of_lt t.isLt), if_neg (by simp [h, hz]), after0_10, after0_10, da_last m c t h hz]

theorem before0_11 (c : Dev nD) (t : Fin cfg0.N) (h : t.val % 5 = 4) (d) :
    (dats m 0 c).before 11 t d = (dats m 0 c).after 11 t := by
  have hN : t.val < 80 := lt_of_lt_of_eq t.isLt n_eq
  have hz : t.val ≠ 0 := by omega
  rw [(dats m 0 c).before_out_traj 11 rfl (fun _ _ => rfl) (fun t hz hi hf => by
      have h4 : t.val % 5 = 4 := by rw [idle0_11 t] at hi; exact of_decide_eq_true hi
      rw [after0_11, after0_11, db_last m c t h4 hz]) t.val t rfl d,
    fresh0_11 t.val (Nat.le_of_lt t.isLt), if_neg (by simp [h, hz]), after0_11, after0_11, db_last m c t h hz]

theorem before0_12 (c : Dev nD) (t : Fin cfg0.N) (h : t.val % 5 = 4) (d) :
    (dats m 0 c).before 12 t d = (dats m 0 c).after 12 t := by
  have hN : t.val < 80 := lt_of_lt_of_eq t.isLt n_eq
  have hz : t.val ≠ 0 := by omega
  rw [(dats m 0 c).before_out_traj 12 rfl (fun _ _ => rfl) (fun t hz hi hf => by
      have h4 : t.val % 5 = 4 := by rw [idle0_12 t] at hi; exact of_decide_eq_true hi
      rw [after0_12, after0_12, s_last m c t h4 hz]) t.val t rfl d,
    fresh0_12 t.val (Nat.le_of_lt t.isLt), if_neg (by simp [h, hz]), after0_12, after0_12, s_last m c t h hz]

/-- After the first point the body finds the gain's gradient the point before left. -/
theorem before0_13 (c : Dev nD) (t : Fin cfg0.N) (hz : t.val ≠ 0) (d) : (dats m 0 c).before 13 t d = (prev m c t).dg := by
  have hN : t.val < 80 := lt_of_lt_of_eq t.isLt n_eq
  rw [(dats m 0 c).before_out_traj 13 rfl (fun _ _ => rfl) (fun t hz hi hf => by
      have h4 : t.val ≠ 0 ∧ t.val % 5 ≠ 4 := by rw [idle0_13 t] at hi; exact of_decide_eq_true hi
      rw [after0_13, after0_13, dg_kept m c t h4.2 hz]) t.val t rfl d,
    fresh0_13 t.val (Nat.le_of_lt t.isLt), if_neg (by simp [hz]; omega), after0_13]
  rfl

end Cert.KernelIdeal.Bwd

end
-- ==== Proof.Bwd.BodyBase.lean ====
/-
  The statement every grid point's body is proved against: the windows' blocks and the kept state
  before, what the windows hold and the kept state after.
-/
module

public import proofs.«01_k».proof.Proof.Bwd.State

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' current buffers -/

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1x512x704 .bf16 := win0_3.stage (cfg0.slots t 3)
abbrev ms4 (t : Fin cfg0.N) : Memref sig .tc .vmem S1x512x704 .bf16 := win0_4.stage (cfg0.slots t 4)
abbrev ms5 (t : Fin cfg0.N) : Memref sig .tc .vmem S1x1x1024x704 .bf16 := win0_5.stage (cfg0.slots t 5)
abbrev ms6 (t : Fin cfg0.N) : Memref sig .tc .vmem S1x1x1024x704 .bf16 := win0_6.stage (cfg0.slots t 6)
abbrev ms7 (t : Fin cfg0.N) : Memref sig .tc .vmem S1x1x704x1024 .bf16 := win0_7.stage (cfg0.slots t 7)
abbrev ms8 (t : Fin cfg0.N) : Memref sig .tc .vmem S512x1024 .f32 := win0_8.stage (cfg0.slots t 8)
abbrev ms9 (t : Fin cfg0.N) : Memref sig .tc .vmem S512x1024 .bf16 := win0_9.stage (cfg0.slots t 9)
abbrev ms10 (t : Fin cfg0.N) : Memref sig .tc .vmem S1x512x704 .bf16 := win0_10.stage (cfg0.slots t 10)
abbrev ms11 (t : Fin cfg0.N) : Memref sig .tc .vmem S1x512x704 .bf16 := win0_11.stage (cfg0.slots t 11)
abbrev ms12 (t : Fin cfg0.N) : Memref sig .tc .vmem S1x512x704 .bf16 := win0_12.stage (cfg0.slots t 12)
abbrev ms13 (t : Fin cfg0.N) : Memref sig .tc .vmem S1x1024 .f32 := win0_13.stage (cfg0.slots t 13)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What the body hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-! ## What each window is handed back at -/

theorem leaves0 (c : Dev nD) (t : Fin cfg0.N) :
    (dats m 0 c).leavesExact 0 t = owns (c : Thread nD τ) (ms0 t) fullShare (iblk m c 0 t) := by
  unfold Dat.leavesExact; rw [(idle0_in t).1, after0_0]
theorem leaves1 (c : Dev nD) (t : Fin cfg0.N) :
    (dats m 0 c).leavesExact 1 t = owns (c : Thread nD τ) (ms1 t) fullShare (iblk m c 1 t) := by
  unfold Dat.leavesExact; rw [(idle0_in t).2.1, after0_1]
theorem leaves2 (c : Dev nD) (t : Fin cfg0.N) :
    (dats m 0 c).leavesExact 2 t = owns (c : Thread nD τ) (ms2 t) fullShare (iblk m c 2 t) := by
  unfold Dat.leavesExact; rw [(idle0_in t).2.2.1, after0_2]
theorem leaves3 (c : Dev nD) (t : Fin cfg0.N) :
    (dats m 0 c).leavesExact 3 t = owns (c : Thread nD τ) (ms3 t) fullShare (iblk m c 3 t) := by
  unfold Dat.leavesExact; rw [(idle0_in t).2.2.2.1, after0_3]
theorem leaves4 (c : Dev nD) (t : Fin cfg0.N) :
    (dats m 0 c).leavesExact 4 t = owns (c : Thread nD τ) (ms4 t) fullShare (iblk m c 4 t) := by
  unfold Dat.leavesExact; rw [(idle0_in t).2.2.2.2.1, after0_4]
theorem leaves5 (c : Dev nD) (t : Fin cfg0.N) :
    (dats m 0 c).leavesExact 5 t = owns (c : Thread nD τ) (ms5 t) fullShare (iblk m c 5 t) := by
  unfold Dat.leavesExact; rw [(idle0_in t).2.2.2.2.2.1, after0_5]
theorem leaves6 (c : Dev nD) (t : Fin cfg0.N) :
    (dats m 0 c).leavesExact 6 t = owns (c : Thread nD τ) (ms6 t) fullShare (iblk m c 6 t) := by
  unfold Dat.leavesExact; rw [(idle0_in t).2.2.2.2.2.2.1, after0_6]
theorem leaves7 (c : Dev nD) (t : Fin cfg0.N) :
    (dats m 0 c).leavesExact 7 t = owns (c : Thread nD τ) (ms7 t) fullShare (iblk m c 7 t) := by
  unfold Dat.leavesExact; rw [(idle0_in t).2.2.2.2.2.2.2, after0_7]
theorem live8 (c : Dev nD) (t : Fin cfg0.N) (h : cfg0.idle 8 (grid0.coords t) = false) :
    (dats m 0 c).leavesExact 8 t = owns (c : Thread nD τ) (ms8 t) fullShare ((dats m 0 c).after 8 t) := by
  unfold Dat.leavesExact; rw [h]
theorem live9 (c : Dev nD) (t : Fin cfg0.N) (h : cfg0.idle 9 (grid0.coords t) = false) :
    (dats m 0 c).leavesExact 9 t = owns (c : Thread nD τ) (ms9 t) fullShare ((dats m 0 c).after 9 t) := by
  unfold Dat.leavesExact; rw [h]
theorem live10 (c : Dev nD) (t : Fin cfg0.N) (h : cfg0.idle 10 (grid0.coords t) = false) :
    (dats m 0 c).leavesExact 10 t = owns (c : Thread nD τ) (ms10 t) fullShare ((dats m 0 c).after 10 t) := by
  unfold Dat.leavesExact; rw [h]
theorem live11 (c : Dev nD) (t : Fin cfg0.N) (h : cfg0.idle 11 (grid0.coords t) = false) :
    (dats m 0 c).leavesExact 11 t = owns (c : Thread nD τ) (ms11 t) fullShare ((dats m 0 c).after 11 t) := by
  unfold Dat.leavesExact; rw [h]
theorem live12 (c : Dev nD) (t : Fin cfg0.N) (h : cfg0.idle 12 (grid0.coords t) = false) :
    (dats m 0 c).leavesExact 12 t = owns (c : Thread nD τ) (ms12 t) fullShare ((dats m 0 c).after 12 t) := by
  unfold Dat.leavesExact; rw [h]
theorem live13 (c : Dev nD) (t : Fin cfg0.N) (h : cfg0.idle 13 (grid0.coords t) = false) :
    (dats m 0 c).leavesExact 13 t = owns (c : Thread nD τ) (ms13 t) fullShare ((dats m 0 c).after 13 t) := by
  unfold Dat.leavesExact; rw [h]
theorem kept10 (c : Dev nD) (t : Fin cfg0.N) (h : cfg0.idle 10 (grid0.coords t) = true) (hf : (cfg0.win 10).flush t = true) :
    (dats m 0 c).leavesExact 10 t = owns (c : Thread nD τ) (ms10 t) fullShare ((dats m 0 c).after 10 t) := by
  unfold Dat.leavesExact; rw [h, hf]
theorem kept11 (c : Dev nD) (t : Fin cfg0.N) (h : cfg0.idle 11 (grid0.coords t) = true) (hf : (cfg0.win 11).flush t = true) :
    (dats m 0 c).leavesExact 11 t = owns (c : Thread nD τ) (ms11 t) fullShare ((dats m 0 c).after 11 t) := by
  unfold Dat.leavesExact; rw [h, hf]
theorem kept12 (c : Dev nD) (t : Fin cfg0.N) (h : cfg0.idle 12 (grid0.coords t) = true) (hf : (cfg0.win 12).flush t = true) :
    (dats m 0 c).leavesExact 12 t = owns (c : Thread nD τ) (ms12 t) fullShare ((dats m 0 c).after 12 t) := by
  unfold Dat.leavesExact; rw [h, hf]

theorem owes_succ (c : Dev nD) (t : Fin cfg0.N) : (dats m 0 c).owesAt () t.succ = (dats m 0 c).owesAt () t.castSucc := rfl

theorem PhiS_fin (c : Dev nD) (t : Fin cfg0.N) : (dats m 0 c).Φ t.succ = PhiS m c (t.val + 1) t.isLt := rfl

end Cert.KernelIdeal.Bwd

end
-- ==== Proof.Bwd.Block.lean ====
/-
  Loads and stores of whole blocks: a load of a view's own sizes reads all of it, a store of a view's
  own sizes leaves what was stored.
-/
module

public import Idealize.ShloMosaic.Lib.VecWindow

@[expose] public section

namespace Idealize.ShloMosaic.View

variable {sig : RefSig} {κ : Kind} {sp : Space} {e : EltTy} {Val : EltTy → Type}

/-- A load of all of a matrix. -/
theorem load2 {p q : ℕ} (v : View sig κ sp (⟨2, ![p, q]⟩ : Shape) e) (f : v.ty.Contents Val) {off : Fin 2 → ℕ}
    (inb : ∀ a, off a + (![p, q] : Fin 2 → ℕ) a ≤ (⟨2, ![p, q]⟩ : Shape).size a) :
    v.readAt Val (Rect.unit (s := ⟨2, ![p, q]⟩) off ![p, q] inb).toLoadRect f = v.read Val f := readAt_full v f inb

theorem load3 {p q r : ℕ} (v : View sig κ sp (⟨3, ![p, q, r]⟩ : Shape) e) (f : v.ty.Contents Val) {off : Fin 3 → ℕ}
    (inb : ∀ a, off a + (![p, q, r] : Fin 3 → ℕ) a ≤ (⟨3, ![p, q, r]⟩ : Shape).size a) :
    v.readAt Val (Rect.unit (s := ⟨3, ![p, q, r]⟩) off ![p, q, r] inb).toLoadRect f = v.read Val f := readAt_full v f inb

theorem load4 {p q r s : ℕ} (v : View sig κ sp (⟨4, ![p, q, r, s]⟩ : Shape) e) (f : v.ty.Contents Val) {off : Fin 4 → ℕ}
    (inb : ∀ a, off a + (![p, q, r, s] : Fin 4 → ℕ) a ≤ (⟨4, ![p, q, r, s]⟩ : Shape).size a) :
    v.readAt Val (Rect.unit (s := ⟨4, ![p, q, r, s]⟩) off ![p, q, r, s] inb).toLoadRect f = v.read Val f := readAt_full v f inb

/-- What a matrix holds after a store of all of it. -/
theorem store2 {p q : ℕ} (v : View sig κ sp (⟨2, ![p, q]⟩ : Shape) e) (f : v.ty.Contents Val) {off : Fin 2 → ℕ}
    (inb : ∀ a, off a + (![p, q] : Fin 2 → ℕ) a ≤ (⟨2, ![p, q]⟩ : Shape).size a)
    (w : (Rect.unit (s := ⟨2, ![p, q]⟩) off ![p, q] inb).shape.Idx → Val e) (L : List (Piece Val (⟨2, ![p, q]⟩ : Shape) e)) :
    v.read Val (v.writes Val f (⟨Rect.unit (s := ⟨2, ![p, q]⟩) off ![p, q] inb, w⟩ :: L)) = w := read_writes_full v f inb w L

theorem store3 {p q r : ℕ} (v : View sig κ sp (⟨3, ![p, q, r]⟩ : Shape) e) (f : v.ty.Contents Val) {off : Fin 3 → ℕ}
    (inb : ∀ a, off a + (![p, q, r] : Fin 3 → ℕ) a ≤ (⟨3, ![p, q, r]⟩ : Shape).size a)
    (w : (Rect.unit (s := ⟨3, ![p, q, r]⟩) off ![p, q, r] inb).shape.Idx → Val e) (L : List (Piece Val (⟨3, ![p, q, r]⟩ : Shape) e)) :
    v.read Val (v.writes Val f (⟨Rect.unit (s := ⟨3, ![p, q, r]⟩) off ![p, q, r] inb, w⟩ :: L)) = w := read_writes_full v f inb w L

/-- A load after a store, both of all of a matrix, as stated over the stores alone. -/
theorem reload2 [∀ e, Nonempty (Val e)] {p q : ℕ} (v : View sig κ sp (⟨2, ![p, q]⟩ : Shape) e) {off off' : Fin 2 → ℕ}
    (inb : ∀ a, off a + (![p, q] : Fin 2 → ℕ) a ≤ (⟨2, ![p, q]⟩ : Shape).size a)
    (inb' : ∀ a, off' a + (![p, q] : Fin 2 → ℕ) a ≤ (⟨2, ![p, q]⟩ : Shape).size a)
    (w : (Rect.unit (s := ⟨2, ![p, q]⟩) off' ![p, q] inb').shape.Idx → Val e) (L : List (Piece Val (⟨2, ![p, q]⟩ : Shape) e)) :
    v.readCov (⟨Rect.unit (s := ⟨2, ![p, q]⟩) off' ![p, q] inb', w⟩ :: L) (Rect.unit (s := ⟨2, ![p, q]⟩) off ![p, q] inb).toLoadRect = w :=
  readCov_full v inb inb' w L

end Idealize.ShloMosaic.View
-- ==== Proof.Bwd.RunStart.lean ====
/-
  The body at the very first point: as at a tile's first step, with the gain's gradient cleared.
-/
module

public import proofs.«01_k».proof.Proof.Bwd.Points
public import proofs.«01_k».proof.Proof.Bwd.Step
public import Idealize.ShloMosaic.Lib.Pipeline.FrameBody
public import proofs.«01_k».proof.Proof.Bwd.Block
public import Idealize.ShloMosaic.Lib.Tactic

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S1x1x1024x704 .bf16) (harg7 : arg7.IsWhole)
  (arg8 : Memref sig .tc .vmem S1x1x1024x704 .bf16) (harg8 : arg8.IsWhole) (arg9 : Memref sig .tc .vmem S1x1x704x1024 .bf16) (harg9 : arg9.IsWhole)
  (arg10 : Memref sig .tc .hbm S8x128 .f32) (harg10 : arg10.IsWhole)
  (arg11 : Memref sig .tc .vmem S512x1024 .f32) (harg11 : arg11.IsWhole) (arg12 : Memref sig .tc .vmem S512x1024 .bf16) (harg12 : arg12.IsWhole)
  (arg13 : Memref sig .tc .vmem S1x512x704 .bf16) (harg13 : arg13.IsWhole) (arg14 : Memref sig .tc .vmem S1x512x704 .bf16) (harg14 : arg14.IsWhole)
  (arg15 : Memref sig .tc .vmem S1x512x704 .bf16) (harg15 : arg15.IsWhole) (arg16 : Memref sig .tc .vmem S1x1024 .f32) (harg16 : arg16.IsWhole)
  (arg17 : Memref sig .tc .vmem S512x1024 .bf16) (harg17 : arg17.IsWhole) (arg18 : Memref sig .tc .vmem S512x1024 .f32) (harg18 : arg18.IsWhole)
  (arg19 : Memref sig .tc .vmem S512x704 .bf16) (harg19 : arg19.IsWhole) (arg20 : Memref sig .tc .vmem S512x704 .bf16) (harg20 : arg20.IsWhole)
  (arg21 : Memref sig .tc .vmem S512x704 .bf16) (harg21 : arg21.IsWhole) (arg22 : Memref sig .tc .vmem S512x704 .bf16) (harg22 : arg22.IsWhole)

set_option maxHeartbeats 1000000 in
/-- At the first point the body takes the tile's incoming gradient, clears the sum and the gain's gradient, and leaves the
    first block of columns' products in the outputs and in the first pair of carried blocks. -/
theorem run_start (hc1 : cond1 i) (hc2 : k0_cond2 i = 1#1) (hc3 : k0_cond3 i = 1#1)
    (hc4 : ¬k0_cond4 i = 1#1) (hc5 : ¬k0_cond5 i = 1#1) (hc6 : ¬k0_cond6 i = 1#1)
    (dy : Vec F S512x1024 .f32) (a b : Vec F S1x512x704 .bf16) (w2 : Vec F S1x1x704x1024 .bf16)
    (E : Set ℕ) (K : PUnit → sProp 𝕄) :
    iprop(owns (c : Thread nD τ) arg3 fullShare dy ∗ owns (c : Thread nD τ) arg5 fullShare a
        ∗ owns (c : Thread nD τ) arg6 fullShare b ∗ owns (c : Thread nD τ) arg9 fullShare w2
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d)
        ∗ (∃ d, owns (c : Thread nD τ) arg19 fullShare d) ∗ (∃ d, owns (c : Thread nD τ) arg20 fullShare d)
        ∗ (iprop(owns (c : Thread nD τ) arg3 fullShare dy ∗ owns (c : Thread nD τ) arg5 fullShare a
            ∗ owns (c : Thread nD τ) arg6 fullShare b ∗ owns (c : Thread nD τ) arg9 fullShare w2
            ∗ owns (c : Thread nD τ) arg13 fullShare (outOf (daOf (dyHalf dy) w2 a b))
            ∗ owns (c : Thread nD τ) arg14 fullShare (outOf (dbOf (dyHalf dy) w2 a))
            ∗ owns (c : Thread nD τ) arg15 fullShare (sOf a b) ∗ owns (c : Thread nD τ) arg16 fullShare dgZero
            ∗ owns (c : Thread nD τ) arg17 fullShare (dyHalf dy) ∗ owns (c : Thread nD τ) arg18 fullShare duZero
            ∗ owns (c : Thread nD τ) arg19 fullShare (daOf (dyHalf dy) w2 a b)
            ∗ owns (c : Thread nD τ) arg20 fullShare (dbOf (dyHalf dy) w2 a)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f3, %hf3, H3⟩, ⟨%f5, %hf5, H5⟩, ⟨%f6, %hf6, H6⟩, ⟨%f9, %hf9, H9⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg3.eq_unread hf3; obtain rfl := harg5.eq_unread hf5; obtain rfl := harg6.eq_unread hf6; obtain rfl := harg9.eq_unread hf9
  sl_exec (disch := first | sl_exact hc1 | sl_exact hc2 | sl_exact hc3 | sl_exact hc4 | sl_exact hc5 | sl_exact hc6)
  sl_step
  iapply Hk
  isplitl [H3]
  · iexists _; isplitr; swap; · iexact H3
    ipureintro; exact harg3.read_unread _
  isplitl [H5]
  · iexists _; isplitr; swap; · iexact H5
    ipureintro; exact harg5.read_unread _
  isplitl [H6]
  · iexists _; isplitr; swap; · iexact H6
    ipureintro; exact harg6.read_unread _
  isplitl [H9]
  · iexists _; isplitr; swap; · iexact H9
    ipureintro; exact harg9.read_unread _
  isplitl [H13]
  · iexists _; isplitr; swap; · iexact H13
    ipureintro; sl_unfold_run_names
    simp only [View.store2, View.store3, View.load2, View.load3, View.load4, View.reload2, Memref.IsWhole.read_unread]
    exact oda_first _ _ _ _
  isplitl [H14]
  · iexists _; isplitr; swap; · iexact H14
    ipureintro; sl_unfold_run_names
    simp only [View.store2, View.store3, View.load2, View.load3, View.load4, View.reload2, Memref.IsWhole.read_unread]
    exact odb_first _ _ _
  isplitl [H15]
  · iexists _; isplitr; swap; · iexact H15
    ipureintro; sl_unfold_run_names
    simp only [View.store2, View.store3, View.load2, View.load3, View.load4, View.reload2, Memref.IsWhole.read_unread]
    rfl
  isplitl [H16]
  · iexists _; isplitr; swap; · iexact H16
    ipureintro; sl_unfold_run_names
    simp only [View.store2, View.store3, View.load2, View.load3, View.load4, View.reload2, Memref.IsWhole.read_unread]
    rfl
  isplitl [H17]
  · iexists _; isplitr; swap; · iexact H17
    ipureintro; sl_unfold_run_names
    simp only [View.store2, View.store3, View.load2, View.load3, View.load4, View.reload2, Memref.IsWhole.read_unread]
    rfl
  isplitl [H18]
  · iexists _; isplitr; swap; · iexact H18
    ipureintro; sl_unfold_run_names
    simp only [View.store2, View.store3, View.load2, View.load3, View.load4, View.reload2, Memref.IsWhole.read_unread]
    rfl
  isplitl [H19]
  · iexists _; isplitr; swap; · iexact H19
    ipureintro; sl_unfold_run_names
    simp only [View.store2, View.store3, View.load2, View.load3, View.load4, View.reload2, Memref.IsWhole.read_unread]
    exact da_first _ _ _ _
  iexists _; isplitr; swap; · iexact H20
  ipureintro; sl_unfold_run_names
  simp only [View.store2, View.store3, View.load2, View.load3, View.load4, View.reload2, Memref.IsWhole.read_unread]
  exact db_first _ _ _

end Cert.KernelIdeal.Bwd

end
-- ==== Proof.Bwd.BodyStart.lean ====
/-
  The first grid point.
-/
module

public import proofs.«01_k».proof.Proof.Bwd.BodyBase
public import proofs.«01_k».proof.Proof.Bwd.RunStart

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's contract at the first point. -/
theorem sound_start (c : Dev nD) (t : Fin cfg0.N) (hz : t.val = 0) :
    bodyPre m c t ⊢ wp frame (wpE (defs₀ (F := F)) Variants.none c none) Set.univ (bodyAt0 t) (fun _ => bodyPost m c t) := by
  have hN : t.val < 80 := lt_of_lt_of_eq t.isLt n_eq
  unfold bodyPre bodyPost bodyAt0
  simp only [before0_0, before0_1, before0_2, before0_3, before0_4, before0_5, before0_6, before0_7, owes_succ, PhiS_fin, PhiS_castSucc,
    leaves0, leaves1, leaves2, leaves3, leaves4, leaves5, leaves6, leaves7]
  rw [Dat.leavesExact_idle (dats m 0 c) 8 t (by rw [idle0_8]; simp; omega) (by rw [flush8]; simp; omega)]
  rw [Dat.leavesExact_idle (dats m 0 c) 9 t (by rw [idle0_9]; simp; omega) (by rw [flush9]; simp; omega)]
  rw [live10 m c t (by rw [idle0_10]; simp; omega), after0_10]
  rw [live11 m c t (by rw [idle0_11]; simp; omega), after0_11]
  rw [live12 m c t (by rw [idle0_12]; simp; omega), after0_12]
  rw [live13 m c t (by rw [idle0_13]; simp; omega), after0_13]
  rw [PhiS_zero m c t hz, PhiS_succA m c t (by omega), st_start m c t hz, PhiA0_eq]
  unfold heldA
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_start c (grid0.coords t) _ _ _ _ _ _ _ _ _ _ _ _ _ _ _ _ _ _ _ _ _ _ _ _ _ _ _ _ _ _ _ _ _ _ _ _ _ _ _ _ _ _ ((cond1_iff t).mpr (by omega)) ((cond2_iff t).mpr (by omega)) ((cond3_iff t).mpr (by omega)) (fun h => by have := (cond4_iff t).mp h; omega) (fun h => by have := (cond5_iff t).mp h; omega) (fun h => by have := (cond6_iff t).mp h; omega) (iblk m c 1 t) (iblk m c 3 t) (iblk m c 4 t) (iblk m c 7 t) Set.univ _)
  isplitl [H1]; · iexact H1
  isplitl [H3]; · iexact H3
  isplitl [H4]; · iexact H4
  isplitl [H7]; · iexact H7
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H1, H3, H4, H7, H10, H11, H12, H13, HS0, HS1, HS2, HS3⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  iexact H13

end Cert.KernelIdeal.Bwd

end
-- ==== Proof.Bwd.RunFirst.lean ====
/-
  The body at a tile's first step, for the tiles after the first.
-/
module

public import proofs.«01_k».proof.Proof.Bwd.Points
public import proofs.«01_k».proof.Proof.Bwd.Step
public import Idealize.ShloMosaic.Lib.Pipeline.FrameBody
public import proofs.«01_k».proof.Proof.Bwd.Block
public import Idealize.ShloMosaic.Lib.Tactic

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S1x1x1024x704 .bf16) (harg7 : arg7.IsWhole)
  (arg8 : Memref sig .tc .vmem S1x1x1024x704 .bf16) (harg8 : arg8.IsWhole) (arg9 : Memref sig .tc .vmem S1x1x704x1024 .bf16) (harg9 : arg9.IsWhole)
  (arg10 : Memref sig .tc .hbm S8x128 .f32) (harg10 : arg10.IsWhole)
  (arg11 : Memref sig .tc .vmem S512x1024 .f32) (harg11 : arg11.IsWhole) (arg12 : Memref sig .tc .vmem S512x1024 .bf16) (harg12 : arg12.IsWhole)
  (arg13 : Memref sig .tc .vmem S1x512x704 .bf16) (harg13 : arg13.IsWhole) (arg14 : Memref sig .tc .vmem S1x512x704 .bf16) (harg14 : arg14.IsWhole)
  (arg15 : Memref sig .tc .vmem S1x512x704 .bf16) (harg15 : arg15.IsWhole) (arg16 : Memref sig .tc .vmem S1x1024 .f32) (harg16 : arg16.IsWhole)
  (arg17 : Memref sig .tc .vmem S512x1024 .bf16) (harg17 : arg17.IsWhole) (arg18 : Memref sig .tc .vmem S512x1024 .f32) (harg18 : arg18.IsWhole)
  (arg19 : Memref sig .tc .vmem S512x704 .bf16) (harg19 : arg19.IsWhole) (arg20 : Memref sig .tc .vmem S512x704 .bf16) (harg20 : arg20.IsWhole)
  (arg21 : Memref sig .tc .vmem S512x704 .bf16) (harg21 : arg21.IsWhole) (arg22 : Memref sig .tc .vmem S512x704 .bf16) (harg22 : arg22.IsWhole)

set_option maxHeartbeats 1000000 in
/-- At a tile's first step the body takes the tile's incoming gradient, clears the sum, and leaves the first block of
    columns' products in the outputs and in the first pair of carried blocks. -/
theorem run_first (hc1 : cond1 i) (hc2 : ¬k0_cond2 i = 1#1) (hc3 : k0_cond3 i = 1#1)
    (hc4 : ¬k0_cond4 i = 1#1) (hc5 : ¬k0_cond5 i = 1#1) (hc6 : ¬k0_cond6 i = 1#1)
    (dy : Vec F S512x1024 .f32) (a b : Vec F S1x512x704 .bf16) (w2 : Vec F S1x1x704x1024 .bf16)
    (E : Set ℕ) (K : PUnit → sProp 𝕄) :
    iprop(owns (c : Thread nD τ) arg3 fullShare dy ∗ owns (c : Thread nD τ) arg5 fullShare a
        ∗ owns (c : Thread nD τ) arg6 fullShare b ∗ owns (c : Thread nD τ) arg9 fullShare w2
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg17 fullShare d)
        ∗ (∃ d, owns (c : Thread nD τ) arg18 fullShare d) ∗ (∃ d, owns (c : Thread nD τ) arg19 fullShare d)
        ∗ (∃ d, owns (c : Thread nD τ) arg20 fullShare d)
        ∗ (iprop(owns (c : Thread nD τ) arg3 fullShare dy ∗ owns (c : Thread nD τ) arg5 fullShare a
            ∗ owns (c : Thread nD τ) arg6 fullShare b ∗ owns (c : Thread nD τ) arg9 fullShare w2
            ∗ owns (c : Thread nD τ) arg13 fullShare (outOf (daOf (dyHalf dy) w2 a b))
            ∗ owns (c : Thread nD τ) arg14 fullShare (outOf (dbOf (dyHalf dy) w2 a))
            ∗ owns (c : Thread nD τ) arg15 fullShare (sOf a b) ∗ owns (c : Thread nD τ) arg17 fullShare (dyHalf dy)
            ∗ owns (c : Thread nD τ) arg18 fullShare duZero ∗ owns (c : Thread nD τ) arg19 fullShare (daOf (dyHalf dy) w2 a b)
            ∗ owns (c : Thread nD τ) arg20 fullShare (dbOf (dyHalf dy) w2 a)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f3, %hf3, H3⟩, ⟨%f5, %hf5, H5⟩, ⟨%f6, %hf6, H6⟩, ⟨%f9, %hf9, H9⟩, ⟨%d13, %f13, -, H13⟩, ⟨%d14, %f14, -, H14⟩, ⟨%d15, %f15, -, H15⟩, ⟨%d17, %f17, -, H17⟩, ⟨%d18, %f18, -, H18⟩, ⟨%d19, %f19, -, H19⟩, ⟨%d20, %f20, -, H20⟩, Hk⟩
  obtain rfl := harg3.eq_unread hf3; obtain rfl := harg5.eq_unread hf5; obtain rfl := harg6.eq_unread hf6; obtain rfl := harg9.eq_unread hf9
  sl_exec (disch := first | sl_exact hc1 | sl_exact hc2 | sl_exact hc3 | sl_exact hc4 | sl_exact hc5 | sl_exact hc6)
  sl_step
  iapply Hk
  isplitl [H3]
  · iexists _; isplitr; swap; · iexact H3
    ipureintro; exact harg3.read_unread _
  isplitl [H5]
  · iexists _; isplitr; swap; · iexact H5
    ipureintro; exact harg5.read_unread _
  isplitl [H6]
  · iexists _; isplitr; swap; · iexact H6
    ipureintro; exact harg6.read_unread _
  isplitl [H9]
  · iexists _; isplitr; swap; · iexact H9
    ipureintro; exact harg9.read_unread _
  isplitl [H13]
  · iexists _; isplitr; swap; · iexact H13
    ipureintro; sl_unfold_run_names
    simp only [View.store2, View.store3, View.load2, View.load3, View.load4, View.reload2, Memref.IsWhole.read_unread]
    exact oda_first _ _ _ _
  isplitl [H14]
  · iexists _; isplitr; swap; · iexact H14
    ipureintro; sl_unfold_run_names
    simp only [View.store2, View.store3, View.load2, View.load3, View.load4, View.reload2, Memref.IsWhole.read_unread]
    exact odb_first _ _ _
  isplitl [H15]
  · iexists _; isplitr; swap; · iexact H15
    ipureintro; sl_unfold_run_names
    simp only [View.store2, View.store3, View.load2, View.load3, View.load4, View.reload2, Memref.IsWhole.read_unread]
    rfl
  isplitl [H17]
  · iexists _; isplitr; swap; · iexact H17
    ipureintro; sl_unfold_run_names
    simp only [View.store2, View.store3, View.load2, View.load3, View.load4, View.reload2, Memref.IsWhole.read_unread]
    rfl
  isplitl [H18]
  · iexists _; isplitr; swap; · iexact H18
    ipureintro; sl_unfold_run_names
    simp only [View.store2, View.store3, View.load2, View.load3, View.load4, View.reload2, Memref.IsWhole.read_unread]
    rfl
  isplitl [H19]
  · iexists _; isplitr; swap; · iexact H19
    ipureintro; sl_unfold_run_names
    simp only [View.store2, View.store3, View.load2, View.load3, View.load4, View.reload2, Memref.IsWhole.read_unread]
    exact da_first _ _ _ _
  iexists _; isplitr; swap; · iexact H20
  ipureintro; sl_unfold_run_names
  simp only [View.store2, View.store3, View.load2, View.load3, View.load4, View.reload2, Memref.IsWhole.read_unread]
  exact db_first _ _ _

end Cert.KernelIdeal.Bwd

end
-- ==== Proof.Bwd.BodyFirst.lean ====
/-
  A tile's first point, for the tiles after the first.
-/
module

public import proofs.«01_k».proof.Proof.Bwd.BodyBase
public import proofs.«01_k».proof.Proof.Bwd.RunFirst

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's contract at a tile's first step. -/
theorem sound_first (c : Dev nD) (t : Fin cfg0.N) (h : t.val % 5 = 0) (hz : t.val ≠ 0) :
    bodyPre m c t ⊢ wp frame (wpE (defs₀ (F := F)) Variants.none c none) Set.univ (bodyAt0 t) (fun _ => bodyPost m c t) := by
  have hN : t.val < 80 := lt_of_lt_of_eq t.isLt n_eq
  unfold bodyPre bodyPost bodyAt0
  simp only [before0_0, before0_1, before0_2, before0_3, before0_4, before0_5, before0_6, before0_7, owes_succ, PhiS_fin, PhiS_castSucc,
    leaves0, leaves1, leaves2, leaves3, leaves4, leaves5, leaves6, leaves7]
  rw [Dat.leavesExact_idle (dats m 0 c) 8 t (by rw [idle0_8]; simp; omega) (by rw [flush8]; simp; omega)]
  rw [Dat.leavesExact_idle (dats m 0 c) 9 t (by rw [idle0_9]; simp; omega) (by rw [flush9]; simp; omega)]
  rw [live10 m c t (by rw [idle0_10]; simp; omega), after0_10]
  rw [live11 m c t (by rw [idle0_11]; simp; omega), after0_11]
  rw [live12 m c t (by rw [idle0_12]; simp; omega), after0_12]
  rw [Dat.leavesExact_idle (dats m 0 c) 13 t (by rw [idle0_13]; simp; omega) (by rw [flush13]; simp; omega)]
  rw [PhiS_posB m c t hz (by omega), PhiS_succA m c t (by omega), st_first m c t h hz]
  unfold heldA heldB
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_first c (grid0.coords t) _ _ _ _ _ _ _ _ _ _ _ _ _ _ _ _ _ _ _ _ _ _ _ _ _ _ _ _ _ _ _ _ _ _ _ _ _ _ _ _ _ _ ((cond1_iff t).mpr (by omega)) (fun h => by have := (cond2_iff t).mp h; omega) ((cond3_iff t).mpr (by omega)) (fun h => by have := (cond4_iff t).mp h; omega) (fun h => by have := (cond5_iff t).mp h; omega) (fun h => by have := (cond6_iff t).mp h; omega) (iblk m c 1 t) (iblk m c 3 t) (iblk m c 4 t) (iblk m c 7 t) Set.univ _)
  isplitl [H1]; · iexact H1
  isplitl [H3]; · iexact H3
  isplitl [H4]; · iexact H4
  isplitl [H7]; · iexact H7
  isplitl [H10]; · iexists _; iexact H10
  isplitl [H11]; · iexists _; iexact H11
  isplitl [H12]; · iexists _; iexact H12
  isplitl [HS0]; · iexists _; iexact HS0
  isplitl [HS1]; · iexists _; iexact HS1
  isplitl [HS2]; · iexact HS2
  isplitl [HS3]; · iexact HS3
  iintro ⟨H1, H3, H4, H7, H10, H11, H12, HS0, HS1, HS2, HS3⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  iexists _; iexact H13

end Cert.KernelIdeal.Bwd

end
-- ==== Proof.Bwd.RunOdd.lean ====
/-
  The body at a tile's second and fourth steps.
-/
module

public import proofs.«01_k».proof.Proof.Bwd.Points
public import proofs.«01_k».proof.Proof.Bwd.Step
public import Idealize.ShloMosaic.Lib.Pipeline.FrameBody
public import proofs.«01_k».proof.Proof.Bwd.Block
public import Idealize.ShloMosaic.Lib.Tactic

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S1x1x1024x704 .bf16) (harg7 : arg7.IsWhole)
  (arg8 : Memref sig .tc .vmem S1x1x1024x704 .bf16) (harg8 : arg8.IsWhole) (arg9 : Memref sig .tc .vmem S1x1x704x1024 .bf16) (harg9 : arg9.IsWhole)
  (arg10 : Memref sig .tc .hbm S8x128 .f32) (harg10 : arg10.IsWhole)
  (arg11 : Memref sig .tc .vmem S512x1024 .f32) (harg11 : arg11.IsWhole) (arg12 : Memref sig .tc .vmem S512x1024 .bf16) (harg12 : arg12.IsWhole)
  (arg13 : Memref sig .tc .vmem S1x512x704 .bf16) (harg13 : arg13.IsWhole) (arg14 : Memref sig .tc .vmem S1x512x704 .bf16) (harg14 : arg14.IsWhole)
  (arg15 : Memref sig .tc .vmem S1x512x704 .bf16) (harg15 : arg15.IsWhole) (arg16 : Memref sig .tc .vmem S1x1024 .f32) (harg16 : arg16.IsWhole)
  (arg17 : Memref sig .tc .vmem S512x1024 .bf16) (harg17 : arg17.IsWhole) (arg18 : Memref sig .tc .vmem S512x1024 .f32) (harg18 : arg18.IsWhole)
  (arg19 : Memref sig .tc .vmem S512x704 .bf16) (harg19 : arg19.IsWhole) (arg20 : Memref sig .tc .vmem S512x704 .bf16) (harg20 : arg20.IsWhole)
  (arg21 : Memref sig .tc .vmem S512x704 .bf16) (harg21 : arg21.IsWhole) (arg22 : Memref sig .tc .vmem S512x704 .bf16) (harg22 : arg22.IsWhole)

set_option maxHeartbeats 1000000 in
/-- At the steps 1 and 3 the body adds the products of the first pair of carried blocks to the sum, and leaves the next
    block of columns' products in the outputs and in the second pair. -/
theorem run_odd (hc1 : ¬cond1 i) (hc2 : ¬k0_cond2 i = 1#1) (hc3 : ¬k0_cond3 i = 1#1)
    (hc4 : k0_cond4 i = 1#1) (hc5 : ¬k0_cond5 i = 1#1) (hc6 : ¬k0_cond6 i = 1#1)
    (w1 w3 : Vec F S1x1x1024x704 .bf16) (a b : Vec F S1x512x704 .bf16) (w2 : Vec F S1x1x704x1024 .bf16)
    (dyh : Vec F S512x1024 .bf16) (du : Vec F S512x1024 .f32) (da db : Vec F S512x704 .bf16)
    (E : Set ℕ) (K : PUnit → sProp 𝕄) :
    iprop(owns (c : Thread nD τ) arg5 fullShare a ∗ owns (c : Thread nD τ) arg6 fullShare b
        ∗ owns (c : Thread nD τ) arg7 fullShare w1 ∗ owns (c : Thread nD τ) arg8 fullShare w3
        ∗ owns (c : Thread nD τ) arg9 fullShare w2 ∗ (∃ d, owns (c : Thread nD τ) arg13 fullShare d)
        ∗ (∃ d, owns (c : Thread nD τ) arg14 fullShare d) ∗ (∃ d, owns (c : Thread nD τ) arg15 fullShare d)
        ∗ owns (c : Thread nD τ) arg17 fullShare dyh ∗ owns (c : Thread nD τ) arg18 fullShare du
        ∗ owns (c : Thread nD τ) arg19 fullShare da ∗ owns (c : Thread nD τ) arg20 fullShare db
        ∗ (∃ d, owns (c : Thread nD τ) arg21 fullShare d) ∗ (∃ d, owns (c : Thread nD τ) arg22 fullShare d)
        ∗ (iprop(owns (c : Thread nD τ) arg5 fullShare a ∗ owns (c : Thread nD τ) arg6 fullShare b
            ∗ owns (c : Thread nD τ) arg7 fullShare w1 ∗ owns (c : Thread nD τ) arg8 fullShare w3
            ∗ owns (c : Thread nD τ) arg9 fullShare w2 ∗ owns (c : Thread nD τ) arg13 fullShare (outOf (daOf dyh w2 a b))
            ∗ owns (c : Thread nD τ) arg14 fullShare (outOf (dbOf dyh w2 a)) ∗ owns (c : Thread nD τ) arg15 fullShare (sOf a b)
            ∗ owns (c : Thread nD τ) arg17 fullShare dyh ∗ owns (c : Thread nD τ) arg18 fullShare (duAdd du da w1 db w3)
            ∗ owns (c : Thread nD τ) arg19 fullShare da ∗ owns (c : Thread nD τ) arg20 fullShare db
            ∗ owns (c : Thread nD τ) arg21 fullShare (daOf dyh w2 a b) ∗ owns (c : Thread nD τ) arg22 fullShare (dbOf dyh w2 a)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%d15, %f15, -, H15⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  obtain rfl := harg5.eq_unread hf5; obtain rfl := harg6.eq_unread hf6; obtain rfl := harg7.eq_unread hf7; obtain rfl := harg8.eq_unread hf8
  obtain rfl := harg9.eq_unread hf9; obtain rfl := harg17.eq_unread hf17; obtain rfl := harg18.eq_unread hf18; obtain rfl := harg19.eq_unread hf19
  obtain rfl := harg20.eq_unread hf20
  sl_exec (disch := first | sl_exact hc1 | sl_exact hc2 | sl_exact hc3 | sl_exact hc4 | sl_exact hc5 | sl_exact hc6)
  sl_step
  iapply Hk
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H13]
  · iexists _; isplitr; swap; · iexact H13
    ipureintro; sl_unfold_run_names
    simp only [View.store2, View.store3, View.load2, View.load3, View.load4, View.reload2, Memref.IsWhole.read_unread]
    rfl
  isplitl [H14]
  · iexists _; isplitr; swap; · iexact H14
    ipureintro; sl_unfold_run_names
    simp only [View.store2, View.store3, View.load2, View.load3, View.load4, View.reload2, Memref.IsWhole.read_unread]
    rfl
  isplitl [H15]
  · iexists _; isplitr; swap; · iexact H15
    ipureintro; sl_unfold_run_names
    simp only [View.store2, View.store3, View.load2, View.load3, View.load4, View.reload2, Memref.IsWhole.read_unread]
    rfl
  isplitl [H17]
  · iexists _; isplitr; swap; · iexact H17
    ipureintro; exact harg17.read_unread _
  isplitl [H18]
  · iexists _; isplitr; swap; · iexact H18
    ipureintro; sl_unfold_run_names
    simp only [View.store2, View.store3, View.load2, View.load3, View.load4, View.reload2, Memref.IsWhole.read_unread]
    rfl
  isplitl [H19]
  · iexists _; isplitr; swap; · iexact H19
    ipureintro; exact harg19.read_unread _
  isplitl [H20]
  · iexists _; isplitr; swap; · iexact H20
    ipureintro; exact harg20.read_unread _
  isplitl [H21]
  · iexists _; isplitr; swap; · iexact H21
    ipureintro; sl_unfold_run_names
    simp only [View.store2, View.store3, View.load2, View.load3, View.load4, View.reload2, Memref.IsWhole.read_unread]
    exact da_odd _ _ _ _
  iexists _; isplitr; swap; · iexact H22
  ipureintro; sl_unfold_run_names
  simp only [View.store2, View.store3, View.load2, View.load3, View.load4, View.reload2, Memref.IsWhole.read_unread]
  exact db_odd _ _ _

end Cert.KernelIdeal.Bwd

end
-- ==== Proof.Bwd.BodyOdd.lean ====
/-
  A tile's second and fourth points.
-/
module

public import proofs.«01_k».proof.Proof.Bwd.BodyBase
public import proofs.«01_k».proof.Proof.Bwd.RunOdd

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's contract at the steps 1 and 3. -/
theorem sound_odd (c : Dev nD) (t : Fin cfg0.N) (h : t.val % 5 = 1 ∨ t.val % 5 = 3) :
    bodyPre m c t ⊢ wp frame (wpE (defs₀ (F := F)) Variants.none c none) Set.univ (bodyAt0 t) (fun _ => bodyPost m c t) := by
  have hN : t.val < 80 := lt_of_lt_of_eq t.isLt n_eq
  unfold bodyPre bodyPost bodyAt0
  simp only [before0_0, before0_1, before0_2, before0_3, before0_4, before0_5, before0_6, before0_7, owes_succ, PhiS_fin, PhiS_castSucc,
    leaves0, leaves1, leaves2, leaves3, leaves4, leaves5, leaves6, leaves7]
  rw [Dat.leavesExact_idle (dats m 0 c) 8 t (by rw [idle0_8]; simp; omega) (by rw [flush8]; simp; omega)]
  rw [Dat.leavesExact_idle (dats m 0 c) 9 t (by rw [idle0_9]; simp; omega) (by rw [flush9]; simp; omega)]
  rw [live10 m c t (by rw [idle0_10]; simp; omega), after0_10]
  rw [live11 m c t (by rw [idle0_11]; simp; omega), after0_11]
  rw [live12 m c t (by rw [idle0_12]; simp; omega), after0_12]
  rw [Dat.leavesExact_idle (dats m 0 c) 13 t (by rw [idle0_13]; simp; omega) (by rw [flush13]; simp; omega)]
  rw [PhiS_posA m c t h, PhiS_succB m c t (by omega), st_mid m c t (by omega) (by omega)]
  unfold heldA heldB
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_odd c (grid0.coords t) _ _ _ _ _ _ _ _ _ _ _ _ _ _ _ _ _ _ _ _ _ _ _ _ _ _ _ _ _ _ _ _ _ _ _ _ _ _ _ _ _ _ (fun h => by have := (cond1_iff t).mp h; omega) (fun h => by have := (cond2_iff t).mp h; omega) (fun h => by have := (cond3_iff t).mp h; omega) ((cond4_iff t).mpr (by omega)) (fun h => by have := (cond5_iff t).mp h; omega) (fun h => by have := (cond6_iff t).mp h; omega) (iblk m c 5 t) (iblk m c 6 t) (iblk m c 3 t) (iblk m c 4 t) (iblk m c 7 t) (prev m c t).dyh (prev m c t).du (prev m c t).da (prev m c t).db Set.univ _)
  isplitl [H3]; · iexact H3
  isplitl [H4]; · iexact H4
  isplitl [H5]; · iexact H5
  isplitl [H6]; · iexact H6
  isplitl [H7]; · iexact H7
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H3, H4, H5, H6, H7, H10, H11, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexists _; iexact HS2
      isplitl [HS3]; · iexists _; iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  iexists _; iexact H13

end Cert.KernelIdeal.Bwd

end
-- ==== Proof.Bwd.RunTwo.lean ====
/-
  The body at a tile's third step.
-/
module

public import proofs.«01_k».proof.Proof.Bwd.Points
public import proofs.«01_k».proof.Proof.Bwd.Step
public import Idealize.ShloMosaic.Lib.Pipeline.FrameBody
public import proofs.«01_k».proof.Proof.Bwd.Block
public import Idealize.ShloMosaic.Lib.Tactic

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S1x1x1024x704 .bf16) (harg7 : arg7.IsWhole)
  (arg8 : Memref sig .tc .vmem S1x1x1024x704 .bf16) (harg8 : arg8.IsWhole) (arg9 : Memref sig .tc .vmem S1x1x704x1024 .bf16) (harg9 : arg9.IsWhole)
  (arg10 : Memref sig .tc .hbm S8x128 .f32) (harg10 : arg10.IsWhole)
  (arg11 : Memref sig .tc .vmem S512x1024 .f32) (harg11 : arg11.IsWhole) (arg12 : Memref sig .tc .vmem S512x1024 .bf16) (harg12 : arg12.IsWhole)
  (arg13 : Memref sig .tc .vmem S1x512x704 .bf16) (harg13 : arg13.IsWhole) (arg14 : Memref sig .tc .vmem S1x512x704 .bf16) (harg14 : arg14.IsWhole)
  (arg15 : Memref sig .tc .vmem S1x512x704 .bf16) (harg15 : arg15.IsWhole) (arg16 : Memref sig .tc .vmem S1x1024 .f32) (harg16 : arg16.IsWhole)
  (arg17 : Memref sig .tc .vmem S512x1024 .bf16) (harg17 : arg17.IsWhole) (arg18 : Memref sig .tc .vmem S512x1024 .f32) (harg18 : arg18.IsWhole)
  (arg19 : Memref sig .tc .vmem S512x704 .bf16) (harg19 : arg19.IsWhole) (arg20 : Memref sig .tc .vmem S512x704 .bf16) (harg20 : arg20.IsWhole)
  (arg21 : Memref sig .tc .vmem S512x704 .bf16) (harg21 : arg21.IsWhole) (arg22 : Memref sig .tc .vmem S512x704 .bf16) (harg22 : arg22.IsWhole)

set_option maxHeartbeats 1000000 in
/-- At step 2 the body adds the products of the second pair of carried blocks to the sum, and leaves the next block of
    columns' products in the outputs and in the first pair. -/
theorem run_two (hc1 : ¬cond1 i) (hc2 : ¬k0_cond2 i = 1#1) (hc3 : ¬k0_cond3 i = 1#1)
    (hc4 : ¬k0_cond4 i = 1#1) (hc5 : k0_cond5 i = 1#1) (hc6 : ¬k0_cond6 i = 1#1)
    (w1 w3 : Vec F S1x1x1024x704 .bf16) (a b : Vec F S1x512x704 .bf16) (w2 : Vec F S1x1x704x1024 .bf16)
    (dyh : Vec F S512x1024 .bf16) (du : Vec F S512x1024 .f32) (da db : Vec F S512x704 .bf16)
    (E : Set ℕ) (K : PUnit → sProp 𝕄) :
    iprop(owns (c : Thread nD τ) arg5 fullShare a ∗ owns (c : Thread nD τ) arg6 fullShare b
        ∗ owns (c : Thread nD τ) arg7 fullShare w1 ∗ owns (c : Thread nD τ) arg8 fullShare w3
        ∗ owns (c : Thread nD τ) arg9 fullShare w2 ∗ (∃ d, owns (c : Thread nD τ) arg13 fullShare d)
        ∗ (∃ d, owns (c : Thread nD τ) arg14 fullShare d) ∗ (∃ d, owns (c : Thread nD τ) arg15 fullShare d)
        ∗ owns (c : Thread nD τ) arg17 fullShare dyh ∗ owns (c : Thread nD τ) arg18 fullShare du
        ∗ (∃ d, owns (c : Thread nD τ) arg19 fullShare d) ∗ (∃ d, owns (c : Thread nD τ) arg20 fullShare d)
        ∗ owns (c : Thread nD τ) arg21 fullShare da ∗ owns (c : Thread nD τ) arg22 fullShare db
        ∗ (iprop(owns (c : Thread nD τ) arg5 fullShare a ∗ owns (c : Thread nD τ) arg6 fullShare b
            ∗ owns (c : Thread nD τ) arg7 fullShare w1 ∗ owns (c : Thread nD τ) arg8 fullShare w3
            ∗ owns (c : Thread nD τ) arg9 fullShare w2 ∗ owns (c : Thread nD τ) arg13 fullShare (outOf (daOf dyh w2 a b))
            ∗ owns (c : Thread nD τ) arg14 fullShare (outOf (dbOf dyh w2 a)) ∗ owns (c : Thread nD τ) arg15 fullShare (sOf a b)
            ∗ owns (c : Thread nD τ) arg17 fullShare dyh ∗ owns (c : Thread nD τ) arg18 fullShare (duAdd du da w1 db w3)
            ∗ owns (c : Thread nD τ) arg19 fullShare (daOf dyh w2 a b) ∗ owns (c : Thread nD τ) arg20 fullShare (dbOf dyh w2 a)
            ∗ owns (c : Thread nD τ) arg21 fullShare da ∗ owns (c : Thread nD τ) arg22 fullShare db) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%d15, %f15, -, H15⟩, ⟨%f17, %hf17, H17⟩, ⟨%f18, %hf18, H18⟩, ⟨%d19, %f19, -, H19⟩, ⟨%d20, %f20, -, H20⟩, ⟨%f21, %hf21, H21⟩, ⟨%f22, %hf22, H22⟩, Hk⟩
  obtain rfl := harg5.eq_unread hf5; obtain rfl := harg6.eq_unread hf6; obtain rfl := harg7.eq_unread hf7; obtain rfl := harg8.eq_unread hf8
  obtain rfl := harg9.eq_unread hf9; obtain rfl := harg17.eq_unread hf17; obtain rfl := harg18.eq_unread hf18; obtain rfl := harg21.eq_unread hf21
  obtain rfl := harg22.eq_unread hf22
  sl_exec (disch := first | sl_exact hc1 | sl_exact hc2 | sl_exact hc3 | sl_exact hc4 | sl_exact hc5 | sl_exact hc6)
  sl_step
  iapply Hk
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H13]
  · iexists _; isplitr; swap; · iexact H13
    ipureintro; sl_unfold_run_names
    simp only [View.store2, View.store3, View.load2, View.load3, View.load4, View.reload2, Memref.IsWhole.read_unread]
    rfl
  isplitl [H14]
  · iexists _; isplitr; swap; · iexact H14
    ipureintro; sl_unfold_run_names
    simp only [View.store2, View.store3, View.load2, View.load3, View.load4, View.reload2, Memref.IsWhole.read_unread]
    rfl
  isplitl [H15]
  · iexists _; isplitr; swap; · iexact H15
    ipureintro; sl_unfold_run_names
    simp only [View.store2, View.store3, View.load2, View.load3, View.load4, View.reload2, Memref.IsWhole.read_unread]
    rfl
  isplitl [H17]
  · iexists _; isplitr; swap; · iexact H17
    ipureintro; exact harg17.read_unread _
  isplitl [H18]
  · iexists _; isplitr; swap; · iexact H18
    ipureintro; sl_unfold_run_names
    simp only [View.store2, View.store3, View.load2, View.load3, View.load4, View.reload2, Memref.IsWhole.read_unread]
    rfl
  isplitl [H19]
  · iexists _; isplitr; swap; · iexact H19
    ipureintro; sl_unfold_run_names
    simp only [View.store2, View.store3, View.load2, View.load3, View.load4, View.reload2, Memref.IsWhole.read_unread]
    exact da_two _ _ _ _
  isplitl [H20]
  · iexists _; isplitr; swap; · iexact H20
    ipureintro; sl_unfold_run_names
    simp only [View.store2, View.store3, View.load2, View.load3, View.load4, View.reload2, Memref.IsWhole.read_unread]
    exact db_two _ _ _
  isplitl [H21]
  · iexists _; isplitr; swap; · iexact H21
    ipureintro; exact harg21.read_unread _
  iexists _; isplitr; swap; · iexact H22
  ipureintro; exact harg22.read_unread _

end Cert.KernelIdeal.Bwd

end
-- ==== Proof.Bwd.BodyTwo.lean ====
/-
  A tile's third point.
-/
module

public import proofs.«01_k».proof.Proof.Bwd.BodyBase
public import proofs.«01_k».proof.Proof.Bwd.RunTwo

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's contract at step 2. -/
theorem sound_two (c : Dev nD) (t : Fin cfg0.N) (h : t.val % 5 = 2) :
    bodyPre m c t ⊢ wp frame (wpE (defs₀ (F := F)) Variants.none c none) Set.univ (bodyAt0 t) (fun _ => bodyPost m c t) := by
  have hN : t.val < 80 := lt_of_lt_of_eq t.isLt n_eq
  unfold bodyPre bodyPost bodyAt0
  simp only [before0_0, before0_1, before0_2, before0_3, before0_4, before0_5, before0_6, before0_7, owes_succ, PhiS_fin, PhiS_castSucc,
    leaves0, leaves1, leaves2, leaves3, leaves4, leaves5, leaves6, leaves7]
  rw [Dat.leavesExact_idle (dats m 0 c) 8 t (by rw [idle0_8]; simp; omega) (by rw [flush8]; simp; omega)]
  rw [Dat.leavesExact_idle (dats m 0 c) 9 t (by rw [idle0_9]; simp; omega) (by rw [flush9]; simp; omega)]
  rw [live10 m c t (by rw [idle0_10]; simp; omega), after0_10]
  rw [live11 m c t (by rw [idle0_11]; simp; omega), after0_11]
  rw [live12 m c t (by rw [idle0_12]; simp; omega), after0_12]
  rw [Dat.leavesExact_idle (dats m 0 c) 13 t (by rw [idle0_13]; simp; omega) (by rw [flush13]; simp; omega)]
  rw [PhiS_posB m c t (by omega) (by omega), PhiS_succA m c t (by omega), st_mid m c t (by omega) (by omega)]
  unfold heldA heldB
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_two c (grid0.coords t) _ _ _ _ _ _ _ _ _ _ _ _ _ _ _ _ _ _ _ _ _ _ _ _ _ _ _ _ _ _ _ _ _ _ _ _ _ _ _ _ _ _ (fun h => by have := (cond1_iff t).mp h; omega) (fun h => by have := (cond2_iff t).mp h; omega) (fun h => by have := (cond3_iff t).mp h; omega) (fun h => by have := (cond4_iff t).mp h; omega) ((cond5_iff t).mpr (by omega)) (fun h => by have := (cond6_iff t).mp h; omega) (iblk m c 5 t) (iblk m c 6 t) (iblk m c 3 t) (iblk m c 4 t) (iblk m c 7 t) (prev m c t).dyh (prev m c t).du (prev m c t).da (prev m c t).db Set.univ _)
  isplitl [H3]; · iexact H3
  isplitl [H4]; · iexact H4
  isplitl [H5]; · iexact H5
  isplitl [H6]; · iexact H6
  isplitl [H7]; · iexact H7
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H3, H4, H5, H6, H7, H10, H11, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  iexists _; iexact H13

end Cert.KernelIdeal.Bwd

end
-- ==== Proof.Bwd.RunLast.lean ====
/-
  The body at a tile's last step: it adds the last block of columns to the sum, takes the gradient
  through the normalisation, and adds the tile's part of the gain's gradient.
-/
module

public import proofs.«01_k».proof.Proof.Bwd.Points
public import proofs.«01_k».proof.Proof.Bwd.Step
public import Idealize.ShloMosaic.Lib.Pipeline.FrameBody
public import proofs.«01_k».proof.Proof.Bwd.Block
public import Idealize.ShloMosaic.Lib.Tactic

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S512x1024 .f32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S1x1x1024x704 .bf16) (harg7 : arg7.IsWhole)
  (arg8 : Memref sig .tc .vmem S1x1x1024x704 .bf16) (harg8 : arg8.IsWhole) (arg9 : Memref sig .tc .vmem S1x1x704x1024 .bf16) (harg9 : arg9.IsWhole)
  (arg10 : Memref sig .tc .hbm S8x128 .f32) (harg10 : arg10.IsWhole)
  (arg11 : Memref sig .tc .vmem S512x1024 .f32) (harg11 : arg11.IsWhole) (arg12 : Memref sig .tc .vmem S512x1024 .bf16) (harg12 : arg12.IsWhole)
  (arg13 : Memref sig .tc .vmem S1x512x704 .bf16) (harg13 : arg13.IsWhole) (arg14 : Memref sig .tc .vmem S1x512x704 .bf16) (harg14 : arg14.IsWhole)
  (arg15 : Memref sig .tc .vmem S1x512x704 .bf16) (harg15 : arg15.IsWhole) (arg16 : Memref sig .tc .vmem S1x1024 .f32) (harg16 : arg16.IsWhole)
  (arg17 : Memref sig .tc .vmem S512x1024 .bf16) (harg17 : arg17.IsWhole) (arg18 : Memref sig .tc .vmem S512x1024 .f32) (harg18 : arg18.IsWhole)
  (arg19 : Memref sig .tc .vmem S512x704 .bf16) (harg19 : arg19.IsWhole) (arg20 : Memref sig .tc .vmem S512x704 .bf16) (harg20 : arg20.IsWhole)
  (arg21 : Memref sig .tc .vmem S512x704 .bf16) (harg21 : arg21.IsWhole) (arg22 : Memref sig .tc .vmem S512x704 .bf16) (harg22 : arg22.IsWhole)

set_option maxHeartbeats 1000000 in
/-- At the last step the body reads the rows, the gain, the incoming gradient, two blocks of weights and the second
    pair of carried blocks, and leaves the sum with their products added, the normalised rows, the input's gradient and
    the gain's gradient with the tile's part added. -/
theorem run_last (hc1 : ¬cond1 i) (hc2 : ¬k0_cond2 i = 1#1) (hc3 : ¬k0_cond3 i = 1#1) (hc4 : ¬k0_cond4 i = 1#1)
    (hc5 : ¬k0_cond5 i = 1#1) (hc6 : k0_cond6 i = 1#1)
    (h dy : Vec F S512x1024 .f32) (g : Vec F S1x1024 .f32) (w1 w3 : Vec F S1x1x1024x704 .bf16)
    (dg : Vec F S1x1024 .f32) (du : Vec F S512x1024 .f32) (da db : Vec F S512x704 .bf16)
    (E : Set ℕ) (K : PUnit → sProp 𝕄) :
    iprop(owns (c : Thread nD τ) arg2 fullShare h ∗ owns (c : Thread nD τ) arg3 fullShare dy ∗ owns (c : Thread nD τ) arg4 fullShare g
        ∗ owns (c : Thread nD τ) arg7 fullShare w1 ∗ owns (c : Thread nD τ) arg8 fullShare w3
        ∗ (∃ d, owns (c : Thread nD τ) arg11 fullShare d) ∗ (∃ d, owns (c : Thread nD τ) arg12 fullShare d)
        ∗ owns (c : Thread nD τ) arg16 fullShare dg ∗ owns (c : Thread nD τ) arg18 fullShare du
        ∗ owns (c : Thread nD τ) arg21 fullShare da ∗ owns (c : Thread nD τ) arg22 fullShare db
        ∗ (iprop(owns (c : Thread nD τ) arg2 fullShare h ∗ owns (c : Thread nD τ) arg3 fullShare dy ∗ owns (c : Thread nD τ) arg4 fullShare g
            ∗ owns (c : Thread nD τ) arg7 fullShare w1 ∗ owns (c : Thread nD τ) arg8 fullShare w3
            ∗ owns (c : Thread nD τ) arg11 fullShare (dhOf h g (duAdd du da w1 db w3) dy) ∗ owns (c : Thread nD τ) arg12 fullShare (uOf h g)
            ∗ owns (c : Thread nD τ) arg16 fullShare (dgAdd h (duAdd du da w1 db w3) dg) ∗ owns (c : Thread nD τ) arg18 fullShare (duAdd du da w1 db w3)
            ∗ owns (c : Thread nD τ) arg21 fullShare da ∗ owns (c : Thread nD τ) arg22 fullShare db) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f2, %hf2, H2⟩, ⟨%f3, %hf3, H3⟩, ⟨%f4, %hf4, H4⟩, ⟨%f7, %hf7, H7⟩, ⟨%f8, %hf8, H8⟩, ⟨%d11, %f11, -, H11⟩, ⟨%d12, %f12, -, H12⟩, ⟨%f16, %hf16, H16⟩, ⟨%f18, %hf18, H18⟩, ⟨%f21, %hf21, H21⟩, ⟨%f22, %hf22, H22⟩, Hk⟩
  obtain rfl := harg2.eq_unread hf2; obtain rfl := harg3.eq_unread hf3; obtain rfl := harg4.eq_unread hf4
  obtain rfl := harg7.eq_unread hf7; obtain rfl := harg8.eq_unread hf8
  obtain rfl := harg16.eq_unread hf16; obtain rfl := harg18.eq_unread hf18; obtain rfl := harg21.eq_unread hf21; obtain rfl := harg22.eq_unread hf22
  sl_exec (disch := first | sl_exact hc1 | sl_exact hc2 | sl_exact hc3 | sl_exact hc4 | sl_exact hc5 | sl_exact hc6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H7]
  · iexists _; isplitr; swap; · iexact H7
    ipureintro; exact harg7.read_unread _
  isplitl [H8]
  · iexists _; isplitr; swap; · iexact H8
    ipureintro; exact harg8.read_unread _
  isplitl [H11]
  · iexists _; isplitr; swap; · iexact H11
    ipureintro; sl_unfold_run_names
    simp only [View.store2, View.load2, View.load4, View.reload2, Memref.IsWhole.read_unread]
    rfl
  isplitl [H12]
  · iexists _; isplitr; swap; · iexact H12
    ipureintro; sl_unfold_run_names
    simp only [View.store2, View.load2, View.load4, View.reload2, Memref.IsWhole.read_unread]
    rfl
  isplitl [H16]
  · iexists _; isplitr; swap; · iexact H16
    ipureintro; sl_unfold_run_names
    simp only [View.store2, View.load2, View.load4, View.reload2, Memref.IsWhole.read_unread]
    rfl
  isplitl [H18]
  · iexists _; isplitr; swap; · iexact H18
    ipureintro; sl_unfold_run_names
    simp only [View.store2, View.load2, View.load4, View.reload2, Memref.IsWhole.read_unread]
    rfl
  isplitl [H21]
  · iexists _; isplitr; swap; · iexact H21
    ipureintro; exact harg21.read_unread _
  iexists _; isplitr; swap; · iexact H22
  ipureintro; exact harg22.read_unread _

end Cert.KernelIdeal.Bwd

end
-- ==== Proof.Bwd.BodyLast.lean ====
/-
  A tile's last point.
-/
module

public import proofs.«01_k».proof.Proof.Bwd.BodyBase
public import proofs.«01_k».proof.Proof.Bwd.RunLast

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's contract at a tile's last step. -/
theorem sound_last (c : Dev nD) (t : Fin cfg0.N) (h : t.val % 5 = 4) :
    bodyPre m c t ⊢ wp frame (wpE (defs₀ (F := F)) Variants.none c none) Set.univ (bodyAt0 t) (fun _ => bodyPost m c t) := by
  have hN : t.val < 80 := lt_of_lt_of_eq t.isLt n_eq
  unfold bodyPre bodyPost bodyAt0
  simp only [before0_0, before0_1, before0_2, before0_3, before0_4, before0_5, before0_6, before0_7, owes_succ, PhiS_fin, PhiS_castSucc,
    leaves0, leaves1, leaves2, leaves3, leaves4, leaves5, leaves6, leaves7]
  simp only [before0_10 m c t h, before0_11 m c t h, before0_12 m c t h, before0_13 m c t (by omega)]
  rw [live8 m c t (by rw [idle0_8]; simp; omega), after0_8]
  rw [live9 m c t (by rw [idle0_9]; simp; omega), after0_9]
  rw [kept10 m c t (by rw [idle0_10]; simp; omega) (by rw [flush10]; simp; omega)]
  rw [kept11 m c t (by rw [idle0_11]; simp; omega) (by rw [flush11]; simp; omega)]
  rw [kept12 m c t (by rw [idle0_12]; simp; omega) (by rw [flush12]; simp; omega)]
  rw [live13 m c t (by rw [idle0_13]; simp; omega), after0_13]
  rw [PhiS_posB m c t (by omega) (by omega), PhiS_succB m c t (by omega), st_last m c t h]
  unfold heldB
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_last c (grid0.coords t) _ _ _ _ _ _ _ _ _ _ _ _ _ _ _ _ _ _ _ _ _ _ _ _ _ _ _ _ _ _ _ _ _ _ _ _ _ _ _ _ _ _ (fun h => by have := (cond1_iff t).mp h; omega) (fun h => by have := (cond2_iff t).mp h; omega) (fun h => by have := (cond3_iff t).mp h; omega) (fun h => by have := (cond4_iff t).mp h; omega) (fun h => by have := (cond5_iff t).mp h; omega) ((cond6_iff t).mpr (by omega)) (iblk m c 0 t) (iblk m c 1 t) (iblk m c 2 t) (iblk m c 5 t) (iblk m c 6 t) (prev m c t).dg (prev m c t).du (prev m c t).da (prev m c t).db Set.univ _)
  isplitl [H0]; · iexact H0
  isplitl [H1]; · iexact H1
  isplitl [H2]; · iexact H2
  isplitl [H5]; · iexact H5
  isplitl [H6]; · iexact H6
  isplitl [H8]; · iexists _; iexact H8
  isplitl [H9]; · iexists _; iexact H9
  isplitl [H13]; · iexact H13
  isplitl [HS1]; · iexact HS1
  isplitl [HS4]; · iexact HS4
  isplitl [HS5]; · iexact HS5
  iintro ⟨H0, H1, H2, H5, H6, H8, H9, H13, HS1, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Bwd

end
-- ==== Proof.Bwd.Frame.lean ====
/-
  The backward half step's run: every weakly fair execution ends, with the arguments unchanged and the
  output arrays at what the grid's points leave.
-/
module

public import proofs.«01_k».proof.Proof.Bwd.BodyStart
public import proofs.«01_k».proof.Proof.Bwd.BodyFirst
public import proofs.«01_k».proof.Proof.Bwd.BodyOdd
public import proofs.«01_k».proof.Proof.Bwd.BodyTwo
public import proofs.«01_k».proof.Proof.Bwd.BodyLast
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's contract at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_start m c t hz
  by_cases h0 : t.val % 5 = 0
  · exact sound_first m c t h0 hz
  by_cases h1 : t.val % 5 = 1 ∨ t.val % 5 = 3
  · exact sound_odd m c t h1
  by_cases h2 : t.val % 5 = 2
  · exact sound_two m c t h2
  · exact sound_last m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The kept state before the first point is what the region is entered with. -/
theorem hin (c : Dev nD) : Pipeline.ΦA spec0 c ⊢ (dats m 0 c).Φ 0 := by
  rw [show (dats m 0 c).Φ 0 = Pipeline.ΦA spec0 c from rfl]

/-- After a tile's last step, before the next tile, the kept contents may be forgotten. -/
theorem PhiS_forget (c : Dev nD) (n : ℕ) (hn : n ≤ cfg0.N) (hz : n ≠ 0) (h5 : n % 5 = 0) :
    PhiS m c n hn ⊢ Pipeline.ΦA spec0 c := by
  cases n with
  | zero => exact absurd rfl hz
  | succ n =>
    rw [show PhiS m c (n + 1) hn = heldB c (st m c n hn) from if_neg (by omega)]
    exact heldB_forget c _

/-- After the last point the kept contents are forgotten. -/
theorem hout (c : Dev nD) : (dats m 0 c).Φ (Fin.last cfg0.N) ⊢ Pipeline.ΦA spec0 c :=
  PhiS_forget m c (Fin.last cfg0.N).val _ (by rw [Fin.val_last, n_eq]; decide) (by rw [Fin.val_last, n_eq])

set_option backward.isDefEq.respectTransparency.types false in
set_option maxHeartbeats 800000 in
/-- The run, with every semaphore counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := hin m) (hout := hout m)

/-- The run: each output array at what the points leave, every other array as the host operations leave it. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Bwd

end
-- ==== Proof.Bwd.KernelFrame.lean ====
/-
  The kernel as it runs, on bits: its text is the idealized kernel's, so its frame is the same run's.
-/
module

public import proofs.«01_k».proof.Defs
public import proofs.«01_k».proof.Proof.Bwd.Frame
public import proofs.«01_k».proof.Proof.Gen.Kernel

@[expose] public section

set_option maxRecDepth 16384
set_option maxHeartbeats 400000

noncomputable section

namespace Cert.KernelIdeal.Bwd

open Idealize.ShloMosaic Idealize.SL.Sem

/-- The two bodies are one text. -/
theorem body_eq : @Kernel.cc0_ffn_bwd Bits _ _ = @KernelIdeal.cc0_ffn_bwd Bits _ _ := rfl

/-- So are the tables of the two kernels' bodies. -/
theorem defs₀_eq : Kernel.defs₀ (F := Bits) = KernelIdeal.defs₀ (F := Bits) := by
  unfold Kernel.defs₀ KernelIdeal.defs₀
  refine congrArg Defs.onTc (funext fun l => funext fun x => ?_)
  match l, x with
  | 0, (t, s) =>
    dsimp only
    rw [body_eq]
    rfl

/-- So are the two programs' tables, the pipelines' entries with them. -/
theorem defs_eq : Kernel.defs (F := Bits) = KernelIdeal.defs (F := Bits) := by
  unfold Kernel.defs KernelIdeal.defs
  rw [defs₀_eq]
  rfl

/-- The two host functions are one text. -/
theorem main_eq : Kernel.main (F := Bits) = KernelIdeal.main (F := Bits) := rfl

/-- On bits the kernel leaves its arguments unchanged and every semaphore counter at zero. -/
theorem frame_kernel : Cert.quiescent_Kernel (hKernel := Cert.Kernel.Gen.facts) := by
  intro m ρ _
  rw [defs_eq, main_eq]
  exact frame (F := Bits) m ρ

end Cert.KernelIdeal.Bwd

end
-- ==== Proof.Val.Reals.lean ====
/-
  Arrays of extended reals that hold real numbers: what each operation leaves of real operands.
-/
module

public import Idealize.ShloMosaic.Lib.Pointwise

@[expose] public section

noncomputable section

namespace Cert.Val

open Idealize.ShloMosaic
open scoped BigOperators

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin n` of reals taken at the position. -/
theorem coe_sum_fin (n : ℕ) (f : ℕ → ℝ) : (∑ k : Fin n, (f k.val : EReal)) = ((∑ k ∈ Finset.range n, f k : ℝ) : EReal) := by
  rw [← Fin.sum_univ_eq_sum_range, coe_sum]

/-- A quotient of reals. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The logistic function. -/
def logi (x : ℝ) : ℝ := 1 / (1 + Real.exp (-x))

theorem one_add_exp_pos (x : ℝ) : 0 < 1 + Real.exp (-x) := by positivity

/-- The constants. -/
theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul, -EReal.coe_neg]; norm_num
theorem lit_half : Ideal.ofBits .f32 0x3F000000#32 = ((1 / 2 : ℝ) : EReal) := by
  simp [Ideal.ofBits, Ideal.ieee, -EReal.coe_mul, -EReal.coe_neg]; norm_num
theorem lit_neg_half : Ideal.ofBits .f32 0xBF000000#32 = ((-(1 / 2) : ℝ) : EReal) := by
  simp [Ideal.ofBits, Ideal.ieee, -EReal.coe_mul, -EReal.coe_neg]; norm_num
theorem lit_width : Ideal.ofBits .f32 0x44800000#32 = ((1024 : ℝ) : EReal) := by
  simp [Ideal.ofBits, Ideal.ieee, -EReal.coe_mul, -EReal.coe_neg]; norm_num

/-- The constant added under the root: the `f32` nearest to a millionth. -/
def eps : ℝ := 8796093 * 2 ^ (-43 : ℤ)
theorem eps_pos : 0 < eps := by unfold eps; positivity
theorem lit_eps : Ideal.ofBits .f32 0x358637BD#32 = ((eps : ℝ) : EReal) := by
  simp [Ideal.ofBits, Ideal.ieee, eps, -EReal.coe_mul, -EReal.coe_neg]

/-- The reciprocal of the root of a positive real. -/
theorem rsqrt_coe_pos (x : ℝ) (hx : 0 < x) : Ideal.rsqrt (x : EReal) = (((Real.sqrt x)⁻¹ : ℝ) : EReal) := by
  rw [Ideal.rsqrt_coe, if_neg (not_lt.mpr hx.le), if_neg hx.ne']

/-- A mean over the width. -/
theorem div_width (x : ℝ) : Ideal.div (x : EReal) (Ideal.ofBits .f32 0x44800000#32) = ((x / 1024 : ℝ) : EReal) := by
  rw [lit_width, div_coe _ _ (by norm_num)]

/-- The logistic function as the kernel spells it. -/
theorem sig_coe (x : ℝ) : Ideal.div 1 (1 + Ideal.exp (0 - (x : EReal))) = ((logi x : ℝ) : EReal) := by
  have h : (0 : EReal) - (x : EReal) = ((-x : ℝ) : EReal) := by rw [zero_sub, EReal.coe_neg]
  rw [h, Ideal.exp_coe, ← EReal.coe_one, ← EReal.coe_add, div_coe _ _ (one_add_exp_pos x).ne', logi]

/-- The mean of squares and the constant under the root are positive. -/
theorem mean_pos {n : ℕ} (f : Fin n → ℝ) : 0 < (∑ i, f i * f i) / 1024 + eps :=
  add_pos_of_nonneg_of_pos (div_nonneg (Finset.sum_nonneg fun i _ => mul_self_nonneg (f i)) (by norm_num)) eps_pos

/-- The reciprocal of the root of a mean of squares. -/
theorem rsqrt_mean {n : ℕ} (f : Fin n → ℝ) :
    Ideal.rsqrt (((∑ i, f i * f i) / 1024 + eps : ℝ) : EReal) = (((Real.sqrt ((∑ i, f i * f i) / 1024 + eps))⁻¹ : ℝ) : EReal) :=
  rsqrt_coe_pos _ (mean_pos f)

end Cert.Val

end
-- ==== Proof.Val.Spec.lean ====
/-
  The half step's gradients as real functions: the quantities both programs are shown to compute.
-/
module

public import proofs.«01_k».proof.Proof.Val.Reals

@[expose] public section

noncomputable section

namespace Cert.Val

open scoped BigOperators

/-- The arguments: the rows, the incoming gradient, the gain and the three weights. -/
structure Arg where
  h : ℕ → ℕ → ℝ
  dy : ℕ → ℕ → ℝ
  g : ℕ → ℝ
  w1 : ℕ → ℕ → ℝ
  w3 : ℕ → ℕ → ℝ
  w2 : ℕ → ℕ → ℝ

namespace Arg

variable (x : Arg)

/-- The mean square of a row, with the constant under the root. -/
def ms (r : ℕ) : ℝ := (∑ k ∈ Finset.range 1024, x.h r k * x.h r k) / 1024 + eps
/-- The reciprocal of its root. -/
def rstd (r : ℕ) : ℝ := (Real.sqrt (x.ms r))⁻¹
/-- The normalised row. -/
def xh (r q : ℕ) : ℝ := x.h r q * x.rstd r
/-- The normalised row, scaled by the gain. -/
def u (r q : ℕ) : ℝ := x.xh r q * x.g q
/-- The gate's argument. -/
def a (r j : ℕ) : ℝ := ∑ k ∈ Finset.range 1024, x.u r k * x.w1 k j
/-- The gated factor. -/
def b (r j : ℕ) : ℝ := ∑ k ∈ Finset.range 1024, x.u r k * x.w3 k j
/-- The gated product. -/
def s (r j : ℕ) : ℝ := x.a r j * logi (x.a r j) * x.b r j
/-- Its gradient. -/
def ds (r j : ℕ) : ℝ := ∑ k ∈ Finset.range 1024, 1 / 2 * x.dy r k * x.w2 j k
/-- The gradient of the gate's argument. -/
def da (r j : ℕ) : ℝ := x.ds r j * x.b r j * (logi (x.a r j) * (1 + x.a r j * (1 - logi (x.a r j))))
/-- The gradient of the gated factor. -/
def db (r j : ℕ) : ℝ := x.ds r j * (x.a r j * logi (x.a r j))
/-- What columns `j` add to the gradient of the scaled row. -/
def duTerm (r q j : ℕ) : ℝ := x.da r j * x.w1 q j + x.db r j * x.w3 q j
/-- The gradient of the scaled row. -/
def du (r q : ℕ) : ℝ := ∑ j ∈ Finset.range 2816, x.duTerm r q j
/-- The gradient of the row. -/
def dh (r q : ℕ) : ℝ :=
  x.dy r q + x.rstd r * (x.du r q * x.g q - x.xh r q * ((∑ k ∈ Finset.range 1024, x.du r k * x.g k * x.xh r k) / 1024))
/-- The gradient of the gain. -/
def dg (q : ℕ) : ℝ := ∑ r ∈ Finset.range 8192, x.du r q * x.xh r q

theorem ms_pos (r : ℕ) : 0 < x.ms r := by
  unfold ms; rw [Finset.sum_range]; exact mean_pos fun k : Fin 1024 => x.h r k

end Arg

end Cert.Val

end
-- ==== Proof.Val.Arg.lean ====
/-
  What the precondition says: every argument's entries are real numbers.
-/
module

public import proofs.«01_k».proof.Proof.Val.Spec
public import proofs.«01_k».proof.Proof.Gen.Pre_finite
public import Idealize.ShloMosaic.Lib.ReduceAll
public import Idealize.ShloMosaic.Lib.Tactic

@[expose] public section

set_option maxRecDepth 16384

noncomputable section

namespace Cert.Val

open Idealize.ShloMosaic
open Cert.Pre_finite Cert.Pre_finite.Gen

/-- The arrays' entries are those of a real argument. -/
structure IsArg (x : Arg) (h dy : Vec Ideal S8192x1024 .f32) (g : Vec Ideal S1024 .f32) (w1 w3 : Vec Ideal S1024x2816 .f32)
    (w2 : Vec Ideal S2816x1024 .f32) : Prop where
  h : ∀ (p : Fin 8192) (q : Fin 1024), h (ix2 p q) = ((x.h p q : ℝ) : EReal)
  dy : ∀ (p : Fin 8192) (q : Fin 1024), dy (ix2 p q) = ((x.dy p q : ℝ) : EReal)
  g : ∀ q : Fin 1024, g (ix1 q) = ((x.g q : ℝ) : EReal)
  w1 : ∀ (p : Fin 1024) (q : Fin 2816), w1 (ix2 p q) = ((x.w1 p q : ℝ) : EReal)
  w3 : ∀ (p : Fin 1024) (q : Fin 2816), w3 (ix2 p q) = ((x.w3 p q : ℝ) : EReal)
  w2 : ∀ (p : Fin 2816) (q : Fin 1024), w2 (ix2 p q) = ((x.w2 p q : ℝ) : EReal)

/-- A matrix of extended reals, as a real function of the two coordinates. -/
def realOf {a b : ℕ} (x : Vec Ideal (⟨2, ![a, b]⟩ : Shape) .f32) (p q : ℕ) : ℝ :=
  if h : p < a ∧ q < b then EReal.toReal (x (ix2 ⟨p, h.1⟩ ⟨q, h.2⟩)) else 0

theorem realOf_eq {a b : ℕ} (x : Vec Ideal (⟨2, ![a, b]⟩ : Shape) .f32) (hx : ∀ i, ∃ r : ℝ, x i = (r : EReal)) (p : Fin a) (q : Fin b) :
    x (ix2 p q) = ((realOf x p q : ℝ) : EReal) := by
  unfold realOf
  rw [dif_pos ⟨p.isLt, q.isLt⟩]
  obtain ⟨r, hr⟩ := hx (ix2 p q)
  simp only [Fin.eta, hr, EReal.toReal_coe]

/-- An entry whose absolute value is below the infinite word is real. -/
theorem real_of_lt {s : Shape} (x b : FVec Ideal s .f32) (i : s.Idx) (hb : b i = Ideal.ofBits .f32 0x7F800000#32)
    (h : cmpf .olt (Host.absf x) b i = 1#1) : ∃ r : ℝ, x i = (r : EReal) := by
  have h1 : Ideal.cmp .olt (max (x i : EReal) (-(x i))) (b i) = 1#1 := h
  have top : Ideal.ofBits .f32 0x7F800000#32 = ⊤ := by simp [Ideal.ofBits, Ideal.ieee]
  rw [hb, top] at h1
  generalize (x i : EReal) = a at h1
  induction a using EReal.rec with
  | bot => simp [Ideal.cmp] at h1
  | coe r => exact ⟨r, rfl⟩
  | top => simp [Ideal.cmp] at h1

instance : Subsingleton S_.Idx := ⟨fun a b => funext fun i => i.elim0⟩

/-- Under the precondition the arguments are those of a real argument. -/
theorem exists_arg (h dy : Vec Ideal S8192x1024 .f32) (g : Vec Ideal S1024 .f32) (w1 w3 : Vec Ideal S1024x2816 .f32)
    (w2 : Vec Ideal S2816x1024 .f32) (pre : Cert.Pre_finite.fn (F := Ideal) h dy g w1 w3 w2 = fun _ => 1#1) :
    ∃ x, IsArg x h dy g w1 w3 w2 := by
  have e := congrFun pre (fun i => i.elim0)
  dsimp only [Cert.Pre_finite.fn, Cert.Pre_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have f0 (i) := real_of_lt _ _ i rfl (Host.reduce_andi_all _ _ _ _ _ e0 i)
  have f1 (i) := real_of_lt _ _ i rfl (Host.reduce_andi_all _ _ _ _ _ e1 i)
  have f2 (i) := real_of_lt _ _ i rfl (Host.reduce_andi_all _ _ _ _ _ e2 i)
  have f3 (i) := real_of_lt _ _ i rfl (Host.reduce_andi_all _ _ _ _ _ e3 i)
  have f4 (i) := real_of_lt _ _ i rfl (Host.reduce_andi_all _ _ _ _ _ e4 i)
  have f5 (i) := real_of_lt _ _ i rfl (Host.reduce_andi_all _ _ _ _ _ e5 i)
  refine ⟨⟨realOf h, realOf dy, fun q => if k : q < 1024 then EReal.toReal (g (ix1 ⟨q, k⟩)) else 0, realOf w1, realOf w3, realOf w2⟩,
    realOf_eq h f0, realOf_eq dy f1, fun q => ?_, realOf_eq w1 f3, realOf_eq w3 f4, realOf_eq w2 f5⟩
  obtain ⟨r, hr⟩ := f2 (ix1 q)
  simp only [q.isLt, dif_pos, Fin.eta, hr, EReal.toReal_coe]

end Cert.Val

end
-- ==== Proof.Val.RefStages.lean ====
/-
  The reference, stage by stage: its long result terms named by small functions of arrays, and what each stage leaves of
  real operands at an index.
-/
module

public import proofs.«01_k».proof.Proof.Val.Reals
public import proofs.«01_k».proof.Proof.Gen.ReferenceIdeal.Run

@[expose] public section

set_option maxRecDepth 16384

noncomputable section

namespace Cert.ReferenceIdeal.Value

open Cert.ReferenceIdeal Cert.ReferenceIdeal.Gen Cert.Val
open Idealize.ShloMosaic Idealize.ShloMosaic.TcCoe
open scoped BigOperators

section stages
variable {F : FTy → Type} [FloatOps F]

/-- The mean of squares with the constant. -/
def msT (h : Vec F S8192x1024 .f32) : Vec F S8192x1 .f32 :=
  addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reciprocal root. -/
def rstdT (h : Vec F S8192x1024 .f32) : Vec F S8192x1 .f32 := Host.rsqrt (msT h)

/-- The normalised rows. -/
def xhT (h : Vec F S8192x1024 .f32) : Vec F S8192x1024 .f32 :=
  mulf h (broadcastInDim S8192x1024 ![0, 1] bcast_S8192x1_S8192x1024_0_1 (rstdT h))

/-- Rows times the gain. -/
def gainT (x : Vec F S8192x1024 .f32) (g : Vec F S1024 .f32) : Vec F S8192x1024 .f32 :=
  mulf x (broadcastInDim S8192x1024 ![0, 1] bcast_S1x1024_S8192x1024_0_1 (broadcastInDim S1x1024 ![1] bcast_S1024_S1x1024_1 g))

/-- Rows times a weight of the first layer. -/
def upT (u : Vec F S8192x1024 .f32) (w : Vec F S1024x2816 .f32) : Vec F S8192x2816 .f32 :=
  Host.dotGeneral dot_S8192x1024_S1024x2816_S8192x2816_1_0_0_1_n_n none u w

/-- Half the incoming gradient times the second layer's weight. -/
def dsT (dy : Vec F S8192x1024 .f32) (w : Vec F S2816x1024 .f32) : Vec F S8192x2816 .f32 :=
  Host.dotGeneral dot_S8192x1024_S2816x1024_S8192x2816_1_1_0_0_n_n none (mulf (broadcastInDim S8192x1024 ![] bcast_S_S8192x1024 (constant S_ .f32 0x3F000000#32)) dy) w

/-- The logistic function. -/
def logT (a : Vec F S8192x2816 .f32) : Vec F S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf a)))

/-- The gate. -/
def siluT (a : Vec F S8192x2816 .f32) : Vec F S8192x2816 .f32 := mulf a (logT a)

/-- The gate's argument's gradient. -/
def daT (ds a b : Vec F S8192x2816 .f32) : Vec F S8192x2816 .f32 :=
  addf (mulf (mulf ds b) (logT a)) (mulf (mulf a (mulf ds b)) (mulf (logT a) (subf (broadcastInDim S8192x2816 ![] bcast_S_S8192x2816 (constant S_ .f32 0x3F800000#32)) (logT a))))

/-- The scaled rows' gradient. -/
def duT (db : Vec F S8192x2816 .f32) (w3 : Vec F S1024x2816 .f32) (da : Vec F S8192x2816 .f32) (w1 : Vec F S1024x2816 .f32) : Vec F S8192x1024 .f32 :=
  addf (Host.dotGeneral dot_S8192x2816_S1024x2816_S8192x1024_1_1_0_0_n_n none db w3) (Host.dotGeneral dot_S8192x2816_S1024x2816_S8192x1024_1_1_0_0_n_n none da w1)

/-- The gain's gradient. -/
def dgT (x du : Vec F S8192x1024 .f32) : Vec F S1024 .f32 :=
  Host.reduceAdd (shapeCast _ (Host.reduceAdd (mulf x du) (constant S_ .f32 0x00000000#32) reducesTo_S8192x1024_S1024_d0 h_S_) shapeCasts_S1024_S1x1024) (constant S_ .f32 0x00000000#32) reducesTo_S1x1024_S1024_d0 h_S_

/-- The gradient of a row's sum of squares. -/
def tT (h dxh : Vec F S8192x1024 .f32) : Vec F S8192x1024 .f32 :=
  broadcastInDim S8192x1024 ![0] bcast_S8192_S8192x1024_0 (Host.reduceAdd (Host.divf (mulf (shapeCast _ (Host.reduceAdd (mulf h dxh) (constant S_ .f32 0x00000000#32) reducesTo_S8192x1024_S8192_d1 h_S_) shapeCasts_S8192_S8192x1) (mulf (broadcastInDim S8192x1 ![] bcast_S_S8192x1 (constant S_ .f32 0xBF000000#32)) (Host.divf (rstdT h) (msT h)))) (broadcastInDim S8192x1 ![] bcast_S_S8192x1 (constant S_ .f32 0x44800000#32))) (constant S_ .f32 0x00000000#32) reducesTo_S8192x1_S8192_d1 h_S_)

/-- The rows' gradient. -/
def dhT (h dy dxh : Vec F S8192x1024 .f32) : Vec F S8192x1024 .f32 :=
  addf (addf (addf dy (mulf dxh (broadcastInDim S8192x1024 ![0, 1] bcast_S8192x1_S8192x1024_0_1 (rstdT h)))) (mulf h (tT h dxh))) (mulf (tT h dxh) h)

end stages

/-- The two ways to write a row's gradient agree: `t` is the mean square, `S` the sum of the products. -/
theorem rows_algebra (t : ℝ) (ht : 0 < t) (y x h S : ℝ) :
    y + (Real.sqrt t)⁻¹ * (x - h * (Real.sqrt t)⁻¹ * (S * (Real.sqrt t)⁻¹ / 1024))
      = y + x * (Real.sqrt t)⁻¹ + h * (S * (-(1 / 2) * ((Real.sqrt t)⁻¹ / t)) / 1024) + S * (-(1 / 2) * ((Real.sqrt t)⁻¹ / t)) / 1024 * h := by
  have h2 : (Real.sqrt t)⁻¹ / t = (Real.sqrt t)⁻¹ * ((Real.sqrt t)⁻¹ * (Real.sqrt t)⁻¹) := by
    rw [div_eq_mul_inv]
    congr 1
    rw [← mul_inv, Real.mul_self_sqrt ht.le]
  rw [h2]
  ring

section real
variable (h : Vec Ideal S8192x1024 .f32) (H : ℕ → ℕ → ℝ) (hH : ∀ (p : Fin 8192) (q : Fin 1024), h (ix2 p q) = ((H p q : ℝ) : EReal))
include hH

theorem msT_real (p : Fin 8192) :
    msT h (ix2 p 0) = (((∑ k ∈ Finset.range 1024, H p k * H p k) / 1024 + eps : ℝ) : EReal) := by
  unfold msT
  pointwise []
  simp only [hH, lit_eps, ← EReal.coe_mul, ← coe_sum, div_width, ← EReal.coe_add, Finset.sum_range]

theorem rstdT_real (p : Fin 8192) :
    rstdT h (ix2 p 0) = (((Real.sqrt ((∑ k ∈ Finset.range 1024, H p k * H p k) / 1024 + eps))⁻¹ : ℝ) : EReal) := by
  unfold rstdT
  pointwise []
  rw [msT_real h H hH]
  simp only [Finset.sum_range, rsqrt_mean]

theorem xhT_real (p : Fin 8192) (q : Fin 1024) :
    xhT h (ix2 p q) = ((H p q * (Real.sqrt ((∑ k ∈ Finset.range 1024, H p k * H p k) / 1024 + eps))⁻¹ : ℝ) : EReal) := by
  unfold xhT
  pointwise []
  rw [hH, rstdT_real h H hH, ← EReal.coe_mul]

theorem gainT_real (g : Vec Ideal S1024 .f32) (G : ℕ → ℝ) (hG : ∀ q : Fin 1024, g (ix1 q) = ((G q : ℝ) : EReal))
    (p : Fin 8192) (q : Fin 1024) : gainT h g (ix2 p q) = ((H p q * G q : ℝ) : EReal) := by
  unfold gainT
  pointwise []
  rw [hH, hG, ← EReal.coe_mul]

theorem upT_real (w : Vec Ideal S1024x2816 .f32) (W : ℕ → ℕ → ℝ)
    (hW : ∀ (p : Fin 1024) (q : Fin 2816), w (ix2 p q) = ((W p q : ℝ) : EReal)) (p : Fin 8192) (q : Fin 2816) :
    upT h w (ix2 p q) = ((∑ k ∈ Finset.range 1024, H p k * W k q : ℝ) : EReal) := by
  unfold upT
  pointwise []
  simp only [hH, hW, ← EReal.coe_mul, ← coe_sum, Finset.sum_range]

theorem dsT_real (w : Vec Ideal S2816x1024 .f32) (W : ℕ → ℕ → ℝ)
    (hW : ∀ (p : Fin 2816) (q : Fin 1024), w (ix2 p q) = ((W p q : ℝ) : EReal)) (p : Fin 8192) (q : Fin 2816) :
    dsT h w (ix2 p q) = ((∑ k ∈ Finset.range 1024, 1 / 2 * H p k * W q k : ℝ) : EReal) := by
  unfold dsT
  pointwise []
  simp only [hH, hW, lit_half, ← EReal.coe_mul, ← coe_sum, Finset.sum_range]

theorem dgT_real (du : Vec Ideal S8192x1024 .f32) (U : ℕ → ℕ → ℝ)
    (hU : ∀ (p : Fin 8192) (q : Fin 1024), du (ix2 p q) = ((U p q : ℝ) : EReal)) (q : Fin 1024) :
    dgT h du (ix1 q) = ((∑ p ∈ Finset.range 8192, U p q * H p q : ℝ) : EReal) := by
  unfold dgT
  pointwise []
  simp only [hH, hU, ← EReal.coe_mul, ← coe_sum, Finset.sum_range, Fin.sum_univ_one, mul_comm (H _ _)]

theorem tT_real (dx : Vec Ideal S8192x1024 .f32) (X : ℕ → ℕ → ℝ)
    (hX : ∀ (p : Fin 8192) (q : Fin 1024), dx (ix2 p q) = ((X p q : ℝ) : EReal)) (p : Fin 8192) (q : Fin 1024) :
    tT h dx (ix2 p q) = (((∑ k ∈ Finset.range 1024, H p k * X p k) * (-(1 / 2) *
      ((Real.sqrt ((∑ k ∈ Finset.range 1024, H p k * H p k) / 1024 + eps))⁻¹ /
        ((∑ k ∈ Finset.range 1024, H p k * H p k) / 1024 + eps))) / 1024 : ℝ) : EReal) := by
  have h0 : (∑ k ∈ Finset.range 1024, H p k * H p k) / 1024 + eps ≠ 0 := by
    rw [Finset.sum_range]; exact (mean_pos fun k : Fin 1024 => H p k).ne'
  unfold tT
  pointwise []
  rw [Fin.sum_univ_one, rstdT_real h H hH, msT_real h H hH, div_coe _ _ h0, lit_neg_half]
  simp only [hH, hX, ← EReal.coe_mul, ← coe_sum, div_width, Finset.sum_range]

theorem dhT_real (dy dx : Vec Ideal S8192x1024 .f32) (Y X : ℕ → ℕ → ℝ)
    (hY : ∀ (p : Fin 8192) (q : Fin 1024), dy (ix2 p q) = ((Y p q : ℝ) : EReal))
    (hX : ∀ (p : Fin 8192) (q : Fin 1024), dx (ix2 p q) = ((X p q : ℝ) : EReal)) (p : Fin 8192) (q : Fin 1024) :
    dhT h dy dx (ix2 p q) = ((Y p q + (Real.sqrt ((∑ k ∈ Finset.range 1024, H p k * H p k) / 1024 + eps))⁻¹ *
      (X p q - H p q * (Real.sqrt ((∑ k ∈ Finset.range 1024, H p k * H p k) / 1024 + eps))⁻¹ *
        ((∑ k ∈ Finset.range 1024, X p k *
          (H p k * (Real.sqrt ((∑ k ∈ Finset.range 1024, H p k * H p k) / 1024 + eps))⁻¹)) / 1024)) : ℝ) : EReal) := by
  have h0 : 0 < (∑ k ∈ Finset.range 1024, H p k * H p k) / 1024 + eps := by
    rw [Finset.sum_range]; exact mean_pos fun k : Fin 1024 => H p k
  unfold dhT
  pointwise []
  rw [hY, hX, hH, rstdT_real h H hH, tT_real h H hH dx X hX]
  simp only [← EReal.coe_mul, ← EReal.coe_add]
  congr 1
  have e (r : ℝ) : ∑ k ∈ Finset.range 1024, X p k * (H p k * r) = (∑ k ∈ Finset.range 1024, H p k * X p k) * r := by
    rw [Finset.sum_mul]
    refine Finset.sum_congr rfl fun k _ => ?_
    ring
  rw [e]
  exact (rows_algebra _ h0 _ _ _ _).symm

end real

section gate
variable (a : Vec Ideal S8192x2816 .f32) (A : ℕ → ℕ → ℝ) (hA : ∀ (p : Fin 8192) (q : Fin 2816), a (ix2 p q) = ((A p q : ℝ) : EReal))
include hA

theorem logT_real (p : Fin 8192) (q : Fin 2816) : logT a (ix2 p q) = ((logi (A p q) : ℝ) : EReal) := by
  unfold logT
  pointwise []
  rw [hA, ← zero_sub]
  exact sig_coe _

theorem siluT_real (p : Fin 8192) (q : Fin 2816) : siluT a (ix2 p q) = ((A p q * logi (A p q) : ℝ) : EReal) := by
  unfold siluT
  pointwise []
  rw [hA, logT_real a A hA, ← EReal.coe_mul]

theorem daT_real (ds b : Vec Ideal S8192x2816 .f32) (D B : ℕ → ℕ → ℝ)
    (hD : ∀ (p : Fin 8192) (q : Fin 2816), ds (ix2 p q) = ((D p q : ℝ) : EReal))
    (hB : ∀ (p : Fin 8192) (q : Fin 2816), b (ix2 p q) = ((B p q : ℝ) : EReal)) (p : Fin 8192) (q : Fin 2816) :
    daT ds a b (ix2 p q) = ((D p q * B p q * (logi (A p q) * (1 + A p q * (1 - logi (A p q)))) : ℝ) : EReal) := by
  unfold daT
  pointwise []
  rw [hA, hD, hB, logT_real a A hA]
  simp only [← EReal.coe_one, ← EReal.coe_sub, ← EReal.coe_mul, ← EReal.coe_add]
  congr 1
  ring

theorem duT_real (da : Vec Ideal S8192x2816 .f32) (w3 w1 : Vec Ideal S1024x2816 .f32) (D W3 W1 : ℕ → ℕ → ℝ)
    (hD : ∀ (p : Fin 8192) (q : Fin 2816), da (ix2 p q) = ((D p q : ℝ) : EReal))
    (h3 : ∀ (p : Fin 1024) (q : Fin 2816), w3 (ix2 p q) = ((W3 p q : ℝ) : EReal))
    (h1 : ∀ (p : Fin 1024) (q : Fin 2816), w1 (ix2 p q) = ((W1 p q : ℝ) : EReal)) (p : Fin 8192) (q : Fin 1024) :
    duT a w3 da w1 (ix2 p q) = ((∑ k ∈ Finset.range 2816, (D p k * W1 q k + A p k * W3 q k) : ℝ) : EReal) := by
  unfold duT
  pointwise []
  simp only [hA, hD, h3, h1, ← EReal.coe_mul, ← coe_sum, ← EReal.coe_add, Finset.sum_range, Finset.sum_add_distrib]
  rw [add_comm]

end gate

end Cert.ReferenceIdeal.Value

end
-- ==== Proof.Val.Operands.lean ====
/-
  The arrays the host code prepares for the kernel, of real arguments, at an index.
-/
module

public import proofs.«01_k».proof.Proof.Val.Arg
public import proofs.«01_k».proof.Proof.Val.RefStages
public import proofs.«01_k».proof.Proof.Bwd.Frame

@[expose] public section

set_option maxRecDepth 16384

noncomputable section

namespace Cert.KernelIdeal.Bwd

open Cert.KernelIdeal Cert.KernelIdeal.Gen Cert.Val
open Cert.ReferenceIdeal.Value (upT gainT xhT)
open Idealize.ShloMosaic Idealize.ShloMosaic.TcCoe
open scoped BigOperators

section terms
variable {F : FTy → Type} [FloatOps F]
variable (m : (ℓ : Loc nD τ sig) → Buf (Elt F) ℓ) (c : Dev nD)

abbrev hK : Vec F S8192x1024 .f32 := m ((c.tc : Thread nD τ).loc main_arg0)
abbrev dyK : Vec F S8192x1024 .f32 := m ((c.tc : Thread nD τ).loc main_arg1)
abbrev gK : Vec F S1024 .f32 := m ((c.tc : Thread nD τ).loc main_arg2)
abbrev w1K : Vec F S1024x2816 .f32 := m ((c.tc : Thread nD τ).loc main_arg3)
abbrev w3K : Vec F S1024x2816 .f32 := m ((c.tc : Thread nD τ).loc main_arg4)
abbrev w2K : Vec F S2816x1024 .f32 := m ((c.tc : Thread nD τ).loc main_arg5)

/-- The rows are the argument's. -/
theorem v_arg0 : V m c main_arg0 = hK m c := by
  unfold V V0 hostOps0
  simp only [List.flatten_cons, List.flatten_nil, List.append_nil]
  after_results_simp

/-- The incoming gradient is the argument's. -/
theorem v_arg1 : V m c main_arg1 = dyK m c := by
  unfold V V0 hostOps0
  simp only [List.flatten_cons, List.flatten_nil, List.append_nil]
  after_results_simp

/-- The gain, as one row. -/
theorem v_13 : V m c main_v13 = shapeCast S1x1024 (gK m c) shapeCasts_S1024_S1x1024 := by
  unfold V V0 hostOps0
  simp only [List.flatten_cons, List.flatten_nil, List.append_nil]
  after_results_simp
  rfl

/-- The gate's argument, in column blocks. -/
theorem v_17 : V m c main_v17 = transpose S4x8192x704 [1, 0, 2] (shapeCast S8192x4x704
    (truncf .bf16 (upT (gainT (xhT (hK m c)) (gK m c)) (w1K m c)) bitsLt_bf16_f32) shapeCasts_S8192x2816_S8192x4x704)
    transposes_S8192x4x704_S4x8192x704_1_0_2 := by
  unfold V V0 hostOps0
  simp only [List.flatten_cons, List.flatten_nil, List.append_nil]
  after_results_simp
  rfl

/-- The gated factor, in column blocks. -/
theorem v_21 : V m c main_v21 = transpose S4x8192x704 [1, 0, 2] (shapeCast S8192x4x704
    (truncf .bf16 (upT (gainT (xhT (hK m c)) (gK m c)) (w3K m c)) bitsLt_bf16_f32) shapeCasts_S8192x2816_S8192x4x704)
    transposes_S8192x4x704_S4x8192x704_1_0_2 := by
  unfold V V0 hostOps0
  simp only [List.flatten_cons, List.flatten_nil, List.append_nil]
  after_results_simp
  rfl

/-- The gate's weight, in column blocks. -/
theorem v_25 : V m c main_v25 = broadcastInDim S4x1x1024x704 ![0, 2, 3] bcast_S4x1024x704_S4x1x1024x704_0_2_3
    (transpose S4x1024x704 [1, 0, 2] (shapeCast S1024x4x704 (truncf .bf16 (w1K m c) bitsLt_bf16_f32) shapeCasts_S1024x2816_S1024x4x704)
      transposes_S1024x4x704_S4x1024x704_1_0_2) := by
  unfold V V0 hostOps0
  simp only [List.flatten_cons, List.flatten_nil, List.append_nil]
  after_results_simp
  rfl

/-- The factor's weight, in column blocks. -/
theorem v_29 : V m c main_v29 = broadcastInDim S4x1x1024x704 ![0, 2, 3] bcast_S4x1024x704_S4x1x1024x704_0_2_3
    (transpose S4x1024x704 [1, 0, 2] (shapeCast S1024x4x704 (truncf .bf16 (w3K m c) bitsLt_bf16_f32) shapeCasts_S1024x2816_S1024x4x704)
      transposes_S1024x4x704_S4x1024x704_1_0_2) := by
  unfold V V0 hostOps0
  simp only [List.flatten_cons, List.flatten_nil, List.append_nil]
  after_results_simp
  rfl

/-- The second layer's weight, in row blocks. -/
theorem v_31 : V m c main_v31 = shapeCast S4x1x704x1024 (truncf .bf16 (w2K m c) bitsLt_bf16_f32) shapeCasts_S2816x1024_S4x1x704x1024 := by
  unfold V V0 hostOps0
  simp only [List.flatten_cons, List.flatten_nil, List.append_nil]
  after_results_simp
  rfl

end terms

/-- A matrix in column blocks, at an index. -/
theorem split_up (a : Vec Ideal S8192x2816 .f32) (A : ℕ → ℕ → ℝ)
    (hA : ∀ (p : Fin 8192) (q : Fin 2816), a (ix2 p q) = ((A p q : ℝ) : EReal)) (i : Fin 4) (p : Fin 8192) (q : Fin 704) :
    (transpose S4x8192x704 [1, 0, 2] (shapeCast S8192x4x704 (truncf (F := Ideal) .bf16 a bitsLt_bf16_f32) shapeCasts_S8192x2816_S8192x4x704)
      transposes_S8192x4x704_S4x8192x704_1_0_2 : Vec Ideal S4x8192x704 .bf16) (ix3 i p q) = ((A p (704 * i + q) : ℝ) : EReal) := by
  pointwise []
  rw [hA]
  simp only [mul_comm]

/-- A matrix in row blocks, at an index. -/
theorem split_w2 (a : Vec Ideal S2816x1024 .f32) (A : ℕ → ℕ → ℝ)
    (hA : ∀ (p : Fin 2816) (q : Fin 1024), a (ix2 p q) = ((A p q : ℝ) : EReal)) (i : Fin 4) (p : Fin 704) (q : Fin 1024) :
    (shapeCast S4x1x704x1024 (truncf (F := Ideal) .bf16 a bitsLt_bf16_f32) shapeCasts_S2816x1024_S4x1x704x1024 : Vec Ideal S4x1x704x1024 .bf16) (ix4 i 0 p q) = ((A (704 * i + p) q : ℝ) : EReal) := by
  pointwise []
  rw [hA]
  simp only [mul_comm]

/-- A weight in column blocks, at an index. -/
theorem split_w1 (a : Vec Ideal S1024x2816 .f32) (A : ℕ → ℕ → ℝ)
    (hA : ∀ (p : Fin 1024) (q : Fin 2816), a (ix2 p q) = ((A p q : ℝ) : EReal)) (i : Fin 4) (p : Fin 1024) (q : Fin 704) :
    (broadcastInDim S4x1x1024x704 ![0, 2, 3] bcast_S4x1024x704_S4x1x1024x704_0_2_3
      (transpose S4x1024x704 [1, 0, 2] (shapeCast S1024x4x704 (truncf (F := Ideal) .bf16 a bitsLt_bf16_f32) shapeCasts_S1024x2816_S1024x4x704)
        transposes_S1024x4x704_S4x1024x704_1_0_2) : Vec Ideal S4x1x1024x704 .bf16) (ix4 i 0 p q) = ((A p (704 * i + q) : ℝ) : EReal) := by
  pointwise []
  rw [hA]
  simp only [mul_comm]

/-- The gain as one row. -/
theorem row_g (a : Vec Ideal S1024 .f32) (q : Fin 1024) : shapeCast S1x1024 a shapeCasts_S1024_S1x1024 (ix2 0 q) = a (ix1 q) := by
  pointwise []

section real
variable (m : (ℓ : Loc nD τ sig) → Buf (Elt Ideal) ℓ) (c : Dev nD) (x : Arg)

/-- The kernel's arguments are those of a real argument. -/
abbrev Real : Prop := IsArg x (hK m c) (dyK m c) (gK m c) (w1K m c) (w3K m c) (w2K m c)

variable (hx : Real m c x)
include hx

theorem h_real (p : Fin 8192) (q : Fin 1024) : V m c main_arg0 (ix2 p q) = ((x.h p q : ℝ) : EReal) := by
  rw [v_arg0]; exact hx.h p q

theorem dy_real (p : Fin 8192) (q : Fin 1024) : V m c main_arg1 (ix2 p q) = ((x.dy p q : ℝ) : EReal) := by
  rw [v_arg1]; exact hx.dy p q

theorem g_real (q : Fin 1024) : V m c main_v13 (ix2 0 q) = ((x.g q : ℝ) : EReal) := by
  rw [v_13]; exact (row_g _ q).trans (hx.g q)

theorem uK_real (p : Fin 8192) (q : Fin 1024) : gainT (xhT (hK m c)) (gK m c) (ix2 p q) = ((x.u p q : ℝ) : EReal) :=
  Cert.ReferenceIdeal.Value.gainT_real _ x.xh (fun p q => Cert.ReferenceIdeal.Value.xhT_real _ x.h hx.h p q) _ x.g hx.g p q

theorem a_real (i : Fin 4) (p : Fin 8192) (q : Fin 704) : V m c main_v17 (ix3 i p q) = ((x.a p (704 * i + q) : ℝ) : EReal) := by
  rw [v_17]
  exact split_up _ x.a (fun p q => Cert.ReferenceIdeal.Value.upT_real _ x.u (uK_real m c x hx) _ x.w1 hx.w1 p q) i p q

theorem b_real (i : Fin 4) (p : Fin 8192) (q : Fin 704) : V m c main_v21 (ix3 i p q) = ((x.b p (704 * i + q) : ℝ) : EReal) := by
  rw [v_21]
  exact split_up _ x.b (fun p q => Cert.ReferenceIdeal.Value.upT_real _ x.u (uK_real m c x hx) _ x.w3 hx.w3 p q) i p q

theorem w1_real (i : Fin 4) (p : Fin 1024) (q : Fin 704) : V m c main_v25 (ix4 i 0 p q) = ((x.w1 p (704 * i + q) : ℝ) : EReal) := by
  rw [v_25]
  exact split_w1 _ x.w1 hx.w1 i p q

theorem w3_real (i : Fin 4) (p : Fin 1024) (q : Fin 704) : V m c main_v29 (ix4 i 0 p q) = ((x.w3 p (704 * i + q) : ℝ) : EReal) := by
  rw [v_29]
  exact split_w1 _ x.w3 hx.w3 i p q

theorem w2_real (i : Fin 4) (p : Fin 704) (q : Fin 1024) : V m c main_v31 (ix4 i 0 p q) = ((x.w2 (704 * i + p) q : ℝ) : EReal) := by
  rw [v_31]
  exact split_w2 _ x.w2 hx.w2 i p q

end real

end Cert.KernelIdeal.Bwd

end
-- ==== Proof.Val.Blocks.lean ====
/-
  The blocks a grid point reads, of real arguments: which rows and columns of the arrays they are.
-/
module

public import proofs.«01_k».proof.Proof.Val.Operands
public import Idealize.ShloMosaic.Lib.Pipeline.ValueKit

@[expose] public section

set_option maxRecDepth 16384

noncomputable section

namespace Cert.KernelIdeal.Bwd

open Cert.KernelIdeal Cert.KernelIdeal.Gen Cert.Val
open Idealize.ShloMosaic Idealize.ShloMosaic.TcCoe
open scoped BigOperators

/-! ## Which block each window is on -/

theorem ix0 : ∀ t : Fin cfg0.N, win0_0.index t = ![t.val / 5, 0] := (by decide +kernel : ∀ t : Fin grid0.N, _)
theorem ix1' : ∀ t : Fin cfg0.N, win0_1.index t = ![t.val / 5, 0] := (by decide +kernel : ∀ t : Fin grid0.N, _)
theorem ix2' : ∀ t : Fin cfg0.N, win0_2.index t = ![0, 0] := (by decide +kernel : ∀ t : Fin grid0.N, _)
theorem ix3' : ∀ t : Fin cfg0.N, win0_3.index t = ![min (t.val % 5) 3, t.val / 5, 0] := (by decide +kernel : ∀ t : Fin grid0.N, _)
theorem ix4' : ∀ t : Fin cfg0.N, win0_4.index t = ![min (t.val % 5) 3, t.val / 5, 0] := (by decide +kernel : ∀ t : Fin grid0.N, _)
theorem ix5' : ∀ t : Fin cfg0.N, win0_5.index t = ![t.val % 5 - 1, 0, 0, 0] := (by decide +kernel : ∀ t : Fin grid0.N, _)
theorem ix6' : ∀ t : Fin cfg0.N, win0_6.index t = ![t.val % 5 - 1, 0, 0, 0] := (by decide +kernel : ∀ t : Fin grid0.N, _)
theorem ix7' : ∀ t : Fin cfg0.N, win0_7.index t = ![min (t.val % 5) 3, 0, 0, 0] := (by decide +kernel : ∀ t : Fin grid0.N, _)
theorem ix8' : ∀ t : Fin cfg0.N, win0_8.index t = ![t.val / 5, 0] := (by decide +kernel : ∀ t : Fin grid0.N, _)
theorem ix9' : ∀ t : Fin cfg0.N, win0_9.index t = ![t.val / 5, 0] := (by decide +kernel : ∀ t : Fin grid0.N, _)
theorem ix10' : ∀ t : Fin cfg0.N, win0_10.index t = ![min (t.val % 5) 3, t.val / 5, 0] := (by decide +kernel : ∀ t : Fin grid0.N, _)
theorem ix11' : ∀ t : Fin cfg0.N, win0_11.index t = ![min (t.val % 5) 3, t.val / 5, 0] := (by decide +kernel : ∀ t : Fin grid0.N, _)
theorem ix12' : ∀ t : Fin cfg0.N, win0_12.index t = ![min (t.val % 5) 3, t.val / 5, 0] := (by decide +kernel : ∀ t : Fin grid0.N, _)

theorem t_lt (t : Fin cfg0.N) : t.val < 80 := t.isLt

section real
variable (m : (ℓ : Loc nD τ sig) → Buf (Elt Ideal) ℓ) (c : Dev nD) (x : Arg) (hx : Real m c x)
variable (t : Fin cfg0.N) (i k : ℕ)
include hx

/-- The tile's rows. -/
theorem blk0 (hi : t.val / 5 = i) (p : Fin 512) (q : Fin 1024) : iblk m c 0 t (ix2 p q) = ((x.h (512 * i + p) q : ℝ) : EReal) := by
  have ht := t_lt t
  blk_simp [iblk]
  have e : (win0_0.blk t).view.emb (ix2 p q) = ix2 ⟨512 * i + p, by omega⟩ q := by blk_ext [ix0]
  rw [e]
  exact h_real m c x hx _ _

/-- The tile's incoming gradient. -/
theorem blk1 (hi : t.val / 5 = i) (p : Fin 512) (q : Fin 1024) : iblk m c 1 t (ix2 p q) = ((x.dy (512 * i + p) q : ℝ) : EReal) := by
  have ht := t_lt t
  blk_simp [iblk]
  have e : (win0_1.blk t).view.emb (ix2 p q) = ix2 ⟨512 * i + p, by omega⟩ q := by blk_ext [ix1']
  rw [e]
  exact dy_real m c x hx _ _

/-- The gain. -/
theorem blk2 (q : Fin 1024) : iblk m c 2 t (ix2 0 q) = ((x.g q : ℝ) : EReal) := by
  blk_simp [iblk]
  have e : (win0_2.blk t).view.emb (ix2 0 q) = ix2 0 q := by blk_ext [ix2']
  rw [e]
  exact g_real m c x hx _

/-- The tile's block of the gate's argument. -/
theorem blk3 (hi : t.val / 5 = i) (hk : t.val % 5 = k) (h4 : k < 4) (p : Fin 512) (q : Fin 704) :
    iblk m c 3 t (ix3 0 p q) = ((x.a (512 * i + p) (704 * k + q) : ℝ) : EReal) := by
  have ht := t_lt t
  blk_simp [iblk]
  have e : (win0_3.blk t).view.emb (ix3 0 p q) = ix3 ⟨k, h4⟩ ⟨512 * i + p, by omega⟩ q := by blk_ext [ix3']
  rw [e]
  exact a_real m c x hx _ _ _

/-- The tile's block of the gated factor. -/
theorem blk4 (hi : t.val / 5 = i) (hk : t.val % 5 = k) (h4 : k < 4) (p : Fin 512) (q : Fin 704) :
    iblk m c 4 t (ix3 0 p q) = ((x.b (512 * i + p) (704 * k + q) : ℝ) : EReal) := by
  have ht := t_lt t
  blk_simp [iblk]
  have e : (win0_4.blk t).view.emb (ix3 0 p q) = ix3 ⟨k, h4⟩ ⟨512 * i + p, by omega⟩ q := by blk_ext [ix4']
  rw [e]
  exact b_real m c x hx _ _ _

/-- The block of the gate's weight that the point before used. -/
theorem blk5 (hk : t.val % 5 = k + 1) (p : Fin 1024) (q : Fin 704) :
    iblk m c 5 t (ix4 0 0 p q) = ((x.w1 p (704 * k + q) : ℝ) : EReal) := by
  have h4 : k < 4 := by omega
  blk_simp [iblk]
  have e : (win0_5.blk t).view.emb (ix4 0 0 p q) = ix4 ⟨k, h4⟩ 0 p q := by blk_ext [ix5']
  rw [e]
  exact w1_real m c x hx _ _ _

/-- The block of the factor's weight that the point before used. -/
theorem blk6 (hk : t.val % 5 = k + 1) (p : Fin 1024) (q : Fin 704) :
    iblk m c 6 t (ix4 0 0 p q) = ((x.w3 p (704 * k + q) : ℝ) : EReal) := by
  have h4 : k < 4 := by omega
  blk_simp [iblk]
  have e : (win0_6.blk t).view.emb (ix4 0 0 p q) = ix4 ⟨k, h4⟩ 0 p q := by blk_ext [ix6']
  rw [e]
  exact w3_real m c x hx _ _ _

/-- The block of the second layer's weight. -/
theorem blk7 (hk : t.val % 5 = k) (h4 : k < 4) (p : Fin 704) (q : Fin 1024) :
    iblk m c 7 t (ix4 0 0 p q) = ((x.w2 (704 * k + p) q : ℝ) : EReal) := by
  blk_simp [iblk]
  have e : (win0_7.blk t).view.emb (ix4 0 0 p q) = ix4 ⟨k, h4⟩ 0 p q := by blk_ext [ix7']
  rw [e]
  exact w2_real m c x hx _ _ _

end real

end Cert.KernelIdeal.Bwd

end
-- ==== Proof.Val.Pay.lean ====
/-
  What each of the body's functions leaves of real operands, at an index.
-/
module

public import proofs.«01_k».proof.Proof.Val.Reals
public import proofs.«01_k».proof.Proof.Bwd.Step

@[expose] public section

set_option maxRecDepth 16384

noncomputable section

namespace Cert.KernelIdeal.Bwd

open Cert.KernelIdeal Cert.KernelIdeal.Gen Cert.Val
open Idealize.ShloMosaic
open scoped BigOperators

/-- Half the incoming gradient. -/
theorem dyHalf_real (dy : Vec Ideal S512x1024 .f32) (Y : ℕ → ℕ → ℝ)
    (hY : ∀ (p : Fin 512) (q : Fin 1024), dy (ix2 p q) = ((Y p q : ℝ) : EReal)) (p : Fin 512) (q : Fin 1024) :
    dyHalf dy (ix2 p q) = ((1 / 2 * Y p q : ℝ) : EReal) := by
  unfold dyHalf
  pointwise [k0_pay35]
  rw [lit_half, hY, ← EReal.coe_mul]

/-- The sum with one block of columns added. -/
theorem duAdd_real (du : Vec Ideal S512x1024 .f32) (da : Vec Ideal S512x704 .bf16) (w1 : Vec Ideal S1x1x1024x704 .bf16)
    (db : Vec Ideal S512x704 .bf16) (w3 : Vec Ideal S1x1x1024x704 .bf16) (U A B W1 W3 : ℕ → ℕ → ℝ)
    (hU : ∀ (p : Fin 512) (q : Fin 1024), du (ix2 p q) = ((U p q : ℝ) : EReal))
    (hA : ∀ (p : Fin 512) (q : Fin 704), da (ix2 p q) = ((A p q : ℝ) : EReal))
    (h1 : ∀ (p : Fin 1024) (q : Fin 704), w1 (ix4 0 0 p q) = ((W1 p q : ℝ) : EReal))
    (hB : ∀ (p : Fin 512) (q : Fin 704), db (ix2 p q) = ((B p q : ℝ) : EReal))
    (h3 : ∀ (p : Fin 1024) (q : Fin 704), w3 (ix4 0 0 p q) = ((W3 p q : ℝ) : EReal)) (p : Fin 512) (q : Fin 1024) :
    duAdd du da w1 db w3 (ix2 p q)
      = ((U p q + ∑ k ∈ Finset.range 704, (A p k * W1 q k + B p k * W3 q k) : ℝ) : EReal) := by
  unfold duAdd
  pointwise [k0_pay25]
  simp only [hU, hA, h1, hB, h3, ← EReal.coe_mul, ← coe_sum, ← EReal.coe_add, Finset.sum_range, Finset.sum_add_distrib]

/-- The gradient of the gate's argument. -/
theorem daOf_real (dyh : Vec Ideal S512x1024 .bf16) (w2 : Vec Ideal S1x1x704x1024 .bf16) (a b : Vec Ideal S1x512x704 .bf16)
    (Y W A B : ℕ → ℕ → ℝ) (hY : ∀ (p : Fin 512) (q : Fin 1024), dyh (ix2 p q) = ((Y p q : ℝ) : EReal))
    (hW : ∀ (p : Fin 704) (q : Fin 1024), w2 (ix4 0 0 p q) = ((W p q : ℝ) : EReal))
    (hA : ∀ (p : Fin 512) (q : Fin 704), a (ix3 0 p q) = ((A p q : ℝ) : EReal))
    (hB : ∀ (p : Fin 512) (q : Fin 704), b (ix3 0 p q) = ((B p q : ℝ) : EReal)) (p : Fin 512) (q : Fin 704) :
    daOf dyh w2 a b (ix2 p q)
      = (((∑ k ∈ Finset.range 1024, Y p k * W q k) * B p q * (logi (A p q) * (1 + A p q * (1 - logi (A p q)))) : ℝ) : EReal) := by
  unfold daOf
  pointwise [k0_pay4, k0_pay26, k0_pay27, k0_pay28, k0_pay29, k0_pay1]
  simp only [hY, hW, hA, hB, sig_coe]
  simp only [← EReal.coe_one, ← EReal.coe_sub, ← EReal.coe_mul, ← coe_sum, ← EReal.coe_add, Finset.sum_range]

/-- The gradient of the gated factor. -/
theorem dbOf_real (dyh : Vec Ideal S512x1024 .bf16) (w2 : Vec Ideal S1x1x704x1024 .bf16) (a : Vec Ideal S1x512x704 .bf16)
    (Y W A : ℕ → ℕ → ℝ) (hY : ∀ (p : Fin 512) (q : Fin 1024), dyh (ix2 p q) = ((Y p q : ℝ) : EReal))
    (hW : ∀ (p : Fin 704) (q : Fin 1024), w2 (ix4 0 0 p q) = ((W p q : ℝ) : EReal))
    (hA : ∀ (p : Fin 512) (q : Fin 704), a (ix3 0 p q) = ((A p q : ℝ) : EReal)) (p : Fin 512) (q : Fin 704) :
    dbOf dyh w2 a (ix2 p q) = (((∑ k ∈ Finset.range 1024, Y p k * W q k) * (A p q * logi (A p q)) : ℝ) : EReal) := by
  unfold dbOf
  pointwise [k0_pay5, k0_pay26, k0_pay27, k0_pay29, k0_pay1, k0_pay2]
  simp only [hY, hW, hA, sig_coe, ← EReal.coe_mul, ← coe_sum, Finset.sum_range]

/-- The forward product. -/
theorem sOf_real (a b : Vec Ideal S1x512x704 .bf16) (A B : ℕ → ℕ → ℝ)
    (hA : ∀ (p : Fin 512) (q : Fin 704), a (ix3 0 p q) = ((A p q : ℝ) : EReal))
    (hB : ∀ (p : Fin 512) (q : Fin 704), b (ix3 0 p q) = ((B p q : ℝ) : EReal)) (p : Fin 512) (q : Fin 704) :
    sOf a b (ix3 0 p q) = ((A p q * logi (A p q) * B p q : ℝ) : EReal) := by
  unfold sOf
  pointwise [k0_pay17, k0_pay16, k0_pay15, k0_pay14, k0_pay13, k0_pay12]
  simp only [hA, hB, sig_coe, ← EReal.coe_mul]

/-- A block of columns as the output's block. -/
theorem outOf_apply (d : Vec Ideal S512x704 .bf16) (p : Fin 512) (q : Fin 704) : outOf d (ix3 0 p q) = d (ix2 p q) := by
  unfold outOf
  pointwise [k0_pay38]

theorem duZero_real (p : Fin 512) (q : Fin 1024) : (duZero : Vec Ideal S512x1024 .f32) (ix2 p q) = ((0 : ℝ) : EReal) := by
  unfold duZero
  pointwise [k0_pay36]
  rfl

theorem dgZero_real (q : Fin 1024) : (dgZero : Vec Ideal S1x1024 .f32) (ix2 0 q) = ((0 : ℝ) : EReal) := by
  unfold dgZero
  pointwise [k0_pay37]
  rfl

section
variable (h : Vec Ideal S512x1024 .f32) (H : ℕ → ℕ → ℝ) (hH : ∀ (p : Fin 512) (q : Fin 1024), h (ix2 p q) = ((H p q : ℝ) : EReal))
include hH

/-- The gain's gradient with one tile of rows added. -/
theorem dgAdd_real (du : Vec Ideal S512x1024 .f32) (dg : Vec Ideal S1x1024 .f32) (U : ℕ → ℕ → ℝ) (G : ℕ → ℝ)
    (hU : ∀ (p : Fin 512) (q : Fin 1024), du (ix2 p q) = ((U p q : ℝ) : EReal))
    (hG : ∀ q : Fin 1024, dg (ix2 0 q) = ((G q : ℝ) : EReal)) (q : Fin 1024) :
    dgAdd h du dg (ix2 0 q) = ((G q + ∑ p ∈ Finset.range 512, U p q *
      (H p q * (Real.sqrt ((∑ k ∈ Finset.range 1024, H p k * H p k) / 1024 + eps))⁻¹) : ℝ) : EReal) := by
  unfold dgAdd
  pointwise [k0_pay10, k0_pay32, k0_pay31]
  simp only [hH, hU, hG, lit_eps, ← EReal.coe_mul, ← coe_sum, div_width, ← EReal.coe_add, rsqrt_mean, Finset.sum_range]

/-- The normalised rows, scaled by the gain. -/
theorem uOf_real (g : Vec Ideal S1x1024 .f32) (G : ℕ → ℝ) (hG : ∀ q : Fin 1024, g (ix2 0 q) = ((G q : ℝ) : EReal))
    (p : Fin 512) (q : Fin 1024) :
    uOf h g (ix2 p q) = ((H p q * (Real.sqrt ((∑ k ∈ Finset.range 1024, H p k * H p k) / 1024 + eps))⁻¹ * G q : ℝ) : EReal) := by
  unfold uOf
  pointwise [k0_pay34, k0_pay33, k0_pay32, k0_pay31]
  simp only [hH, hG, lit_eps, ← EReal.coe_mul, ← coe_sum, div_width, ← EReal.coe_add, rsqrt_mean, Finset.sum_range]

/-- The gradient of the rows. -/
theorem dhOf_real (g : Vec Ideal S1x1024 .f32) (du dy : Vec Ideal S512x1024 .f32) (U Y : ℕ → ℕ → ℝ) (G : ℕ → ℝ)
    (hG : ∀ q : Fin 1024, g (ix2 0 q) = ((G q : ℝ) : EReal))
    (hU : ∀ (p : Fin 512) (q : Fin 1024), du (ix2 p q) = ((U p q : ℝ) : EReal))
    (hY : ∀ (p : Fin 512) (q : Fin 1024), dy (ix2 p q) = ((Y p q : ℝ) : EReal)) (p : Fin 512) (q : Fin 1024) :
    dhOf h g du dy (ix2 p q) = ((Y p q + (Real.sqrt ((∑ k ∈ Finset.range 1024, H p k * H p k) / 1024 + eps))⁻¹ *
      (U p q * G q - H p q * (Real.sqrt ((∑ k ∈ Finset.range 1024, H p k * H p k) / 1024 + eps))⁻¹ *
        ((∑ k ∈ Finset.range 1024, U p k * G k *
          (H p k * (Real.sqrt ((∑ k ∈ Finset.range 1024, H p k * H p k) / 1024 + eps))⁻¹)) / 1024)) : ℝ) : EReal) := by
  unfold dhOf
  pointwise [k0_pay11, k0_pay31, k0_pay32, k0_pay33]
  simp only [hH, hU, hG, hY, lit_eps, ← EReal.coe_mul, ← coe_sum, div_width, ← EReal.coe_add, rsqrt_mean, ← EReal.coe_sub, Finset.sum_range]

end

end Cert.KernelIdeal.Bwd

end
-- ==== Proof.Val.Kept.lean ====
/-
  What is kept between grid points, of real arguments: the sums over the column blocks done so far.
-/
module

public import proofs.«01_k».proof.Proof.Val.Blocks
public import proofs.«01_k».proof.Proof.Val.Pay

@[expose] public section

set_option maxRecDepth 16384

noncomputable section

namespace Cert.KernelIdeal.Bwd

open Cert.KernelIdeal Cert.KernelIdeal.Gen Cert.Val
open Idealize.ShloMosaic Idealize.ShloMosaic.TcCoe
open scoped BigOperators

/-- What is kept after step `k` of tile `i`: the tile's half gradient; the sum over `k` column blocks; the products of block
    `k`, of the last block when `k = 4`; the gain's gradient over `r` rows. -/
structure Holds (x : Arg) (i k r : ℕ) (v : Kept Ideal) : Prop where
  dyh : ∀ (p : Fin 512) (q : Fin 1024), v.dyh (ix2 p q) = ((1 / 2 * x.dy (512 * i + p) q : ℝ) : EReal)
  du : ∀ (p : Fin 512) (q : Fin 1024),
    v.du (ix2 p q) = ((∑ j ∈ Finset.range (704 * k), x.duTerm (512 * i + p) q j : ℝ) : EReal)
  da : ∀ (p : Fin 512) (q : Fin 704), v.da (ix2 p q) = ((x.da (512 * i + p) (704 * min k 3 + q) : ℝ) : EReal)
  db : ∀ (p : Fin 512) (q : Fin 704), v.db (ix2 p q) = ((x.db (512 * i + p) (704 * min k 3 + q) : ℝ) : EReal)
  s : ∀ (p : Fin 512) (q : Fin 704), v.s (ix3 0 p q) = ((x.s (512 * i + p) (704 * min k 3 + q) : ℝ) : EReal)
  dg : ∀ q : Fin 1024, v.dg (ix2 0 q) = ((∑ n ∈ Finset.range r, x.du n q * x.xh n q : ℝ) : EReal)

section step
variable (x : Arg) (i k r : ℕ)

/-- A tile's first step. -/
theorem first_holds (dy : Vec Ideal S512x1024 .f32) (a b : Vec Ideal S1x512x704 .bf16) (w2 : Vec Ideal S1x1x704x1024 .bf16)
    (dg : Vec Ideal S1x1024 .f32)
    (hy : ∀ (p : Fin 512) (q : Fin 1024), dy (ix2 p q) = ((x.dy (512 * i + p) q : ℝ) : EReal))
    (ha : ∀ (p : Fin 512) (q : Fin 704), a (ix3 0 p q) = ((x.a (512 * i + p) (704 * 0 + q) : ℝ) : EReal))
    (hb : ∀ (p : Fin 512) (q : Fin 704), b (ix3 0 p q) = ((x.b (512 * i + p) (704 * 0 + q) : ℝ) : EReal))
    (h2 : ∀ (p : Fin 704) (q : Fin 1024), w2 (ix4 0 0 p q) = ((x.w2 (704 * 0 + p) q : ℝ) : EReal))
    (hg : ∀ q : Fin 1024, dg (ix2 0 q) = ((∑ n ∈ Finset.range r, x.du n q * x.xh n q : ℝ) : EReal)) :
    Holds x i 0 r (stepFirst dy a b w2 dg) where
  dyh := dyHalf_real dy (fun p q => x.dy (512 * i + p) q) hy
  du := by
    simp only [Nat.mul_zero, Finset.range_zero, Finset.sum_empty]
    exact duZero_real
  da := daOf_real _ _ _ _ (fun p q => 1 / 2 * x.dy (512 * i + p) q) (fun p q => x.w2 (704 * 0 + p) q)
    (fun p q => x.a (512 * i + p) (704 * 0 + q)) (fun p q => x.b (512 * i + p) (704 * 0 + q))
    (dyHalf_real dy (fun p q => x.dy (512 * i + p) q) hy) h2 ha hb
  db := dbOf_real _ _ _ (fun p q => 1 / 2 * x.dy (512 * i + p) q) (fun p q => x.w2 (704 * 0 + p) q)
    (fun p q => x.a (512 * i + p) (704 * 0 + q)) (dyHalf_real dy (fun p q => x.dy (512 * i + p) q) hy) h2 ha
  s := sOf_real _ _ (fun p q => x.a (512 * i + p) (704 * 0 + q)) (fun p q => x.b (512 * i + p) (704 * 0 + q)) ha hb
  dg := hg

variable (w1 w3 : Vec Ideal S1x1x1024x704 .bf16) (s : Kept Ideal) (hs : Holds x i k r s) (hk : k < 4)
variable (h1 : ∀ (p : Fin 1024) (q : Fin 704), w1 (ix4 0 0 p q) = ((x.w1 p (704 * k + q) : ℝ) : EReal))
variable (h3 : ∀ (p : Fin 1024) (q : Fin 704), w3 (ix4 0 0 p q) = ((x.w3 p (704 * k + q) : ℝ) : EReal))
include hs hk h1 h3

/-- The sum with one more column block. -/
theorem du_step (p : Fin 512) (q : Fin 1024) :
    duAdd s.du s.da w1 s.db w3 (ix2 p q) = ((∑ j ∈ Finset.range (704 * (k + 1)), x.duTerm (512 * i + p) q j : ℝ) : EReal) := by
  have e : min k 3 = k := by omega
  have hda := hs.da
  have hdb := hs.db
  rw [e] at hda hdb
  rw [duAdd_real s.du s.da w1 s.db w3 (fun p q => ∑ j ∈ Finset.range (704 * k), x.duTerm (512 * i + p) q j)
    (fun p q => x.da (512 * i + p) (704 * k + q)) (fun p q => x.db (512 * i + p) (704 * k + q))
    (fun p q => x.w1 p (704 * k + q)) (fun p q => x.w3 p (704 * k + q)) hs.du hda h1 hdb h3 p q]
  rw [Nat.mul_succ, Finset.sum_range_add]
  rfl

/-- A tile's middle steps. -/
theorem mid_holds (a b : Vec Ideal S1x512x704 .bf16) (w2 : Vec Ideal S1x1x704x1024 .bf16) (hk3 : k + 1 < 4)
    (ha : ∀ (p : Fin 512) (q : Fin 704), a (ix3 0 p q) = ((x.a (512 * i + p) (704 * (k + 1) + q) : ℝ) : EReal))
    (hb : ∀ (p : Fin 512) (q : Fin 704), b (ix3 0 p q) = ((x.b (512 * i + p) (704 * (k + 1) + q) : ℝ) : EReal))
    (h2 : ∀ (p : Fin 704) (q : Fin 1024), w2 (ix4 0 0 p q) = ((x.w2 (704 * (k + 1) + p) q : ℝ) : EReal)) :
    Holds x i (k + 1) r (stepMid w1 w3 a b w2 s) := by
  have e : min (k + 1) 3 = k + 1 := by omega
  refine ⟨hs.dyh, du_step x i k r w1 w3 s hs hk h1 h3, ?_, ?_, ?_, hs.dg⟩ <;> rw [e]
  · exact daOf_real _ _ _ _ (fun p q => 1 / 2 * x.dy (512 * i + p) q) (fun p q => x.w2 (704 * (k + 1) + p) q)
      (fun p q => x.a (512 * i + p) (704 * (k + 1) + q)) (fun p q => x.b (512 * i + p) (704 * (k + 1) + q)) hs.dyh h2 ha hb
  · exact dbOf_real _ _ _ (fun p q => 1 / 2 * x.dy (512 * i + p) q) (fun p q => x.w2 (704 * (k + 1) + p) q)
      (fun p q => x.a (512 * i + p) (704 * (k + 1) + q)) hs.dyh h2 ha
  · exact sOf_real _ _ (fun p q => x.a (512 * i + p) (704 * (k + 1) + q)) (fun p q => x.b (512 * i + p) (704 * (k + 1) + q)) ha hb

/-- A tile's last step. -/
theorem last_holds (h : Vec Ideal S512x1024 .f32) (hk3 : k = 3) (hr : r = 512 * i)
    (hh : ∀ (p : Fin 512) (q : Fin 1024), h (ix2 p q) = ((x.h (512 * i + p) q : ℝ) : EReal)) :
    Holds x i 4 (512 * (i + 1)) (stepLast h w1 w3 s) := by
  subst hk3 hr
  have hd := du_step x i 3 (512 * i) w1 w3 s hs hk h1 h3
  refine ⟨hs.dyh, hd, hs.da, hs.db, hs.s, fun q => ?_⟩
  refine (dgAdd_real h (fun p q => x.h (512 * i + p) q) hh _ _ (fun p q => x.du (512 * i + p) q)
    (fun q => ∑ n ∈ Finset.range (512 * i), x.du n q * x.xh n q) hd hs.dg q).trans ?_
  rw [Nat.mul_succ, Finset.sum_range_add]
  rfl

end step

section run
variable (m : (ℓ : Loc nD τ sig) → Buf (Elt Ideal) ℓ) (c : Dev nD) (x : Arg) (hx : Real m c x)
include hx

/-- What is kept after point `n`. -/
theorem st_holds : ∀ (n : ℕ) (h : n < cfg0.N), Holds x (n / 5) (n % 5) (512 * ((n + 1) / 5)) (st m c n h) := by
  intro n
  induction n with
  | zero =>
    intro h
    have d : (⟨0, h⟩ : Fin cfg0.N).val / 5 = 0 := Nat.zero_div 5
    have e : (⟨0, h⟩ : Fin cfg0.N).val % 5 = 0 := Nat.zero_mod 5
    exact first_holds x 0 0 _ _ _ _ _ (blk1 m c x hx ⟨0, h⟩ 0 d) (blk3 m c x hx ⟨0, h⟩ 0 0 d e (by omega))
      (blk4 m c x hx ⟨0, h⟩ 0 0 d e (by omega)) (blk7 m c x hx ⟨0, h⟩ 0 e (by omega)) dgZero_real
  | succ n ih =>
    intro h
    have hp := ih (Nat.lt_of_succ_lt h)
    by_cases h0 : (n + 1) % 5 = 0
    · rw [st_first m c ⟨n + 1, h⟩ h0 (Nat.succ_ne_zero n), h0]
      have e : (n + 1 + 1) / 5 = (n + 1) / 5 := by omega
      rw [e]
      exact first_holds x _ _ _ _ _ _ _ (blk1 m c x hx ⟨n + 1, h⟩ _ rfl) (blk3 m c x hx ⟨n + 1, h⟩ _ 0 rfl h0 (by omega))
        (blk4 m c x hx ⟨n + 1, h⟩ _ 0 rfl h0 (by omega)) (blk7 m c x hx ⟨n + 1, h⟩ 0 h0 (by omega)) hp.dg
    · have e1 : n / 5 = (n + 1) / 5 := by omega
      by_cases h4 : (n + 1) % 5 = 4
      · rw [st_last m c ⟨n + 1, h⟩ h4, h4]
        have e2 : n % 5 = 3 := by omega
        have e3 : (n + 1 + 1) / 5 = (n + 1) / 5 + 1 := by omega
        rw [e1, e2] at hp
        rw [e3]
        exact last_holds x _ 3 _ _ _ _ hp (by omega) (blk5 m c x hx ⟨n + 1, h⟩ 3 h4) (blk6 m c x hx ⟨n + 1, h⟩ 3 h4) _ rfl rfl
          (blk0 m c x hx ⟨n + 1, h⟩ _ rfl)
      · rw [st_mid m c ⟨n + 1, h⟩ h0 h4]
        obtain ⟨k, hk⟩ : ∃ k, (n + 1) % 5 = k + 1 := ⟨(n + 1) % 5 - 1, by omega⟩
        have e2 : n % 5 = k := by omega
        have e3 : (n + 1 + 1) / 5 = (n + 1) / 5 := by omega
        rw [e1, e2] at hp
        rw [e3, hk]
        exact mid_holds x _ k _ _ _ _ hp (by omega) (blk5 m c x hx ⟨n + 1, h⟩ k hk) (blk6 m c x hx ⟨n + 1, h⟩ k hk) _ _ _ (by omega)
          (blk3 m c x hx ⟨n + 1, h⟩ _ _ rfl hk (by omega)) (blk4 m c x hx ⟨n + 1, h⟩ _ _ rfl hk (by omega))
          (blk7 m c x hx ⟨n + 1, h⟩ _ hk (by omega))

end run

end Cert.KernelIdeal.Bwd

end
-- ==== Proof.Val.Tables.lean ====
/-
  Arrays of real entries.
-/
module

public import proofs.«01_k».proof.Proof.Val.Spec
public import Idealize.ShloMosaic.Lib.Pipeline.ValueKit

@[expose] public section

noncomputable section

namespace Cert.Val

open Idealize.ShloMosaic

/-- A matrix of real entries. -/
def mat {a b : ℕ} (e : FTy) (f : ℕ → ℕ → ℝ) : FVec Ideal (⟨2, ![a, b]⟩ : Shape) e := fun i => ((f (i 0) (i 1) : ℝ) : EReal)

/-- A row of real entries. -/
def row {a : ℕ} (e : FTy) (f : ℕ → ℝ) : FVec Ideal (⟨1, ![a]⟩ : Shape) e := fun i => ((f (i 0) : ℝ) : EReal)

/-- An array is the matrix of the reals it has at every index. -/
theorem mat_ext {a b : ℕ} (e : FTy) (f : ℕ → ℕ → ℝ) {v : FVec Ideal (⟨2, ![a, b]⟩ : Shape) e}
    (h : ∀ (p : Fin a) (q : Fin b), v (ix2 p q) = ((f p q : ℝ) : EReal)) : v = mat e f := by
  funext j
  obtain ⟨p, q, rfl⟩ : ∃ (p : Fin a) (q : Fin b), j = ix2 p q := ⟨j 0, j 1, eq_ix2 j⟩
  exact h p q

/-- An array is the row of the reals it has at every index. -/
theorem row_ext {a : ℕ} (e : FTy) (f : ℕ → ℝ) {v : FVec Ideal (⟨1, ![a]⟩ : Shape) e}
    (h : ∀ q : Fin a, v (ix1 q) = ((f q : ℝ) : EReal)) : v = row e f := by
  funext j
  obtain ⟨q, rfl⟩ : ∃ q : Fin a, j = ix1 q := ⟨j 0, (ix1_eta j).symm⟩
  exact h q

end Cert.Val

end
-- ==== Proof.Val.Out.lean ====
/-
  The arrays the kernel leaves, of real arguments, and what the host operations after it make of them.
-/
module

public import proofs.«01_k».proof.Proof.Val.Kept
public import proofs.«01_k».proof.Proof.Val.Tables

@[expose] public section

set_option maxRecDepth 16384

noncomputable section

namespace Cert.KernelIdeal.Bwd

open Cert.KernelIdeal Cert.KernelIdeal.Gen Cert.Val
open Idealize.ShloMosaic Idealize.ShloMosaic.TcCoe Idealize.SL.Sem
open scoped BigOperators

/-- A matrix of 2816 columns, in four column blocks. -/
def mat4 {a : ℕ} (e : FTy) (f : ℕ → ℕ → ℝ) : FVec Ideal (⟨3, ![4, a, 704]⟩ : Shape) e :=
  fun i => ((f (i 1) (704 * (i 0).val + i 2) : ℝ) : EReal)

/-- An index of one block. -/
theorem eq_ix3_one {a b : ℕ} (y : Shape.Idx (⟨3, ![1, a, b]⟩ : Shape)) : y = ix3 0 (y 1) (y 2) := by
  funext d
  fin_cases d
  · exact Subsingleton.elim (α := Fin 1) _ _
  · rfl
  · rfl

/-- An index of one row. -/
theorem eq_ix2_one {a : ℕ} (y : Shape.Idx (⟨2, ![1, a]⟩ : Shape)) : y = ix2 0 (y 1) := by
  funext d
  fin_cases d
  · exact Subsingleton.elim (α := Fin 1) _ _
  · rfl

section run
variable (m : (ℓ : Loc nD τ sig) → Buf (Elt Ideal) ℓ) (c : Dev nD) (x : Arg) (hx : Real m c x)
include hx

/-- The rows' gradient. -/
theorem out8 : (dats m 0 c).arrAt 8 cfg0.N = (mat .f32 x.dh : Vec Ideal S8192x1024 .f32) := by
  refine (dats m 0 c).arrAt_eq_of_covers 8 (mat .f32 x.dh : Vec Ideal S8192x1024 .f32) (by decide +kernel) fun t hf y => ?_
  have ht := t_lt t
  have h4 : t.val % 5 = 4 := by rw [flush8] at hf; exact of_decide_eq_true hf
  obtain ⟨p, q, rfl⟩ : ∃ (p : Fin 512) (q : Fin 1024), y = ix2 p q := ⟨y 0, y 1, eq_ix2 y⟩
  have hd := (st_holds m c x hx t.val t.isLt).du
  rw [h4] at hd
  blk_simp
  rw [after0_8]
  refine (dhOf_real _ (fun p q => x.h (512 * (t.val / 5) + p) q) (blk0 m c x hx t _ rfl) _ _ _
    (fun p q => x.du (512 * (t.val / 5) + p) q) (fun p q => x.dy (512 * (t.val / 5) + p) q) x.g (blk2 m c x hx t) hd
    (blk1 m c x hx t _ rfl) p q).trans ?_
  have e : (win0_8.blk t).view.emb (ix2 p q) = ix2 ⟨512 * (t.val / 5) + p, by omega⟩ q := by blk_ext [ix8']
  exact (congrArg (mat .f32 x.dh : Vec Ideal S8192x1024 .f32) e).symm

/-- The normalised rows. -/
theorem out9 : (dats m 0 c).arrAt 9 cfg0.N = (mat .bf16 x.u : Vec Ideal S8192x1024 .bf16) := by
  refine (dats m 0 c).arrAt_eq_of_covers 9 (mat .bf16 x.u : Vec Ideal S8192x1024 .bf16) (by decide +kernel) fun t hf y => ?_
  have ht := t_lt t
  obtain ⟨p, q, rfl⟩ : ∃ (p : Fin 512) (q : Fin 1024), y = ix2 p q := ⟨y 0, y 1, eq_ix2 y⟩
  blk_simp
  rw [after0_9]
  refine (uOf_real _ (fun p q => x.h (512 * (t.val / 5) + p) q) (blk0 m c x hx t _ rfl) _ x.g (blk2 m c x hx t) p q).trans ?_
  have e : (win0_9.blk t).view.emb (ix2 p q) = ix2 ⟨512 * (t.val / 5) + p, by omega⟩ q := by blk_ext [ix9']
  exact (congrArg (mat .bf16 x.u : Vec Ideal S8192x1024 .bf16) e).symm

/-- The gradient at the gate's argument, in column blocks. -/
theorem out10 : (dats m 0 c).arrAt 10 cfg0.N = (mat4 .bf16 x.da : Vec Ideal S4x8192x704 .bf16) := by
  refine (dats m 0 c).arrAt_eq_of_covers 10 (mat4 .bf16 x.da : Vec Ideal S4x8192x704 .bf16) (by decide +kernel) fun t hf y => ?_
  have ht := t_lt t
  obtain ⟨p, q, rfl⟩ : ∃ (p : Fin 512) (q : Fin 704), y = ix3 0 p q := ⟨y 1, y 2, eq_ix3_one y⟩
  blk_simp
  rw [after0_10, outOf_apply]
  refine ((st_holds m c x hx t.val t.isLt).da p q).trans ?_
  have e : (win0_10.blk t).view.emb (ix3 0 p q) = ix3 ⟨min (t.val % 5) 3, by omega⟩ ⟨512 * (t.val / 5) + p, by omega⟩ q := by
    blk_ext [ix10']
  exact (congrArg (mat4 .bf16 x.da : Vec Ideal S4x8192x704 .bf16) e).symm

/-- The gradient at the gated branch, in column blocks. -/
theorem out11 : (dats m 0 c).arrAt 11 cfg0.N = (mat4 .bf16 x.db : Vec Ideal S4x8192x704 .bf16) := by
  refine (dats m 0 c).arrAt_eq_of_covers 11 (mat4 .bf16 x.db : Vec Ideal S4x8192x704 .bf16) (by decide +kernel) fun t hf y => ?_
  have ht := t_lt t
  obtain ⟨p, q, rfl⟩ : ∃ (p : Fin 512) (q : Fin 704), y = ix3 0 p q := ⟨y 1, y 2, eq_ix3_one y⟩
  blk_simp
  rw [after0_11, outOf_apply]
  refine ((st_holds m c x hx t.val t.isLt).db p q).trans ?_
  have e : (win0_11.blk t).view.emb (ix3 0 p q) = ix3 ⟨min (t.val % 5) 3, by omega⟩ ⟨512 * (t.val / 5) + p, by omega⟩ q := by
    blk_ext [ix11']
  exact (congrArg (mat4 .bf16 x.db : Vec Ideal S4x8192x704 .bf16) e).symm

/-- The gated activation, in column blocks. -/
theorem out12 : (dats m 0 c).arrAt 12 cfg0.N = (mat4 .bf16 x.s : Vec Ideal S4x8192x704 .bf16) := by
  refine (dats m 0 c).arrAt_eq_of_covers 12 (mat4 .bf16 x.s : Vec Ideal S4x8192x704 .bf16) (by decide +kernel) fun t hf y => ?_
  have ht := t_lt t
  obtain ⟨p, q, rfl⟩ : ∃ (p : Fin 512) (q : Fin 704), y = ix3 0 p q := ⟨y 1, y 2, eq_ix3_one y⟩
  blk_simp
  rw [after0_12]
  refine ((st_holds m c x hx t.val t.isLt).s p q).trans ?_
  have e : (win0_12.blk t).view.emb (ix3 0 p q) = ix3 ⟨min (t.val % 5) 3, by omega⟩ ⟨512 * (t.val / 5) + p, by omega⟩ q := by
    blk_ext [ix12']
  exact (congrArg (mat4 .bf16 x.s : Vec Ideal S4x8192x704 .bf16) e).symm

/-- The gain's gradient, in one row. -/
theorem out13 : (dats m 0 c).arrAt 13 cfg0.N = (fun i => ((x.dg (i 1) : ℝ) : EReal) : Vec Ideal S1x1024 .f32) := by
  refine (dats m 0 c).arrAt_eq_of_after_last 13 ⟨79, by decide +kernel⟩ (by decide +kernel)
    (fun i => ((x.dg (i 1) : ℝ) : EReal) : Vec Ideal S1x1024 .f32) (fun j => ?_)
  obtain ⟨q, rfl⟩ : ∃ q : Fin 1024, j = ix2 0 q := ⟨j 1, eq_ix2_one j⟩
  rw [after0_13]
  exact (st_holds m c x hx 79 (by decide +kernel)).dg q

end run

end Cert.KernelIdeal.Bwd

end
-- ==== Proof.Val.KRun.lean ====
/-
  What the kernel's run leaves in its six results, of real arguments.
-/
module

public import proofs.«01_k».proof.Proof.Val.Out
public import Idealize.ShloMosaic.Lib.Claim

@[expose] public section

set_option maxRecDepth 16384

noncomputable section

namespace Cert.KernelIdeal.Bwd

open Cert.KernelIdeal Cert.KernelIdeal.Gen Cert.Val
open Idealize.ShloMosaic Idealize.ShloMosaic.TcCoe Idealize.SL.Sem
open scoped BigOperators

/-- Column blocks joined. -/
theorem join_apply (f : ℕ → ℕ → ℝ) (p : Fin 8192) (q : Fin 2816) :
    (shapeCast S8192x2816 (transpose S8192x4x704 [1, 0, 2] (mat4 .bf16 f : Vec Ideal S4x8192x704 .bf16)
      transposes_S4x8192x704_S8192x4x704_1_0_2) shapeCasts_S8192x4x704_S8192x2816 : Vec Ideal S8192x2816 .bf16) (ix2 p q)
      = ((f p q : ℝ) : EReal) := by
  pointwise
  unfold mat4
  show ((f p (704 * (q.val / 704) + q.val % 704) : ℝ) : EReal) = _
  rw [Nat.div_add_mod]

section run
variable (m : (ℓ : Loc nD τ sig) → Buf (Elt Ideal) ℓ) (c : Dev nD)

/-- The run's result at the gain's gradient. -/
theorem w_34 : Pipeline.afterTail₀ cfgs (dats m) 0 (V0 m) [hostOps1] c main_v34
    = shapeCast S1024 ((dats m 0 c).arrAt 13 cfg0.N : Vec Ideal S1x1024 .f32) shapeCasts_S1x1024_S1024 := by
  unfold Pipeline.afterTail₀ hostOps1
  simp only [List.flatten_cons, List.flatten_nil, List.append_nil]
  after_results_simp
  erw [Pipeline.withArrays_arr _ launch0.win.arr_inj c _ _ 13]
  rfl

/-- The run's result at the gate's argument's gradient. -/
theorem w_36 : Pipeline.afterTail₀ cfgs (dats m) 0 (V0 m) [hostOps1] c main_v36
    = shapeCast S8192x2816 (transpose S8192x4x704 [1, 0, 2] ((dats m 0 c).arrAt 10 cfg0.N : Vec Ideal S4x8192x704 .bf16)
      transposes_S4x8192x704_S8192x4x704_1_0_2) shapeCasts_S8192x4x704_S8192x2816 := by
  unfold Pipeline.afterTail₀ hostOps1
  simp only [List.flatten_cons, List.flatten_nil, List.append_nil]
  after_results_simp
  erw [Pipeline.withArrays_arr _ launch0.win.arr_inj c _ _ 10]
  rfl

/-- The run's result at the gated branch's gradient. -/
theorem w_38 : Pipeline.afterTail₀ cfgs (dats m) 0 (V0 m) [hostOps1] c main_v38
    = shapeCast S8192x2816 (transpose S8192x4x704 [1, 0, 2] ((dats m 0 c).arrAt 11 cfg0.N : Vec Ideal S4x8192x704 .bf16)
      transposes_S4x8192x704_S8192x4x704_1_0_2) shapeCasts_S8192x4x704_S8192x2816 := by
  unfold Pipeline.afterTail₀ hostOps1
  simp only [List.flatten_cons, List.flatten_nil, List.append_nil]
  after_results_simp
  erw [Pipeline.withArrays_arr _ launch0.win.arr_inj c _ _ 11]
  rfl

/-- The run's result at the gated activation. -/
theorem w_40 : Pipeline.afterTail₀ cfgs (dats m) 0 (V0 m) [hostOps1] c main_v40
    = shapeCast S8192x2816 (transpose S8192x4x704 [1, 0, 2] ((dats m 0 c).arrAt 12 cfg0.N : Vec Ideal S4x8192x704 .bf16)
      transposes_S4x8192x704_S8192x4x704_1_0_2) shapeCasts_S8192x4x704_S8192x2816 := by
  unfold Pipeline.afterTail₀ hostOps1
  simp only [List.flatten_cons, List.flatten_nil, List.append_nil]
  after_results_simp
  erw [Pipeline.withArrays_arr _ launch0.win.arr_inj c _ _ 12]
  rfl

end run

/-- One row, without its leading dimension. -/
theorem row_eq (f : ℕ → ℝ) : shapeCast S1024 (fun i => ((f (i 1) : ℝ) : EReal) : Vec Ideal S1x1024 .f32) shapeCasts_S1x1024_S1024
    = (row .f32 f : Vec Ideal S1024 .f32) := by
  funext j
  obtain ⟨q, rfl⟩ : ∃ q : Fin 1024, j = ix1 q := ⟨j 0, (ix1_eta j).symm⟩
  pointwise
  rfl

/-- Column blocks joined make the matrix. -/
theorem join_eq (f : ℕ → ℕ → ℝ) :
    (shapeCast S8192x2816 (transpose S8192x4x704 [1, 0, 2] (mat4 .bf16 f : Vec Ideal S4x8192x704 .bf16)
      transposes_S4x8192x704_S8192x4x704_1_0_2) shapeCasts_S8192x4x704_S8192x2816 : Vec Ideal S8192x2816 .bf16)
      = (mat .bf16 f : Vec Ideal S8192x2816 .bf16) :=
  mat_ext .bf16 f (join_apply f)

section at_real
variable (m : (ℓ : Loc nD τ sig) → Buf (Elt Ideal) ℓ) (c : Dev nD) (x : Arg) (hx : Real m c x)
include hx

theorem w_34_real : Pipeline.afterTail₀ cfgs (dats m) 0 (V0 m) [hostOps1] c main_v34 = (row .f32 x.dg : Vec Ideal S1024 .f32) := by
  rw [w_34, out13 m c x hx]; exact row_eq x.dg

theorem w_36_real : Pipeline.afterTail₀ cfgs (dats m) 0 (V0 m) [hostOps1] c main_v36 = (mat .bf16 x.da : Vec Ideal S8192x2816 .bf16) := by
  rw [w_36, out10 m c x hx]; exact join_eq x.da

theorem w_38_real : Pipeline.afterTail₀ cfgs (dats m) 0 (V0 m) [hostOps1] c main_v38 = (mat .bf16 x.db : Vec Ideal S8192x2816 .bf16) := by
  rw [w_38, out11 m c x hx]; exact join_eq x.db

theorem w_40_real : Pipeline.afterTail₀ cfgs (dats m) 0 (V0 m) [hostOps1] c main_v40 = (mat .bf16 x.s : Vec Ideal S8192x2816 .bf16) := by
  rw [w_40, out12 m c x hx]; exact join_eq x.s

end at_real

/-- The kernel's run, of real arguments: its six results are the six gradients and saved values, and the arguments end
    unchanged. -/
theorem run_value (m : (ℓ : Loc nD τ sig) → Buf (Elt Ideal) ℓ) (ρ : Dev nD → PrngReg) (x : Dev nD → Arg)
    (hx : ∀ c, Real m c (x c)) :
    θ_run defs (onTc (τ := τ) (main (F := Ideal))) ⟨m, fun _ => 0, ρ⟩ (fun r => ∀ c : Dev nD,
      r.2.mem ((c.tc : Thread nD τ).loc main_v33_0) = (mat .f32 (x c).dh : Vec Ideal S8192x1024 .f32)
      ∧ r.2.mem ((c.tc : Thread nD τ).loc main_v34) = (row .f32 (x c).dg : Vec Ideal S1024 .f32)
      ∧ r.2.mem ((c.tc : Thread nD τ).loc main_v33_1) = (mat .bf16 (x c).u : Vec Ideal S8192x1024 .bf16)
      ∧ r.2.mem ((c.tc : Thread nD τ).loc main_v36) = (mat .bf16 (x c).da : Vec Ideal S8192x2816 .bf16)
      ∧ r.2.mem ((c.tc : Thread nD τ).loc main_v38) = (mat .bf16 (x c).db : Vec Ideal S8192x2816 .bf16)
      ∧ r.2.mem ((c.tc : Thread nD τ).loc main_v40) = (mat .bf16 (x c).s : Vec Ideal S8192x2816 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  exact ⟨(h.1.out_eq c 8).trans (out8 m c (x c) (hx c)), (h.1.rest_eq c main_v34 (by decide)).trans (w_34_real m c (x c) (hx c)),
    (h.1.out_eq c 9).trans (out9 m c (x c) (hx c)), (h.1.rest_eq c main_v36 (by decide)).trans (w_36_real m c (x c) (hx c)),
    (h.1.rest_eq c main_v38 (by decide)).trans (w_38_real m c (x c) (hx c)),
    (h.1.rest_eq c main_v40 (by decide)).trans (w_40_real m c (x c) (hx c)), h.2 c⟩

end Cert.KernelIdeal.Bwd

end
-- ==== Proof.Val.RefValue.lean ====
/-
  The reference: it runs, and each of its results, of real arguments, is the half step's gradient.
-/
module

public import proofs.«01_k».proof.Proof.Val.Arg
public import proofs.«01_k».proof.Proof.Val.RefStages
public import Idealize.ShloMosaic.Lib.Quiescent
public import proofs.«01_k».proof.Defs
public import Idealize.ShloMosaic.Lib.Claim

@[expose] public section

set_option maxRecDepth 16384

noncomputable section

namespace Cert.ReferenceIdeal.Value

open Cert.ReferenceIdeal Cert.ReferenceIdeal.Gen Cert.Val
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev hR : Vec F S8192x1024 .f32 := m ((c.tc : Thread nD τ).loc main_arg0)
abbrev dyR : Vec F S8192x1024 .f32 := m ((c.tc : Thread nD τ).loc main_arg1)
abbrev gR : Vec F S1024 .f32 := m ((c.tc : Thread nD τ).loc main_arg2)
abbrev w1R : Vec F S1024x2816 .f32 := m ((c.tc : Thread nD τ).loc main_arg3)
abbrev w3R : Vec F S1024x2816 .f32 := m ((c.tc : Thread nD τ).loc main_arg4)
abbrev w2R : Vec F S2816x1024 .f32 := m ((c.tc : Thread nD τ).loc main_arg5)

/-- The scaled rows of the arguments. -/
def uR : Vec F S8192x1024 .f32 := gainT (xhT (hR m c)) (gR m c)
/-- The gate's argument. -/
def aR : Vec F S8192x2816 .f32 := upT (uR m c) (w1R m c)
/-- The gated factor. -/
def bR : Vec F S8192x2816 .f32 := upT (uR m c) (w3R m c)
variable (dy : Vec F S8192x1024 .f32)
/-- The gradient of the gate's argument, of an incoming gradient. -/
def daR : Vec F S8192x2816 .f32 := daT (dsT dy (w2R m c)) (aR m c) (bR m c)
/-- The gradient of the gated factor. -/
def dbR : Vec F S8192x2816 .f32 := mulf (siluT (aR m c)) (dsT dy (w2R m c))
/-- The gradient of the scaled rows. -/
def duR : Vec F S8192x1024 .f32 := duT (dbR m c dy) (w3R m c) (daR m c dy) (w1R m c)

/-- The incoming gradient, as the norm's gradient reads it. -/
abbrev dyS : Vec F S8192x1024 .f32 := shapeCast _ (dyR m c) shapeCasts_S8192x1024_S8192x1024

theorem res0_eq : res_out0 m c = dhT (hR m c) (dyR m c) (gainT (duR m c (dyS m c)) (gR m c)) := rfl
theorem res1_eq : res_out1 m c = dgT (xhT (hR m c)) (duR m c (dyS m c)) := rfl
theorem res3_eq : res_out3 m c = truncf .bf16 (daR m c (dyR m c)) bitsLt_bf16_f32 := rfl

end terms

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run defs _ _).mono (fun r h => ⟨fun c => ?_, sem_eq_zero_of_no_sems (by decide) _⟩) (run m ρ)
  obtain ⟨-, -, -, -, -, -, h⟩ := h c
  exact h

section real
variable (m : (ℓ : Loc nD τ sig) → Buf (Elt Ideal) ℓ) (c : Dev nD) (x : Arg)
variable (hx : IsArg x (hR m c) (dyR m c) (gR m c) (w1R m c) (w3R m c) (w2R m c))
include hx

theorem uR_real (p : Fin 8192) (q : Fin 1024) : uR m c (ix2 p q) = ((x.u p q : ℝ) : EReal) :=
  gainT_real _ x.xh (fun p q => xhT_real _ x.h hx.h p q) _ x.g hx.g p q

theorem aR_real (p : Fin 8192) (q : Fin 2816) : aR m c (ix2 p q) = ((x.a p q : ℝ) : EReal) :=
  upT_real _ x.u (uR_real m c x hx) _ x.w1 hx.w1 p q

theorem bR_real (p : Fin 8192) (q : Fin 2816) : bR m c (ix2 p q) = ((x.b p q : ℝ) : EReal) :=
  upT_real _ x.u (uR_real m c x hx) _ x.w3 hx.w3 p q

section dy
variable (dy : Vec Ideal S8192x1024 .f32) (hd : ∀ (p : Fin 8192) (q : Fin 1024), dy (ix2 p q) = ((x.dy p q : ℝ) : EReal))
include hd

theorem dsR_real (p : Fin 8192) (q : Fin 2816) : dsT dy (w2R m c) (ix2 p q) = ((x.ds p q : ℝ) : EReal) :=
  dsT_real _ x.dy hd _ x.w2 hx.w2 p q

theorem daR_real (p : Fin 8192) (q : Fin 2816) : daR m c dy (ix2 p q) = ((x.da p q : ℝ) : EReal) :=
  daT_real _ x.a (aR_real m c x hx) _ _ x.ds x.b (dsR_real m c x hx dy hd) (bR_real m c x hx) p q

theorem dbR_real (p : Fin 8192) (q : Fin 2816) : dbR m c dy (ix2 p q) = ((x.db p q : ℝ) : EReal) := by
  unfold dbR
  pointwise []
  rw [siluT_real _ x.a (aR_real m c x hx), dsR_real m c x hx dy hd, ← EReal.coe_mul, mul_comm]
  rfl

theorem duR_real (p : Fin 8192) (q : Fin 1024) : duR m c dy (ix2 p q) = ((x.du p q : ℝ) : EReal) :=
  duT_real _ x.db (dbR_real m c x hx dy hd) _ _ _ x.da x.w3 x.w1 (daR_real m c x hx dy hd) hx.w3 hx.w1 p q

end dy

theorem dyS_real (p : Fin 8192) (q : Fin 1024) : dyS m c (ix2 p q) = ((x.dy p q : ℝ) : EReal) := by
  rw [← hx.dy p q]
  exact congrFun (shapeCast_self _ _) _

/-- The rows' gradient. -/
theorem res0_real (p : Fin 8192) (q : Fin 1024) : res_out0 m c (ix2 p q) = ((x.dh p q : ℝ) : EReal) := by
  rw [res0_eq]
  exact dhT_real _ x.h hx.h _ _ x.dy (fun p q => x.du p q * x.g q) hx.dy
    (fun p q => gainT_real _ x.du (duR_real m c x hx _ (dyS_real m c x hx)) _ x.g hx.g p q) p q

/-- The gain's gradient. -/
theorem res1_real (q : Fin 1024) : res_out1 m c (ix1 q) = ((x.dg q : ℝ) : EReal) := by
  rw [res1_eq]
  exact dgT_real _ x.xh (fun p q => xhT_real _ x.h hx.h p q) _ x.du (duR_real m c x hx _ (dyS_real m c x hx)) q

/-- The gate's argument's gradient. -/
theorem res3_real (p : Fin 8192) (q : Fin 2816) : res_out3 m c (ix2 p q) = ((x.da p q : ℝ) : EReal) :=
  daR_real m c x hx _ hx.dy p q

/-- The gated product. -/
theorem sR_real (p : Fin 8192) (q : Fin 2816) :
    (mulf (siluT (aR m c)) (bR m c) : Vec Ideal S8192x2816 .f32) (ix2 p q) = ((x.s p q : ℝ) : EReal) := by
  pointwise []
  rw [siluT_real _ x.a (aR_real m c x hx), bR_real m c x hx, ← EReal.coe_mul]
  rfl

end real

end Cert.ReferenceIdeal.Value

end
-- ==== Proof.Val.RefRun.lean ====
/-
  What the reference's run leaves in its six results, of real arguments.
-/
module

public import proofs.«01_k».proof.Proof.Val.RefValue
public import proofs.«01_k».proof.Proof.Val.Tables

@[expose] public section

set_option maxRecDepth 16384

noncomputable section

namespace Cert.ReferenceIdeal.Value

open Cert.ReferenceIdeal Cert.ReferenceIdeal.Gen Cert.Val
open Idealize.ShloMosaic Idealize.ShloMosaic.TcCoe Idealize.SL.Sem
open scoped BigOperators

/-- The reference's run, of real arguments: its six results are the six gradients and saved values, and the arguments end
    unchanged. -/
theorem run_value (m : (ℓ : Loc nD τ sig) → Buf (Elt Ideal) ℓ) (ρ : Dev nD → PrngReg) (x : Dev nD → Arg)
    (hx : ∀ c, IsArg (x c) (hR m c) (dyR m c) (gR m c) (w1R m c) (w3R m c) (w2R m c)) :
    θ_run defs (onTc (τ := τ) (main (F := Ideal))) ⟨m, fun _ => 0, ρ⟩ (fun r => ∀ c : Dev nD,
      r.2.mem ((c.tc : Thread nD τ).loc main_v54) = (mat .f32 (x c).dh : Vec Ideal S8192x1024 .f32)
      ∧ r.2.mem ((c.tc : Thread nD τ).loc main_v39) = (row .f32 (x c).dg : Vec Ideal S1024 .f32)
      ∧ r.2.mem ((c.tc : Thread nD τ).loc main_v81) = (mat .bf16 (x c).u : Vec Ideal S8192x1024 .bf16)
      ∧ r.2.mem ((c.tc : Thread nD τ).loc main_v82) = (mat .bf16 (x c).da : Vec Ideal S8192x2816 .bf16)
      ∧ r.2.mem ((c.tc : Thread nD τ).loc main_v83) = (mat .bf16 (x c).db : Vec Ideal S8192x2816 .bf16)
      ∧ r.2.mem ((c.tc : Thread nD τ).loc main_v84) = (mat .bf16 (x c).s : Vec Ideal S8192x2816 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run m ρ)
  obtain ⟨h0, h1, h2, h3, h4, h5, hrest⟩ := h c
  refine ⟨h0.trans (mat_ext .f32 _ fun p q => ?_), h1.trans (row_ext .f32 _ fun q => ?_), h2.trans (mat_ext .bf16 _ fun p q => ?_),
    h3.trans (mat_ext .bf16 _ fun p q => ?_), h4.trans (mat_ext .bf16 _ fun p q => ?_), h5.trans (mat_ext .bf16 _ fun p q => ?_), hrest⟩
  · exact res0_real m c (x c) (hx c) p q
  · exact res1_real m c (x c) (hx c) q
  · exact uR_real m c (x c) (hx c) p q
  · exact res3_real m c (x c) (hx c) p q
  · exact dbR_real m c (x c) (hx c) _ (hx c).dy p q
  · exact sR_real m c (x c) (hx c) p q

end Cert.ReferenceIdeal.Value

end
-- ==== Proof.Fwd.Spec.lean ====
/-
  The forward half step as functions of extended reals: the quantities both programs are shown to compute.
-/
module

public import Idealize.ShloMosaic.Lib.Pointwise
public import Idealize.ShloMosaic.Lib.Pipeline.ValueKit

@[expose] public section

noncomputable section

namespace Cert.Fwd

open Idealize.ShloMosaic
open scoped BigOperators

/-- The arguments: the rows, the gain and the three weights. -/
structure Tab where
  h : ℕ → ℕ → EReal
  g : ℕ → EReal
  w1 : ℕ → ℕ → EReal
  w3 : ℕ → ℕ → EReal
  w2 : ℕ → ℕ → EReal

/-- A row's normalised entry times the gain, of the row, its entry and the gain. -/
def normed (r : ℕ → EReal) (x g : EReal) : EReal :=
  x * Ideal.rsqrt (Ideal.div (∑ k ∈ Finset.range 1024, r k * r k) (Ideal.ofBits .f32 0x44800000#32)
    + Ideal.ofBits .f32 0x358637BD#32) * g

/-- The gated product of two entries. -/
def gate (a b : EReal) : EReal := a * Ideal.div 1 (1 + Ideal.exp (0 - a)) * b

namespace Tab

variable (x : Tab)

/-- The normalised rows, scaled by the gain. -/
def u (p q : ℕ) : EReal := normed (x.h p) (x.h p q) (x.g q)
/-- The gate's argument. -/
def a (p j : ℕ) : EReal := ∑ k ∈ Finset.range 1024, x.u p k * x.w1 k j
/-- The gated factor. -/
def b (p j : ℕ) : EReal := ∑ k ∈ Finset.range 1024, x.u p k * x.w3 k j
/-- The gated product. -/
def s (p j : ℕ) : EReal := gate (x.a p j) (x.b p j)
/-- The second layer's product over the first `n` columns of the gated product. -/
def o (n p q : ℕ) : EReal := ∑ j ∈ Finset.range n, x.s p j * x.w2 j q
/-- The rows after the half step. -/
def y (p q : ℕ) : EReal := x.h p q + Ideal.ofBits .f32 0x3F000000#32 * x.o 2816 p q

theorem o_add (n l p q : ℕ) : x.o (n + l) p q = x.o n p q + ∑ j ∈ Finset.range l, x.s p (n + j) * x.w2 (n + j) q := by
  unfold o; rw [Finset.sum_range_add]

end Tab

/-- A matrix with these entries. -/
def mat {a b : ℕ} (e : FTy) (f : ℕ → ℕ → EReal) : FVec Ideal (⟨2, ![a, b]⟩ : Shape) e := fun i => f (i 0) (i 1)

/-- A matrix of 2816 columns with these entries, in four column blocks. -/
def mat4 {a : ℕ} (e : FTy) (f : ℕ → ℕ → EReal) : FVec Ideal (⟨3, ![4, a, 704]⟩ : Shape) e :=
  fun i => f (i 1) (704 * (i 0).val + i 2)

/-- An array is the matrix of the entries it has at every index. -/
theorem mat_ext {a b : ℕ} (e : FTy) (f : ℕ → ℕ → EReal) {v : FVec Ideal (⟨2, ![a, b]⟩ : Shape) e}
    (h : ∀ (p : Fin a) (q : Fin b), v (ix2 p q) = f p q) : v = mat e f := by
  funext j
  obtain ⟨p, q, rfl⟩ : ∃ (p : Fin a) (q : Fin b), j = ix2 p q := ⟨j 0, j 1, eq_ix2 j⟩
  exact h p q

/-- An index of one block. -/
theorem eq_ix3_one {a b : ℕ} (y : Shape.Idx (⟨3, ![1, a, b]⟩ : Shape)) : y = ix3 0 (y 1) (y 2) := by
  funext d
  fin_cases d
  · exact Subsingleton.elim (α := Fin 1) _ _
  · rfl
  · rfl

/-- A matrix's entries as a function of the two coordinates. -/
def ent {a b : ℕ} {e : FTy} (v : FVec Ideal (⟨2, ![a, b]⟩ : Shape) e) (p q : ℕ) : EReal :=
  if h : p < a ∧ q < b then v (ix2 ⟨p, h.1⟩ ⟨q, h.2⟩) else 0

theorem ent_eq {a b : ℕ} {e : FTy} (v : FVec Ideal (⟨2, ![a, b]⟩ : Shape) e) (p : Fin a) (q : Fin b) : v (ix2 p q) = ent v p q := by
  unfold ent; rw [dif_pos ⟨p.isLt, q.isLt⟩]

/-- A row's entries as a function of the coordinate. -/
def ent1 {a : ℕ} {e : FTy} (v : FVec Ideal (⟨1, ![a]⟩ : Shape) e) (q : ℕ) : EReal :=
  if h : q < a then v (ix1 ⟨q, h⟩) else 0

theorem ent1_eq {a : ℕ} {e : FTy} (v : FVec Ideal (⟨1, ![a]⟩ : Shape) e) (q : Fin a) : v (ix1 q) = ent1 v q := by
  unfold ent1; rw [dif_pos q.isLt]

/-- The arrays' entries are those of the table. -/
structure IsTab (x : Tab) (h : FVec Ideal (⟨2, ![8192, 1024]⟩ : Shape) .f32) (g : FVec Ideal (⟨1, ![1024]⟩ : Shape) .f32)
    (w1 w3 : FVec Ideal (⟨2, ![1024, 2816]⟩ : Shape) .f32) (w2 : FVec Ideal (⟨2, ![2816, 1024]⟩ : Shape) .f32) : Prop where
  h : ∀ (p : Fin 8192) (q : Fin 1024), h (ix2 p q) = x.h p q
  g : ∀ q : Fin 1024, g (ix1 q) = x.g q
  w1 : ∀ (p : Fin 1024) (q : Fin 2816), w1 (ix2 p q) = x.w1 p q
  w3 : ∀ (p : Fin 1024) (q : Fin 2816), w3 (ix2 p q) = x.w3 p q
  w2 : ∀ (p : Fin 2816) (q : Fin 1024), w2 (ix2 p q) = x.w2 p q

/-- The table of five arrays. -/
def tab (h : FVec Ideal (⟨2, ![8192, 1024]⟩ : Shape) .f32) (g : FVec Ideal (⟨1, ![1024]⟩ : Shape) .f32)
    (w1 w3 : FVec Ideal (⟨2, ![1024, 2816]⟩ : Shape) .f32) (w2 : FVec Ideal (⟨2, ![2816, 1024]⟩ : Shape) .f32) : Tab :=
  ⟨ent h, ent1 g, ent w1, ent w3, ent w2⟩

theorem tab_is (h : FVec Ideal (⟨2, ![8192, 1024]⟩ : Shape) .f32) (g : FVec Ideal (⟨1, ![1024]⟩ : Shape) .f32)
    (w1 w3 : FVec Ideal (⟨2, ![1024, 2816]⟩ : Shape) .f32) (w2 : FVec Ideal (⟨2, ![2816, 1024]⟩ : Shape) .f32) :
    IsTab (tab h g w1 w3 w2) h g w1 w3 w2 :=
  ⟨ent_eq h, ent1_eq g, ent_eq w1, ent_eq w3, ent_eq w2⟩

/-- The constants of the kernel and the reference. -/
theorem lit_one : Ideal.ofBits .f32 0x3F800000#32 = 1 := by
  simp [Ideal.ofBits, Ideal.ieee, -EReal.coe_mul, -EReal.coe_neg]; norm_num

end Cert.Fwd

end
-- ==== Proof.Fwd.Blocks.lean ====
/-
  The blocks a grid point of the forward call reads: which rows and columns of the arguments they are.
-/
module

public import proofs.«01_k».proof.Proof.Fwd.Spec
public import proofs.«01_k».proof.Proof.Gen.ForwardIdeal.Frame

@[expose] public section

set_option maxRecDepth 16384

noncomputable section

namespace Cert.ForwardIdeal.Fwd

open Cert.ForwardIdeal Cert.ForwardIdeal.Gen Cert.Fwd
open Idealize.ShloMosaic Idealize.ShloMosaic.TcCoe
open scoped BigOperators

section terms
variable {F : FTy → Type} [FloatOps F]
variable (m : (ℓ : Loc nD τ sig) → Buf (Elt F) ℓ) (c : Dev nD)

abbrev hF : Vec F S8192x1024 .f32 := m ((c.tc : Thread nD τ).loc main_arg0)
abbrev gF : Vec F S1024 .f32 := m ((c.tc : Thread nD τ).loc main_arg1)
abbrev w1F : Vec F S1024x2816 .f32 := m ((c.tc : Thread nD τ).loc main_arg2)
abbrev w3F : Vec F S1024x2816 .f32 := m ((c.tc : Thread nD τ).loc main_arg3)
abbrev w2F : Vec F S2816x1024 .f32 := m ((c.tc : Thread nD τ).loc main_arg4)

/-- A weight in column blocks, as the host code makes them. -/
abbrev cols (w : Vec F S1024x2816 .f32) : Vec F S4x1x1024x704 .bf16 :=
  broadcastInDim S4x1x1024x704 ![0, 2, 3] bcast_S4x1024x704_S4x1x1024x704_0_2_3
    (transpose S4x1024x704 [1, 0, 2] (shapeCast S1024x4x704 (truncf .bf16 w bitsLt_bf16_f32) shapeCasts_S1024x2816_S1024x4x704)
      transposes_S1024x4x704_S4x1024x704_1_0_2)

/-- The rows are the argument's. -/
theorem v_arg0 : V m c main_arg0 = hF m c := by
  unfold V V0 hostOps0
  simp only [List.flatten_cons, List.flatten_nil, List.append_nil]
  after_results_simp

/-- The gain, as one row. -/
theorem v_0 : V m c main_v0 = shapeCast S1x1024 (gF m c) shapeCasts_S1024_S1x1024 := by
  unfold V V0 hostOps0
  simp only [List.flatten_cons, List.flatten_nil, List.append_nil]
  after_results_simp
  rfl

/-- The gate's weight, in column blocks. -/
theorem v_4 : V m c main_v4 = cols (w1F m c) := by
  unfold V V0 hostOps0
  simp only [List.flatten_cons, List.flatten_nil, List.append_nil]
  after_results_simp
  rfl

/-- The factor's weight, in column blocks. -/
theorem v_8 : V m c main_v8 = cols (w3F m c) := by
  unfold V V0 hostOps0
  simp only [List.flatten_cons, List.flatten_nil, List.append_nil]
  after_results_simp
  rfl

/-- The second layer's weight, in row blocks. -/
theorem v_10 : V m c main_v10 = shapeCast S4x1x704x1024 (truncf .bf16 (w2F m c) bitsLt_bf16_f32) shapeCasts_S2816x1024_S4x1x704x1024 := by
  unfold V V0 hostOps0
  simp only [List.flatten_cons, List.flatten_nil, List.append_nil]
  after_results_simp
  rfl

end terms

/-- A weight in column blocks, at an index. -/
theorem cols_apply (a : Vec Ideal S1024x2816 .f32) (A : ℕ → ℕ → EReal) (hA : ∀ (p : Fin 1024) (q : Fin 2816), a (ix2 p q) = A p q)
    (i : Fin 4) (p : Fin 1024) (q : Fin 704) : cols a (ix4 i 0 p q) = A p (704 * i + q) := by
  pointwise []
  rw [hA]
  simp only [mul_comm]

/-- A weight in row blocks, at an index. -/
theorem rows_apply (a : Vec Ideal S2816x1024 .f32) (A : ℕ → ℕ → EReal) (hA : ∀ (p : Fin 2816) (q : Fin 1024), a (ix2 p q) = A p q)
    (i : Fin 4) (p : Fin 704) (q : Fin 1024) :
    (shapeCast S4x1x704x1024 (truncf (F := Ideal) .bf16 a bitsLt_bf16_f32) shapeCasts_S2816x1024_S4x1x704x1024
      : Vec Ideal S4x1x704x1024 .bf16) (ix4 i 0 p q) = A (704 * i + p) q := by
  pointwise []
  rw [hA]
  simp only [mul_comm]

/-- The gain as one row. -/
theorem row_apply (a : Vec Ideal S1024 .f32) (q : Fin 1024) : shapeCast S1x1024 a shapeCasts_S1024_S1x1024 (ix2 0 q) = a (ix1 q) := by
  pointwise []

/-! ## Which block each window is on -/

theorem ix0' : ∀ t : Fin cfg0.N, win0_0.index t = ![t.val / 4, 0] := (by decide +kernel : ∀ t : Fin grid0.N, _)
theorem ix1' : ∀ t : Fin cfg0.N, win0_1.index t = ![0, 0] := (by decide +kernel : ∀ t : Fin grid0.N, _)
theorem ix2' : ∀ t : Fin cfg0.N, win0_2.index t = ![t.val % 4, 0, 0, 0] := (by decide +kernel : ∀ t : Fin grid0.N, _)
theorem ix3' : ∀ t : Fin cfg0.N, win0_3.index t = ![t.val % 4, 0, 0, 0] := (by decide +kernel : ∀ t : Fin grid0.N, _)
theorem ix4' : ∀ t : Fin cfg0.N, win0_4.index t = ![t.val % 4, 0, 0, 0] := (by decide +kernel : ∀ t : Fin grid0.N, _)
theorem ix5' : ∀ t : Fin cfg0.N, win0_5.index t = ![t.val / 4, 0] := (by decide +kernel : ∀ t : Fin grid0.N, _)
theorem ix6' : ∀ t : Fin cfg0.N, win0_6.index t = ![t.val % 4, t.val / 4, 0] := (by decide +kernel : ∀ t : Fin grid0.N, _)
theorem ix7' : ∀ t : Fin cfg0.N, win0_7.index t = ![t.val % 4, t.val / 4, 0] := (by decide +kernel : ∀ t : Fin grid0.N, _)

theorem t_lt (t : Fin cfg0.N) : t.val < 32 := t.isLt

section blocks
variable (m : (ℓ : Loc nD τ sig) → Buf (Elt Ideal) ℓ) (c : Dev nD) (x : Tab)

/-- The arguments are those of a table. -/
abbrev Is : Prop := IsTab x (hF m c) (gF m c) (w1F m c) (w3F m c) (w2F m c)

variable (hx : Is m c x) (t : Fin cfg0.N)
include hx

/-- The tile's rows. -/
theorem blk0 (p q : Fin 1024) : iblk m c 0 t (ix2 p q) = x.h (1024 * (t.val / 4) + p) q := by
  have ht := t_lt t
  blk_simp [iblk]
  have e : (win0_0.blk t).view.emb (ix2 p q) = ix2 ⟨1024 * (t.val / 4) + p, by omega⟩ q := by blk_ext [ix0']
  rw [e, v_arg0]
  exact hx.h _ _

/-- The gain. -/
theorem blk1 (q : Fin 1024) : iblk m c 1 t (ix2 0 q) = x.g q := by
  blk_simp [iblk]
  have e : (win0_1.blk t).view.emb (ix2 0 q) = ix2 0 q := by blk_ext [ix1']
  rw [e, v_0]
  exact (row_apply _ q).trans (hx.g q)

/-- The block of the gate's weight. -/
theorem blk2 (p : Fin 1024) (q : Fin 704) : iblk m c 2 t (ix4 0 0 p q) = x.w1 p (704 * (t.val % 4) + q) := by
  blk_simp [iblk]
  have e : (win0_2.blk t).view.emb (ix4 0 0 p q) = ix4 ⟨t.val % 4, by omega⟩ 0 p q := by blk_ext [ix2']
  rw [e, v_4]
  exact cols_apply _ x.w1 hx.w1 _ _ _

/-- The block of the factor's weight. -/
theorem blk3 (p : Fin 1024) (q : Fin 704) : iblk m c 3 t (ix4 0 0 p q) = x.w3 p (704 * (t.val % 4) + q) := by
  blk_simp [iblk]
  have e : (win0_3.blk t).view.emb (ix4 0 0 p q) = ix4 ⟨t.val % 4, by omega⟩ 0 p q := by blk_ext [ix3']
  rw [e, v_8]
  exact cols_apply _ x.w3 hx.w3 _ _ _

/-- The block of the second layer's weight. -/
theorem blk4 (p : Fin 704) (q : Fin 1024) : iblk m c 4 t (ix4 0 0 p q) = x.w2 (704 * (t.val % 4) + p) q := by
  blk_simp [iblk]
  have e : (win0_4.blk t).view.emb (ix4 0 0 p q) = ix4 ⟨t.val % 4, by omega⟩ 0 p q := by blk_ext [ix4']
  rw [e, v_10]
  exact rows_apply _ x.w2 hx.w2 _ _ _

end blocks

end Cert.ForwardIdeal.Fwd

end
-- ==== Proof.Fwd.Pay.lean ====
/-
  What each of the forward body's functions leaves, at an index, of operands with known entries.
-/
module

public import proofs.«01_k».proof.Proof.Fwd.Spec
public import proofs.«01_k».proof.Proof.Gen.ForwardIdeal.Skeleton

@[expose] public section

set_option maxRecDepth 16384

noncomputable section

namespace Cert.ForwardIdeal.Fwd

open Cert.ForwardIdeal Cert.ForwardIdeal.Gen Cert.Fwd
open Idealize.ShloMosaic
open scoped BigOperators

/-- The normalised rows, scaled by the gain. -/
theorem norm_apply (h : Vec Ideal S1024x1024 .f32) (g : Vec Ideal S1x1024 .f32) (H : ℕ → ℕ → EReal) (G : ℕ → EReal)
    (hH : ∀ p q : Fin 1024, h (ix2 p q) = H p q) (hG : ∀ q : Fin 1024, g (ix2 0 q) = G q) (p q : Fin 1024) :
    k0_pay3 h g (ix2 p q) = normed (H p) (H p q) (G q) := by
  pointwise [k0_pay3]
  simp only [hH, hG, normed, Finset.sum_range]

section
variable (u : Vec Ideal S1024x1024 .bf16) (U : ℕ → ℕ → EReal) (hU : ∀ p q : Fin 1024, u (ix2 p q) = U p q)
variable (w1 w3 : Vec Ideal S1x1x1024x704 .bf16) (W1 W3 : ℕ → ℕ → EReal)
variable (h1 : ∀ (p : Fin 1024) (q : Fin 704), w1 (ix4 0 0 p q) = W1 p q)
variable (h3 : ∀ (p : Fin 1024) (q : Fin 704), w3 (ix4 0 0 p q) = W3 p q)
include hU

include h1 in
/-- The gate's argument's block. -/
theorem a_apply (p : Fin 1024) (q : Fin 704) : k0_pay7 u w1 (ix3 0 p q) = ∑ k ∈ Finset.range 1024, U p k * W1 k q := by
  pointwise [k0_pay7, k0_pay5]
  simp only [hU, h1, Finset.sum_range]

include h3 in
/-- The gated factor's block. -/
theorem b_apply (p : Fin 1024) (q : Fin 704) : k0_pay8 u w3 (ix3 0 p q) = ∑ k ∈ Finset.range 1024, U p k * W3 k q := by
  pointwise [k0_pay8, k0_pay6]
  simp only [hU, h3, Finset.sum_range]

include h1 h3 in
/-- The gated product's block. -/
theorem s_apply (p : Fin 1024) (q : Fin 704) : k0_pay9 u w1 w3 (ix2 p q)
    = gate (∑ k ∈ Finset.range 1024, U p k * W1 k q) (∑ k ∈ Finset.range 1024, U p k * W3 k q) := by
  pointwise [k0_pay9, k0_pay5, k0_pay6]
  simp only [hU, h1, h3, Finset.sum_range, gate]

end

/-- The sum with one block's product added. -/
theorem acc_apply (v : Vec Ideal S1024x1024 .f32) (s : Vec Ideal S1024x704 .bf16) (w2 : Vec Ideal S1x1x704x1024 .bf16)
    (V S W : ℕ → ℕ → EReal) (hv : ∀ p q : Fin 1024, v (ix2 p q) = V p q)
    (hs : ∀ (p : Fin 1024) (q : Fin 704), s (ix2 p q) = S p q)
    (hw : ∀ (p : Fin 704) (q : Fin 1024), w2 (ix4 0 0 p q) = W p q) (p q : Fin 1024) :
    k0_pay1 v s w2 (ix2 p q) = V p q + ∑ k ∈ Finset.range 704, S p k * W k q := by
  pointwise [k0_pay1]
  simp only [hv, hs, hw, Finset.sum_range]

/-- The zero block. -/
theorem zero_apply (p q : Fin 1024) : (k0_pay4 (F := Ideal)) (ix2 p q) = 0 := by
  pointwise [k0_pay4]

/-- The rows after the half step. -/
theorem y_apply (h v : Vec Ideal S1024x1024 .f32) (p q : Fin 1024) :
    k0_pay2 h v (ix2 p q) = h (ix2 p q) + Ideal.ofBits .f32 0x3F000000#32 * v (ix2 p q) := by
  pointwise [k0_pay2]

end Cert.ForwardIdeal.Fwd

end
-- ==== Proof.Fwd.Steps.lean ====
/-
  What each grid point of the forward call leaves in its buffers, as the body's functions of the blocks it reads.
-/
module

public import proofs.«01_k».proof.Proof.Fwd.Spec
public import proofs.«01_k».proof.Proof.Gen.ForwardIdeal.Frame
public import Idealize.ShloMosaic.Lib.Pipeline.ReadBack

@[expose] public section

set_option maxRecDepth 16384

noncomputable section

namespace Cert.ForwardIdeal.Fwd

open Cert.ForwardIdeal Cert.ForwardIdeal.Gen Cert.Fwd
open Idealize.ShloMosaic Idealize.ShloMosaic.TcCoe Idealize.ShloMosaic.Pipeline
open scoped BigOperators

variable {F : FTy → Type} [FloatOps F]
variable (m : (ℓ : Loc nD τ sig) → Buf (Elt F) ℓ) (c : Dev nD)

/-- What the buffers hold after a point. -/
abbrev uAt (t : Fin cfg0.N) : Vec F S1024x1024 .bf16 := (outsAt0 m c t.val t.isLt).2.2.2.1
abbrev accAt (t : Fin cfg0.N) : Vec F S1024x1024 .f32 := (outsAt0 m c t.val t.isLt).2.2.2.2
/-- The point before. -/
abbrev prev (t : Fin cfg0.N) : Fin cfg0.N := ⟨t.val - 1, Nat.lt_of_le_of_lt (Nat.sub_le _ _) t.isLt⟩

/-- A tile's first point normalises its rows. -/
theorem u_first (t : Fin cfg0.N) (h : t.val % 4 = 0) : uAt m c t = k0_pay3 (iblk m c 0 t) (iblk m c 1 t) := by
  unfold uAt
  rw [outsAt0_A m c t h (by omega)]
  frame_out

/-- The other points keep them. -/
theorem u_next (t : Fin cfg0.N) (h : ¬t.val % 4 = 0) : uAt m c t = uAt m c (prev t) := by
  unfold uAt
  by_cases h3 : t.val % 4 = 3
  · rw [outsAt0_C m c t h h3]
    rfl
  · rw [outsAt0_B m c t h h3]
    rfl

/-- A tile's first point adds the first block's product to zero. -/
theorem acc_first (t : Fin cfg0.N) (h : t.val % 4 = 0) :
    accAt m c t = k0_pay1 k0_pay4 (k0_pay9 (uAt m c t) (iblk m c 2 t) (iblk m c 3 t)) (iblk m c 4 t) := by
  rw [u_first m c t h]
  unfold accAt
  rw [outsAt0_A m c t h (by omega)]
  frame_out

/-- The other points add their block's product to what the point before left. -/
theorem acc_next (t : Fin cfg0.N) (h : ¬t.val % 4 = 0) :
    accAt m c t = k0_pay1 (accAt m c (prev t)) (k0_pay9 (uAt m c t) (iblk m c 2 t) (iblk m c 3 t)) (iblk m c 4 t) := by
  rw [u_next m c t h]
  unfold accAt uAt
  by_cases h3 : t.val % 4 = 3
  · rw [outsAt0_C m c t h h3]
    frame_out
    simp only [read_unread_whole]
  · rw [outsAt0_B m c t h h3]
    frame_out
    simp only [read_unread_whole]

/-- The first product's block. -/
theorem a_at (t : Fin cfg0.N) : (outsAt0 m c t.val t.isLt).2.1 = k0_pay7 (uAt m c t) (iblk m c 2 t) := by
  by_cases h : t.val % 4 = 0
  · rw [u_first m c t h, outsAt0_A m c t h (by omega)]
    frame_out
  · rw [u_next m c t h]
    unfold uAt
    by_cases h3 : t.val % 4 = 3
    · rw [outsAt0_C m c t h h3]
      frame_out
      simp only [read_unread_whole]
    · rw [outsAt0_B m c t h h3]
      frame_out
      simp only [read_unread_whole]

/-- The second product's block. -/
theorem b_at (t : Fin cfg0.N) : (outsAt0 m c t.val t.isLt).2.2.1 = k0_pay8 (uAt m c t) (iblk m c 3 t) := by
  by_cases h : t.val % 4 = 0
  · rw [u_first m c t h, outsAt0_A m c t h (by omega)]
    frame_out
  · rw [u_next m c t h]
    unfold uAt
    by_cases h3 : t.val % 4 = 3
    · rw [outsAt0_C m c t h h3]
      frame_out
      simp only [read_unread_whole]
    · rw [outsAt0_B m c t h h3]
      frame_out
      simp only [read_unread_whole]

/-- A tile's last point makes its rows. -/
theorem y_at (t : Fin cfg0.N) (h : t.val % 4 = 3) : (outsAt0 m c t.val t.isLt).1 = k0_pay2 (iblk m c 0 t) (accAt m c t) := by
  rw [acc_next m c t (by omega), u_next m c t (by omega)]
  unfold accAt uAt
  rw [outsAt0_C m c t (by omega) h]
  frame_out
  simp only [read_unread_whole]

end Cert.ForwardIdeal.Fwd

end
-- ==== Proof.Fwd.Run.lean ====
/-
  What the forward call's run leaves in its three results.
-/
module

public import proofs.«01_k».proof.Proof.Fwd.Blocks
public import proofs.«01_k».proof.Proof.Fwd.Pay
public import proofs.«01_k».proof.Proof.Fwd.Steps
public import Idealize.ShloMosaic.Lib.Claim
public import Idealize.ShloMosaic.Lib.Quiescent

@[expose] public section

set_option maxRecDepth 16384

noncomputable section

namespace Cert.ForwardIdeal.Fwd

open Cert.ForwardIdeal Cert.ForwardIdeal.Gen Cert.Fwd
open Idealize.ShloMosaic Idealize.ShloMosaic.TcCoe Idealize.SL.Sem
open scoped BigOperators

section run
variable (m : (ℓ : Loc nD τ sig) → Buf (Elt Ideal) ℓ) (c : Dev nD)

section at_tab
variable (x : Tab) (hx : Is m c x)
include hx

/-- After every point the kept rows are the tile's normalised rows. -/
theorem u_eq (n : ℕ) (hn : n < cfg0.N) (p q : Fin 1024) : uAt m c ⟨n, hn⟩ (ix2 p q) = x.u (1024 * (n / 4) + p) q := by
  induction n with
  | zero =>
    rw [u_first m c ⟨0, hn⟩ rfl]
    exact norm_apply _ _ (fun p q => x.h (1024 * (0 / 4) + p) q) x.g (blk0 m c x hx ⟨0, hn⟩) (blk1 m c x hx _) p q
  | succ n ih =>
    by_cases h : (n + 1) % 4 = 0
    · rw [u_first m c ⟨n + 1, hn⟩ h]
      exact norm_apply _ _ (fun p q => x.h (1024 * ((n + 1) / 4) + p) q) x.g (blk0 m c x hx ⟨n + 1, hn⟩) (blk1 m c x hx _) p q
    · rw [u_next m c ⟨n + 1, hn⟩ h, show (n + 1) / 4 = n / 4 by omega]
      exact ih (Nat.lt_of_succ_lt hn)

/-- The gated product's block at a point. -/
theorem s_eq (t : Fin cfg0.N) (p : Fin 1024) (q : Fin 704) :
    k0_pay9 (uAt m c t) (iblk m c 2 t) (iblk m c 3 t) (ix2 p q) = x.s (1024 * (t.val / 4) + p) (704 * (t.val % 4) + q) :=
  s_apply _ (fun p q => x.u (1024 * (t.val / 4) + p) q) (u_eq m c x hx t.val t.isLt) _ _ (fun p q => x.w1 p (704 * (t.val % 4) + q))
    (fun p q => x.w3 p (704 * (t.val % 4) + q)) (blk2 m c x hx t) (blk3 m c x hx t) p q

/-- After every point the sum is the second layer's product over the column blocks so far. -/
theorem acc_eq (n : ℕ) (hn : n < cfg0.N) (p q : Fin 1024) :
    accAt m c ⟨n, hn⟩ (ix2 p q) = x.o (704 * (n % 4) + 704) (1024 * (n / 4) + p) q := by
  rw [x.o_add]
  have first (n : ℕ) (hn : n < cfg0.N) (h : n % 4 = 0) (p q : Fin 1024) : accAt m c ⟨n, hn⟩ (ix2 p q)
      = x.o (704 * (n % 4)) (1024 * (n / 4) + p) q + ∑ j ∈ Finset.range 704, x.s (1024 * (n / 4) + p) (704 * (n % 4) + j) * x.w2 (704 * (n % 4) + j) q := by
    rw [acc_first m c ⟨n, hn⟩ h]
    refine (acc_apply _ _ _ (fun _ _ => 0) (fun p q => x.s (1024 * (n / 4) + p) (704 * (n % 4) + q))
      (fun p q => x.w2 (704 * (n % 4) + p) q) zero_apply (s_eq m c x hx ⟨n, hn⟩) (blk4 m c x hx ⟨n, hn⟩) p q).trans ?_
    rw [h]
    unfold Tab.o
    rw [Nat.mul_zero, Finset.range_zero, Finset.sum_empty]
  induction n generalizing p q with
  | zero => exact first 0 hn rfl p q
  | succ n ih =>
    by_cases h : (n + 1) % 4 = 0
    · exact first (n + 1) hn h p q
    · rw [acc_next m c ⟨n + 1, hn⟩ h]
      refine acc_apply _ _ _ (fun p q => x.o (704 * ((n + 1) % 4)) (1024 * ((n + 1) / 4) + p) q)
        (fun p q => x.s (1024 * ((n + 1) / 4) + p) (704 * ((n + 1) % 4) + q))
        (fun p q => x.w2 (704 * ((n + 1) % 4) + p) q) (fun p q => ?_) (s_eq m c x hx ⟨n + 1, hn⟩) (blk4 m c x hx ⟨n + 1, hn⟩) p q
      have e : 704 * ((n + 1) % 4) = 704 * (n % 4) + 704 := by omega
      rw [e, show (n + 1) / 4 = n / 4 by omega, x.o_add]
      exact ih (Nat.lt_of_succ_lt hn) p q

/-- The rows. -/
theorem out5 : (dats m 0 c).arrAt 5 cfg0.N = (mat .f32 x.y : Vec Ideal S8192x1024 .f32) := by
  refine (dats m 0 c).arrAt_eq_of_covers 5 (mat .f32 x.y : Vec Ideal S8192x1024 .f32) (by decide +kernel) fun t hf y => ?_
  have ht := t_lt t
  have h3 : t.val % 4 = 3 := (flush0_5 t).mp hf
  obtain ⟨p, q, rfl⟩ : ∃ p q : Fin 1024, y = ix2 p q := ⟨y 0, y 1, eq_ix2 y⟩
  blk_simp
  rw [after0_5, y_at m c t h3, y_apply, blk0 m c x hx, acc_eq m c x hx t.val t.isLt, h3]
  have e : (win0_5.blk t).view.emb (ix2 p q) = ix2 ⟨1024 * (t.val / 4) + p, by omega⟩ q := by blk_ext [ix5']
  exact (congrArg (mat .f32 x.y : Vec Ideal S8192x1024 .f32) e).symm

/-- The gate's argument, in column blocks. -/
theorem out6 : (dats m 0 c).arrAt 6 cfg0.N = (mat4 .bf16 x.a : Vec Ideal S4x8192x704 .bf16) := by
  refine (dats m 0 c).arrAt_eq_of_covers 6 (mat4 .bf16 x.a : Vec Ideal S4x8192x704 .bf16) (by decide +kernel) fun t hf y => ?_
  have ht := t_lt t
  obtain ⟨p, q, rfl⟩ : ∃ (p : Fin 1024) (q : Fin 704), y = ix3 0 p q := ⟨y 1, y 2, eq_ix3_one y⟩
  blk_simp
  rw [after0_6, a_at m c t]
  refine (a_apply _ (fun p q => x.u (1024 * (t.val / 4) + p) q) (u_eq m c x hx t.val t.isLt) _
    (fun p q => x.w1 p (704 * (t.val % 4) + q)) (blk2 m c x hx t) p q).trans ?_
  have e : (win0_6.blk t).view.emb (ix3 0 p q) = ix3 ⟨t.val % 4, by omega⟩ ⟨1024 * (t.val / 4) + p, by omega⟩ q := by
    blk_ext [ix6']
  exact (congrArg (mat4 .bf16 x.a : Vec Ideal S4x8192x704 .bf16) e).symm

/-- The gated factor, in column blocks. -/
theorem out7 : (dats m 0 c).arrAt 7 cfg0.N = (mat4 .bf16 x.b : Vec Ideal S4x8192x704 .bf16) := by
  refine (dats m 0 c).arrAt_eq_of_covers 7 (mat4 .bf16 x.b : Vec Ideal S4x8192x704 .bf16) (by decide +kernel) fun t hf y => ?_
  have ht := t_lt t
  obtain ⟨p, q, rfl⟩ : ∃ (p : Fin 1024) (q : Fin 704), y = ix3 0 p q := ⟨y 1, y 2, eq_ix3_one y⟩
  blk_simp
  rw [after0_7, b_at m c t]
  refine (b_apply _ (fun p q => x.u (1024 * (t.val / 4) + p) q) (u_eq m c x hx t.val t.isLt) _
    (fun p q => x.w3 p (704 * (t.val % 4) + q)) (blk3 m c x hx t) p q).trans ?_
  have e : (win0_7.blk t).view.emb (ix3 0 p q) = ix3 ⟨t.val % 4, by omega⟩ ⟨1024 * (t.val / 4) + p, by omega⟩ q := by
    blk_ext [ix7']
  exact (congrArg (mat4 .bf16 x.b : Vec Ideal S4x8192x704 .bf16) e).symm

end at_tab

/-- The run's result at the gate's argument. -/
theorem w_14 : Pipeline.afterTail₀ cfgs (dats m) 0 (V0 m) [hostOps1] c main_v14
    = shapeCast S8192x2816 (transpose S8192x4x704 [1, 0, 2] ((dats m 0 c).arrAt 6 cfg0.N : Vec Ideal S4x8192x704 .bf16)
      transposes_S4x8192x704_S8192x4x704_1_0_2) shapeCasts_S8192x4x704_S8192x2816 := by
  unfold Pipeline.afterTail₀ hostOps1
  simp only [List.flatten_cons, List.flatten_nil, List.append_nil]
  after_results_simp
  erw [Pipeline.withArrays_arr _ launch0.win.arr_inj c _ _ 6]
  rfl

/-- The run's result at the gated factor. -/
theorem w_16 : Pipeline.afterTail₀ cfgs (dats m) 0 (V0 m) [hostOps1] c main_v16
    = shapeCast S8192x2816 (transpose S8192x4x704 [1, 0, 2] ((dats m 0 c).arrAt 7 cfg0.N : Vec Ideal S4x8192x704 .bf16)
      transposes_S4x8192x704_S8192x4x704_1_0_2) shapeCasts_S8192x4x704_S8192x2816 := by
  unfold Pipeline.afterTail₀ hostOps1
  simp only [List.flatten_cons, List.flatten_nil, List.append_nil]
  after_results_simp
  erw [Pipeline.withArrays_arr _ launch0.win.arr_inj c _ _ 7]
  rfl

end run

/-- Column blocks joined. -/
theorem join_apply (f : ℕ → ℕ → EReal) (p : Fin 8192) (q : Fin 2816) :
    (shapeCast S8192x2816 (transpose S8192x4x704 [1, 0, 2] (mat4 .bf16 f : Vec Ideal S4x8192x704 .bf16)
      transposes_S4x8192x704_S8192x4x704_1_0_2) shapeCasts_S8192x4x704_S8192x2816 : Vec Ideal S8192x2816 .bf16) (ix2 p q)
      = f p q := by
  pointwise
  unfold mat4
  show f p (704 * (q.val / 704) + q.val % 704) = _
  rw [Nat.div_add_mod]

/-- Column blocks joined make the matrix. -/
theorem join_eq (f : ℕ → ℕ → EReal) :
    (shapeCast S8192x2816 (transpose S8192x4x704 [1, 0, 2] (mat4 .bf16 f : Vec Ideal S4x8192x704 .bf16)
      transposes_S4x8192x704_S8192x4x704_1_0_2) shapeCasts_S8192x4x704_S8192x2816 : Vec Ideal S8192x2816 .bf16)
      = (mat .bf16 f : Vec Ideal S8192x2816 .bf16) :=
  mat_ext .bf16 f (join_apply f)

section at_tab
variable (m : (ℓ : Loc nD τ sig) → Buf (Elt Ideal) ℓ) (c : Dev nD) (x : Tab) (hx : Is m c x)
include hx

theorem w_14_eq : Pipeline.afterTail₀ cfgs (dats m) 0 (V0 m) [hostOps1] c main_v14 = (mat .bf16 x.a : Vec Ideal S8192x2816 .bf16) := by
  rw [w_14, out6 m c x hx]; exact join_eq x.a

theorem w_16_eq : Pipeline.afterTail₀ cfgs (dats m) 0 (V0 m) [hostOps1] c main_v16 = (mat .bf16 x.b : Vec Ideal S8192x2816 .bf16) := by
  rw [w_16, out7 m c x hx]; exact join_eq x.b

end at_tab

/-- The forward call's run: its three results are the half step's rows and the two products, and the arguments end unchanged. -/
theorem run_value (m : (ℓ : Loc nD τ sig) → Buf (Elt Ideal) ℓ) (ρ : Dev nD → PrngReg) (x : Dev nD → Tab) (hx : ∀ c, Is m c (x c)) :
    θ_run defs (onTc (τ := τ) (main (F := Ideal))) ⟨m, fun _ => 0, ρ⟩ (fun r => ∀ c : Dev nD,
      r.2.mem ((c.tc : Thread nD τ).loc main_v12_0) = (mat .f32 (x c).y : Vec Ideal S8192x1024 .f32)
      ∧ r.2.mem ((c.tc : Thread nD τ).loc main_v14) = (mat .bf16 (x c).a : Vec Ideal S8192x2816 .bf16)
      ∧ r.2.mem ((c.tc : Thread nD τ).loc main_v16) = (mat .bf16 (x c).b : Vec Ideal S8192x2816 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨(h.1.out_eq c 5).trans (out5 m c (x c) (hx c)), (h.1.rest_eq c main_v14 (by decide)).trans (w_14_eq m c (x c) (hx c)),
    (h.1.rest_eq c main_v16 (by decide)).trans (w_16_eq m c (x c) (hx c)), h.2 c⟩

end Cert.ForwardIdeal.Fwd

end
-- ==== Proof.Fwd.Ref.lean ====
/-
  The forward half step's reference: it runs, and its three results are the half step's rows and the two products.
-/
module

public import proofs.«01_k».proof.Proof.Fwd.Spec
public import proofs.«01_k».proof.Proof.Val.RefStages
public import proofs.«01_k».proof.Proof.Gen.ForwardReferenceIdeal.Run
public import Idealize.ShloMosaic.Lib.Quiescent
public import Idealize.ShloMosaic.Lib.Claim

@[expose] public section

set_option maxRecDepth 16384

noncomputable section

namespace Cert.ForwardReferenceIdeal.Fwd

open Cert.ForwardReferenceIdeal Cert.ForwardReferenceIdeal.Gen Cert.Fwd
open Cert.ReferenceIdeal.Value (gainT xhT rstdT msT upT siluT logT)
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev hR : Vec F S8192x1024 .f32 := m ((c.tc : Thread nD τ).loc main_arg0)
abbrev gR : Vec F S1024 .f32 := m ((c.tc : Thread nD τ).loc main_arg1)
abbrev w1R : Vec F S1024x2816 .f32 := m ((c.tc : Thread nD τ).loc main_arg2)
abbrev w3R : Vec F S1024x2816 .f32 := m ((c.tc : Thread nD τ).loc main_arg3)
abbrev w2R : Vec F S2816x1024 .f32 := m ((c.tc : Thread nD τ).loc main_arg4)

/-- The rows plus half the second layer's product. -/
def yT (h : Vec F S8192x1024 .f32) (a b : Vec F S8192x2816 .f32) (w : Vec F S2816x1024 .f32) : Vec F S8192x1024 .f32 :=
  addf h (mulf (broadcastInDim S8192x1024 ![] bcast_S_S8192x1024 (constant S_ .f32 0x3F000000#32))
    (Host.dotGeneral dot_S8192x2816_S2816x1024_S8192x1024_1_0_0_1_n_n none (mulf (siluT a) b) w))

end terms

/-- The scaled rows. -/
theorem u_apply (h : Vec Ideal S8192x1024 .f32) (g : Vec Ideal S1024 .f32) (H : ℕ → ℕ → EReal) (G : ℕ → EReal)
    (hH : ∀ (p : Fin 8192) (q : Fin 1024), h (ix2 p q) = H p q) (hG : ∀ q : Fin 1024, g (ix1 q) = G q) (p : Fin 8192) (q : Fin 1024) :
    gainT (xhT h) g (ix2 p q) = normed (H p) (H p q) (G q) := by
  unfold gainT xhT rstdT msT
  pointwise []
  simp only [hH, hG, normed, Finset.sum_range]

/-- A product with a weight of the first layer. -/
theorem up_apply (u : Vec Ideal S8192x1024 .f32) (w : Vec Ideal S1024x2816 .f32) (U W : ℕ → ℕ → EReal)
    (hU : ∀ (p : Fin 8192) (q : Fin 1024), u (ix2 p q) = U p q) (hW : ∀ (p : Fin 1024) (q : Fin 2816), w (ix2 p q) = W p q)
    (p : Fin 8192) (q : Fin 2816) : upT u w (ix2 p q) = ∑ k ∈ Finset.range 1024, U p k * W k q := by
  unfold upT
  pointwise []
  simp only [hU, hW, Finset.sum_range]

/-- The gated product. -/
theorem s_apply (a b : Vec Ideal S8192x2816 .f32) (i : S8192x2816.Idx) :
    (mulf (siluT a) b : Vec Ideal S8192x2816 .f32) i = gate (a i) (b i) := by
  unfold siluT logT gate
  pointwise []
  rw [zero_sub]

/-- The rows after the half step. -/
theorem y_apply (h : Vec Ideal S8192x1024 .f32) (a b : Vec Ideal S8192x2816 .f32) (w : Vec Ideal S2816x1024 .f32)
    (S W : ℕ → ℕ → EReal) (hS : ∀ (p : Fin 8192) (q : Fin 2816), gate (a (ix2 p q)) (b (ix2 p q)) = S p q)
    (hW : ∀ (p : Fin 2816) (q : Fin 1024), w (ix2 p q) = W p q) (p : Fin 8192) (q : Fin 1024) :
    yT h a b w (ix2 p q) = h (ix2 p q) + Ideal.ofBits .f32 0x3F000000#32 * ∑ k ∈ Finset.range 2816, S p k * W k q := by
  unfold yT
  generalize hs : (mulf (siluT a) b : Vec Ideal S8192x2816 .f32) = s
  have hs' (p : Fin 8192) (q : Fin 2816) : s (ix2 p q) = S p q := by rw [← hs, s_apply, hS]
  clear hs
  pointwise []
  simp only [hs', hW, Finset.sum_range]

section at_tab
variable (m : (ℓ : Loc nD τ sig) → Buf (Elt Ideal) ℓ) (c : Dev nD) (x : Tab)
variable (hx : IsTab x (hR m c) (gR m c) (w1R m c) (w3R m c) (w2R m c))
include hx

theorem a_eq (p : Fin 8192) (q : Fin 2816) : upT (gainT (xhT (hR m c)) (gR m c)) (w1R m c) (ix2 p q) = x.a p q :=
  up_apply _ _ x.u x.w1 (u_apply _ _ x.h x.g hx.h hx.g) hx.w1 p q

theorem b_eq (p : Fin 8192) (q : Fin 2816) : upT (gainT (xhT (hR m c)) (gR m c)) (w3R m c) (ix2 p q) = x.b p q :=
  up_apply _ _ x.u x.w3 (u_apply _ _ x.h x.g hx.h hx.g) hx.w3 p q

theorem y_eq (p : Fin 8192) (q : Fin 1024) : yT (hR m c) (upT (gainT (xhT (hR m c)) (gR m c)) (w1R m c))
    (upT (gainT (xhT (hR m c)) (gR m c)) (w3R m c)) (w2R m c) (ix2 p q) = x.y p q := by
  rw [y_apply _ _ _ _ x.s x.w2 (fun p q => by rw [a_eq m c x hx, b_eq m c x hx]; rfl) hx.w2, hx.h]
  rfl

end at_tab

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, sem_eq_zero_of_no_sems (by decide) _⟩) (Cert.ForwardReferenceIdeal.Value.run m ρ)
  obtain ⟨-, -, -, h⟩ := h c
  exact h

/-- The reference's run: its three results, and the arguments end unchanged. -/
theorem run_value (m : (ℓ : Loc nD τ sig) → Buf (Elt Ideal) ℓ) (ρ : Dev nD → PrngReg) (x : Dev nD → Tab)
    (hx : ∀ c, IsTab (x c) (hR m c) (gR m c) (w1R m c) (w3R m c) (w2R m c)) :
    θ_run defs (onTc (τ := τ) (main (F := Ideal))) ⟨m, fun _ => 0, ρ⟩ (fun r => ∀ c : Dev nD,
      r.2.mem ((c.tc : Thread nD τ).loc main_v33) = (mat .f32 (x c).y : Vec Ideal S8192x1024 .f32)
      ∧ r.2.mem ((c.tc : Thread nD τ).loc main_v35) = (mat .bf16 (x c).a : Vec Ideal S8192x2816 .bf16)
      ∧ r.2.mem ((c.tc : Thread nD τ).loc main_v37) = (mat .bf16 (x c).b : Vec Ideal S8192x2816 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.ForwardReferenceIdeal.Value.run m ρ)
  obtain ⟨h0, h1, h2, hrest⟩ := h c
  exact ⟨h0.trans (mat_ext .f32 _ (y_eq m c (x c) (hx c))), h1.trans (mat_ext .bf16 _ (a_eq m c (x c) (hx c))),
    h2.trans (mat_ext .bf16 _ (b_eq m c (x c) (hx c))), hrest⟩

end Cert.ForwardReferenceIdeal.Fwd

end
-- ==== Proof.Grad.Spec.lean ====
/-
  A weight's gradient as a function of extended reals: a product summed over the tokens.
-/
module

public import proofs.«01_k».proof.Proof.Fwd.Spec

@[expose] public section

noncomputable section

namespace Cert.Grad

open Idealize.ShloMosaic Cert.Fwd
open scoped BigOperators

/-- The product of two columns over the first `n` rows. -/
def part (A B : ℕ → ℕ → EReal) (n p q : ℕ) : EReal := ∑ k ∈ Finset.range n, A k p * B k q

theorem part_zero (A B : ℕ → ℕ → EReal) (p q : ℕ) : part A B 0 p q = 0 := by
  unfold part; rw [Finset.range_zero, Finset.sum_empty]

theorem part_add (A B : ℕ → ℕ → EReal) (n l p q : ℕ) :
    part A B (n + l) p q = part A B n p q + ∑ k ∈ Finset.range l, A (n + k) p * B (n + k) q := by
  unfold part; rw [Finset.sum_range_add]

/-- The factor of the half step. -/
abbrev half : EReal := Ideal.ofBits .f32 0x3F000000#32

theorem half_eq : half = ((1 / 2 : ℝ) : EReal) := by
  unfold half
  simp [Ideal.ofBits, Ideal.ieee, -EReal.coe_mul, -EReal.coe_neg]
  norm_num

/-- The factor distributes over a sum. -/
theorem half_sum (n : ℕ) (f : ℕ → EReal) : half * ∑ k ∈ Finset.range n, f k = ∑ k ∈ Finset.range n, half * f k := by
  have h0 : (0 : EReal) ≤ half := by rw [half_eq]; exact EReal.coe_nonneg.mpr (by norm_num)
  have h1 : half ≠ ⊤ := by rw [half_eq]; exact EReal.coe_ne_top _
  induction n with
  | zero => simp
  | succ n ih => rw [Finset.sum_range_succ, Finset.sum_range_succ, EReal.left_distrib_of_nonneg_of_ne_top h0 h1, ih]

/-- Scaling one factor of each product scales the sum. -/
theorem part_half (A B : ℕ → ℕ → EReal) (n p q : ℕ) :
    ∑ k ∈ Finset.range n, half * B k q * A k p = part A B n p q * half := by
  unfold part
  rw [mul_comm, half_sum]
  refine Finset.sum_congr rfl fun k _ => ?_
  rw [mul_assoc, mul_comm (B k q)]

/-- A matrix of 2816 rows with these entries, in four row blocks. -/
def rows4 {b : ℕ} (e : FTy) (f : ℕ → ℕ → EReal) : FVec Ideal (⟨3, ![4, 704, b]⟩ : Shape) e :=
  fun i => f (704 * (i 0).val + i 1) (i 2)

end Cert.Grad

end
-- ==== Proof.Grad.Wide.lean ====
/-
  What the run of the call for the gradients of the first layer's weights leaves in its result.
-/
module

public import proofs.«01_k».proof.Proof.Grad.Spec
public import proofs.«01_k».proof.Proof.Gen.WideIdeal.Frame
public import Idealize.ShloMosaic.Lib.Claim
public import Idealize.ShloMosaic.Lib.Quiescent

@[expose] public section

set_option maxRecDepth 16384

noncomputable section

namespace Cert.WideIdeal.Grad

open Cert.WideIdeal Cert.WideIdeal.Gen Cert.Fwd Cert.Grad
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev uF : Vec F S8192x1024 .bf16 := m ((c.tc : Thread nD τ).loc main_arg0)
abbrev dF : Vec F S8192x2816 .bf16 := m ((c.tc : Thread nD τ).loc main_arg1)

/-- The first operand is the argument's. -/
theorem v_arg0 : V m c main_arg0 = uF m c := by
  unfold V V0 hostOps0
  simp only [List.flatten_cons, List.flatten_nil, List.append_nil]
  after_results_simp

/-- The second operand, in column blocks. -/
theorem v_1 : V m c main_v1 = transpose S4x8192x704 [1, 0, 2] (shapeCast S8192x4x704 (dF m c) shapeCasts_S8192x2816_S8192x4x704)
    transposes_S8192x4x704_S4x8192x704_1_0_2 := by
  unfold V V0 hostOps0
  simp only [List.flatten_cons, List.flatten_nil, List.append_nil]
  after_results_simp
  rfl

/-- What the result's buffer holds after a point. -/
abbrev accAt (t : Fin cfg0.N) : Vec F S1x1024x704 .f32 := outsAt0 m c t.val t.isLt
/-- The point before. -/
abbrev prev (t : Fin cfg0.N) : Fin cfg0.N := ⟨t.val - 1, Nat.lt_of_le_of_lt (Nat.sub_le _ _) t.isLt⟩

/-- A block's first point adds the first tokens' product to zero. -/
theorem acc_first (t : Fin cfg0.N) (h : t.val % 4 = 0) : accAt m c t = k0_pay2 k0_pay1 (iblk m c 0 t) (iblk m c 1 t) := by
  unfold accAt
  rw [outsAt0_A m c t h]
  frame_out

/-- The other points add their tokens' product to what the point before left. -/
theorem acc_next (t : Fin cfg0.N) (h : ¬t.val % 4 = 0) :
    accAt m c t = k0_pay2 (accAt m c (prev t)) (iblk m c 0 t) (iblk m c 1 t) := by
  unfold accAt
  rw [outsAt0_B m c t h]
  frame_out

end terms

/-- A matrix in column blocks, at an index. -/
theorem cols_apply (a : Vec Ideal S8192x2816 .bf16) (A : ℕ → ℕ → EReal) (hA : ∀ (p : Fin 8192) (q : Fin 2816), a (ix2 p q) = A p q)
    (i : Fin 4) (p : Fin 8192) (q : Fin 704) :
    (transpose S4x8192x704 [1, 0, 2] (shapeCast S8192x4x704 a shapeCasts_S8192x2816_S8192x4x704)
      transposes_S8192x4x704_S4x8192x704_1_0_2 : Vec Ideal S4x8192x704 .bf16) (ix3 i p q) = A p (704 * i + q) := by
  pointwise []
  rw [hA]
  simp only [mul_comm]

/-- The sum with one point's product added. -/
theorem acc_apply (v : Vec Ideal S1x1024x704 .f32) (u : Vec Ideal S2048x1024 .bf16) (d : Vec Ideal S1x2048x704 .bf16)
    (V U D : ℕ → ℕ → EReal) (hv : ∀ (p : Fin 1024) (q : Fin 704), v (ix3 0 p q) = V p q)
    (hu : ∀ (p : Fin 2048) (q : Fin 1024), u (ix2 p q) = U p q)
    (hd : ∀ (p : Fin 2048) (q : Fin 704), d (ix3 0 p q) = D p q) (p : Fin 1024) (q : Fin 704) :
    k0_pay2 v u d (ix3 0 p q) = V p q + ∑ k ∈ Finset.range 2048, U k p * D k q := by
  pointwise [k0_pay2]
  simp only [hv, hu, hd, Finset.sum_range]

/-- The zero block. -/
theorem zero_apply (p : Fin 1024) (q : Fin 704) : (k0_pay1 (F := Ideal)) (ix3 0 p q) = 0 := by
  pointwise [k0_pay1]

/-! ## Which block each window is on -/

theorem ix0' : ∀ t : Fin cfg0.N, win0_0.index t = ![t.val % 4, 0] := (by decide +kernel : ∀ t : Fin grid0.N, _)
theorem ix1' : ∀ t : Fin cfg0.N, win0_1.index t = ![t.val / 4, t.val % 4, 0] := (by decide +kernel : ∀ t : Fin grid0.N, _)
theorem ix2' : ∀ t : Fin cfg0.N, win0_2.index t = ![t.val / 4, 0, 0] := (by decide +kernel : ∀ t : Fin grid0.N, _)

theorem t_lt (t : Fin cfg0.N) : t.val < 16 := t.isLt

/-- The arguments' entries are those of two functions. -/
structure Is (U D : ℕ → ℕ → EReal) (u : FVec Ideal (⟨2, ![8192, 1024]⟩ : Shape) .bf16)
    (d : FVec Ideal (⟨2, ![8192, 2816]⟩ : Shape) .bf16) : Prop where
  u : ∀ (p : Fin 8192) (q : Fin 1024), u (ix2 p q) = U p q
  d : ∀ (p : Fin 8192) (q : Fin 2816), d (ix2 p q) = D p q

theorem is_ent (u : FVec Ideal (⟨2, ![8192, 1024]⟩ : Shape) .bf16) (d : FVec Ideal (⟨2, ![8192, 2816]⟩ : Shape) .bf16) :
    Is (ent u) (ent d) u d := ⟨ent_eq u, ent_eq d⟩

section run
variable (m : (ℓ : Loc nD τ sig) → Buf (Elt Ideal) ℓ) (c : Dev nD)

section at_tab
variable (U D : ℕ → ℕ → EReal) (hx : Is U D (uF m c) (dF m c))
include hx

/-- The tokens' rows. -/
theorem blk0 (t : Fin cfg0.N) (p : Fin 2048) (q : Fin 1024) : iblk m c 0 t (ix2 p q) = U (2048 * (t.val % 4) + p) q := by
  have ht := t_lt t
  blk_simp [iblk]
  have e : (win0_0.blk t).view.emb (ix2 p q) = ix2 ⟨2048 * (t.val % 4) + p, by omega⟩ q := by blk_ext [ix0']
  rw [e, v_arg0]
  exact hx.u _ _

/-- The tokens' entries in the block's columns. -/
theorem blk1 (t : Fin cfg0.N) (p : Fin 2048) (q : Fin 704) :
    iblk m c 1 t (ix3 0 p q) = D (2048 * (t.val % 4) + p) (704 * (t.val / 4) + q) := by
  have ht := t_lt t
  blk_simp [iblk]
  have e : (win0_1.blk t).view.emb (ix3 0 p q) = ix3 ⟨t.val / 4, by omega⟩ ⟨2048 * (t.val % 4) + p, by omega⟩ q := by
    blk_ext [ix1']
  rw [e, v_1]
  exact cols_apply _ D hx.d _ _ _

/-- After every point the sum is the product over the tokens so far. -/
theorem acc_eq (n : ℕ) (hn : n < cfg0.N) (p : Fin 1024) (q : Fin 704) :
    accAt m c ⟨n, hn⟩ (ix3 0 p q) = part U D (2048 * (n % 4) + 2048) p (704 * (n / 4) + q) := by
  rw [part_add]
  have first (n : ℕ) (hn : n < cfg0.N) (h : n % 4 = 0) (p : Fin 1024) (q : Fin 704) : accAt m c ⟨n, hn⟩ (ix3 0 p q)
      = part U D (2048 * (n % 4)) p (704 * (n / 4) + q)
        + ∑ k ∈ Finset.range 2048, U (2048 * (n % 4) + k) p * D (2048 * (n % 4) + k) (704 * (n / 4) + q) := by
    rw [acc_first m c ⟨n, hn⟩ h]
    refine (acc_apply _ _ _ (fun _ _ => 0) (fun p q => U (2048 * (n % 4) + p) q)
      (fun p q => D (2048 * (n % 4) + p) (704 * (n / 4) + q)) zero_apply (blk0 m c U D hx ⟨n, hn⟩) (blk1 m c U D hx ⟨n, hn⟩) p q).trans ?_
    rw [h, Nat.mul_zero, part_zero]
  induction n generalizing p q with
  | zero => exact first 0 hn rfl p q
  | succ n ih =>
    by_cases h : (n + 1) % 4 = 0
    · exact first (n + 1) hn h p q
    · rw [acc_next m c ⟨n + 1, hn⟩ h]
      refine acc_apply _ _ _ (fun p q => part U D (2048 * ((n + 1) % 4)) p (704 * ((n + 1) / 4) + q))
        (fun p q => U (2048 * ((n + 1) % 4) + p) q)
        (fun p q => D (2048 * ((n + 1) % 4) + p) (704 * ((n + 1) / 4) + q)) (fun p q => ?_)
        (blk0 m c U D hx ⟨n + 1, hn⟩) (blk1 m c U D hx ⟨n + 1, hn⟩) p q
      have e : 2048 * ((n + 1) % 4) = 2048 * (n % 4) + 2048 := by omega
      rw [e, show (n + 1) / 4 = n / 4 by omega, part_add]
      exact ih (Nat.lt_of_succ_lt hn) p q

/-- The gradient, in column blocks. -/
theorem out2 : (dats m 0 c).arrAt 2 cfg0.N = (mat4 .f32 (part U D 8192) : Vec Ideal S4x1024x704 .f32) := by
  refine (dats m 0 c).arrAt_eq_of_covers 2 (mat4 .f32 (part U D 8192) : Vec Ideal S4x1024x704 .f32) (by decide +kernel) fun t hf y => ?_
  have ht := t_lt t
  have h3 : t.val % 4 = 3 := (flush0_2 t).mp hf
  obtain ⟨p, q, rfl⟩ : ∃ (p : Fin 1024) (q : Fin 704), y = ix3 0 p q := ⟨y 1, y 2, eq_ix3_one y⟩
  blk_simp
  rw [after0_2]
  refine (acc_eq m c U D hx t.val t.isLt p q).trans ?_
  rw [h3]
  have e : (win0_2.blk t).view.emb (ix3 0 p q) = ix3 ⟨t.val / 4, by omega⟩ p q := by blk_ext [ix2']
  exact (congrArg (mat4 .f32 (part U D 8192) : Vec Ideal S4x1024x704 .f32) e).symm

end at_tab

/-- The run's result, of the array the call leaves. -/
theorem w_5 : Pipeline.afterTail₀ cfgs (dats m) 0 (V0 m) [hostOps1] c main_v5
    = shapeCast S1024x2816 (transpose S1024x4x704 [1, 0, 2] ((dats m 0 c).arrAt 2 cfg0.N : Vec Ideal S4x1024x704 .f32)
      transposes_S4x1024x704_S1024x4x704_1_0_2) shapeCasts_S1024x4x704_S1024x2816 := by
  unfold Pipeline.afterTail₀ hostOps1
  simp only [List.flatten_cons, List.flatten_nil, List.append_nil]
  after_results_simp
  erw [Pipeline.withArrays_arr _ launch0.win.arr_inj c _ _ 2]
  rfl

end run

/-- Column blocks joined. -/
theorem join_apply (f : ℕ → ℕ → EReal) (p : Fin 1024) (q : Fin 2816) :
    (shapeCast S1024x2816 (transpose S1024x4x704 [1, 0, 2] (mat4 .f32 f : Vec Ideal S4x1024x704 .f32)
      transposes_S4x1024x704_S1024x4x704_1_0_2) shapeCasts_S1024x4x704_S1024x2816 : Vec Ideal S1024x2816 .f32) (ix2 p q)
      = f p q := by
  pointwise
  unfold mat4
  show f p (704 * (q.val / 704) + q.val % 704) = _
  rw [Nat.div_add_mod]

/-- The call's run: its result is the product summed over all tokens, and the arguments end unchanged. -/
theorem run_value (m : (ℓ : Loc nD τ sig) → Buf (Elt Ideal) ℓ) (ρ : Dev nD → PrngReg) (U D : Dev nD → ℕ → ℕ → EReal)
    (hx : ∀ c, Is (U c) (D c) (uF m c) (dF m c)) :
    θ_run defs (onTc (τ := τ) (main (F := Ideal))) ⟨m, fun _ => 0, ρ⟩ (fun r => ∀ c : Dev nD,
      r.2.mem ((c.tc : Thread nD τ).loc main_v5) = (mat .f32 (part (U c) (D c) 8192) : Vec Ideal S1024x2816 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  refine ⟨(h.1.rest_eq c main_v5 (by decide)).trans ?_, h.2 c⟩
  rw [w_5, out2 m c _ _ (hx c)]
  exact mat_ext .f32 _ (join_apply _)

end Cert.WideIdeal.Grad

end
-- ==== Proof.Grad.WideRef.lean ====
/-
  The reference of the first layer's gradients: it runs, and its result is the product summed over the tokens.
-/
module

public import proofs.«01_k».proof.Proof.Grad.Spec
public import proofs.«01_k».proof.Proof.Gen.WideReferenceIdeal.Run
public import Idealize.ShloMosaic.Lib.Quiescent
public import Idealize.ShloMosaic.Lib.Claim

@[expose] public section

set_option maxRecDepth 16384

noncomputable section

namespace Cert.WideReferenceIdeal.Grad

open Cert.WideReferenceIdeal Cert.WideReferenceIdeal.Gen Cert.Fwd Cert.Grad
open Idealize.ShloMosaic Idealize.ShloMosaic.TcCoe Idealize.SL.Sem
open scoped BigOperators

/-- The reference's product at an index. -/
theorem grad_apply (u : Vec Ideal S8192x1024 .bf16) (d : Vec Ideal S8192x2816 .bf16) (U D : ℕ → ℕ → EReal)
    (hu : ∀ (p : Fin 8192) (q : Fin 1024), u (ix2 p q) = U p q) (hd : ∀ (p : Fin 8192) (q : Fin 2816), d (ix2 p q) = D p q)
    (p : Fin 1024) (q : Fin 2816) :
    (transpose S1024x2816 [1, 0] (Host.dotGeneral dot_S8192x2816_S8192x1024_S2816x1024_0_0_1_1_n_n none
        (extf (F := Ideal) .f32 d bitsLt_bf16_f32) (extf (F := Ideal) .f32 u bitsLt_bf16_f32)) transposes_S2816x1024_S1024x2816_1_0
      : Vec Ideal S1024x2816 .f32) (ix2 p q) = part U D 8192 p q := by
  pointwise []
  simp only [hu, hd, part, Finset.sum_range]
  exact Finset.sum_congr rfl fun k _ => mul_comm _ _

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, sem_eq_zero_of_no_sems (by decide) _⟩) (Cert.WideReferenceIdeal.Value.run m ρ)
  obtain ⟨-, h⟩ := h c
  exact h

/-- The reference's run: its result, and the arguments end unchanged. -/
theorem run_value (m : (ℓ : Loc nD τ sig) → Buf (Elt Ideal) ℓ) (ρ : Dev nD → PrngReg) (U D : Dev nD → ℕ → ℕ → EReal)
    (hu : ∀ c (p : Fin 8192) (q : Fin 1024),
      (m ((c.tc : Thread nD τ).loc main_arg0) : Vec Ideal S8192x1024 .bf16) (ix2 p q) = U c p q)
    (hd : ∀ c (p : Fin 8192) (q : Fin 2816),
      (m ((c.tc : Thread nD τ).loc main_arg1) : Vec Ideal S8192x2816 .bf16) (ix2 p q) = D c p q) :
    θ_run defs (onTc (τ := τ) (main (F := Ideal))) ⟨m, fun _ => 0, ρ⟩ (fun r => ∀ c : Dev nD,
      r.2.mem ((c.tc : Thread nD τ).loc main_v5) = (mat .f32 (part (U c) (D c) 8192) : Vec Ideal S1024x2816 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.WideReferenceIdeal.Value.run m ρ)
  obtain ⟨h0, hrest⟩ := h c
  exact ⟨h0.trans (mat_ext .f32 _ (grad_apply _ _ _ _ (hu c) (hd c))), hrest⟩

end Cert.WideReferenceIdeal.Grad

end
-- ==== Proof.Grad.Tall.lean ====
/-
  What the run of the call for the gradient of the second layer's weight leaves in its result.
-/
module

public import proofs.«01_k».proof.Proof.Grad.Spec
public import proofs.«01_k».proof.Proof.Gen.TallIdeal.Frame
public import Idealize.ShloMosaic.Lib.Claim
public import Idealize.ShloMosaic.Lib.Quiescent

@[expose] public section

set_option maxRecDepth 16384

noncomputable section

namespace Cert.TallIdeal.Grad

open Cert.TallIdeal Cert.TallIdeal.Gen Cert.Fwd Cert.Grad
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev uF : Vec F S8192x2816 .bf16 := m ((c.tc : Thread nD τ).loc main_arg0)
abbrev dF : Vec F S8192x1024 .f32 := m ((c.tc : Thread nD τ).loc main_arg1)

/-- The second operand is the argument's. -/
theorem v_arg1 : V m c main_arg1 = dF m c := by
  unfold V V0 hostOps0
  simp only [List.flatten_cons, List.flatten_nil, List.append_nil]
  after_results_simp

/-- The first operand, in column blocks. -/
theorem v_1 : V m c main_v1 = transpose S4x8192x704 [1, 0, 2] (shapeCast S8192x4x704 (uF m c) shapeCasts_S8192x2816_S8192x4x704)
    transposes_S8192x4x704_S4x8192x704_1_0_2 := by
  unfold V V0 hostOps0
  simp only [List.flatten_cons, List.flatten_nil, List.append_nil]
  after_results_simp
  rfl

/-- What the result's buffer holds after a point. -/
abbrev accAt (t : Fin cfg0.N) : Vec F S1x704x1024 .f32 := outsAt0 m c t.val t.isLt
/-- The point before. -/
abbrev prev (t : Fin cfg0.N) : Fin cfg0.N := ⟨t.val - 1, Nat.lt_of_le_of_lt (Nat.sub_le _ _) t.isLt⟩

/-- A block's first point adds the first tokens' product to zero. -/
theorem acc_first (t : Fin cfg0.N) (h : t.val % 4 = 0) : accAt m c t = k0_pay2 k0_pay1 (iblk m c 0 t) (iblk m c 1 t) := by
  unfold accAt
  rw [outsAt0_A m c t h (by omega)]
  frame_out

/-- The next two points add their tokens' product to what the point before left. -/
theorem acc_next (t : Fin cfg0.N) (h : ¬t.val % 4 = 0) (h3 : ¬t.val % 4 = 3) :
    accAt m c t = k0_pay2 (accAt m c (prev t)) (iblk m c 0 t) (iblk m c 1 t) := by
  unfold accAt
  rw [outsAt0_B m c t h h3]
  frame_out

/-- The last point adds its tokens' product to what the point before left and halves the sum. -/
theorem acc_last (t : Fin cfg0.N) (h3 : t.val % 4 = 3) :
    accAt m c t = k0_pay3 (k0_pay2 (accAt m c (prev t)) (iblk m c 0 t) (iblk m c 1 t)) := by
  unfold accAt
  rw [outsAt0_C m c t (by omega) h3]
  frame_out

end terms

/-- A matrix in column blocks, at an index. -/
theorem cols_apply (a : Vec Ideal S8192x2816 .bf16) (A : ℕ → ℕ → EReal) (hA : ∀ (p : Fin 8192) (q : Fin 2816), a (ix2 p q) = A p q)
    (i : Fin 4) (p : Fin 8192) (q : Fin 704) :
    (transpose S4x8192x704 [1, 0, 2] (shapeCast S8192x4x704 a shapeCasts_S8192x2816_S8192x4x704)
      transposes_S8192x4x704_S4x8192x704_1_0_2 : Vec Ideal S4x8192x704 .bf16) (ix3 i p q) = A p (704 * i + q) := by
  pointwise []
  rw [hA]
  simp only [mul_comm]

/-- The sum with one point's product added. -/
theorem acc_apply (v : Vec Ideal S1x704x1024 .f32) (u : Vec Ideal S1x2048x704 .bf16) (d : Vec Ideal S2048x1024 .f32)
    (V U D : ℕ → ℕ → EReal) (hv : ∀ (p : Fin 704) (q : Fin 1024), v (ix3 0 p q) = V p q)
    (hu : ∀ (p : Fin 2048) (q : Fin 704), u (ix3 0 p q) = U p q)
    (hd : ∀ (p : Fin 2048) (q : Fin 1024), d (ix2 p q) = D p q) (p : Fin 704) (q : Fin 1024) :
    k0_pay2 v u d (ix3 0 p q) = V p q + ∑ k ∈ Finset.range 2048, U k p * D k q := by
  pointwise [k0_pay2]
  simp only [hv, hu, hd, Finset.sum_range]

/-- The zero block. -/
theorem zero_apply (p : Fin 704) (q : Fin 1024) : (k0_pay1 (F := Ideal)) (ix3 0 p q) = 0 := by
  pointwise [k0_pay1]

/-- The halved sum. -/
theorem half_apply (v : Vec Ideal S1x704x1024 .f32) (p : Fin 704) (q : Fin 1024) : k0_pay3 v (ix3 0 p q) = v (ix3 0 p q) * half := by
  pointwise [k0_pay3]

/-! ## Which block each window is on -/

theorem ix0' : ∀ t : Fin cfg0.N, win0_0.index t = ![t.val / 4, t.val % 4, 0] := (by decide +kernel : ∀ t : Fin grid0.N, _)
theorem ix1' : ∀ t : Fin cfg0.N, win0_1.index t = ![t.val % 4, 0] := (by decide +kernel : ∀ t : Fin grid0.N, _)
theorem ix2' : ∀ t : Fin cfg0.N, win0_2.index t = ![t.val / 4, 0, 0] := (by decide +kernel : ∀ t : Fin grid0.N, _)

theorem t_lt (t : Fin cfg0.N) : t.val < 16 := t.isLt

/-- The arguments' entries are those of two functions. -/
structure Is (U D : ℕ → ℕ → EReal) (u : FVec Ideal (⟨2, ![8192, 2816]⟩ : Shape) .bf16)
    (d : FVec Ideal (⟨2, ![8192, 1024]⟩ : Shape) .f32) : Prop where
  u : ∀ (p : Fin 8192) (q : Fin 2816), u (ix2 p q) = U p q
  d : ∀ (p : Fin 8192) (q : Fin 1024), d (ix2 p q) = D p q

theorem is_ent (u : FVec Ideal (⟨2, ![8192, 2816]⟩ : Shape) .bf16) (d : FVec Ideal (⟨2, ![8192, 1024]⟩ : Shape) .f32) :
    Is (ent u) (ent d) u d := ⟨ent_eq u, ent_eq d⟩

section run
variable (m : (ℓ : Loc nD τ sig) → Buf (Elt Ideal) ℓ) (c : Dev nD)

section at_tab
variable (U D : ℕ → ℕ → EReal) (hx : Is U D (uF m c) (dF m c))
include hx

/-- The tokens' entries in the block's columns. -/
theorem blk0 (t : Fin cfg0.N) (p : Fin 2048) (q : Fin 704) :
    iblk m c 0 t (ix3 0 p q) = U (2048 * (t.val % 4) + p) (704 * (t.val / 4) + q) := by
  have ht := t_lt t
  blk_simp [iblk]
  have e : (win0_0.blk t).view.emb (ix3 0 p q) = ix3 ⟨t.val / 4, by omega⟩ ⟨2048 * (t.val % 4) + p, by omega⟩ q := by
    blk_ext [ix0']
  rw [e, v_1]
  exact cols_apply _ U hx.u _ _ _

/-- The tokens' rows. -/
theorem blk1 (t : Fin cfg0.N) (p : Fin 2048) (q : Fin 1024) : iblk m c 1 t (ix2 p q) = D (2048 * (t.val % 4) + p) q := by
  have ht := t_lt t
  blk_simp [iblk]
  have e : (win0_1.blk t).view.emb (ix2 p q) = ix2 ⟨2048 * (t.val % 4) + p, by omega⟩ q := by blk_ext [ix1']
  rw [e, v_arg1]
  exact hx.d _ _

/-- A point's product added to the sum over the tokens before it is the sum over the tokens so far. -/
theorem step_eq (v : Vec Ideal S1x704x1024 .f32) (t : Fin cfg0.N)
    (hv : ∀ (p : Fin 704) (q : Fin 1024), v (ix3 0 p q) = part U D (2048 * (t.val % 4)) (704 * (t.val / 4) + p) q)
    (p : Fin 704) (q : Fin 1024) : k0_pay2 v (iblk m c 0 t) (iblk m c 1 t) (ix3 0 p q)
      = part U D (2048 * (t.val % 4) + 2048) (704 * (t.val / 4) + p) q := by
  rw [part_add]
  exact acc_apply _ _ _ (fun p q => part U D (2048 * (t.val % 4)) (704 * (t.val / 4) + p) q)
    (fun p q => U (2048 * (t.val % 4) + p) (704 * (t.val / 4) + q)) (fun p q => D (2048 * (t.val % 4) + p) q)
    hv (blk0 m c U D hx t) (blk1 m c U D hx t) p q

/-- After every point but a block's last the sum is the product over the tokens so far. -/
theorem acc_eq (n : ℕ) (hn : n < cfg0.N) (h3 : ¬n % 4 = 3) (p : Fin 704) (q : Fin 1024) :
    accAt m c ⟨n, hn⟩ (ix3 0 p q) = part U D (2048 * (n % 4) + 2048) (704 * (n / 4) + p) q := by
  have first (n : ℕ) (hn : n < cfg0.N) (h : n % 4 = 0) (p : Fin 704) (q : Fin 1024) : accAt m c ⟨n, hn⟩ (ix3 0 p q)
      = part U D (2048 * (n % 4) + 2048) (704 * (n / 4) + p) q := by
    rw [acc_first m c ⟨n, hn⟩ h]
    refine step_eq m c U D hx _ ⟨n, hn⟩ (fun p q => ?_) p q
    rw [zero_apply]
    show 0 = part U D (2048 * (n % 4)) _ _
    rw [h, Nat.mul_zero, part_zero]
  induction n generalizing p q with
  | zero => exact first 0 hn rfl p q
  | succ n ih =>
    by_cases h : (n + 1) % 4 = 0
    · exact first (n + 1) hn h p q
    · rw [acc_next m c ⟨n + 1, hn⟩ h h3]
      refine step_eq m c U D hx _ ⟨n + 1, hn⟩ (fun p q => ?_) p q
      show _ = part U D (2048 * ((n + 1) % 4)) (704 * ((n + 1) / 4) + p.val) q
      have e : 2048 * ((n + 1) % 4) = 2048 * (n % 4) + 2048 := by omega
      rw [e, show (n + 1) / 4 = n / 4 by omega]
      exact ih (Nat.lt_of_succ_lt hn) (by omega) p q

/-- A block's last point leaves half the product over all tokens. -/
theorem last_eq (t : Fin cfg0.N) (h3 : t.val % 4 = 3) (p : Fin 704) (q : Fin 1024) :
    accAt m c t (ix3 0 p q) = part U D 8192 (704 * (t.val / 4) + p) q * half := by
  rw [acc_last m c t h3, half_apply, step_eq m c U D hx _ t (fun p q => ?_) p q, h3]
  refine (acc_eq m c U D hx (t.val - 1) (prev t).isLt (by omega) p q).trans ?_
  rw [show 2048 * ((t.val - 1) % 4) + 2048 = 2048 * (t.val % 4) by omega, show (t.val - 1) / 4 = t.val / 4 by omega]

/-- The gradient, in row blocks. -/
theorem out2 : (dats m 0 c).arrAt 2 cfg0.N
    = (rows4 .f32 (fun p q => part U D 8192 p q * half) : Vec Ideal S4x704x1024 .f32) := by
  refine (dats m 0 c).arrAt_eq_of_covers 2 (rows4 .f32 (fun p q => part U D 8192 p q * half) : Vec Ideal S4x704x1024 .f32)
    (by decide +kernel) fun t hf y => ?_
  have ht := t_lt t
  have h3 : t.val % 4 = 3 := (flush0_2 t).mp hf
  obtain ⟨p, q, rfl⟩ : ∃ (p : Fin 704) (q : Fin 1024), y = ix3 0 p q := ⟨y 1, y 2, eq_ix3_one y⟩
  blk_simp
  rw [after0_2]
  refine (last_eq m c U D hx t h3 p q).trans ?_
  have e : (win0_2.blk t).view.emb (ix3 0 p q) = ix3 ⟨t.val / 4, by omega⟩ p q := by blk_ext [ix2']
  exact (congrArg (rows4 .f32 (fun p q => part U D 8192 p q * half) : Vec Ideal S4x704x1024 .f32) e).symm

end at_tab

/-- The run's result, of the array the call leaves. -/
theorem w_4 : Pipeline.afterTail₀ cfgs (dats m) 0 (V0 m) [hostOps1] c main_v4
    = shapeCast S2816x1024 ((dats m 0 c).arrAt 2 cfg0.N : Vec Ideal S4x704x1024 .f32) shapeCasts_S4x704x1024_S2816x1024 := by
  unfold Pipeline.afterTail₀ hostOps1
  simp only [List.flatten_cons, List.flatten_nil, List.append_nil]
  after_results_simp
  erw [Pipeline.withArrays_arr _ launch0.win.arr_inj c _ _ 2]
  rfl

end run

/-- Row blocks joined. -/
theorem join_apply (f : ℕ → ℕ → EReal) (p : Fin 2816) (q : Fin 1024) :
    (shapeCast S2816x1024 (rows4 .f32 f : Vec Ideal S4x704x1024 .f32) shapeCasts_S4x704x1024_S2816x1024
      : Vec Ideal S2816x1024 .f32) (ix2 p q) = f p q := by
  pointwise
  unfold rows4
  show f (704 * (p.val / 704) + p.val % 704) q = _
  rw [Nat.div_add_mod]

/-- The call's run: its result is half the product summed over all tokens, and the arguments end unchanged. -/
theorem run_value (m : (ℓ : Loc nD τ sig) → Buf (Elt Ideal) ℓ) (ρ : Dev nD → PrngReg) (U D : Dev nD → ℕ → ℕ → EReal)
    (hx : ∀ c, Is (U c) (D c) (uF m c) (dF m c)) :
    θ_run defs (onTc (τ := τ) (main (F := Ideal))) ⟨m, fun _ => 0, ρ⟩ (fun r => ∀ c : Dev nD,
      r.2.mem ((c.tc : Thread nD τ).loc main_v4)
        = (mat .f32 (fun p q => part (U c) (D c) 8192 p q * half) : Vec Ideal S2816x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  refine ⟨(h.1.rest_eq c main_v4 (by decide)).trans ?_, h.2 c⟩
  rw [w_4, out2 m c _ _ (hx c)]
  exact mat_ext .f32 _ (join_apply _)

end Cert.TallIdeal.Grad

end
-- ==== Proof.Grad.TallRef.lean ====
/-
  The reference of the second layer's gradient: it runs, and its result is half the product summed over the tokens.
-/
module

public import proofs.«01_k».proof.Proof.Grad.Spec
public import proofs.«01_k».proof.Proof.Gen.TallReferenceIdeal.Run
public import Idealize.ShloMosaic.Lib.Quiescent
public import Idealize.ShloMosaic.Lib.Claim

@[expose] public section

set_option maxRecDepth 16384

noncomputable section

namespace Cert.TallReferenceIdeal.Grad

open Cert.TallReferenceIdeal Cert.TallReferenceIdeal.Gen Cert.Fwd Cert.Grad
open Idealize.ShloMosaic Idealize.ShloMosaic.TcCoe Idealize.SL.Sem
open scoped BigOperators

/-- The reference's product at an index. -/
theorem grad_apply (u : Vec Ideal S8192x2816 .bf16) (d : Vec Ideal S8192x1024 .f32) (U D : ℕ → ℕ → EReal)
    (hu : ∀ (p : Fin 8192) (q : Fin 2816), u (ix2 p q) = U p q) (hd : ∀ (p : Fin 8192) (q : Fin 1024), d (ix2 p q) = D p q)
    (p : Fin 2816) (q : Fin 1024) :
    (transpose S2816x1024 [1, 0] (Host.dotGeneral dot_S8192x1024_S8192x2816_S1024x2816_0_0_1_1_n_n none
        (mulf (broadcastInDim S8192x1024 ![] bcast_S_S8192x1024 (constant S_ .f32 0x3F000000#32)) d)
        (extf (F := Ideal) .f32 u bitsLt_bf16_f32)) transposes_S1024x2816_S2816x1024_1_0
      : Vec Ideal S2816x1024 .f32) (ix2 p q) = part U D 8192 p q * half := by
  rw [← part_half]
  pointwise []
  simp only [hu, hd, Finset.sum_range]

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, sem_eq_zero_of_no_sems (by decide) _⟩) (Cert.TallReferenceIdeal.Value.run m ρ)
  obtain ⟨-, h⟩ := h c
  exact h

/-- The reference's run: its result, and the arguments end unchanged. -/
theorem run_value (m : (ℓ : Loc nD τ sig) → Buf (Elt Ideal) ℓ) (ρ : Dev nD → PrngReg) (U D : Dev nD → ℕ → ℕ → EReal)
    (hu : ∀ c (p : Fin 8192) (q : Fin 2816),
      (m ((c.tc : Thread nD τ).loc main_arg0) : Vec Ideal S8192x2816 .bf16) (ix2 p q) = U c p q)
    (hd : ∀ c (p : Fin 8192) (q : Fin 1024),
      (m ((c.tc : Thread nD τ).loc main_arg1) : Vec Ideal S8192x1024 .f32) (ix2 p q) = D c p q) :
    θ_run defs (onTc (τ := τ) (main (F := Ideal))) ⟨m, fun _ => 0, ρ⟩ (fun r => ∀ c : Dev nD,
      r.2.mem ((c.tc : Thread nD τ).loc main_v8) = (mat .f32 (fun p q => part (U c) (D c) 8192 p q * half) : Vec Ideal S2816x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.TallReferenceIdeal.Value.run m ρ)
  obtain ⟨h0, hrest⟩ := h c
  exact ⟨h0.trans (mat_ext .f32 _ (grad_apply _ _ _ _ (hu c) (hd c))), hrest⟩

end Cert.TallReferenceIdeal.Grad

end
-- ==== Proof.Proj.RowGrad.lean ====
/-
  The gradient of a normalised row, of extended reals: the two ways to write it agree.
-/
module

public import proofs.«01_k».proof.Proof.Val.Reals
public import proofs.«01_k».proof.Proof.Fwd.Spec

@[expose] public section

set_option maxRecDepth 16384

noncomputable section

namespace Cert.Proj

open Idealize.ShloMosaic Cert.Fwd
open scoped BigOperators

/-- The width of a row. -/
abbrev width : EReal := Ideal.ofBits .f32 0x44800000#32

/-- A row's mean square and the constant under the root. -/
def mean (r : ℕ → EReal) : EReal :=
  Ideal.div (∑ k ∈ Finset.range 1024, r k * r k) width + Ideal.ofBits .f32 0x358637BD#32

/-- Dividing by the width is multiplying by its reciprocal. -/
theorem div_width_eq (x : EReal) : Ideal.div x width = x * ((1 / 1024 : ℝ) : EReal) := by
  rw [width, Cert.Val.lit_width, Ideal.div, if_neg (by exact_mod_cast (by norm_num : (1024 : ℝ) ≠ 0)), ← EReal.coe_inv, one_div]

theorem square_nonneg (x : EReal) : 0 ≤ x * x := by
  induction x with
  | bot => rw [EReal.bot_mul_bot]; exact le_top
  | top => rw [EReal.top_mul_top]; exact le_top
  | coe x => rw [← EReal.coe_mul]; exact EReal.coe_nonneg.mpr (mul_self_nonneg x)

theorem mean_gt (r : ℕ → EReal) : 0 < mean r := by
  unfold mean
  rw [div_width_eq, Cert.Val.lit_eps]
  refine lt_of_lt_of_le (EReal.coe_pos.mpr Cert.Val.eps_pos) (le_add_of_nonneg_left ?_)
  exact mul_nonneg (Finset.sum_nonneg fun k _ => square_nonneg (r k)) (EReal.coe_nonneg.mpr (by norm_num))

/-- The mean is infinite, with a root's reciprocal of zero, or a positive real. -/
theorem mean_cases (r : ℕ → EReal) : mean r = ⊤ ∨ ∃ t : ℝ, 0 < t ∧ mean r = (t : EReal) := by
  have h := mean_gt r
  revert h
  generalize mean r = t
  intro h
  induction t with
  | bot => exact absurd h (by simp)
  | top => exact .inl rfl
  | coe t => exact .inr ⟨t, EReal.coe_pos.mp h, rfl⟩

/-- A nonnegative real factor goes through a sum. -/
theorem sum_scale (c : ℝ) (h0 : 0 ≤ c) (n : ℕ) (f : ℕ → EReal) :
    ∑ k ∈ Finset.range n, f k * (c : EReal) = (∑ k ∈ Finset.range n, f k) * (c : EReal) := by
  induction n with
  | zero => simp
  | succ n ih =>
    rw [Finset.sum_range_succ, Finset.sum_range_succ, ih,
      EReal.right_distrib_of_nonneg_of_ne_top (EReal.coe_nonneg.mpr h0) (EReal.coe_ne_top _)]

theorem add_self_eq (x : EReal) : x + x = x * ((2 : ℝ) : EReal) := by
  induction x with
  | bot => rw [EReal.bot_mul_coe_of_pos (by norm_num), EReal.bot_add]
  | top => rw [EReal.top_mul_coe_of_pos (by norm_num), EReal.top_add_top]
  | coe x => rw [← EReal.coe_mul, ← EReal.coe_add, mul_two]

/-- The gradient of a row: of the row, the gradient of the normalised row, and the gradient added to it. -/
def rowGrad (h X : ℕ → EReal) (y : EReal) (q : ℕ) : EReal :=
  y + Ideal.rsqrt (mean h) * (X q - h q * Ideal.rsqrt (mean h) *
    Ideal.div (∑ k ∈ Finset.range 1024, X k * (h k * Ideal.rsqrt (mean h))) width)

/-- The gradient of a row's sum of squares. -/
def squares (h X : ℕ → EReal) : EReal :=
  Ideal.div ((∑ k ∈ Finset.range 1024, h k * X k) *
    (Ideal.ofBits .f32 0xBF000000#32 * Ideal.div (Ideal.rsqrt (mean h)) (mean h))) width

/-- The two ways to write a row's gradient agree, for every row and every gradient. -/
theorem rowGrad_eq (h X : ℕ → EReal) (y : EReal) (q : ℕ) :
    y + X q * Ideal.rsqrt (mean h) + h q * squares h X + squares h X * h q = rowGrad h X y q := by
  unfold rowGrad squares
  rw [div_width_eq, div_width_eq, Cert.Val.lit_neg_half]
  rcases mean_cases h with ht | ⟨t, ht, e⟩
  · have hr : Ideal.rsqrt (⊤ : EReal) = 0 := rfl
    have hd : Ideal.div (0 : EReal) ⊤ = 0 := by rw [Ideal.div, if_neg (by simp), zero_mul]
    rw [ht, hr, hd]
    simp only [mul_zero, zero_mul, add_zero]
  · have hr : Ideal.rsqrt ((t : ℝ) : EReal) = (((Real.sqrt t)⁻¹ : ℝ) : EReal) := Cert.Val.rsqrt_coe_pos t ht
    have h2 : (Real.sqrt t)⁻¹ / t = (Real.sqrt t)⁻¹ * ((Real.sqrt t)⁻¹ * (Real.sqrt t)⁻¹) := by
      rw [div_eq_mul_inv]
      congr 1
      rw [← mul_inv, Real.mul_self_sqrt ht.le]
    have h0 : 0 ≤ (Real.sqrt t)⁻¹ := inv_nonneg.mpr (Real.sqrt_nonneg t)
    rw [e, hr, Cert.Val.div_coe _ _ ht.ne', h2]
    generalize (Real.sqrt t)⁻¹ = r at h0
    have hs : ∑ k ∈ Finset.range 1024, X k * (h k * (r : EReal)) = (∑ k ∈ Finset.range 1024, h k * X k) * (r : EReal) := by
      rw [← sum_scale r h0]
      refine Finset.sum_congr rfl fun k _ => ?_
      rw [mul_comm (h k) (X k), mul_assoc]
    rw [hs, sub_eq_add_neg, EReal.left_distrib_of_nonneg_of_ne_top (EReal.coe_nonneg.mpr h0) (EReal.coe_ne_top _)]
    generalize ∑ k ∈ Finset.range 1024, h k * X k = S
    generalize h q = a
    rw [add_assoc, add_assoc, ← add_assoc (X q * _), ← add_assoc, ← add_assoc, add_assoc (y + X q * _), mul_comm (X q), add_assoc y]
    congr 2
    have el : a * (S * (((-(1 / 2) : ℝ) : EReal) * ((r * (r * r) : ℝ) : EReal)) * ((1 / 1024 : ℝ) : EReal))
        = a * S * ((-(1 / 2) * (r * (r * r)) * (1 / 1024) : ℝ) : EReal) := by
      rw [EReal.coe_mul, EReal.coe_mul]; ac_rfl
    have er : (r : EReal) * -(a * r * (S * r * ((1 / 1024 : ℝ) : EReal))) = a * S * ((-(r * (r * r) * (1 / 1024)) : ℝ) : EReal) := by
      rw [EReal.coe_neg, mul_neg, mul_neg, EReal.coe_mul, EReal.coe_mul, EReal.coe_mul]
      congr 1
      ac_rfl
    rw [mul_comm _ a, el, er, add_self_eq, mul_assoc, ← EReal.coe_mul]
    congr 3
    ring

end Cert.Proj

end
-- ==== Proof.Proj.Spec.lean ====
/-
  The gradients of a product of normalised rows, as functions of extended reals.
-/
module

public import proofs.«01_k».proof.Proof.Proj.RowGrad

@[expose] public section

set_option maxRecDepth 16384

noncomputable section

namespace Cert.Proj

open Idealize.ShloMosaic Cert.Fwd
open scoped BigOperators

/-- The arguments: the rows, the gradient of the product, the gradient of the rows beside it, the gain and the weight. -/
structure Back where
  h : ℕ → ℕ → EReal
  o : ℕ → ℕ → EReal
  dr : ℕ → ℕ → EReal
  g : ℕ → EReal
  w : ℕ → ℕ → EReal

namespace Back

variable (x : Back)

/-- The reciprocal root of a row's mean square. -/
def rstd (r : ℕ) : EReal := Ideal.rsqrt (mean (x.h r))
/-- The normalised row. -/
def xh (r q : ℕ) : EReal := x.h r q * x.rstd r
/-- The normalised row, scaled by the gain. -/
def u (r q : ℕ) : EReal := x.xh r q * x.g q
/-- The gradient of the scaled row, over the first `n` columns of the product. -/
def duTo (n r q : ℕ) : EReal := ∑ j ∈ Finset.range n, x.o r j * x.w q j
/-- The gradient of the scaled row. -/
def du (r q : ℕ) : EReal := x.duTo 5632 r q
/-- The gradient of the row. -/
def dh (r q : ℕ) : EReal := rowGrad (x.h r) (fun k => x.du r k * x.g k) (x.dr r q) q
/-- The gradient of the gain over the first `n` rows. -/
def dgTo (n q : ℕ) : EReal := ∑ r ∈ Finset.range n, x.du r q * x.xh r q
/-- The gradient of the gain. -/
def dg (q : ℕ) : EReal := x.dgTo 8192 q

theorem duTo_zero (r q : ℕ) : x.duTo 0 r q = 0 := by unfold duTo; rw [Finset.range_zero, Finset.sum_empty]

theorem duTo_add (n l r q : ℕ) : x.duTo (n + l) r q = x.duTo n r q + ∑ j ∈ Finset.range l, x.o r (n + j) * x.w q (n + j) := by
  unfold duTo; rw [Finset.sum_range_add]

theorem dgTo_zero (q : ℕ) : x.dgTo 0 q = 0 := by unfold dgTo; rw [Finset.range_zero, Finset.sum_empty]

theorem dgTo_add (n l q : ℕ) : x.dgTo (n + l) q = x.dgTo n q + ∑ r ∈ Finset.range l, x.du (n + r) q * x.xh (n + r) q := by
  unfold dgTo; rw [Finset.sum_range_add]

end Back

/-- An index of one row. -/
theorem eq_ix2_one {a : ℕ} (y : Shape.Idx (⟨2, ![1, a]⟩ : Shape)) : y = ix2 0 (y 1) := by
  funext d
  fin_cases d
  · exact Subsingleton.elim (α := Fin 1) _ _
  · rfl

/-- A row with these entries. -/
def row {a : ℕ} (e : FTy) (f : ℕ → EReal) : FVec Ideal (⟨1, ![a]⟩ : Shape) e := fun i => f (i 0)

/-- An array is the row of the entries it has at every index. -/
theorem row_ext {a : ℕ} (e : FTy) (f : ℕ → EReal) {v : FVec Ideal (⟨1, ![a]⟩ : Shape) e} (h : ∀ q : Fin a, v (ix1 q) = f q) :
    v = row e f := by
  funext j
  obtain ⟨q, rfl⟩ : ∃ q : Fin a, j = ix1 q := ⟨j 0, (ix1_eta j).symm⟩
  exact h q

/-- The arrays' entries are the arguments'. -/
structure IsBack (x : Back) (h : FVec Ideal (⟨2, ![8192, 1024]⟩ : Shape) .f32) (o : FVec Ideal (⟨2, ![8192, 5632]⟩ : Shape) .bf16)
    (dr : FVec Ideal (⟨2, ![8192, 1024]⟩ : Shape) .f32) (g : FVec Ideal (⟨1, ![1024]⟩ : Shape) .f32)
    (w : FVec Ideal (⟨2, ![1024, 5632]⟩ : Shape) .f32) : Prop where
  h : ∀ (p : Fin 8192) (q : Fin 1024), h (ix2 p q) = x.h p q
  o : ∀ (p : Fin 8192) (q : Fin 5632), o (ix2 p q) = x.o p q
  dr : ∀ (p : Fin 8192) (q : Fin 1024), dr (ix2 p q) = x.dr p q
  g : ∀ q : Fin 1024, g (ix1 q) = x.g q
  w : ∀ (p : Fin 1024) (q : Fin 5632), w (ix2 p q) = x.w p q

/-- The arguments that five arrays hold. -/
def back (h : FVec Ideal (⟨2, ![8192, 1024]⟩ : Shape) .f32) (o : FVec Ideal (⟨2, ![8192, 5632]⟩ : Shape) .bf16)
    (dr : FVec Ideal (⟨2, ![8192, 1024]⟩ : Shape) .f32) (g : FVec Ideal (⟨1, ![1024]⟩ : Shape) .f32)
    (w : FVec Ideal (⟨2, ![1024, 5632]⟩ : Shape) .f32) : Back := ⟨ent h, ent o, ent dr, ent1 g, ent w⟩

theorem back_is (h : FVec Ideal (⟨2, ![8192, 1024]⟩ : Shape) .f32) (o : FVec Ideal (⟨2, ![8192, 5632]⟩ : Shape) .bf16)
    (dr : FVec Ideal (⟨2, ![8192, 1024]⟩ : Shape) .f32) (g : FVec Ideal (⟨1, ![1024]⟩ : Shape) .f32)
    (w : FVec Ideal (⟨2, ![1024, 5632]⟩ : Shape) .f32) : IsBack (back h o dr g w) h o dr g w :=
  ⟨ent_eq h, ent_eq o, ent_eq dr, ent1_eq g, ent_eq w⟩

end Cert.Proj

end
-- ==== Proof.Proj.Blocks.lean ====
/-
  The blocks a grid point of the product's gradient reads: which rows and columns of the arguments they are.
-/
module

public import proofs.«01_k».proof.Proof.Proj.Spec
public import proofs.«01_k».proof.Proof.Gen.ProjectBwdIdeal.Frame

@[expose] public section

set_option maxRecDepth 16384

noncomputable section

namespace Cert.ProjectBwdIdeal.Proj

open Cert.ProjectBwdIdeal Cert.ProjectBwdIdeal.Gen Cert.Fwd Cert.Proj
open Idealize.ShloMosaic Idealize.ShloMosaic.TcCoe Idealize.ShloMosaic.Pipeline
open scoped BigOperators

section terms
variable {F : FTy → Type} [FloatOps F]
variable (m : (ℓ : Loc nD τ sig) → Buf (Elt F) ℓ) (c : Dev nD)

abbrev hF : Vec F S8192x1024 .f32 := m ((c.tc : Thread nD τ).loc main_arg0)
abbrev oF : Vec F S8192x5632 .bf16 := m ((c.tc : Thread nD τ).loc main_arg1)
abbrev drF : Vec F S8192x1024 .f32 := m ((c.tc : Thread nD τ).loc main_arg2)
abbrev gF : Vec F S1024 .f32 := m ((c.tc : Thread nD τ).loc main_arg3)
abbrev wF : Vec F S1024x5632 .f32 := m ((c.tc : Thread nD τ).loc main_arg4)

/-- The arguments that the host code leaves as they are. -/
theorem v_arg0 : V m c main_arg0 = hF m c := by
  unfold V V0 hostOps0
  simp only [List.flatten_cons, List.flatten_nil, List.append_nil]
  after_results_simp

theorem v_arg1 : V m c main_arg1 = oF m c := by
  unfold V V0 hostOps0
  simp only [List.flatten_cons, List.flatten_nil, List.append_nil]
  after_results_simp

theorem v_arg2 : V m c main_arg2 = drF m c := by
  unfold V V0 hostOps0
  simp only [List.flatten_cons, List.flatten_nil, List.append_nil]
  after_results_simp

/-- The gain, as one row. -/
theorem v_0 : V m c main_v0 = shapeCast S1x1024 (gF m c) shapeCasts_S1024_S1x1024 := by
  unfold V V0 hostOps0
  simp only [List.flatten_cons, List.flatten_nil, List.append_nil]
  after_results_simp
  rfl

/-- The weight, rounded. -/
theorem v_1 : V m c main_v1 = truncf .bf16 (wF m c) bitsLt_bf16_f32 := by
  unfold V V0 hostOps0
  simp only [List.flatten_cons, List.flatten_nil, List.append_nil]
  after_results_simp

end terms

/-- The gain as one row. -/
theorem row_apply (a : Vec Ideal S1024 .f32) (q : Fin 1024) : shapeCast S1x1024 a shapeCasts_S1024_S1x1024 (ix2 0 q) = a (ix1 q) := by
  pointwise []

/-! ## Which block each window is on -/

theorem ix0' : ∀ t : Fin cfg0.N, win0_0.index t = ![t.val / 4, 0] := (by decide +kernel : ∀ t : Fin grid0.N, _)
theorem ix1' : ∀ t : Fin cfg0.N, win0_1.index t = ![0, 0] := (by decide +kernel : ∀ t : Fin grid0.N, _)
theorem ix2' : ∀ t : Fin cfg0.N, win0_2.index t = ![0, t.val % 4] := (by decide +kernel : ∀ t : Fin grid0.N, _)
theorem ix3' : ∀ t : Fin cfg0.N, win0_3.index t = ![t.val / 4, t.val % 4] := (by decide +kernel : ∀ t : Fin grid0.N, _)
theorem ix4' : ∀ t : Fin cfg0.N, win0_4.index t = ![t.val / 4, 0] := (by decide +kernel : ∀ t : Fin grid0.N, _)
theorem ix5' : ∀ t : Fin cfg0.N, win0_5.index t = ![t.val / 4, 0] := (by decide +kernel : ∀ t : Fin grid0.N, _)
theorem ix6' : ∀ t : Fin cfg0.N, win0_6.index t = ![t.val / 4, 0] := (by decide +kernel : ∀ t : Fin grid0.N, _)

theorem t_lt (t : Fin cfg0.N) : t.val < 64 := t.isLt

section blocks
variable (m : (ℓ : Loc nD τ sig) → Buf (Elt Ideal) ℓ) (c : Dev nD) (x : Back)

/-- The arguments are those the arrays hold. -/
abbrev Is : Prop := IsBack x (hF m c) (oF m c) (drF m c) (gF m c) (wF m c)

variable (hx : Is m c x) (t : Fin cfg0.N)
include hx

/-- The tile's rows. -/
theorem blk0 (p : Fin 512) (q : Fin 1024) : iblk m c 0 t (ix2 p q) = x.h (512 * (t.val / 4) + p) q := by
  have ht := t_lt t
  blk_simp [iblk]
  have e : (win0_0.blk t).view.emb (ix2 p q) = ix2 ⟨512 * (t.val / 4) + p, by omega⟩ q := by blk_ext [ix0']
  rw [e, v_arg0]
  exact hx.h _ _

/-- The gain. -/
theorem blk1 (q : Fin 1024) : iblk m c 1 t (ix2 0 q) = x.g q := by
  blk_simp [iblk]
  have e : (win0_1.blk t).view.emb (ix2 0 q) = ix2 0 q := by blk_ext [ix1']
  rw [e, v_0]
  exact (row_apply _ q).trans (hx.g q)

/-- The block of the weight's columns. -/
theorem blk2 (p : Fin 1024) (q : Fin 1408) : iblk m c 2 t (ix2 p q) = x.w p (1408 * (t.val % 4) + q) := by
  blk_simp [iblk]
  have e : (win0_2.blk t).view.emb (ix2 p q) = ix2 p ⟨1408 * (t.val % 4) + q, by omega⟩ := by blk_ext [ix2']
  rw [e, v_1]
  exact hx.w _ _

/-- The tile's block of the product's gradient. -/
theorem blk3 (p : Fin 512) (q : Fin 1408) :
    iblk m c 3 t (ix2 p q) = x.o (512 * (t.val / 4) + p) (1408 * (t.val % 4) + q) := by
  have ht := t_lt t
  blk_simp [iblk]
  have e : (win0_3.blk t).view.emb (ix2 p q) = ix2 ⟨512 * (t.val / 4) + p, by omega⟩ ⟨1408 * (t.val % 4) + q, by omega⟩ := by
    blk_ext [ix3']
  rw [e, v_arg1]
  exact hx.o _ _

/-- The tile's gradient beside the product. -/
theorem blk4 (p : Fin 512) (q : Fin 1024) : iblk m c 4 t (ix2 p q) = x.dr (512 * (t.val / 4) + p) q := by
  have ht := t_lt t
  blk_simp [iblk]
  have e : (win0_4.blk t).view.emb (ix2 p q) = ix2 ⟨512 * (t.val / 4) + p, by omega⟩ q := by blk_ext [ix4']
  rw [e, v_arg2]
  exact hx.dr _ _

end blocks

end Cert.ProjectBwdIdeal.Proj

end
-- ==== Proof.Proj.Pay.lean ====
/-
  What the body of the product's gradient computes at an index, of extended reals.
-/
module

public import proofs.«01_k».proof.Proof.Proj.Spec
public import proofs.«01_k».proof.Proof.Gen.ProjectBwdIdeal.Skeleton

@[expose] public section

set_option maxRecDepth 16384

noncomputable section

namespace Cert.ProjectBwdIdeal.Proj

open Cert.ProjectBwdIdeal Cert.ProjectBwdIdeal.Gen Cert.Fwd Cert.Proj
open Idealize.ShloMosaic Idealize.ShloMosaic.TcCoe Idealize.ShloMosaic.Pipeline
open scoped BigOperators

/-- The sum with one block of columns added. -/
theorem add_apply (v : Vec Ideal S512x1024 .f32) (o : Vec Ideal S512x1408 .bf16) (w : Vec Ideal S1024x1408 .bf16) (V O W : ℕ → ℕ → EReal)
    (hV : ∀ (p : Fin 512) (q : Fin 1024), v (ix2 p q) = V p q) (hO : ∀ (p : Fin 512) (q : Fin 1408), o (ix2 p q) = O p q)
    (hW : ∀ (p : Fin 1024) (q : Fin 1408), w (ix2 p q) = W p q) (p : Fin 512) (q : Fin 1024) :
    k0_pay3 v o w (ix2 p q) = V p q + ∑ k ∈ Finset.range 1408, O p k * W q k := by
  pointwise [k0_pay3]
  simp only [hV, hO, hW, Finset.sum_range]

theorem zero_apply (p : Fin 512) (q : Fin 1024) : (k0_pay1 (F := Ideal)) (ix2 p q) = (0 : EReal) := by
  pointwise [k0_pay1]

theorem zero_row_apply (q : Fin 1024) : (k0_pay2 (F := Ideal)) (ix2 0 q) = (0 : EReal) := by
  pointwise [k0_pay2]

/-- The last point's rows: the gradient of the rows, of the rows, the gain, the sum and the gradient beside it. -/
abbrev dhOf {F : FTy → Type} [FloatOps F] (h : Vec F S512x1024 .f32) (g : Vec F S1x1024 .f32) (du dr : Vec F S512x1024 .f32) :
    Vec F S512x1024 .f32 := k0_pay4 (k0_pay5 h) (k0_pay11 g du) dr (k0_pay12 h g du)

section
variable (h : Vec Ideal S512x1024 .f32) (H : ℕ → ℕ → EReal) (hH : ∀ (p : Fin 512) (q : Fin 1024), h (ix2 p q) = H p q)
include hH

/-- The gain's gradient with one tile of rows added. -/
theorem dg_apply (du : Vec Ideal S512x1024 .f32) (dg : Vec Ideal S1x1024 .f32) (U : ℕ → ℕ → EReal) (G : ℕ → EReal)
    (hU : ∀ (p : Fin 512) (q : Fin 1024), du (ix2 p q) = U p q) (hG : ∀ q : Fin 1024, dg (ix2 0 q) = G q) (q : Fin 1024) :
    k0_pay10 h du dg (ix2 0 q) = G q + ∑ p ∈ Finset.range 512, U p q * (H p q * Ideal.rsqrt (mean (H p))) := by
  pointwise [k0_pay10, k0_pay9, k0_pay6, k0_pay5]
  simp only [hH, hU, hG, lit_one, mul_one, mean, width, Finset.sum_range]

/-- The normalised rows, scaled by the gain. -/
theorem u_apply (g : Vec Ideal S1x1024 .f32) (G : ℕ → EReal) (hG : ∀ q : Fin 1024, g (ix2 0 q) = G q)
    (p : Fin 512) (q : Fin 1024) : k0_pay8 h g (ix2 p q) = H p q * Ideal.rsqrt (mean (H p)) * G q := by
  pointwise [k0_pay8, k0_pay7, k0_pay6, k0_pay5]
  simp only [hH, hG, mean, width, Finset.sum_range]

/-- The gradient of the rows. -/
theorem dh_apply (g : Vec Ideal S1x1024 .f32) (du dr : Vec Ideal S512x1024 .f32) (U Y : ℕ → ℕ → EReal) (G : ℕ → EReal)
    (hG : ∀ q : Fin 1024, g (ix2 0 q) = G q) (hU : ∀ (p : Fin 512) (q : Fin 1024), du (ix2 p q) = U p q)
    (hY : ∀ (p : Fin 512) (q : Fin 1024), dr (ix2 p q) = Y p q) (p : Fin 512) (q : Fin 1024) :
    dhOf h g du dr (ix2 p q) = rowGrad (H p) (fun k => U p k * G k) (Y p q) q := by
  unfold dhOf
  pointwise [k0_pay4, k0_pay5, k0_pay6, k0_pay7, k0_pay9, k0_pay11, k0_pay12]
  simp only [hH, hU, hG, hY, lit_one, mul_one, rowGrad, mean, width, Finset.sum_range]

end

end Cert.ProjectBwdIdeal.Proj

end
-- ==== Proof.Proj.Steps.lean ====
/-
  What each grid point of the product's gradient leaves in its buffers, as the body's functions of the blocks it reads.
-/
module

public import proofs.«01_k».proof.Proof.Proj.Pay
public import proofs.«01_k».proof.Proof.Gen.ProjectBwdIdeal.Frame
public import Idealize.ShloMosaic.Lib.Pipeline.ReadBack

@[expose] public section

set_option maxRecDepth 16384

noncomputable section

namespace Cert.ProjectBwdIdeal.Proj

open Cert.ProjectBwdIdeal Cert.ProjectBwdIdeal.Gen Cert.Val Cert.Proj
open Idealize.ShloMosaic Idealize.ShloMosaic.TcCoe Idealize.ShloMosaic.Pipeline
open scoped BigOperators

variable {F : FTy → Type} [FloatOps F]
variable (m : (ℓ : Loc nD τ sig) → Buf (Elt F) ℓ) (c : Dev nD)

/-- What the buffers hold after a point: the gain's gradient and the sum. -/
abbrev dgAt (t : Fin cfg0.N) : Vec F S1x1024 .f32 := (outsAt0 m c t.val t.isLt).2.2.1
abbrev duAt (t : Fin cfg0.N) : Vec F S512x1024 .f32 := (outsAt0 m c t.val t.isLt).2.2.2
/-- The point before. -/
abbrev prev (t : Fin cfg0.N) : Fin cfg0.N := ⟨t.val - 1, Nat.lt_of_le_of_lt (Nat.sub_le _ _) t.isLt⟩

/-- A tile's first point adds the first block's product to zero. -/
theorem du_first (t : Fin cfg0.N) (h : t.val % 4 = 0) : duAt m c t = k0_pay3 k0_pay1 (iblk m c 3 t) (iblk m c 2 t) := by
  unfold duAt
  by_cases h1 : t.val % 64 = 0
  · rw [outsAt0_A m c t h h1 (by omega)]
    frame_out
  · rw [outsAt0_D m c t h h1 (by omega)]
    frame_out

/-- The other points add their block's product to what the point before left. -/
theorem du_next (t : Fin cfg0.N) (h : ¬t.val % 4 = 0) : duAt m c t = k0_pay3 (duAt m c (prev t)) (iblk m c 3 t) (iblk m c 2 t) := by
  unfold duAt
  by_cases h3 : t.val % 4 = 3
  · rw [outsAt0_C m c t h (by omega) h3]
    frame_out
    simp only [read_unread_whole]
  · rw [outsAt0_B m c t h (by omega) h3]
    frame_out
    simp only [read_unread_whole]

/-- The grid's first point sets the gain's gradient to zero. -/
theorem dg_first (t : Fin cfg0.N) (h : t.val % 64 = 0) : dgAt m c t = k0_pay2 := by
  unfold dgAt
  rw [outsAt0_A m c t (by omega) h (by omega)]
  frame_out

/-- The points that are not a tile's last keep it. -/
theorem dg_keep (t : Fin cfg0.N) (h : ¬t.val % 64 = 0) (h3 : ¬t.val % 4 = 3) : dgAt m c t = dgAt m c (prev t) := by
  unfold dgAt
  by_cases h0 : t.val % 4 = 0
  · rw [outsAt0_D m c t h0 h h3]
    rfl
  · rw [outsAt0_B m c t h0 h h3]
    rfl

/-- A tile's last point adds the tile's rows to it. -/
theorem dg_last (t : Fin cfg0.N) (h3 : t.val % 4 = 3) : dgAt m c t = k0_pay10 (iblk m c 0 t) (duAt m c t) (dgAt m c (prev t)) := by
  rw [du_next m c t (by omega)]
  unfold dgAt duAt
  rw [outsAt0_C m c t (by omega) (by omega) h3]
  frame_out
  simp only [read_unread_whole]

/-- A tile's last point makes its normalised rows. -/
theorem u_at (t : Fin cfg0.N) (h3 : t.val % 4 = 3) : (outsAt0 m c t.val t.isLt).2.1 = k0_pay8 (iblk m c 0 t) (iblk m c 1 t) := by
  rw [outsAt0_C m c t (by omega) (by omega) h3]
  frame_out

/-- A tile's last point makes its rows' gradient. -/
theorem dh_at (t : Fin cfg0.N) (h3 : t.val % 4 = 3) :
    (outsAt0 m c t.val t.isLt).1 = dhOf (iblk m c 0 t) (iblk m c 1 t) (duAt m c t) (iblk m c 4 t) := by
  rw [du_next m c t (by omega)]
  unfold dhOf duAt
  rw [outsAt0_C m c t (by omega) (by omega) h3]
  frame_out
  simp only [read_unread_whole]

end Cert.ProjectBwdIdeal.Proj

end
-- ==== Proof.Proj.Run.lean ====
/-
  What the run of the product's gradient leaves in its three results.
-/
module

public import proofs.«01_k».proof.Proof.Proj.Blocks
public import proofs.«01_k».proof.Proof.Proj.Steps
public import Idealize.ShloMosaic.Lib.Claim
public import Idealize.ShloMosaic.Lib.Quiescent

@[expose] public section

set_option maxRecDepth 16384

noncomputable section

namespace Cert.ProjectBwdIdeal.Proj

open Cert.ProjectBwdIdeal Cert.ProjectBwdIdeal.Gen Cert.Fwd Cert.Proj
open Idealize.ShloMosaic Idealize.ShloMosaic.TcCoe Idealize.SL.Sem
open scoped BigOperators

section run
variable (m : (ℓ : Loc nD τ sig) → Buf (Elt Ideal) ℓ) (c : Dev nD)

section at_arg
variable (x : Back) (hx : Is m c x)
include hx

/-- After every point the sum is the gradient of the scaled rows over the columns so far. -/
theorem du_eq (n : ℕ) (hn : n < cfg0.N) (p : Fin 512) (q : Fin 1024) :
    duAt m c ⟨n, hn⟩ (ix2 p q) = x.duTo (1408 * (n % 4) + 1408) (512 * (n / 4) + p) q := by
  rw [x.duTo_add]
  have first (n : ℕ) (hn : n < cfg0.N) (h : n % 4 = 0) (p : Fin 512) (q : Fin 1024) : duAt m c ⟨n, hn⟩ (ix2 p q)
      = x.duTo (1408 * (n % 4)) (512 * (n / 4) + p) q
        + ∑ j ∈ Finset.range 1408, x.o (512 * (n / 4) + p) (1408 * (n % 4) + j) * x.w q (1408 * (n % 4) + j) := by
    rw [du_first m c ⟨n, hn⟩ h]
    refine (add_apply _ _ _ (fun _ _ => 0) (fun p q => x.o (512 * (n / 4) + p) (1408 * (n % 4) + q))
      (fun p q => x.w p (1408 * (n % 4) + q)) zero_apply (blk3 m c x hx ⟨n, hn⟩) (blk2 m c x hx ⟨n, hn⟩) p q).trans ?_
    rw [h, Nat.mul_zero, x.duTo_zero]
  induction n generalizing p q with
  | zero => exact first 0 hn rfl p q
  | succ n ih =>
    by_cases h : (n + 1) % 4 = 0
    · exact first (n + 1) hn h p q
    · rw [du_next m c ⟨n + 1, hn⟩ h]
      refine add_apply _ _ _ (fun p q => x.duTo (1408 * ((n + 1) % 4)) (512 * ((n + 1) / 4) + p) q)
        (fun p q => x.o (512 * ((n + 1) / 4) + p) (1408 * ((n + 1) % 4) + q))
        (fun p q => x.w p (1408 * ((n + 1) % 4) + q)) (fun p q => ?_) (blk3 m c x hx ⟨n + 1, hn⟩) (blk2 m c x hx ⟨n + 1, hn⟩) p q
      have e : 1408 * ((n + 1) % 4) = 1408 * (n % 4) + 1408 := by omega
      rw [e, show (n + 1) / 4 = n / 4 by omega, x.duTo_add]
      exact ih (Nat.lt_of_succ_lt hn) p q

/-- At a tile's last point the sum is whole. -/
theorem du_whole (t : Fin cfg0.N) (h3 : t.val % 4 = 3) (p : Fin 512) (q : Fin 1024) :
    duAt m c t (ix2 p q) = x.du (512 * (t.val / 4) + p) q := by
  have h := du_eq m c x hx t.val t.isLt p q
  rw [h3] at h
  exact h

/-- After every point the gain's gradient is over the tiles done. -/
theorem dg_eq (n : ℕ) (hn : n < cfg0.N) (q : Fin 1024) :
    dgAt m c ⟨n, hn⟩ (ix2 0 q) = x.dgTo (512 * ((n + 1) / 4)) q := by
  induction n generalizing q with
  | zero =>
    rw [dg_first m c ⟨0, hn⟩ rfl]
    refine (zero_row_apply q).trans ?_
    rw [show 512 * ((0 + 1) / 4) = 0 by omega, x.dgTo_zero]
  | succ n ih =>
    have hb : n + 1 < 64 := hn
    by_cases h3 : (n + 1) % 4 = 3
    · rw [dg_last m c ⟨n + 1, hn⟩ h3]
      refine (dg_apply _ (fun p q => x.h (512 * ((n + 1) / 4) + p) q) (blk0 m c x hx ⟨n + 1, hn⟩) _ _
        (fun p q => x.du (512 * ((n + 1) / 4) + p) q) (x.dgTo (512 * ((n + 1) / 4))) (du_whole m c x hx ⟨n + 1, hn⟩ h3)
        (ih (Nat.lt_of_succ_lt hn)) q).trans ?_
      rw [show 512 * ((n + 1 + 1) / 4) = 512 * ((n + 1) / 4) + 512 by omega, x.dgTo_add]
      rfl
    · rw [dg_keep m c ⟨n + 1, hn⟩ (by show ¬(n + 1) % 64 = 0; omega) h3, show (n + 1 + 1) / 4 = (n + 1) / 4 by omega]
      exact ih (Nat.lt_of_succ_lt hn) q

/-- The rows' gradient. -/
theorem out5 : (dats m 0 c).arrAt 5 cfg0.N = (mat .f32 x.dh : Vec Ideal S8192x1024 .f32) := by
  refine (dats m 0 c).arrAt_eq_of_covers 5 (mat .f32 x.dh : Vec Ideal S8192x1024 .f32) (by decide +kernel) fun t hf y => ?_
  have ht := t_lt t
  have h3 : t.val % 4 = 3 := (flush0_5 t).mp hf
  obtain ⟨p, q, rfl⟩ : ∃ (p : Fin 512) (q : Fin 1024), y = ix2 p q := ⟨y 0, y 1, eq_ix2 y⟩
  blk_simp
  rw [after0_5, dh_at m c t h3]
  refine (dh_apply _ (fun p q => x.h (512 * (t.val / 4) + p) q) (blk0 m c x hx t) _ _ _
    (fun p q => x.du (512 * (t.val / 4) + p) q) (fun p q => x.dr (512 * (t.val / 4) + p) q) x.g (blk1 m c x hx t)
    (du_whole m c x hx t h3) (blk4 m c x hx t) p q).trans ?_
  have e : (win0_5.blk t).view.emb (ix2 p q) = ix2 ⟨512 * (t.val / 4) + p, by omega⟩ q := by blk_ext [ix5']
  exact (congrArg (mat .f32 x.dh : Vec Ideal S8192x1024 .f32) e).symm

/-- The normalised rows, scaled. -/
theorem out6 : (dats m 0 c).arrAt 6 cfg0.N = (mat .bf16 x.u : Vec Ideal S8192x1024 .bf16) := by
  refine (dats m 0 c).arrAt_eq_of_covers 6 (mat .bf16 x.u : Vec Ideal S8192x1024 .bf16) (by decide +kernel) fun t hf y => ?_
  have ht := t_lt t
  have h3 : t.val % 4 = 3 := (flush0_6 t).mp hf
  obtain ⟨p, q, rfl⟩ : ∃ (p : Fin 512) (q : Fin 1024), y = ix2 p q := ⟨y 0, y 1, eq_ix2 y⟩
  blk_simp
  rw [after0_6, u_at m c t h3]
  refine (u_apply _ (fun p q => x.h (512 * (t.val / 4) + p) q) (blk0 m c x hx t) _ x.g (blk1 m c x hx t) p q).trans ?_
  have e : (win0_6.blk t).view.emb (ix2 p q) = ix2 ⟨512 * (t.val / 4) + p, by omega⟩ q := by blk_ext [ix6']
  exact (congrArg (mat .bf16 x.u : Vec Ideal S8192x1024 .bf16) e).symm

/-- The gain's gradient, in one row. -/
theorem out7 : (dats m 0 c).arrAt 7 cfg0.N = (fun i => x.dg (i 1) : Vec Ideal S1x1024 .f32) := by
  obtain ⟨t, ht⟩ : ∃ t : Fin cfg0.N, t.val = 63 := ⟨⟨63, by decide +kernel⟩, rfl⟩
  refine (dats m 0 c).arrAt_eq_of_after_last 7 t (by rw [show t = ⟨63, by decide +kernel⟩ from Fin.ext ht]; decide +kernel)
    (fun i => x.dg (i 1) : Vec Ideal S1x1024 .f32) (fun j => ?_)
  obtain ⟨q, rfl⟩ : ∃ q : Fin 1024, j = ix2 0 q := ⟨j 1, eq_ix2_one j⟩
  have h := dg_eq m c x hx t.val t.isLt q
  rw [show 512 * ((t.val + 1) / 4) = 8192 by omega] at h
  rw [after0_7]
  exact h

end at_arg

/-- The run's result at the gain's gradient. -/
theorem w_4 : Pipeline.afterTail₀ cfgs (dats m) 0 (V0 m) [hostOps1] c main_v4
    = shapeCast S1024 ((dats m 0 c).arrAt 7 cfg0.N : Vec Ideal S1x1024 .f32) shapeCasts_S1x1024_S1024 := by
  unfold Pipeline.afterTail₀ hostOps1
  simp only [List.flatten_cons, List.flatten_nil, List.append_nil]
  after_results_simp
  erw [Pipeline.withArrays_arr _ launch0.win.arr_inj c _ _ 7]
  exact congrArg (fun A : Vec Ideal S1x1024 .f32 => shapeCast S1024 A shapeCasts_S1x1024_S1024)
    (show ((dats m 0 c).arrAt 7 (cfgs 0).N : Vec Ideal S1x1024 .f32) = (dats m 0 c).arrAt 7 cfg0.N from rfl)

end run

/-- One row, without its leading dimension. -/
theorem row_eq (f : ℕ → EReal) : shapeCast S1024 (fun i => f (i 1) : Vec Ideal S1x1024 .f32) shapeCasts_S1x1024_S1024
    = (row .f32 f : Vec Ideal S1024 .f32) := by
  funext j
  obtain ⟨q, rfl⟩ : ∃ q : Fin 1024, j = ix1 q := ⟨j 0, (ix1_eta j).symm⟩
  pointwise
  rfl

/-- The call's run: its three results are the two gradients and the scaled rows, and the arguments end unchanged. -/
theorem run_value (m : (ℓ : Loc nD τ sig) → Buf (Elt Ideal) ℓ) (ρ : Dev nD → PrngReg) (x : Dev nD → Back)
    (hx : ∀ c, Is m c (x c)) :
    θ_run defs (onTc (τ := τ) (main (F := Ideal))) ⟨m, fun _ => 0, ρ⟩ (fun r => ∀ c : Dev nD,
      r.2.mem ((c.tc : Thread nD τ).loc main_v3_0) = (mat .f32 (x c).dh : Vec Ideal S8192x1024 .f32)
      ∧ r.2.mem ((c.tc : Thread nD τ).loc main_v4) = (row .f32 (x c).dg : Vec Ideal S1024 .f32)
      ∧ r.2.mem ((c.tc : Thread nD τ).loc main_v3_1) = (mat .bf16 (x c).u : Vec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  refine ⟨(h.1.out_eq c 5).trans (out5 m c (x c) (hx c)), (h.1.rest_eq c main_v4 (by decide)).trans ?_,
    (h.1.out_eq c 6).trans (out6 m c (x c) (hx c)), h.2 c⟩
  rw [w_4, out7 m c (x c) (hx c)]
  exact row_eq (x c).dg

end Cert.ProjectBwdIdeal.Proj

end
-- ==== Proof.Proj.Ref.lean ====
/-
  The reference of the product's gradient: it runs, and its results are the gradients and the scaled rows. The norm's part of it is the half step's.
-/
module

public import proofs.«01_k».proof.Proof.Proj.Spec
public import proofs.«01_k».proof.Proof.Val.RefStages
public import proofs.«01_k».proof.Proof.Gen.ProjectBwdReferenceIdeal.Run
public import Idealize.ShloMosaic.Lib.Quiescent
public import Idealize.ShloMosaic.Lib.Claim

@[expose] public section

set_option maxRecDepth 16384

noncomputable section

namespace Cert.ProjectBwdReferenceIdeal.Proj

open Cert.ProjectBwdReferenceIdeal Cert.ProjectBwdReferenceIdeal.Gen Cert.ProjectBwdReferenceIdeal.Value Cert.Fwd Cert.Proj
open Cert.ReferenceIdeal.Value (msT rstdT xhT gainT dgT tT dhT)
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev hR : Vec F S8192x1024 .f32 := m ((c.tc : Thread nD τ).loc main_arg0)
abbrev oR : Vec F S8192x5632 .bf16 := m ((c.tc : Thread nD τ).loc main_arg1)
abbrev drR : Vec F S8192x1024 .f32 := m ((c.tc : Thread nD τ).loc main_arg2)
abbrev gR : Vec F S1024 .f32 := m ((c.tc : Thread nD τ).loc main_arg3)
abbrev wR : Vec F S1024x5632 .f32 := m ((c.tc : Thread nD τ).loc main_arg4)

/-- The gradient of the scaled rows. -/
def duR : Vec F S8192x1024 .f32 :=
  Host.dotGeneral dot_S8192x5632_S1024x5632_S8192x1024_1_1_0_0_n_n none (extf .f32 (oR m c) bitsLt_bf16_f32) (wR m c)

theorem res0_eq : res_out0 m c = dhT (hR m c) (drR m c) (gainT (duR m c) (gR m c)) := rfl

end terms

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, sem_eq_zero_of_no_sems (by decide) _⟩) (Cert.ProjectBwdReferenceIdeal.Value.run m ρ)
  obtain ⟨-, -, -, h⟩ := h c
  exact h

section rows
variable (h : Vec Ideal S8192x1024 .f32) (H : ℕ → ℕ → EReal) (hH : ∀ (p : Fin 8192) (q : Fin 1024), h (ix2 p q) = H p q)
include hH

/-- The mean of squares and the constant under the root. -/
theorem ms_apply (p : Fin 8192) : msT h (ix2 p 0) = mean (H p) := by
  unfold msT
  pointwise []
  simp only [hH, mean, width, Finset.sum_range]

theorem rstd_apply (p : Fin 8192) : rstdT h (ix2 p 0) = Ideal.rsqrt (mean (H p)) := by
  unfold rstdT
  pointwise []
  rw [ms_apply h H hH]

theorem xh_apply (p : Fin 8192) (q : Fin 1024) : xhT h (ix2 p q) = H p q * Ideal.rsqrt (mean (H p)) := by
  unfold xhT
  pointwise []
  rw [hH, rstd_apply h H hH]

theorem gain_apply (g : Vec Ideal S1024 .f32) (G : ℕ → EReal) (hG : ∀ q : Fin 1024, g (ix1 q) = G q)
    (p : Fin 8192) (q : Fin 1024) : gainT h g (ix2 p q) = H p q * G q := by
  unfold gainT
  pointwise []
  rw [hH, hG]

theorem dg_sum (du : Vec Ideal S8192x1024 .f32) (U : ℕ → ℕ → EReal) (hU : ∀ (p : Fin 8192) (q : Fin 1024), du (ix2 p q) = U p q)
    (q : Fin 1024) : dgT h du (ix1 q) = ∑ p ∈ Finset.range 8192, U p q * H p q := by
  unfold dgT
  pointwise []
  simp only [hH, hU, Finset.sum_range, Fin.sum_univ_one, mul_comm (H _ _)]

/-- The gradient of a row's sum of squares. -/
theorem t_apply (dx : Vec Ideal S8192x1024 .f32) (X : ℕ → ℕ → EReal) (hX : ∀ (p : Fin 8192) (q : Fin 1024), dx (ix2 p q) = X p q)
    (p : Fin 8192) (q : Fin 1024) : tT h dx (ix2 p q) = squares (H p) (X p) := by
  unfold tT
  pointwise []
  rw [Fin.sum_univ_one, rstd_apply h H hH, ms_apply h H hH]
  simp only [hH, hX, squares, width, Finset.sum_range]

/-- The gradient of the rows. -/
theorem dh_apply (dy dx : Vec Ideal S8192x1024 .f32) (Y X : ℕ → ℕ → EReal) (hY : ∀ (p : Fin 8192) (q : Fin 1024), dy (ix2 p q) = Y p q)
    (hX : ∀ (p : Fin 8192) (q : Fin 1024), dx (ix2 p q) = X p q) (p : Fin 8192) (q : Fin 1024) :
    dhT h dy dx (ix2 p q) = rowGrad (H p) (X p) (Y p q) q := by
  rw [← rowGrad_eq]
  unfold dhT
  pointwise []
  rw [hY, hX, hH, rstd_apply h H hH, t_apply h H hH dx X hX]

end rows

section at_arg
variable (m : (ℓ : Loc nD τ sig) → Buf (Elt Ideal) ℓ) (c : Dev nD) (x : Back) (hx : IsBack x (hR m c) (oR m c) (drR m c) (gR m c) (wR m c))
include hx

theorem du_apply (p : Fin 8192) (q : Fin 1024) : duR m c (ix2 p q) = x.du p q := by
  unfold duR Back.du Back.duTo
  pointwise []
  simp only [hx.o, hx.w, Finset.sum_range]

/-- The rows' gradient. -/
theorem res0_eq_dh (p : Fin 8192) (q : Fin 1024) : res_out0 m c (ix2 p q) = x.dh p q := by
  rw [res0_eq]
  exact dh_apply _ x.h hx.h _ _ x.dr (fun p q => x.du p q * x.g q) hx.dr
    (fun p q => gain_apply _ x.du (du_apply m c x hx) _ x.g hx.g p q) p q

/-- The gain's gradient. -/
theorem dg_apply (q : Fin 1024) : dgT (xhT (hR m c)) (duR m c) (ix1 q) = x.dg q :=
  dg_sum _ x.xh (fun p q => xh_apply _ x.h hx.h p q) _ x.du (du_apply m c x hx) q

/-- The scaled rows. -/
theorem u_apply (p : Fin 8192) (q : Fin 1024) : gainT (xhT (hR m c)) (gR m c) (ix2 p q) = x.u p q :=
  gain_apply _ x.xh (fun p q => xh_apply _ x.h hx.h p q) _ x.g hx.g p q

end at_arg

/-- The reference's run: its three results, and the arguments end unchanged. -/
theorem run_value (m : (ℓ : Loc nD τ sig) → Buf (Elt Ideal) ℓ) (ρ : Dev nD → PrngReg) (x : Dev nD → Back)
    (hx : ∀ c, IsBack (x c) (hR m c) (oR m c) (drR m c) (gR m c) (wR m c)) :
    θ_run defs (onTc (τ := τ) (main (F := Ideal))) ⟨m, fun _ => 0, ρ⟩ (fun r => ∀ c : Dev nD,
      r.2.mem ((c.tc : Thread nD τ).loc main_v39) = (mat .f32 (x c).dh : Vec Ideal S8192x1024 .f32)
      ∧ r.2.mem ((c.tc : Thread nD τ).loc main_v24) = (row .f32 (x c).dg : Vec Ideal S1024 .f32)
      ∧ r.2.mem ((c.tc : Thread nD τ).loc main_v53) = (mat .bf16 (x c).u : Vec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.ProjectBwdReferenceIdeal.Value.run m ρ)
  obtain ⟨h0, h1, h2, hrest⟩ := h c
  exact ⟨h0.trans (mat_ext .f32 _ (res0_eq_dh m c (x c) (hx c))), h1.trans (row_ext .f32 _ (dg_apply m c (x c) (hx c))),
    h2.trans (mat_ext .bf16 _ (u_apply m c (x c) (hx c))), hrest⟩

end Cert.ProjectBwdReferenceIdeal.Proj

end
-- ==== Proof.Proj.Rows.lean ====
/-
  The product of normalised rows as a function of extended reals.
-/
module

public import proofs.«01_k».proof.Proof.Fwd.Spec

@[expose] public section

set_option maxRecDepth 16384

noncomputable section

namespace Cert.Proj

open Idealize.ShloMosaic Cert.Fwd
open scoped BigOperators

/-- The arguments: the rows, the gain and the weight. -/
structure Rows where
  h : ℕ → ℕ → EReal
  g : ℕ → EReal
  w : ℕ → ℕ → EReal

namespace Rows

variable (x : Rows)

/-- The normalised rows, scaled by the gain. -/
def u (p q : ℕ) : EReal := normed (x.h p) (x.h p q) (x.g q)
/-- Their product with the weight. -/
def y (p q : ℕ) : EReal := ∑ k ∈ Finset.range 1024, x.u p k * x.w k q

/-- The arrays' entries are the arguments'. -/
structure Is (h : FVec Ideal (⟨2, ![8192, 1024]⟩ : Shape) .f32) (g : FVec Ideal (⟨1, ![1024]⟩ : Shape) .f32)
    (w : FVec Ideal (⟨2, ![1024, 5632]⟩ : Shape) .f32) : Prop where
  h : ∀ (p : Fin 8192) (q : Fin 1024), h (ix2 p q) = x.h p q
  g : ∀ q : Fin 1024, g (ix1 q) = x.g q
  w : ∀ (p : Fin 1024) (q : Fin 5632), w (ix2 p q) = x.w p q

end Rows

/-- The arguments that three arrays hold. -/
def rows (h : FVec Ideal (⟨2, ![8192, 1024]⟩ : Shape) .f32) (g : FVec Ideal (⟨1, ![1024]⟩ : Shape) .f32)
    (w : FVec Ideal (⟨2, ![1024, 5632]⟩ : Shape) .f32) : Rows := ⟨ent h, ent1 g, ent w⟩

theorem rows_is (h : FVec Ideal (⟨2, ![8192, 1024]⟩ : Shape) .f32) (g : FVec Ideal (⟨1, ![1024]⟩ : Shape) .f32)
    (w : FVec Ideal (⟨2, ![1024, 5632]⟩ : Shape) .f32) : (rows h g w).Is h g w := ⟨ent_eq h, ent1_eq g, ent_eq w⟩

end Cert.Proj

end
-- ==== Proof.Proj.Fwd.lean ====
/-
  What the run of the product of normalised rows leaves in its result.
-/
module

public import proofs.«01_k».proof.Proof.Proj.Rows
public import proofs.«01_k».proof.Proof.Gen.ProjectIdeal.Frame
public import Idealize.ShloMosaic.Lib.Pipeline.ReadBack
public import Idealize.ShloMosaic.Lib.Claim
public import Idealize.ShloMosaic.Lib.Quiescent

@[expose] public section

set_option maxRecDepth 16384

noncomputable section

namespace Cert.ProjectIdeal.Proj

open Cert.ProjectIdeal Cert.ProjectIdeal.Gen Cert.Fwd Cert.Proj
open Idealize.ShloMosaic Idealize.ShloMosaic.TcCoe Idealize.ShloMosaic.Pipeline Idealize.SL.Sem
open scoped BigOperators

section terms
variable {F : FTy → Type} [FloatOps F]
variable (m : (ℓ : Loc nD τ sig) → Buf (Elt F) ℓ) (c : Dev nD)

abbrev hF : Vec F S8192x1024 .f32 := m ((c.tc : Thread nD τ).loc main_arg0)
abbrev gF : Vec F S1024 .f32 := m ((c.tc : Thread nD τ).loc main_arg1)
abbrev wF : Vec F S1024x5632 .f32 := m ((c.tc : Thread nD τ).loc main_arg2)

/-- The rows are the argument's. -/
theorem v_arg0 : V m c main_arg0 = hF m c := by
  unfold V hostOps0
  after_results_simp

/-- The gain, as one row. -/
theorem v_0 : V m c main_v0 = shapeCast S1x1024 (gF m c) shapeCasts_S1024_S1x1024 := by
  unfold V hostOps0
  after_results_simp
  rfl

/-- The weight, rounded. -/
theorem v_1 : V m c main_v1 = truncf .bf16 (wF m c) bitsLt_bf16_f32 := by
  unfold V hostOps0
  after_results_simp

/-- The kept rows after a point. -/
abbrev uAt (t : Fin cfg0.N) : Vec F S1024x1024 .bf16 := (outsAt0 m c t.val t.isLt).2
/-- The point before. -/
abbrev prev (t : Fin cfg0.N) : Fin cfg0.N := ⟨t.val - 1, Nat.lt_of_le_of_lt (Nat.sub_le _ _) t.isLt⟩

/-- A tile's first point normalises its rows. -/
theorem u_first (t : Fin cfg0.N) (h : t.val % 4 = 0) : uAt m c t = k0_pay1 (iblk m c 0 t) (iblk m c 1 t) := by
  unfold uAt
  rw [outsAt0_A m c t h]
  frame_out

/-- The other points keep them. -/
theorem u_next (t : Fin cfg0.N) (h : ¬t.val % 4 = 0) : uAt m c t = uAt m c (prev t) := by
  unfold uAt
  rw [outsAt0_B m c t h]
  rfl

/-- Every point makes its block of the product. -/
theorem y_at (t : Fin cfg0.N) : (outsAt0 m c t.val t.isLt).1 = k0_pay2 (uAt m c t) (iblk m c 2 t) := by
  by_cases h : t.val % 4 = 0
  · rw [u_first m c t h, outsAt0_A m c t h]
    frame_out
  · rw [u_next m c t h]
    unfold uAt
    rw [outsAt0_B m c t h]
    frame_out
    simp only [read_unread_whole]

end terms

/-- The gain as one row. -/
theorem row_apply (a : Vec Ideal S1024 .f32) (q : Fin 1024) : shapeCast S1x1024 a shapeCasts_S1024_S1x1024 (ix2 0 q) = a (ix1 q) := by
  pointwise []

/-- The normalised rows, scaled. -/
theorem norm_apply (h : Vec Ideal S1024x1024 .f32) (g : Vec Ideal S1x1024 .f32) (H : ℕ → ℕ → EReal) (G : ℕ → EReal)
    (hH : ∀ p q : Fin 1024, h (ix2 p q) = H p q) (hG : ∀ q : Fin 1024, g (ix2 0 q) = G q) (p q : Fin 1024) :
    k0_pay1 h g (ix2 p q) = normed (H p) (H p q) (G q) := by
  pointwise [k0_pay1]
  simp only [hH, hG, normed, Finset.sum_range]

/-- A block of the product. -/
theorem y_apply (u : Vec Ideal S1024x1024 .bf16) (w : Vec Ideal S1024x1408 .bf16) (U W : ℕ → ℕ → EReal)
    (hU : ∀ p q : Fin 1024, u (ix2 p q) = U p q) (hW : ∀ (p : Fin 1024) (q : Fin 1408), w (ix2 p q) = W p q)
    (p : Fin 1024) (q : Fin 1408) : k0_pay2 u w (ix2 p q) = ∑ k ∈ Finset.range 1024, U p k * W k q := by
  pointwise [k0_pay2]
  simp only [hU, hW, Finset.sum_range]

/-! ## Which block each window is on -/

theorem ix0' : ∀ t : Fin cfg0.N, win0_0.index t = ![t.val / 4, 0] := (by decide +kernel : ∀ t : Fin grid0.N, _)
theorem ix1' : ∀ t : Fin cfg0.N, win0_1.index t = ![0, 0] := (by decide +kernel : ∀ t : Fin grid0.N, _)
theorem ix2' : ∀ t : Fin cfg0.N, win0_2.index t = ![0, t.val % 4] := (by decide +kernel : ∀ t : Fin grid0.N, _)
theorem ix3' : ∀ t : Fin cfg0.N, win0_3.index t = ![t.val / 4, t.val % 4] := (by decide +kernel : ∀ t : Fin grid0.N, _)

theorem t_lt (t : Fin cfg0.N) : t.val < 32 := t.isLt

section run
variable (m : (ℓ : Loc nD τ sig) → Buf (Elt Ideal) ℓ) (c : Dev nD)

section at_tab
variable (x : Rows) (hx : x.Is (hF m c) (gF m c) (wF m c))
include hx

/-- The tile's rows. -/
theorem blk0 (t : Fin cfg0.N) (p q : Fin 1024) : iblk m c 0 t (ix2 p q) = x.h (1024 * (t.val / 4) + p) q := by
  have ht := t_lt t
  blk_simp [iblk]
  have e : (win0_0.blk t).view.emb (ix2 p q) = ix2 ⟨1024 * (t.val / 4) + p, by omega⟩ q := by blk_ext [ix0']
  rw [e, v_arg0]
  exact hx.h _ _

/-- The gain. -/
theorem blk1 (t : Fin cfg0.N) (q : Fin 1024) : iblk m c 1 t (ix2 0 q) = x.g q := by
  blk_simp [iblk]
  have e : (win0_1.blk t).view.emb (ix2 0 q) = ix2 0 q := by blk_ext [ix1']
  rw [e, v_0]
  exact (row_apply _ q).trans (hx.g q)

/-- The block of the weight's columns. -/
theorem blk2 (t : Fin cfg0.N) (p : Fin 1024) (q : Fin 1408) : iblk m c 2 t (ix2 p q) = x.w p (1408 * (t.val % 4) + q) := by
  blk_simp [iblk]
  have e : (win0_2.blk t).view.emb (ix2 p q) = ix2 p ⟨1408 * (t.val % 4) + q, by omega⟩ := by blk_ext [ix2']
  rw [e, v_1]
  exact hx.w _ _

/-- After every point the kept rows are the tile's normalised rows. -/
theorem u_eq (n : ℕ) (hn : n < cfg0.N) (p q : Fin 1024) : uAt m c ⟨n, hn⟩ (ix2 p q) = x.u (1024 * (n / 4) + p) q := by
  induction n with
  | zero =>
    rw [u_first m c ⟨0, hn⟩ rfl]
    exact norm_apply _ _ (fun p q => x.h (1024 * (0 / 4) + p) q) x.g (blk0 m c x hx ⟨0, hn⟩) (blk1 m c x hx _) p q
  | succ n ih =>
    by_cases h : (n + 1) % 4 = 0
    · rw [u_first m c ⟨n + 1, hn⟩ h]
      exact norm_apply _ _ (fun p q => x.h (1024 * ((n + 1) / 4) + p) q) x.g (blk0 m c x hx ⟨n + 1, hn⟩) (blk1 m c x hx _) p q
    · rw [u_next m c ⟨n + 1, hn⟩ h, show (n + 1) / 4 = n / 4 by omega]
      exact ih (Nat.lt_of_succ_lt hn)

/-- The product. -/
theorem out3 : (dats m 0 c).arrAt 3 cfg0.N = (mat .f32 x.y : Vec Ideal S8192x5632 .f32) := by
  refine (dats m 0 c).arrAt_eq_of_covers 3 (mat .f32 x.y : Vec Ideal S8192x5632 .f32) (by decide +kernel) fun t hf y => ?_
  have ht := t_lt t
  obtain ⟨p, q, rfl⟩ : ∃ (p : Fin 1024) (q : Fin 1408), y = ix2 p q := ⟨y 0, y 1, eq_ix2 y⟩
  blk_simp
  rw [after0_3, y_at m c t]
  refine (y_apply _ _ (fun p q => x.u (1024 * (t.val / 4) + p) q) (fun p q => x.w p (1408 * (t.val % 4) + q))
    (u_eq m c x hx t.val t.isLt) (blk2 m c x hx t) p q).trans ?_
  have e : (win0_3.blk t).view.emb (ix2 p q) = ix2 ⟨1024 * (t.val / 4) + p, by omega⟩ ⟨1408 * (t.val % 4) + q, by omega⟩ := by
    blk_ext [ix3']
  exact (congrArg (mat .f32 x.y : Vec Ideal S8192x5632 .f32) e).symm

end at_tab

end run

/-- The call's run: its result is the product, and the arguments end unchanged. -/
theorem run_value (m : (ℓ : Loc nD τ sig) → Buf (Elt Ideal) ℓ) (ρ : Dev nD → PrngReg) (x : Dev nD → Rows)
    (hx : ∀ c, (x c).Is (hF m c) (gF m c) (wF m c)) :
    θ_run defs (onTc (τ := τ) (main (F := Ideal))) ⟨m, fun _ => 0, ρ⟩ (fun r => ∀ c : Dev nD,
      r.2.mem ((c.tc : Thread nD τ).loc main_v2) = (mat .f32 (x c).y : Vec Ideal S8192x5632 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨(h.1.out_eq c 3).trans (out3 m c (x c) (hx c)), h.2 c⟩

end Cert.ProjectIdeal.Proj

end
-- ==== Proof.Proj.FwdRef.lean ====
/-
  The reference of the product of normalised rows: it runs, and its result is the product.
-/
module

public import proofs.«01_k».proof.Proof.Proj.Rows
public import proofs.«01_k».proof.Proof.Fwd.Ref
public import proofs.«01_k».proof.Proof.Gen.ProjectReferenceIdeal.Run
public import Idealize.ShloMosaic.Lib.Claim
public import Idealize.ShloMosaic.Lib.Quiescent

@[expose] public section

set_option maxRecDepth 16384

noncomputable section

namespace Cert.ProjectReferenceIdeal.Proj

open Cert.ProjectReferenceIdeal Cert.ProjectReferenceIdeal.Gen Cert.Fwd Cert.Proj
open Cert.ReferenceIdeal.Value (gainT xhT)
open Idealize.ShloMosaic Idealize.ShloMosaic.TcCoe Idealize.SL.Sem
open scoped BigOperators

/-- The reference's product, at an index. -/
theorem y_apply (u : Vec Ideal S8192x1024 .f32) (w : Vec Ideal S1024x5632 .f32) (U W : ℕ → ℕ → EReal)
    (hU : ∀ (p : Fin 8192) (q : Fin 1024), u (ix2 p q) = U p q) (hW : ∀ (p : Fin 1024) (q : Fin 5632), w (ix2 p q) = W p q)
    (p : Fin 8192) (q : Fin 5632) :
    (Host.dotGeneral (F := Ideal) (φ₁ := .f32) (φ₂ := .f32) dot_S8192x1024_S1024x5632_S8192x5632_1_0_0_1_n_n none u w : Vec Ideal S8192x5632 .f32) (ix2 p q)
      = ∑ k ∈ Finset.range 1024, U p k * W k q := by
  pointwise []
  simp only [hU, hW, Finset.sum_range]

/-- The reference's result is the product. -/
theorem y_eq (h : Vec Ideal S8192x1024 .f32) (g : Vec Ideal S1024 .f32) (w : Vec Ideal S1024x5632 .f32) (x : Rows) (hx : x.Is h g w)
    (p : Fin 8192) (q : Fin 5632) :
    (Host.dotGeneral (F := Ideal) (φ₁ := .f32) (φ₂ := .f32) dot_S8192x1024_S1024x5632_S8192x5632_1_0_0_1_n_n none (gainT (xhT h) g) w : Vec Ideal S8192x5632 .f32) (ix2 p q)
      = x.y p q :=
  y_apply _ _ x.u x.w (Cert.ForwardReferenceIdeal.Fwd.u_apply h g x.h x.g hx.h hx.g) hx.w p q

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono (fun r h => ⟨fun c => ?_, sem_eq_zero_of_no_sems (by decide) _⟩) (Cert.ProjectReferenceIdeal.Value.run m ρ)
  obtain ⟨-, h⟩ := h c
  exact h

/-- The reference's run: its result, and the arguments end unchanged. -/
theorem run_value (m : (ℓ : Loc nD τ sig) → Buf (Elt Ideal) ℓ) (ρ : Dev nD → PrngReg) (x : Dev nD → Rows)
    (hx : ∀ c, (x c).Is (m ((c.tc : Thread nD τ).loc main_arg0)) (m ((c.tc : Thread nD τ).loc main_arg1))
      (m ((c.tc : Thread nD τ).loc main_arg2))) :
    θ_run defs (onTc (τ := τ) (main (F := Ideal))) ⟨m, fun _ => 0, ρ⟩ (fun r => ∀ c : Dev nD,
      r.2.mem ((c.tc : Thread nD τ).loc main_v13) = (mat .f32 (x c).y : Vec Ideal S8192x5632 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ProjectReferenceIdeal.Value.run m ρ)
  obtain ⟨h0, hrest⟩ := h c
  exact ⟨h0.trans (mat_ext .f32 _ (y_eq _ _ _ (x c) (hx c))), hrest⟩

end Cert.ProjectReferenceIdeal.Proj

end
-- ==== Proof.Proj.Inner.lean ====
/-
  What the run of the call for the gradient of the mixer's inner weight leaves in its result.
-/
module

public import proofs.«01_k».proof.Proof.Grad.Spec
public import proofs.«01_k».proof.Proof.Gen.InnerIdeal.Frame
public import Idealize.ShloMosaic.Lib.Claim
public import Idealize.ShloMosaic.Lib.Quiescent

@[expose] public section

set_option maxRecDepth 16384

noncomputable section

namespace Cert.InnerIdeal.Proj

open Cert.InnerIdeal Cert.InnerIdeal.Gen Cert.Fwd Cert.Grad
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev uF : Vec F S8192x1024 .bf16 := m ((c.tc : Thread nD τ).loc main_arg0)
abbrev dF : Vec F S8192x5632 .bf16 := m ((c.tc : Thread nD τ).loc main_arg1)

theorem v_arg0 : V m c main_arg0 = uF m c := rfl
theorem v_arg1 : V m c main_arg1 = dF m c := rfl

/-- What the result's buffer holds after a point. -/
abbrev accAt (t : Fin cfg0.N) : Vec F S1024x1408 .f32 := outsAt0 m c t.val t.isLt
/-- The point before. -/
abbrev prev (t : Fin cfg0.N) : Fin cfg0.N := ⟨t.val - 1, Nat.lt_of_le_of_lt (Nat.sub_le _ _) t.isLt⟩

/-- A block's first point adds the first tokens' product to zero. -/
theorem acc_first (t : Fin cfg0.N) (h : t.val % 4 = 0) : accAt m c t = k0_pay2 k0_pay1 (iblk m c 0 t) (iblk m c 1 t) := by
  unfold accAt
  rw [outsAt0_A m c t h]
  frame_out

/-- The other points add their tokens' product to what the point before left. -/
theorem acc_next (t : Fin cfg0.N) (h : ¬t.val % 4 = 0) :
    accAt m c t = k0_pay2 (accAt m c (prev t)) (iblk m c 0 t) (iblk m c 1 t) := by
  unfold accAt
  rw [outsAt0_B m c t h]
  frame_out

end terms

/-- The sum with one point's product added. -/
theorem acc_apply (v : Vec Ideal S1024x1408 .f32) (u : Vec Ideal S2048x1024 .bf16) (d : Vec Ideal S2048x1408 .bf16)
    (V U D : ℕ → ℕ → EReal) (hv : ∀ (p : Fin 1024) (q : Fin 1408), v (ix2 p q) = V p q)
    (hu : ∀ (p : Fin 2048) (q : Fin 1024), u (ix2 p q) = U p q)
    (hd : ∀ (p : Fin 2048) (q : Fin 1408), d (ix2 p q) = D p q) (p : Fin 1024) (q : Fin 1408) :
    k0_pay2 v u d (ix2 p q) = V p q + ∑ k ∈ Finset.range 2048, U k p * D k q := by
  pointwise [k0_pay2]
  simp only [hv, hu, hd, Finset.sum_range]

/-- The zero block. -/
theorem zero_apply (p : Fin 1024) (q : Fin 1408) : (k0_pay1 (F := Ideal)) (ix2 p q) = 0 := by
  pointwise [k0_pay1]

/-! ## Which block each window is on -/

theorem ix0' : ∀ t : Fin cfg0.N, win0_0.index t = ![t.val % 4, 0] := (by decide +kernel : ∀ t : Fin grid0.N, _)
theorem ix1' : ∀ t : Fin cfg0.N, win0_1.index t = ![t.val % 4, t.val / 4] := (by decide +kernel : ∀ t : Fin grid0.N, _)
theorem ix2' : ∀ t : Fin cfg0.N, win0_2.index t = ![0, t.val / 4] := (by decide +kernel : ∀ t : Fin grid0.N, _)

theorem t_lt (t : Fin cfg0.N) : t.val < 16 := t.isLt

/-- The arguments' entries are those of two functions. -/
structure Is (U D : ℕ → ℕ → EReal) (u : FVec Ideal (⟨2, ![8192, 1024]⟩ : Shape) .bf16)
    (d : FVec Ideal (⟨2, ![8192, 5632]⟩ : Shape) .bf16) : Prop where
  u : ∀ (p : Fin 8192) (q : Fin 1024), u (ix2 p q) = U p q
  d : ∀ (p : Fin 8192) (q : Fin 5632), d (ix2 p q) = D p q

theorem is_ent (u : FVec Ideal (⟨2, ![8192, 1024]⟩ : Shape) .bf16) (d : FVec Ideal (⟨2, ![8192, 5632]⟩ : Shape) .bf16) :
    Is (ent u) (ent d) u d := ⟨ent_eq u, ent_eq d⟩

section run
variable (m : (ℓ : Loc nD τ sig) → Buf (Elt Ideal) ℓ) (c : Dev nD)

section at_tab
variable (U D : ℕ → ℕ → EReal) (hx : Is U D (uF m c) (dF m c))
include hx

/-- The tokens' rows. -/
theorem blk0 (t : Fin cfg0.N) (p : Fin 2048) (q : Fin 1024) : iblk m c 0 t (ix2 p q) = U (2048 * (t.val % 4) + p) q := by
  have ht := t_lt t
  blk_simp [iblk]
  have e : (win0_0.blk t).view.emb (ix2 p q) = ix2 ⟨2048 * (t.val % 4) + p, by omega⟩ q := by blk_ext [ix0']
  rw [e, v_arg0]
  exact hx.u _ _

/-- The tokens' entries in the block's columns. -/
theorem blk1 (t : Fin cfg0.N) (p : Fin 2048) (q : Fin 1408) :
    iblk m c 1 t (ix2 p q) = D (2048 * (t.val % 4) + p) (1408 * (t.val / 4) + q) := by
  have ht := t_lt t
  blk_simp [iblk]
  have e : (win0_1.blk t).view.emb (ix2 p q) = ix2 ⟨2048 * (t.val % 4) + p, by omega⟩ ⟨1408 * (t.val / 4) + q, by omega⟩ := by
    blk_ext [ix1']
  rw [e, v_arg1]
  exact hx.d _ _

/-- After every point the sum is the product over the tokens so far. -/
theorem acc_eq (n : ℕ) (hn : n < cfg0.N) (p : Fin 1024) (q : Fin 1408) :
    accAt m c ⟨n, hn⟩ (ix2 p q) = part U D (2048 * (n % 4) + 2048) p (1408 * (n / 4) + q) := by
  rw [part_add]
  have first (n : ℕ) (hn : n < cfg0.N) (h : n % 4 = 0) (p : Fin 1024) (q : Fin 1408) : accAt m c ⟨n, hn⟩ (ix2 p q)
      = part U D (2048 * (n % 4)) p (1408 * (n / 4) + q)
        + ∑ k ∈ Finset.range 2048, U (2048 * (n % 4) + k) p * D (2048 * (n % 4) + k) (1408 * (n / 4) + q) := by
    rw [acc_first m c ⟨n, hn⟩ h]
    refine (acc_apply _ _ _ (fun _ _ => 0) (fun p q => U (2048 * (n % 4) + p) q)
      (fun p q => D (2048 * (n % 4) + p) (1408 * (n / 4) + q)) zero_apply (blk0 m c U D hx ⟨n, hn⟩) (blk1 m c U D hx ⟨n, hn⟩) p q).trans ?_
    rw [h, Nat.mul_zero, part_zero]
  induction n generalizing p q with
  | zero => exact first 0 hn rfl p q
  | succ n ih =>
    by_cases h : (n + 1) % 4 = 0
    · exact first (n + 1) hn h p q
    · rw [acc_next m c ⟨n + 1, hn⟩ h]
      refine acc_apply _ _ _ (fun p q => part U D (2048 * ((n + 1) % 4)) p (1408 * ((n + 1) / 4) + q))
        (fun p q => U (2048 * ((n + 1) % 4) + p) q)
        (fun p q => D (2048 * ((n + 1) % 4) + p) (1408 * ((n + 1) / 4) + q)) (fun p q => ?_)
        (blk0 m c U D hx ⟨n + 1, hn⟩) (blk1 m c U D hx ⟨n + 1, hn⟩) p q
      have e : 2048 * ((n + 1) % 4) = 2048 * (n % 4) + 2048 := by omega
      rw [e, show (n + 1) / 4 = n / 4 by omega, part_add]
      exact ih (Nat.lt_of_succ_lt hn) p q

/-- The gradient. -/
theorem out2 : (dats m 0 c).arrAt 2 cfg0.N = (mat .f32 (part U D 8192) : Vec Ideal S1024x5632 .f32) := by
  refine (dats m 0 c).arrAt_eq_of_covers 2 (mat .f32 (part U D 8192) : Vec Ideal S1024x5632 .f32) (by decide +kernel) fun t hf y => ?_
  have ht := t_lt t
  have h3 : t.val % 4 = 3 := (flush0_2 t).mp hf
  obtain ⟨p, q, rfl⟩ : ∃ (p : Fin 1024) (q : Fin 1408), y = ix2 p q := ⟨y 0, y 1, eq_ix2 y⟩
  blk_simp
  rw [after0_2]
  refine (acc_eq m c U D hx t.val t.isLt p q).trans ?_
  rw [h3]
  have e : (win0_2.blk t).view.emb (ix2 p q) = ix2 p ⟨1408 * (t.val / 4) + q, by omega⟩ := by blk_ext [ix2']
  exact (congrArg (mat .f32 (part U D 8192) : Vec Ideal S1024x5632 .f32) e).symm

end at_tab

end run

/-- The call's run: its result is the product summed over all tokens, and the arguments end unchanged. -/
theorem run_value (m : (ℓ : Loc nD τ sig) → Buf (Elt Ideal) ℓ) (ρ : Dev nD → PrngReg) (U D : Dev nD → ℕ → ℕ → EReal)
    (hx : ∀ c, Is (U c) (D c) (uF m c) (dF m c)) :
    θ_run defs (onTc (τ := τ) (main (F := Ideal))) ⟨m, fun _ => 0, ρ⟩ (fun r => ∀ c : Dev nD,
      r.2.mem ((c.tc : Thread nD τ).loc main_v0) = (mat .f32 (part (U c) (D c) 8192) : Vec Ideal S1024x5632 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  exact ⟨(h.1.out_eq c 2).trans (out2 m c _ _ (hx c)), h.2 c⟩

end Cert.InnerIdeal.Proj

end
-- ==== Proof.Proj.InnerRef.lean ====
/-
  The reference of the gradient of the mixer's inner weight: it runs, and its result is the product summed over the tokens.
-/
module

public import proofs.«01_k».proof.Proof.Grad.Spec
public import proofs.«01_k».proof.Proof.Gen.InnerReferenceIdeal.Run
public import Idealize.ShloMosaic.Lib.Claim
public import Idealize.ShloMosaic.Lib.Quiescent

@[expose] public section

set_option maxRecDepth 16384

noncomputable section

namespace Cert.InnerReferenceIdeal.Proj

open Cert.InnerReferenceIdeal Cert.InnerReferenceIdeal.Gen Cert.Fwd Cert.Grad
open Idealize.ShloMosaic Idealize.ShloMosaic.TcCoe Idealize.SL.Sem
open scoped BigOperators

/-- The reference's product at an index. -/
theorem grad_apply (u : Vec Ideal S8192x1024 .bf16) (d : Vec Ideal S8192x5632 .bf16) (U D : ℕ → ℕ → EReal)
    (hu : ∀ (p : Fin 8192) (q : Fin 1024), u (ix2 p q) = U p q) (hd : ∀ (p : Fin 8192) (q : Fin 5632), d (ix2 p q) = D p q)
    (p : Fin 1024) (q : Fin 5632) :
    (transpose S1024x5632 [1, 0] (Host.dotGeneral dot_S8192x5632_S8192x1024_S5632x1024_0_0_1_1_n_n none
        (extf (F := Ideal) .f32 d bitsLt_bf16_f32) (extf (F := Ideal) .f32 u bitsLt_bf16_f32)) transposes_S5632x1024_S1024x5632_1_0
      : Vec Ideal S1024x5632 .f32) (ix2 p q) = part U D 8192 p q := by
  pointwise []
  simp only [hu, hd, part, Finset.sum_range]
  exact Finset.sum_congr rfl fun k _ => mul_comm _ _

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, sem_eq_zero_of_no_sems (by decide) _⟩) (Cert.InnerReferenceIdeal.Value.run m ρ)
  obtain ⟨-, h⟩ := h c
  exact h

/-- The reference's run: its result, and the arguments end unchanged. -/
theorem run_value (m : (ℓ : Loc nD τ sig) → Buf (Elt Ideal) ℓ) (ρ : Dev nD → PrngReg) (U D : Dev nD → ℕ → ℕ → EReal)
    (hu : ∀ c (p : Fin 8192) (q : Fin 1024),
      (m ((c.tc : Thread nD τ).loc main_arg0) : Vec Ideal S8192x1024 .bf16) (ix2 p q) = U c p q)
    (hd : ∀ c (p : Fin 8192) (q : Fin 5632),
      (m ((c.tc : Thread nD τ).loc main_arg1) : Vec Ideal S8192x5632 .bf16) (ix2 p q) = D c p q) :
    θ_run defs (onTc (τ := τ) (main (F := Ideal))) ⟨m, fun _ => 0, ρ⟩ (fun r => ∀ c : Dev nD,
      r.2.mem ((c.tc : Thread nD τ).loc main_v5) = (mat .f32 (part (U c) (D c) 8192) : Vec Ideal S1024x5632 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.InnerReferenceIdeal.Value.run m ρ)
  obtain ⟨h0, hrest⟩ := h c
  exact ⟨h0.trans (mat_ext .f32 _ (grad_apply _ _ _ _ (hu c) (hd c))), hrest⟩

end Cert.InnerReferenceIdeal.Proj

end
-- ==== Proof.Proj.GateSpec.lean ====
/-
  The gated, grouped normalisation and its product with the output weight, as functions of extended reals.
-/
module

public import proofs.«01_k».proof.Proof.Fwd.Spec

@[expose] public section

set_option maxRecDepth 16384

noncomputable section

namespace Cert.Proj

open Idealize.ShloMosaic Cert.Fwd
open scoped BigOperators

/-- An entry times the logistic function of another, times that other. -/
def gatedOf (y z : EReal) : EReal := y * (z * Ideal.div 1 (1 + Ideal.exp (0 - z)))

/-- One over the root of the mean square of 512 entries. -/
def rmsOf (f : ℕ → EReal) : EReal :=
  Ideal.rsqrt (Ideal.div (∑ k ∈ Finset.range 512, f k * f k) (Ideal.ofBits .f32 0x44000000#32) + Ideal.ofBits .f32 0x358637BD#32)

/-- A row's entry, normalised over its group of 512. -/
def grouped (f : ℕ → EReal) (j : ℕ) : EReal := f j * rmsOf fun k => f (512 * (j / 512) + k)

/-- The arguments: the rows added, the gated rows, the gates, the gain and the weight. -/
structure Gated where
  h : ℕ → ℕ → EReal
  y : ℕ → ℕ → EReal
  z : ℕ → ℕ → EReal
  g : ℕ → EReal
  w : ℕ → ℕ → EReal

namespace Gated

variable (x : Gated)

/-- The gated rows. -/
def e (p j : ℕ) : EReal := gatedOf (x.y p j) (x.z p j)
/-- The gated rows, normalised in groups and scaled by the gain. -/
def n (p j : ℕ) : EReal := grouped (x.e p) j * x.g j
/-- The rows plus the product. -/
def o (p q : ℕ) : EReal := x.h p q + ∑ j ∈ Finset.range 2048, x.n p j * x.w j q

/-- The arrays' entries are the arguments'; the gates are the leading columns of theirs. -/
structure Is (h : FVec Ideal (⟨2, ![8192, 1024]⟩ : Shape) .f32) (y : FVec Ideal (⟨2, ![8192, 2048]⟩ : Shape) .f32)
    (z : FVec Ideal (⟨2, ![8192, 5632]⟩ : Shape) .f32) (g : FVec Ideal (⟨1, ![2048]⟩ : Shape) .f32)
    (w : FVec Ideal (⟨2, ![2048, 1024]⟩ : Shape) .f32) : Prop where
  h : ∀ (p : Fin 8192) (q : Fin 1024), h (ix2 p q) = x.h p q
  y : ∀ (p : Fin 8192) (q : Fin 2048), y (ix2 p q) = x.y p q
  z : ∀ (p : Fin 8192) (q : Fin 5632), z (ix2 p q) = x.z p q
  g : ∀ q : Fin 2048, g (ix1 q) = x.g q
  w : ∀ (p : Fin 2048) (q : Fin 1024), w (ix2 p q) = x.w p q

end Gated

/-- The arguments that five arrays hold. -/
def gates (h : FVec Ideal (⟨2, ![8192, 1024]⟩ : Shape) .f32) (y : FVec Ideal (⟨2, ![8192, 2048]⟩ : Shape) .f32)
    (z : FVec Ideal (⟨2, ![8192, 5632]⟩ : Shape) .f32) (g : FVec Ideal (⟨1, ![2048]⟩ : Shape) .f32)
    (w : FVec Ideal (⟨2, ![2048, 1024]⟩ : Shape) .f32) : Gated := ⟨ent h, ent y, ent z, ent1 g, ent w⟩

theorem gates_is (h : FVec Ideal (⟨2, ![8192, 1024]⟩ : Shape) .f32) (y : FVec Ideal (⟨2, ![8192, 2048]⟩ : Shape) .f32)
    (z : FVec Ideal (⟨2, ![8192, 5632]⟩ : Shape) .f32) (g : FVec Ideal (⟨1, ![2048]⟩ : Shape) .f32)
    (w : FVec Ideal (⟨2, ![2048, 1024]⟩ : Shape) .f32) : (gates h y z g w).Is h y z g w :=
  ⟨ent_eq h, ent_eq y, ent_eq z, ent1_eq g, ent_eq w⟩

end Cert.Proj

end
-- ==== Proof.Proj.GatePay.lean ====
/-
  What the gated product's body stores, read at an index.
-/
module

public import proofs.«01_k».proof.Proof.Proj.GateSpec
public import proofs.«01_k».proof.Proof.Gen.GateIdeal.Skeleton

@[expose] public section

set_option maxRecDepth 16384

noncomputable section

namespace Cert.GateIdeal.Proj

open Cert.GateIdeal Cert.GateIdeal.Gen Cert.Fwd Cert.Proj
open Idealize.ShloMosaic
open scoped BigOperators

/-- The gated tile. -/
theorem gated_apply (y z : Vec Ideal S256x2048 .f32) (Y Z : ℕ → ℕ → EReal) (hY : ∀ (p : Fin 256) (q : Fin 2048), y (ix2 p q) = Y p q)
    (hZ : ∀ (p : Fin 256) (q : Fin 2048), z (ix2 p q) = Z p q) (p : Fin 256) (q : Fin 2048) :
    k0_pay3 y z (ix2 p q) = gatedOf (Y p q) (Z p q) := by
  pointwise [k0_pay3]
  simp only [hY, hZ, gatedOf]

section parts
variable (y z : Vec Ideal S256x2048 .f32) (E : ℕ → ℕ → EReal) (hE : ∀ (p : Fin 256) (q : Fin 2048), k0_pay3 y z (ix2 p q) = E p q)
include hE

/-- The first group. -/
theorem part0 (p : Fin 256) (q : Fin 512) : k0_pay4 y z (ix2 p q) = E p q * rmsOf fun k => E p k := by
  unfold k0_pay4
  generalize k0_pay3 y z = v at hE ⊢
  pointwise []
  simp only [hE, rmsOf, Finset.sum_range]

/-- The second group. -/
theorem part1 (p : Fin 256) (q : Fin 512) : k0_pay5 y z (ix2 p q) = E p (512 + q) * rmsOf fun k => E p (512 + k) := by
  unfold k0_pay5
  generalize k0_pay3 y z = v at hE ⊢
  pointwise []
  simp only [hE, rmsOf, Finset.sum_range]

/-- The third group, and its mean square. -/
theorem part2 (p : Fin 256) (q : Fin 512) : k0_pay6 y z (ix2 p q) = E p (1024 + q) := by
  unfold k0_pay6
  generalize k0_pay3 y z = v at hE ⊢
  pointwise []
  simp only [hE]

theorem part2_mean (p : Fin 256) : k0_pay7 y z (ix2 p 0)
    = Ideal.div (∑ k ∈ Finset.range 512, E p (1024 + k) * E p (1024 + k)) (Ideal.ofBits .f32 0x44000000#32) := by
  have h := part2 y z E hE
  unfold k0_pay7
  generalize k0_pay6 y z = v at h ⊢
  pointwise []
  simp only [h, Finset.sum_range]

end parts

/-- The third group normalised, from its entries and its mean square. -/
def third (v : FVec Ideal S256x512 .f32) (s : FVec Ideal S256x1 .f32) (c : Ideal .f32) : FVec Ideal S256x512 .f32 :=
  mulf v (broadcastTo S256x512 (rsqrt (addf s (broadcast S256x1 c))) broadcasts_S256x1_S256x512)

/-- The fourth group normalised, from the gated tile. -/
def fourth (v : FVec Ideal S256x2048 .f32) : FVec Ideal S256x512 .f32 :=
  mulf (extractStridedSlice S256x512 ![0, 1536] v slices_S256x2048_o0_1536_S256x512)
    (broadcastTo S256x512 (rsqrt (addf (divf (shapeCast S256x1 (multiReduction .add [1] S256
      (mulf (extractStridedSlice S256x512 ![0, 1536] v slices_S256x2048_o0_1536_S256x512)
        (extractStridedSlice S256x512 ![0, 1536] v slices_S256x2048_o0_1536_S256x512)) 0x00000000#32 reduces_S256x512_S256 (.inl rfl) rfl)
      shapeCasts_S256_S256x1) (broadcast S256x1 (Scalar.ofBits .f32 0x44000000#32)))
      (broadcast S256x1 (Scalar.ofBits .f32 0x358637BD#32)))) broadcasts_S256x1_S256x512)

/-- Four groups side by side. -/
def four (a b c d : FVec Ideal S256x512 .f32) : FVec Ideal S256x2048 .f32 :=
  concatenate S256x2048 1 [⟨S256x512, a⟩, ⟨S256x512, b⟩, ⟨S256x512, c⟩, ⟨S256x512, d⟩]
    concatenates_S256x512_S256x512_S256x512_S256x512_S256x2048_d1

/-- The rows plus the scaled tile's product with the weight. -/
def added (n : FVec Ideal S256x2048 .f32) (g : FVec Ideal S1x2048 .f32) (h : Vec Ideal S256x1024 .f32) (w : Vec Ideal S2048x1024 .bf16) :
    FVec Ideal S256x1024 .f32 :=
  addf h (matmul (F := Ideal) (φ₁ := .bf16) (φ₂ := .bf16) dot_S256x2048_S2048x1024_S256x1024_1_0_0_1_n_n none
    (truncf (F := Ideal) .bf16 (mulf n (broadcastTo S256x2048 g broadcasts_S1x2048_S256x2048)) bitsLt_bf16_f32)
    (shapeCast S2048x1024 w shapeCasts_S2048x1024_S2048x1024) (constant S256x1024 .f32 0x00000000#32))

/-- The stored value is made of these. -/
theorem pay_eq (g : FVec Ideal S1x2048 .f32) (v : FVec Ideal S256x2048 .f32) (a b c : FVec Ideal S256x512 .f32) (s : FVec Ideal S256x1 .f32)
    (e : Ideal .f32) (h : Vec Ideal S256x1024 .f32) (w : Vec Ideal S2048x1024 .bf16) :
    k0_pay1 g v a b c s e h w = added (four a b (third c s e) (fourth v)) g h w := rfl

theorem third_apply (v : FVec Ideal S256x512 .f32) (s : FVec Ideal S256x1 .f32) (p : Fin 256) (q : Fin 512) :
    third v s (Scalar.ofBits .f32 0x358637BD#32) (ix2 p q) = v (ix2 p q) * Ideal.rsqrt (s (ix2 p 0) + Ideal.ofBits .f32 0x358637BD#32) := by
  pointwise [third]

theorem fourth_apply (v : FVec Ideal S256x2048 .f32) (E : ℕ → ℕ → EReal) (hE : ∀ (p : Fin 256) (q : Fin 2048), v (ix2 p q) = E p q)
    (p : Fin 256) (q : Fin 512) : fourth v (ix2 p q) = E p (1536 + q) * rmsOf fun k => E p (1536 + k) := by
  pointwise [fourth]
  simp only [hE, rmsOf, Finset.sum_range]

/-- Four groups side by side are one function when each is it at its columns. -/
theorem four_apply (a b c d : FVec Ideal S256x512 .f32) (f : ℕ → ℕ → EReal) (ha : ∀ (p : Fin 256) (q : Fin 512), a (ix2 p q) = f p q)
    (hb : ∀ (p : Fin 256) (q : Fin 512), b (ix2 p q) = f p (512 + q)) (hc : ∀ (p : Fin 256) (q : Fin 512), c (ix2 p q) = f p (1024 + q))
    (hd : ∀ (p : Fin 256) (q : Fin 512), d (ix2 p q) = f p (1536 + q)) (p : Fin 256) (q : Fin 2048) : four a b c d (ix2 p q) = f p q := by
  pointwise [four]
  simp only [ha, hb, hc, hd]
  have hq := q.isLt
  split
  · rfl
  split
  · exact congrArg (f p) (by omega)
  split
  · exact congrArg (f p) (by omega)
  · exact congrArg (f p) (by omega)

/-- The sum at an index. -/
theorem added_apply (n : FVec Ideal S256x2048 .f32) (g : FVec Ideal S1x2048 .f32) (h : Vec Ideal S256x1024 .f32) (w : Vec Ideal S2048x1024 .bf16)
    (N W H : ℕ → ℕ → EReal) (G : ℕ → EReal) (hN : ∀ (p : Fin 256) (q : Fin 2048), n (ix2 p q) = N p q) (hG : ∀ q : Fin 2048, g (ix2 0 q) = G q)
    (hH : ∀ (p : Fin 256) (q : Fin 1024), h (ix2 p q) = H p q) (hW : ∀ (p : Fin 2048) (q : Fin 1024), w (ix2 p q) = W p q)
    (p : Fin 256) (q : Fin 1024) : added n g h w (ix2 p q) = H p q + ∑ j ∈ Finset.range 2048, N p j * G j * W j q := by
  pointwise [added]
  simp only [hN, hG, hH, hW, Finset.sum_range]

theorem gain_apply (g : Vec Ideal S1x2048 .f32) (q : Fin 2048) : k0_pay2 g (ix2 0 q) = g (ix2 0 q) := by
  pointwise [k0_pay2]

/-- The four groups together are the gated tile, normalised in groups. -/
theorem grouped_apply (y z : Vec Ideal S256x2048 .f32) (E : ℕ → ℕ → EReal)
    (hE : ∀ (p : Fin 256) (q : Fin 2048), k0_pay3 y z (ix2 p q) = E p q) (p : Fin 256) (q : Fin 2048) :
    four (k0_pay4 y z) (k0_pay5 y z) (third (k0_pay6 y z) (k0_pay7 y z) (Scalar.ofBits .f32 0x358637BD#32)) (fourth (k0_pay3 y z)) (ix2 p q)
      = grouped (E p) q := by
  refine four_apply _ _ _ _ (fun p => grouped (E p)) ?_ ?_ ?_ ?_ p q
  · intro p q
    rw [part0 y z E hE, grouped, show q.val / 512 = 0 by omega]
    simp only [Nat.mul_zero, Nat.zero_add]
  · intro p q
    rw [part1 y z E hE, grouped, show (512 + q.val) / 512 = 1 by omega]
  · intro p q
    rw [third_apply, part2 y z E hE, part2_mean y z E hE, grouped, show (1024 + q.val) / 512 = 2 by omega]
    rfl
  · intro p q
    rw [fourth_apply _ E hE, grouped, show (1536 + q.val) / 512 = 3 by omega]

/-- The stored tile is the rows plus the product of the normalised, scaled tile. -/
theorem out_apply (h : Vec Ideal S256x1024 .f32) (y z : Vec Ideal S256x2048 .f32) (g : Vec Ideal S1x2048 .f32) (w : Vec Ideal S2048x1024 .bf16)
    (H Y Z W : ℕ → ℕ → EReal) (G : ℕ → EReal)
    (hH : ∀ (p : Fin 256) (q : Fin 1024), h (ix2 p q) = H p q) (hY : ∀ (p : Fin 256) (q : Fin 2048), y (ix2 p q) = Y p q)
    (hZ : ∀ (p : Fin 256) (q : Fin 2048), z (ix2 p q) = Z p q) (hG : ∀ q : Fin 2048, g (ix2 0 q) = G q)
    (hW : ∀ (p : Fin 2048) (q : Fin 1024), w (ix2 p q) = W p q) (p : Fin 256) (q : Fin 1024) :
    k0_pay1 (k0_pay2 g) (k0_pay3 y z) (k0_pay4 y z) (k0_pay5 y z) (k0_pay6 y z) (k0_pay7 y z) (Scalar.ofBits .f32 0x358637BD#32) h w (ix2 p q)
      = H p q + ∑ j ∈ Finset.range 2048, grouped (fun j => gatedOf (Y p j) (Z p j)) j * G j * W j q := by
  rw [pay_eq]
  exact added_apply _ _ _ _ (fun p => grouped fun j => gatedOf (Y p j) (Z p j)) W H G
    (grouped_apply y z (fun p j => gatedOf (Y p j) (Z p j)) (gated_apply y z Y Z hY hZ))
    (fun q => (gain_apply g q).trans (hG q)) hH hW p q

end Cert.GateIdeal.Proj

end
-- ==== Proof.Proj.Gate.lean ====
/-
  What the run of the gated product leaves in its result.
-/
module

public import proofs.«01_k».proof.Proof.Proj.GatePay
public import proofs.«01_k».proof.Proof.Gen.GateIdeal.Frame
public import Idealize.ShloMosaic.Lib.Claim
public import Idealize.ShloMosaic.Lib.Quiescent

@[expose] public section

set_option maxRecDepth 16384

noncomputable section

namespace Cert.GateIdeal.Proj

open Cert.GateIdeal Cert.GateIdeal.Gen Cert.Fwd Cert.Proj
open Idealize.ShloMosaic Idealize.ShloMosaic.TcCoe Idealize.ShloMosaic.Pipeline Idealize.SL.Sem
open scoped BigOperators

section terms
variable {F : FTy → Type} [FloatOps F]
variable (m : (ℓ : Loc nD τ sig) → Buf (Elt F) ℓ) (c : Dev nD)

abbrev hF : Vec F S8192x1024 .f32 := m ((c.tc : Thread nD τ).loc main_arg0)
abbrev yF : Vec F S8192x2048 .f32 := m ((c.tc : Thread nD τ).loc main_arg1)
abbrev zF : Vec F S8192x5632 .f32 := m ((c.tc : Thread nD τ).loc main_arg2)
abbrev gF : Vec F S2048 .f32 := m ((c.tc : Thread nD τ).loc main_arg3)
abbrev wF : Vec F S2048x1024 .f32 := m ((c.tc : Thread nD τ).loc main_arg4)

/-- The three row arrays are the arguments'. -/
theorem v_arg0 : V m c main_arg0 = hF m c := by
  unfold V hostOps0
  after_results_simp

theorem v_arg1 : V m c main_arg1 = yF m c := by
  unfold V hostOps0
  after_results_simp

theorem v_arg2 : V m c main_arg2 = zF m c := by
  unfold V hostOps0
  after_results_simp

/-- The gain, as one row. -/
theorem v_0 : V m c main_v0 = shapeCast S1x2048 (gF m c) shapeCasts_S2048_S1x2048 := by
  unfold V hostOps0
  after_results_simp
  rfl

/-- The weight, rounded. -/
theorem v_1 : V m c main_v1 = truncf .bf16 (wF m c) bitsLt_bf16_f32 := by
  unfold V hostOps0
  after_results_simp

/-- What a point stores. -/
theorem o_at (t : Fin cfg0.N) : outsAt0 m c t = k0_pay1 (k0_pay2 (iblk m c 3 t)) (k0_pay3 (iblk m c 1 t) (X0_2 m c t))
    (k0_pay4 (iblk m c 1 t) (X0_2 m c t)) (k0_pay5 (iblk m c 1 t) (X0_2 m c t)) (k0_pay6 (iblk m c 1 t) (X0_2 m c t))
    (k0_pay7 (iblk m c 1 t) (X0_2 m c t)) (Scalar.ofBits .f32 0x358637BD#32) (iblk m c 0 t) (iblk m c 4 t) := by
  unfold outsAt0
  frame_out

end terms

/-- The gain as one row. -/
theorem row_apply (a : Vec Ideal S2048 .f32) (q : Fin 2048) : shapeCast S1x2048 a shapeCasts_S2048_S1x2048 (ix2 0 q) = a (ix1 q) := by
  pointwise []

/-! ## Which block each window is on -/

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix5' : ∀ t : Fin cfg0.N, win0_5.index t = ![t.val, 0] := (by decide +kernel : ∀ t : Fin grid0.N, _)

theorem t_lt (t : Fin cfg0.N) : t.val < 32 := t.isLt

section run
variable (m : (ℓ : Loc nD τ sig) → Buf (Elt Ideal) ℓ) (c : Dev nD)

section at_tab
variable (x : Gated) (hx : x.Is (hF m c) (yF m c) (zF m c) (gF m c) (wF m c))
include hx

/-- The tile's rows. -/
theorem blk0 (t : Fin cfg0.N) (p : Fin 256) (q : Fin 1024) : iblk m c 0 t (ix2 p q) = x.h (256 * t.val + p) q := by
  have ht := t_lt t
  blk_simp [iblk]
  have e : (win0_0.blk t).view.emb (ix2 p q) = ix2 ⟨256 * t.val + p, by omega⟩ q := by blk_ext [ix0']
  rw [e, v_arg0]
  exact hx.h _ _

/-- The tile of the rows to be gated. -/
theorem blk1 (t : Fin cfg0.N) (p : Fin 256) (q : Fin 2048) : iblk m c 1 t (ix2 p q) = x.y (256 * t.val + p) q := by
  have ht := t_lt t
  blk_simp [iblk]
  have e : (win0_1.blk t).view.emb (ix2 p q) = ix2 ⟨256 * t.val + p, by omega⟩ q := by blk_ext [ix1']
  rw [e, v_arg1]
  exact hx.y _ _

/-- The tile of the gates: the leading columns. -/
theorem blk2 (t : Fin cfg0.N) (p : Fin 256) (q : Fin 2048) : X0_2 m c t (ix2 p q) = x.z (256 * t.val + p) q := by
  have ht := t_lt t
  unfold X0_2 Pipeline.Window.fill
  rw [dif_pos (moved0_2 t (ix2 p q))]
  have e (j : (win0_2.xblock (grid0.coords t)).Idx) (h0 : (j 0).val = p.val) (h1 : (j 1).val = q.val) :
      (win0_2.blk t).view.emb j = ix2 ⟨256 * t.val + p, by omega⟩ ⟨q, by omega⟩ := by
    blk_ext [ix2'] <;> omega
  blk_simp [iblk]
  rw [e _ rfl rfl, v_arg2]
  exact hx.z _ _

/-- The gain. -/
theorem blk3 (t : Fin cfg0.N) (q : Fin 2048) : iblk m c 3 t (ix2 0 q) = x.g q := by
  blk_simp [iblk]
  have e : (win0_3.blk t).view.emb (ix2 0 q) = ix2 0 q := by blk_ext [ix3']
  rw [e, v_0]
  exact (row_apply _ q).trans (hx.g q)

/-- The weight. -/
theorem blk4 (t : Fin cfg0.N) (p : Fin 2048) (q : Fin 1024) : iblk m c 4 t (ix2 p q) = x.w p q := by
  blk_simp [iblk]
  have e : (win0_4.blk t).view.emb (ix2 p q) = ix2 p q := by blk_ext [ix4']
  rw [e, v_1]
  exact hx.w _ _

/-- The rows plus the product. -/
theorem out5 : (dats m 0 c).arrAt 5 cfg0.N = (mat .f32 x.o : Vec Ideal S8192x1024 .f32) := by
  refine (dats m 0 c).arrAt_eq_of_covers 5 (mat .f32 x.o : Vec Ideal S8192x1024 .f32) (by decide +kernel) fun t hf y => ?_
  have ht := t_lt t
  obtain ⟨p, q, rfl⟩ : ∃ (p : Fin 256) (q : Fin 1024), y = ix2 p q := ⟨y 0, y 1, eq_ix2 y⟩
  blk_simp
  rw [after0_5, o_at m c t]
  refine (out_apply _ _ _ _ _ (fun p q => x.h (256 * t.val + p) q) (fun p q => x.y (256 * t.val + p) q)
    (fun p q => x.z (256 * t.val + p) q) x.w x.g (blk0 m c x hx t) (blk1 m c x hx t) (blk2 m c x hx t) (blk3 m c x hx t)
    (blk4 m c x hx t) p q).trans ?_
  have e : (win0_5.blk t).view.emb (ix2 p q) = ix2 ⟨256 * t.val + p, by omega⟩ q := by blk_ext [ix5']
  exact (congrArg (mat .f32 x.o : Vec Ideal S8192x1024 .f32) e).symm

end at_tab

end run

/-- The call's run: its result is the rows plus the product, and the arguments end unchanged. -/
theorem run_value (m : (ℓ : Loc nD τ sig) → Buf (Elt Ideal) ℓ) (ρ : Dev nD → PrngReg) (x : Dev nD → Gated)
    (hx : ∀ c, (x c).Is (hF m c) (yF m c) (zF m c) (gF m c) (wF m c)) :
    θ_run defs (onTc (τ := τ) (main (F := Ideal))) ⟨m, fun _ => 0, ρ⟩ (fun r => ∀ c : Dev nD,
      r.2.mem ((c.tc : Thread nD τ).loc main_v2) = (mat .f32 (x c).o : Vec Ideal S8192x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨(h.1.out_eq c 5).trans (out5 m c (x c) (hx c)), h.2 c⟩

end Cert.GateIdeal.Proj

end
-- ==== Proof.Proj.GateRef.lean ====
/-
  The gated product's reference: it runs, and its result is the rows plus the product.
-/
module

public import proofs.«01_k».proof.Proof.Proj.GateSpec
public import proofs.«01_k».proof.Proof.Gen.GateReferenceIdeal.Run
public import Idealize.ShloMosaic.Lib.Claim
public import Idealize.ShloMosaic.Lib.Quiescent

@[expose] public section

set_option maxRecDepth 16384

noncomputable section

namespace Cert.GateReferenceIdeal.Proj

open Cert.GateReferenceIdeal Cert.GateReferenceIdeal.Gen Cert.Fwd Cert.Proj
open Idealize.ShloMosaic Idealize.ShloMosaic.TcCoe Idealize.SL.Sem
open scoped BigOperators

/-- The gated rows. -/
def gatedT (y : Vec Ideal S8192x2048 .f32) (z : Vec Ideal S8192x5632 .f32) : FVec Ideal S8192x2048 .f32 :=
  mulf y (mulf (extractStridedSlice S8192x2048 ![0, 0] z slices_S8192x5632_S8192x2048_0_0)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 0] z slices_S8192x5632_S8192x2048_0_0))))))

/-- One over the root of each group's mean square. -/
def rmsT (v : FVec Ideal S8192x4x512 .f32) : FVec Ideal S8192x4x1 .f32 :=
  Host.rsqrt (addf (Host.divf (broadcastInDim S8192x4x1 ![0, 1] bcast_S8192x4_S8192x4x1_0_1
      (Host.reduceAdd (mulf v v) (constant S_ .f32 0x00000000#32) reducesTo_S8192x4x512_S8192x4_d2 h_S_))
    (broadcastInDim S8192x4x1 ![] bcast_S_S8192x4x1 (constant S_ .f32 0x44000000#32)))
    (broadcastInDim S8192x4x1 ![] bcast_S_S8192x4x1 (constant S_ .f32 0x358637BD#32)))

/-- The groups, normalised and scaled by the gain. -/
def scaledT (v : FVec Ideal S8192x4x512 .f32) (g : Vec Ideal S2048 .f32) : FVec Ideal S8192x2048 .f32 :=
  shapeCast S8192x2048 (mulf (mulf v (broadcastInDim S8192x4x512 ![0, 1, 2] bcast_S8192x4x1_S8192x4x512_0_1_2 (rmsT v)))
    (broadcastInDim S8192x4x512 ![0, 1, 2] bcast_S1x4x512_S8192x4x512_0_1_2
      (broadcastInDim S1x4x512 ![1, 2] bcast_S4x512_S1x4x512_1_2 (shapeCast S4x512 g shapeCasts_S2048_S4x512)))) shapeCasts_S8192x4x512_S8192x2048

/-- The rows plus the product. -/
def addedT (h : Vec Ideal S8192x1024 .f32) (n : FVec Ideal S8192x2048 .f32) (w : Vec Ideal S2048x1024 .f32) : FVec Ideal S8192x1024 .f32 :=
  addf h (Host.dotGeneral (F := Ideal) (φ₁ := .f32) (φ₂ := .f32) dot_S8192x2048_S2048x1024_S8192x1024_1_0_0_1_n_n none n w)

theorem gated_apply (y : Vec Ideal S8192x2048 .f32) (z : Vec Ideal S8192x5632 .f32) (Y Z : ℕ → ℕ → EReal)
    (hY : ∀ (p : Fin 8192) (q : Fin 2048), y (ix2 p q) = Y p q) (hZ : ∀ (p : Fin 8192) (q : Fin 5632), z (ix2 p q) = Z p q)
    (p : Fin 8192) (q : Fin 2048) : gatedT y z (ix2 p q) = gatedOf (Y p q) (Z p q) := by
  pointwise [gatedT]
  simp only [hY, hZ, gatedOf, zero_sub]

theorem split_apply (v : FVec Ideal S8192x2048 .f32) (E : ℕ → ℕ → EReal) (hE : ∀ (p : Fin 8192) (q : Fin 2048), v (ix2 p q) = E p q)
    (p : Fin 8192) (a : Fin 4) (b : Fin 512) : shapeCast S8192x4x512 v shapeCasts_S8192x2048_S8192x4x512 (ix3 p a b) = E p (512 * a + b) := by
  pointwise []
  simp only [hE]
  exact congrArg (E p) (by omega)

theorem rms_apply (v : FVec Ideal S8192x4x512 .f32) (E : ℕ → ℕ → EReal)
    (hE : ∀ (p : Fin 8192) (a : Fin 4) (b : Fin 512), v (ix3 p a b) = E p (512 * a + b)) (p : Fin 8192) (a : Fin 4) :
    rmsT v (ix3 p a 0) = rmsOf fun k => E p (512 * a + k) := by
  pointwise [rmsT]
  simp only [hE, rmsOf, Finset.sum_range]

theorem scaled_apply (v : FVec Ideal S8192x4x512 .f32) (g : Vec Ideal S2048 .f32) (E : ℕ → ℕ → EReal) (G : ℕ → EReal)
    (hE : ∀ (p : Fin 8192) (a : Fin 4) (b : Fin 512), v (ix3 p a b) = E p (512 * a + b)) (hG : ∀ q : Fin 2048, g (ix1 q) = G q)
    (p : Fin 8192) (q : Fin 2048) : scaledT v g (ix2 p q) = grouped (E p) q * G q := by
  have hr := rms_apply v E hE
  unfold scaledT
  generalize rmsT v = r at hr ⊢
  pointwise []
  simp only [hE, hr, hG, grouped]
  rw [show 512 * (q.val / 512) + q.val % 512 = q.val by omega]

theorem added_apply (h : Vec Ideal S8192x1024 .f32) (n : FVec Ideal S8192x2048 .f32) (w : Vec Ideal S2048x1024 .f32) (H N W : ℕ → ℕ → EReal)
    (hH : ∀ (p : Fin 8192) (q : Fin 1024), h (ix2 p q) = H p q) (hN : ∀ (p : Fin 8192) (q : Fin 2048), n (ix2 p q) = N p q)
    (hW : ∀ (p : Fin 2048) (q : Fin 1024), w (ix2 p q) = W p q) (p : Fin 8192) (q : Fin 1024) :
    addedT h n w (ix2 p q) = H p q + ∑ j ∈ Finset.range 2048, N p j * W j q := by
  pointwise [addedT]
  simp only [hH, hN, hW, Finset.sum_range]

/-- The reference's result is the rows plus the product. -/
theorem out_eq (h : Vec Ideal S8192x1024 .f32) (y : Vec Ideal S8192x2048 .f32) (z : Vec Ideal S8192x5632 .f32) (g : Vec Ideal S2048 .f32)
    (w : Vec Ideal S2048x1024 .f32) (x : Gated) (hx : x.Is h y z g w) (p : Fin 8192) (q : Fin 1024) :
    addedT h (scaledT (shapeCast S8192x4x512 (gatedT y z) shapeCasts_S8192x2048_S8192x4x512) g) w (ix2 p q) = x.o p q :=
  added_apply _ _ _ x.h x.n x.w hx.h
    (scaled_apply _ _ x.e x.g (split_apply _ x.e (gated_apply y z x.y x.z hx.y hx.z)) hx.g) hx.w p q

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, sem_eq_zero_of_no_sems (by decide) _⟩) (Cert.GateReferenceIdeal.Value.run m ρ)
  obtain ⟨-, h⟩ := h c
  exact h

/-- The reference's run: its result, and the arguments end unchanged. -/
theorem run_value (m : (ℓ : Loc nD τ sig) → Buf (Elt Ideal) ℓ) (ρ : Dev nD → PrngReg) (x : Dev nD → Gated)
    (hx : ∀ c, (x c).Is (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    θ_run defs (onTc (τ := τ) (main (F := Ideal))) ⟨m, fun _ => 0, ρ⟩ (fun r => ∀ c : Dev nD,
      r.2.mem ((c.tc : Thread nD τ).loc main_v20) = (mat .f32 (x c).o : Vec Ideal S8192x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.GateReferenceIdeal.Value.run m ρ)
  obtain ⟨h0, hrest⟩ := h c
  exact ⟨h0.trans (mat_ext .f32 _ (out_eq _ _ _ _ _ (x c) (hx c))), hrest⟩

end Cert.GateReferenceIdeal.Proj

end
-- ==== Proof.Proj.GateGrad.lean ====
/-
  The gradients of the gated, grouped normalisation and its product, as functions of extended reals.
-/
module

public import proofs.«01_k».proof.Proof.Proj.GateSpec
public import proofs.«01_k».proof.Proof.Proj.Spec

@[expose] public section

set_option maxRecDepth 16384

noncomputable section

namespace Cert.Proj

open Idealize.ShloMosaic Cert.Fwd
open scoped BigOperators

/-- The mean square of 512 entries and the constant under the root. -/
def meanOf (f : ℕ → EReal) : EReal :=
  Ideal.div (∑ k ∈ Finset.range 512, f k * f k) (Ideal.ofBits .f32 0x44000000#32) + Ideal.ofBits .f32 0x358637BD#32

theorem rmsOf_eq (f : ℕ → EReal) : rmsOf f = Ideal.rsqrt (meanOf f) := rfl

/-- The derivative of the root's reciprocal. -/
def slopeOf (f : ℕ → EReal) : EReal := Ideal.ofBits .f32 0xBF000000#32 * Ideal.div (rmsOf f) (meanOf f)

/-- The gradient of the sum of squares of 512 entries. -/
def squaresOf (f X : ℕ → EReal) : EReal :=
  Ideal.div ((∑ k ∈ Finset.range 512, f k * X k) * slopeOf f) (Ideal.ofBits .f32 0x44000000#32)

/-- The gradient of one of 512 entries, of the entry and the gradient of it normalised. -/
def entryGrad (f X : ℕ → EReal) (a b : EReal) : EReal := b * rmsOf f + a * squaresOf f X + squaresOf f X * a

/-- The gradient of a row normalised in groups of 512. -/
def groupedGrad (f X : ℕ → EReal) (j : ℕ) : EReal :=
  entryGrad (fun k => f (512 * (j / 512) + k)) (fun k => X (512 * (j / 512) + k)) (f j) (X j)

/-- The logistic function. -/
def logiOf (z : EReal) : EReal := Ideal.div 1 (1 + Ideal.exp (0 - z))

/-- The gradient of a gate: of the row gated, the gate and the gradient of the gated row. -/
def gateGrad (y z d : EReal) : EReal := y * d * logiOf z + z * (y * d) * (logiOf z * (1 - logiOf z))

/-- The derivative of the logistic function, written with the exponential. -/
theorem logi_slope (A z : EReal) :
    A * Ideal.div 1 ((1 + Ideal.exp (0 - z)) * (1 + Ideal.exp (0 - z))) * Ideal.exp (0 - z) = A * (logiOf z * (1 - logiOf z)) := by
  unfold logiOf
  induction z with
  | bot =>
    have e : Ideal.exp (0 - (⊥ : EReal)) = ⊤ := by rw [zero_sub, EReal.neg_bot]; rfl
    have h : (1 : EReal) + ⊤ = ⊤ := EReal.add_top_of_ne_bot (by exact_mod_cast EReal.coe_ne_bot 1)
    have d : Ideal.div (1 : EReal) ⊤ = 0 := by rw [Ideal.div, if_neg (by simp), EReal.inv_top, mul_zero]
    rw [e, h, EReal.top_mul_top, d, mul_zero, zero_mul, zero_mul, mul_zero]
  | top =>
    have e : Ideal.exp (0 - (⊤ : EReal)) = 0 := by rw [zero_sub, EReal.neg_top]; rfl
    have d : Ideal.div (1 : EReal) 1 = 1 := by
      rw [← EReal.coe_one, Cert.Val.div_coe 1 1 one_ne_zero, div_one]
    have s : (1 : EReal) - 1 = 0 := by rw [← EReal.coe_one, ← EReal.coe_sub, sub_self, EReal.coe_zero]
    rw [e, add_zero, mul_one, d, s, mul_zero, mul_zero, mul_zero]
  | coe z =>
    have e : Ideal.exp (0 - (z : EReal)) = ((Real.exp (-z) : ℝ) : EReal) := by rw [zero_sub, ← EReal.coe_neg]; rfl
    have hp : 0 < 1 + Real.exp (-z) := Cert.Val.one_add_exp_pos z
    rw [e]
    generalize Real.exp (-z) = r at hp
    have h1 : (1 : EReal) + (r : EReal) = ((1 + r : ℝ) : EReal) := by rw [EReal.coe_add, EReal.coe_one]
    have d (s : ℝ) (hs : s ≠ 0) : Ideal.div 1 (s : EReal) = ((1 / s : ℝ) : EReal) := by
      rw [← Cert.Val.div_coe 1 s hs, EReal.coe_one]
    rw [h1, ← EReal.coe_mul, d _ (mul_pos hp hp).ne', d _ hp.ne', ← EReal.coe_one, ← EReal.coe_sub, ← EReal.coe_mul, mul_assoc,
      ← EReal.coe_mul]
    congr 2
    field_simp
    ring

namespace Gated

variable (x : Gated)

/-- The gradient of the scaled rows, of the gradient of the product. -/
def du (p j : ℕ) : EReal := ∑ k ∈ Finset.range 1024, x.h p k * x.w j k
/-- The gradient of the gated rows. -/
def de (p j : ℕ) : EReal := groupedGrad (x.e p) (fun j => x.du p j * x.g j) j
/-- The gradient of the rows that are gated. -/
def dy (p j : ℕ) : EReal := x.de p j * (x.z p j * logiOf (x.z p j))
/-- The gradient of the gates. -/
def dz (p j : ℕ) : EReal := gateGrad (x.y p j) (x.z p j) (x.de p j)
/-- The gradient of the gain over the first `n` rows. -/
def dgTo (n j : ℕ) : EReal := ∑ p ∈ Finset.range n, grouped (x.e p) j * x.du p j
/-- The gradient of the gain. -/
def dg (j : ℕ) : EReal := x.dgTo 8192 j

theorem dgTo_zero (j : ℕ) : x.dgTo 0 j = 0 := by unfold dgTo; rw [Finset.range_zero, Finset.sum_empty]

theorem dgTo_add (n l j : ℕ) :
    x.dgTo (n + l) j = x.dgTo n j + ∑ p ∈ Finset.range l, grouped (x.e (n + p)) j * x.du (n + p) j := by
  unfold dgTo; rw [Finset.sum_range_add]

end Gated

end Cert.Proj

end
-- ==== Proof.Proj.GateGradPay.lean ====
/-
  What the body of the gated product's gradient stores, read at an index.
-/
module

public import proofs.«01_k».proof.Proof.Proj.GateGrad
public import proofs.«01_k».proof.Proof.Gen.GateBwdIdeal.Skeleton

@[expose] public section

set_option maxRecDepth 16384

noncomputable section

namespace Cert.GateBwdIdeal.Proj

open Cert.GateBwdIdeal Cert.GateBwdIdeal.Gen Cert.Fwd Cert.Proj
open Idealize.ShloMosaic
open scoped BigOperators

/-! ## The body's values, as functions of its blocks -/

section terms
variable {F : FTy → Type} [FloatOps F]
variable (d : Vec F S256x1024 .f32) (y z : Vec F S256x2048 .f32) (g : Vec F S1x2048 .f32) (w : Vec F S2048x1024 .bf16)

/-- The constant under the root. -/
abbrev epsV : F .f32 := Scalar.ofBits .f32 0x358637BD#32

/-- The normalised tile. -/
abbrev nV : FVec F S256x2048 .f32 := k0_pay29 (k0_pay10 y z) (k0_pay15 y z) (k0_pay16 y z) (k0_pay17 y z) epsV

/-- The gradient of the gated tile. -/
abbrev deV : FVec F S256x2048 .f32 :=
  k0_pay40 (k0_pay11 y z) (k0_pay13 y z) (k0_pay14 y z) (k0_pay16 y z) (k0_pay35 (k0_pay4 g) (k0_pay31 d w))
    (k0_pay37 (k0_pay4 g) (k0_pay21 (k0_pay10 y z)) (k0_pay23 (k0_pay10 y z)) (k0_pay24 (k0_pay10 y z)) (k0_pay25 (k0_pay10 y z))
      (k0_pay27 (k0_pay10 y z)) (k0_pay28 (k0_pay10 y z)) (k0_pay31 d w))
    (k0_pay38 (k0_pay4 g) (k0_pay19 (k0_pay17 y z) epsV) (k0_pay31 d w))
    (k0_pay39 (k0_pay4 g) (k0_pay16 y z) (k0_pay20 (k0_pay17 y z) epsV) (k0_pay31 d w))

/-- The scaled tile. -/
def ynV : FVec F S256x2048 .bf16 :=
  k0_pay43 (k0_pay30 (k0_pay4 g) (k0_pay10 y z) (k0_pay15 y z) (k0_pay16 y z) (k0_pay17 y z) epsV)

/-- The gradient of the tile that is gated. -/
def dyV : FVec F S256x2048 .f32 :=
  k0_pay41 (k0_pay9 z) (k0_pay11 y z) (k0_pay13 y z) (k0_pay14 y z) (k0_pay16 y z) (k0_pay35 (k0_pay4 g) (k0_pay31 d w))
    (k0_pay37 (k0_pay4 g) (k0_pay21 (k0_pay10 y z)) (k0_pay23 (k0_pay10 y z)) (k0_pay24 (k0_pay10 y z)) (k0_pay25 (k0_pay10 y z))
      (k0_pay27 (k0_pay10 y z)) (k0_pay28 (k0_pay10 y z)) (k0_pay31 d w))
    (k0_pay38 (k0_pay4 g) (k0_pay19 (k0_pay17 y z) epsV) (k0_pay31 d w))
    (k0_pay39 (k0_pay4 g) (k0_pay16 y z) (k0_pay20 (k0_pay17 y z) epsV) (k0_pay31 d w))

/-- The gradient of the gates' tile. -/
def dzV : FVec F S256x2048 .bf16 :=
  k0_pay1 (k0_pay42 y z (k0_pay5 z) (k0_pay7 z) (k0_pay8 z) (k0_pay11 y z) (k0_pay13 y z) (k0_pay14 y z) (k0_pay16 y z)
    (k0_pay35 (k0_pay4 g) (k0_pay31 d w))
    (k0_pay37 (k0_pay4 g) (k0_pay21 (k0_pay10 y z)) (k0_pay23 (k0_pay10 y z)) (k0_pay24 (k0_pay10 y z)) (k0_pay25 (k0_pay10 y z))
      (k0_pay27 (k0_pay10 y z)) (k0_pay28 (k0_pay10 y z)) (k0_pay31 d w))
    (k0_pay38 (k0_pay4 g) (k0_pay19 (k0_pay17 y z) epsV) (k0_pay31 d w))
    (k0_pay39 (k0_pay4 g) (k0_pay16 y z) (k0_pay20 (k0_pay17 y z) epsV) (k0_pay31 d w)))

/-- The gain's gradient with the tile's rows added. -/
def dgV (s : Vec F S1x2048 .f32) : FVec F S1x2048 .f32 :=
  k0_pay2 (k0_pay33 (k0_pay32 (k0_pay10 y z) (k0_pay15 y z) (k0_pay16 y z) (k0_pay17 y z) epsV d w)) s

/-! ## The parts they are made of -/

/-- A group times one number per row. -/
def times (v : FVec F S256x512 .f32) (r : FVec F S256x1 .f32) : FVec F S256x512 .f32 :=
  mulf v (broadcastTo S256x512 r broadcasts_S256x1_S256x512)

/-- Four groups side by side. -/
def four (a b c e : FVec F S256x512 .f32) : FVec F S256x2048 .f32 :=
  concatenate S256x2048 1 [⟨S256x512, a⟩, ⟨S256x512, b⟩, ⟨S256x512, c⟩, ⟨S256x512, e⟩]
    concatenates_S256x512_S256x512_S256x512_S256x512_S256x2048_d1

/-- The gradient of a group's sum of squares. -/
def squaresV (v X : FVec F S256x512 .f32) (t : FVec F S256x1 .f32) : FVec F S256x1 .f32 :=
  shapeCast S256x1 (multiReduction .add [1] S256 (divf (mulf (shapeCast S256x1
      (multiReduction .add [1] S256 (mulf v X) 0x00000000#32 reduces_S256x512_S256 (.inl rfl) rfl) shapeCasts_S256_S256x1) t)
    (broadcast S256x1 (Scalar.ofBits .f32 0x44000000#32))) 0x00000000#32 reduces_S256x1_S256 (.inl rfl) rfl) shapeCasts_S256_S256x1

/-- The gradient of a group. -/
def groupV (v X : FVec F S256x512 .f32) (r t : FVec F S256x1 .f32) : FVec F S256x512 .f32 :=
  addf (addf (times X r) (times v (squaresV v X t)))
    (mulf (broadcastTo S256x512 (squaresV v X t) broadcasts_S256x1_S256x512) v)

/-- Four groups put at their columns and added. -/
def spread (a b c e : FVec F S256x512 .f32) : FVec F S256x2048 .f32 :=
  addf (addf (addf
    (concatenate S256x2048 1 [⟨S256x1536, broadcast S256x1536 (Scalar.ofBits .f32 0x00000000#32)⟩, ⟨S256x512, e⟩]
      concatenates_S256x1536_S256x512_S256x2048_d1)
    (concatenate S256x2048 1 [⟨S256x1536, concatenate S256x1536 1 [⟨S256x1024, broadcast S256x1024 (Scalar.ofBits .f32 0x00000000#32)⟩,
        ⟨S256x512, c⟩] concatenates_S256x1024_S256x512_S256x1536_d1⟩, ⟨S256x512, broadcast S256x512 (Scalar.ofBits .f32 0x00000000#32)⟩]
      concatenates_S256x1536_S256x512_S256x2048_d1))
    (concatenate S256x2048 1 [⟨S256x1024, concatenate S256x1024 1 [⟨S256x512, broadcast S256x512 (Scalar.ofBits .f32 0x00000000#32)⟩,
        ⟨S256x512, b⟩] concatenates_S256x512_S256x512_S256x1024_d1⟩, ⟨S256x1024, broadcast S256x1024 (Scalar.ofBits .f32 0x00000000#32)⟩]
      concatenates_S256x1024_S256x1024_S256x2048_d1))
    (concatenate S256x2048 1 [⟨S256x512, a⟩, ⟨S256x1536, broadcast S256x1536 (Scalar.ofBits .f32 0x00000000#32)⟩]
      concatenates_S256x512_S256x1536_S256x2048_d1)

/-- The group of columns from an offset. -/
abbrev slice2 (v : FVec F S256x2048 .f32) : FVec F S256x512 .f32 :=
  extractStridedSlice S256x512 ![0, 1024] v slices_S256x2048_o0_1024_S256x512
abbrev slice3 (v : FVec F S256x2048 .f32) : FVec F S256x512 .f32 :=
  extractStridedSlice S256x512 ![0, 1536] v slices_S256x2048_o0_1536_S256x512

/-- The normalised tile is made of these. -/
theorem n_eq (v : FVec F S256x2048 .f32) (a b : FVec F S256x512 .f32) (s : FVec F S256x1 .f32) (e : F .f32) :
    k0_pay29 v a b s e = four a (times b (k0_pay19 s e)) (times (k0_pay21 v) (k0_pay23 v)) (times (k0_pay25 v) (k0_pay27 v)) := rfl

/-- The gradient of the gated tile is made of these. -/
theorem de_eq (G : FVec F S1x2048 .f32) (D : FVec F S256x2048 .f32) (v0 v1 v2 v3 X0 : FVec F S256x512 .f32)
    (r0 t0 r1 t1 r2 t2 r3 t3 : FVec F S256x1 .f32) :
    k0_pay40 v0 r0 t0 v1 X0 (k0_pay37 G v2 r2 t2 v3 r3 t3 D) (k0_pay38 G r1 D) (k0_pay39 G v1 t1 D)
      = spread (groupV v0 X0 r0 t0) (groupV v1 (k0_pay36 G D) r1 t1) (groupV v2 (slice2 (k0_pay34 G D)) r2 t2)
          (groupV v3 (slice3 (k0_pay34 G D)) r3 t3) := rfl

/-- The gradient of the gates' tile, of the gradient of the gated tile. -/
def gateV (e : FVec F S256x2048 .f32) : FVec F S256x2048 .bf16 :=
  truncf .bf16 (addf (mulf (mulf y e) (k0_pay7 z))
    (subf (broadcast S256x2048 (Scalar.ofBits .f32 0x00000000#32)) (mulf (subf (broadcast S256x2048 (Scalar.ofBits .f32 0x00000000#32))
      (mulf (mulf (mulf z (mulf y e)) (k0_pay8 z)) (broadcast S256x2048 (Scalar.ofBits .f32 0x3F800000#32)))) (k0_pay5 z))))
    bitsLt_bf16_f32

theorem dz_eq : dzV d y z g w = gateV y z (deV d y z g w) := rfl

theorem dy_eq : dyV d y z g w = mulf (deV d y z g w) (k0_pay9 z) := rfl

end terms

/-! ## The parts at an index -/

theorem times_apply (v : FVec Ideal S256x512 .f32) (r : FVec Ideal S256x1 .f32) (p : Fin 256) (q : Fin 512) :
    times v r (ix2 p q) = v (ix2 p q) * r (ix2 p 0) := by
  pointwise [times]

/-- Four groups side by side are one function when each is it at its columns. -/
theorem four_apply (a b c e : FVec Ideal S256x512 .f32) (f : ℕ → ℕ → EReal) (ha : ∀ (p : Fin 256) (q : Fin 512), a (ix2 p q) = f p q)
    (hb : ∀ (p : Fin 256) (q : Fin 512), b (ix2 p q) = f p (512 + q)) (hc : ∀ (p : Fin 256) (q : Fin 512), c (ix2 p q) = f p (1024 + q))
    (he : ∀ (p : Fin 256) (q : Fin 512), e (ix2 p q) = f p (1536 + q)) (p : Fin 256) (q : Fin 2048) : four a b c e (ix2 p q) = f p q := by
  pointwise [four]
  simp only [ha, hb, hc, he]
  have hq := q.isLt
  split
  · rfl
  split
  · exact congrArg (f p) (by omega)
  split
  · exact congrArg (f p) (by omega)
  · exact congrArg (f p) (by omega)

/-- Four groups put at their columns and added are one function when each is it at its columns. -/
theorem spread_apply (a b c e : FVec Ideal S256x512 .f32) (f : ℕ → ℕ → EReal) (ha : ∀ (p : Fin 256) (q : Fin 512), a (ix2 p q) = f p q)
    (hb : ∀ (p : Fin 256) (q : Fin 512), b (ix2 p q) = f p (512 + q)) (hc : ∀ (p : Fin 256) (q : Fin 512), c (ix2 p q) = f p (1024 + q))
    (he : ∀ (p : Fin 256) (q : Fin 512), e (ix2 p q) = f p (1536 + q)) (p : Fin 256) (q : Fin 2048) : spread a b c e (ix2 p q) = f p q := by
  pointwise [spread]
  simp only [ha, hb, hc, he]
  have hq := q.isLt
  split_ifs <;> first
    | omega
    | (simp only [add_zero, zero_add]; try exact congrArg (f p) (by omega))

section group
variable (v X : FVec Ideal S256x512 .f32) (r t : FVec Ideal S256x1 .f32) (f Y : ℕ → ℕ → EReal)
  (hv : ∀ (p : Fin 256) (q : Fin 512), v (ix2 p q) = f p q) (hX : ∀ (p : Fin 256) (q : Fin 512), X (ix2 p q) = Y p q)
  (hr : ∀ p : Fin 256, r (ix2 p 0) = rmsOf (f p)) (ht : ∀ p : Fin 256, t (ix2 p 0) = slopeOf (f p))
include hv hX ht

theorem squares_apply (p : Fin 256) : squaresV v X t (ix2 p 0) = squaresOf (f p) (Y p) := by
  pointwise [squaresV]
  simp only [Fin.sum_univ_one, hv, hX, ht, squaresOf, Finset.sum_range]

include hr

/-- The gradient of a group at an index. -/
theorem group_apply (p : Fin 256) (q : Fin 512) : groupV v X r t (ix2 p q) = entryGrad (f p) (Y p) (f p q) (Y p q) := by
  have hs := squares_apply v X t f Y hv hX ht p
  unfold groupV
  generalize squaresV v X t = s at hs ⊢
  pointwise [times]
  rw [hv, hX, hr, hs]
  rfl

end group

section parts
variable (y z : Vec Ideal S256x2048 .f32) (E : ℕ → ℕ → EReal) (hE : ∀ (p : Fin 256) (q : Fin 2048), k0_pay10 y z (ix2 p q) = E p q)
include hE

/-- The first group, its mean square, its root's reciprocal and the derivative of that. -/
theorem e0 (p : Fin 256) (q : Fin 512) : k0_pay11 y z (ix2 p q) = E p q := by
  unfold k0_pay11
  generalize k0_pay10 y z = v at hE ⊢
  pointwise []
  rw [hE]

theorem m0 (p : Fin 256) : k0_pay12 y z (ix2 p 0) = meanOf (E p) := by
  have h := e0 y z E hE
  unfold k0_pay12
  generalize k0_pay11 y z = v at h ⊢
  pointwise []
  simp only [h, meanOf, Finset.sum_range]

theorem r0 (p : Fin 256) : k0_pay13 y z (ix2 p 0) = rmsOf (E p) := by
  have h := m0 y z E hE p
  unfold k0_pay13
  generalize k0_pay12 y z = v at h ⊢
  pointwise []
  rw [h, rmsOf_eq]

theorem t0 (p : Fin 256) : k0_pay14 y z (ix2 p 0) = slopeOf (E p) := by
  have h := m0 y z E hE p
  have h' := r0 y z E hE p
  unfold k0_pay14
  generalize k0_pay12 y z = v at h ⊢
  generalize k0_pay13 y z = u at h' ⊢
  pointwise []
  rw [h, h', slopeOf]

theorem n0 (p : Fin 256) (q : Fin 512) : k0_pay15 y z (ix2 p q) = E p q * rmsOf (E p) := by
  have h := e0 y z E hE
  have h' := r0 y z E hE p
  unfold k0_pay15
  generalize k0_pay11 y z = v at h ⊢
  generalize k0_pay13 y z = u at h' ⊢
  pointwise []
  rw [h, h']

/-- The second group, and its mean square without the constant. -/
theorem e1 (p : Fin 256) (q : Fin 512) : k0_pay16 y z (ix2 p q) = E p (512 + q) := by
  unfold k0_pay16
  generalize k0_pay10 y z = v at hE ⊢
  pointwise []
  rw [hE]

theorem m1 (p : Fin 256) : k0_pay18 (k0_pay17 y z) (epsV (F := Ideal)) (ix2 p 0) = meanOf fun k => E p (512 + k) := by
  have h := e1 y z E hE
  unfold k0_pay18 k0_pay17
  generalize k0_pay16 y z = v at h ⊢
  pointwise []
  simp only [h, meanOf, Finset.sum_range]

theorem r1 (p : Fin 256) : k0_pay19 (k0_pay17 y z) (epsV (F := Ideal)) (ix2 p 0) = rmsOf fun k => E p (512 + k) := by
  have h := m1 y z E hE p
  unfold k0_pay19
  generalize k0_pay18 (k0_pay17 y z) (epsV (F := Ideal)) = v at h ⊢
  pointwise []
  rw [h, rmsOf_eq]

theorem t1 (p : Fin 256) : k0_pay20 (k0_pay17 y z) (epsV (F := Ideal)) (ix2 p 0) = slopeOf fun k => E p (512 + k) := by
  have h := m1 y z E hE p
  have h' := r1 y z E hE p
  unfold k0_pay20
  generalize k0_pay18 (k0_pay17 y z) (epsV (F := Ideal)) = v at h ⊢
  generalize k0_pay19 (k0_pay17 y z) (epsV (F := Ideal)) = u at h' ⊢
  pointwise []
  rw [h, h', slopeOf]

end parts

section later
variable (v : FVec Ideal S256x2048 .f32) (E : ℕ → ℕ → EReal) (hE : ∀ (p : Fin 256) (q : Fin 2048), v (ix2 p q) = E p q)
include hE

/-- The third group. -/
theorem e2 (p : Fin 256) (q : Fin 512) : k0_pay21 v (ix2 p q) = E p (1024 + q) := by
  unfold k0_pay21
  pointwise []
  rw [hE]

theorem m2 (p : Fin 256) : k0_pay22 v (ix2 p 0) = meanOf fun k => E p (1024 + k) := by
  have h := e2 v E hE
  unfold k0_pay22
  generalize k0_pay21 v = a at h ⊢
  pointwise []
  simp only [h, meanOf, Finset.sum_range]

theorem r2 (p : Fin 256) : k0_pay23 v (ix2 p 0) = rmsOf fun k => E p (1024 + k) := by
  have h := m2 v E hE p
  unfold k0_pay23
  generalize k0_pay22 v = a at h ⊢
  pointwise []
  rw [h, rmsOf_eq]

theorem t2 (p : Fin 256) : k0_pay24 v (ix2 p 0) = slopeOf fun k => E p (1024 + k) := by
  have h := m2 v E hE p
  have h' := r2 v E hE p
  unfold k0_pay24
  generalize k0_pay22 v = a at h ⊢
  generalize k0_pay23 v = u at h' ⊢
  pointwise []
  rw [h, h', slopeOf]

/-- The fourth group. -/
theorem e3 (p : Fin 256) (q : Fin 512) : k0_pay25 v (ix2 p q) = E p (1536 + q) := by
  unfold k0_pay25
  pointwise []
  rw [hE]

theorem m3 (p : Fin 256) : k0_pay26 v (ix2 p 0) = meanOf fun k => E p (1536 + k) := by
  have h := e3 v E hE
  unfold k0_pay26
  generalize k0_pay25 v = a at h ⊢
  pointwise []
  simp only [h, meanOf, Finset.sum_range]

theorem r3 (p : Fin 256) : k0_pay27 v (ix2 p 0) = rmsOf fun k => E p (1536 + k) := by
  have h := m3 v E hE p
  unfold k0_pay27
  generalize k0_pay26 v = a at h ⊢
  pointwise []
  rw [h, rmsOf_eq]

theorem t3 (p : Fin 256) : k0_pay28 v (ix2 p 0) = slopeOf fun k => E p (1536 + k) := by
  have h := m3 v E hE p
  have h' := r3 v E hE p
  unfold k0_pay28
  generalize k0_pay26 v = a at h ⊢
  generalize k0_pay27 v = u at h' ⊢
  pointwise []
  rw [h, h', slopeOf]

end later

/-- The group of columns from an offset, at an index. -/
theorem slice0_apply (v : FVec Ideal S256x2048 .f32) (f : ℕ → ℕ → EReal) (hf : ∀ (p : Fin 256) (q : Fin 2048), v (ix2 p q) = f p q)
    (p : Fin 256) (q : Fin 512) : extractStridedSlice S256x512 ![0, 0] v slices_S256x2048_o0_0_S256x512 (ix2 p q) = f p q := by
  pointwise []
  rw [hf]

theorem slice1_apply (v : FVec Ideal S256x2048 .f32) (f : ℕ → ℕ → EReal) (hf : ∀ (p : Fin 256) (q : Fin 2048), v (ix2 p q) = f p q)
    (p : Fin 256) (q : Fin 512) : extractStridedSlice S256x512 ![0, 512] v slices_S256x2048_o0_512_S256x512 (ix2 p q) = f p (512 + q) := by
  pointwise []
  rw [hf]

/-- The gated tile. -/
theorem gated_apply (y z : Vec Ideal S256x2048 .f32) (Y Z : ℕ → ℕ → EReal) (hY : ∀ (p : Fin 256) (q : Fin 2048), y (ix2 p q) = Y p q)
    (hZ : ∀ (p : Fin 256) (q : Fin 2048), z (ix2 p q) = Z p q) (p : Fin 256) (q : Fin 2048) :
    k0_pay10 y z (ix2 p q) = gatedOf (Y p q) (Z p q) := by
  pointwise [k0_pay10, k0_pay9, k0_pay7, k0_pay6, k0_pay5]
  simp only [hY, hZ, gatedOf]

/-- The gradient of the scaled tile. -/
theorem du_apply (d : Vec Ideal S256x1024 .f32) (w : Vec Ideal S2048x1024 .bf16) (D W : ℕ → ℕ → EReal)
    (hD : ∀ (p : Fin 256) (q : Fin 1024), d (ix2 p q) = D p q) (hW : ∀ (p : Fin 2048) (q : Fin 1024), w (ix2 p q) = W p q)
    (p : Fin 256) (q : Fin 2048) : k0_pay31 d w (ix2 p q) = ∑ k ∈ Finset.range 1024, D p k * W q k := by
  pointwise [k0_pay31]
  simp only [hD, hW, Finset.sum_range]

/-- The gradient of the normalised tile. -/
theorem gain_apply (v : FVec Ideal S256x2048 .f32) (g : Vec Ideal S1x2048 .f32) (U : ℕ → ℕ → EReal) (G : ℕ → EReal)
    (hU : ∀ (p : Fin 256) (q : Fin 2048), v (ix2 p q) = U p q) (hG : ∀ q : Fin 2048, g (ix2 0 q) = G q)
    (p : Fin 256) (q : Fin 2048) : k0_pay34 (k0_pay4 g) v (ix2 p q) = U p q * G q := by
  pointwise [k0_pay34, k0_pay4]
  rw [hU, hG]

/-- The normalised tile. -/
theorem n_apply (y z : Vec Ideal S256x2048 .f32) (E : ℕ → ℕ → EReal)
    (hE : ∀ (p : Fin 256) (q : Fin 2048), k0_pay10 y z (ix2 p q) = E p q) (p : Fin 256) (q : Fin 2048) :
    nV y z (ix2 p q) = grouped (E p) q := by
  unfold nV
  rw [n_eq]
  refine four_apply _ _ _ _ (fun p => grouped (E p)) ?_ ?_ ?_ ?_ p q
  · intro p q
    rw [n0 y z E hE, grouped, show q.val / 512 = 0 by omega]
    simp only [Nat.mul_zero, Nat.zero_add]
  · intro p q
    rw [times_apply, e1 y z E hE, r1 y z E hE, grouped, show (512 + q.val) / 512 = 1 by omega]
  · intro p q
    rw [times_apply, e2 _ E hE, r2 _ E hE, grouped, show (1024 + q.val) / 512 = 2 by omega]
  · intro p q
    rw [times_apply, e3 _ E hE, r3 _ E hE, grouped, show (1536 + q.val) / 512 = 3 by omega]

/-- The gradient of the gated tile, of the gated tile and the gradient of the normalised one. -/
theorem de_apply_of (d : Vec Ideal S256x1024 .f32) (y z : Vec Ideal S256x2048 .f32) (g : Vec Ideal S1x2048 .f32)
    (w : Vec Ideal S2048x1024 .bf16) (E X : ℕ → ℕ → EReal) (hE : ∀ (p : Fin 256) (q : Fin 2048), k0_pay10 y z (ix2 p q) = E p q)
    (hX : ∀ (p : Fin 256) (q : Fin 2048), k0_pay34 (k0_pay4 g) (k0_pay31 d w) (ix2 p q) = X p q) (p : Fin 256) (q : Fin 2048) :
    deV d y z g w (ix2 p q) = groupedGrad (E p) (X p) q := by
  unfold deV
  rw [show k0_pay35 (k0_pay4 g) (k0_pay31 d w)
    = extractStridedSlice S256x512 ![0, 0] (k0_pay34 (k0_pay4 g) (k0_pay31 d w)) slices_S256x2048_o0_0_S256x512 from rfl, de_eq]
  refine spread_apply _ _ _ _ (fun p => groupedGrad (E p) (X p)) ?_ ?_ ?_ ?_ p q
  · intro p q
    refine (group_apply _ _ _ _ E X (e0 y z E hE) (slice0_apply _ X hX) (r0 y z E hE) (t0 y z E hE) p q).trans ?_
    rw [groupedGrad, show q.val / 512 = 0 by omega]
    simp only [Nat.mul_zero, Nat.zero_add]
  · intro p q
    refine (group_apply _ _ _ _ (fun p k => E p (512 + k)) (fun p k => X p (512 + k)) (e1 y z E hE) (slice1_apply _ X hX)
      (r1 y z E hE) (t1 y z E hE) p q).trans ?_
    rw [groupedGrad, show (512 + q.val) / 512 = 1 by omega]
  · intro p q
    refine (group_apply _ _ _ _ (fun p k => E p (1024 + k)) (fun p k => X p (1024 + k)) (e2 _ E hE) (e2 _ X hX)
      (r2 _ E hE) (t2 _ E hE) p q).trans ?_
    rw [groupedGrad, show (1024 + q.val) / 512 = 2 by omega]
  · intro p q
    refine (group_apply _ _ _ _ (fun p k => E p (1536 + k)) (fun p k => X p (1536 + k)) (e3 _ E hE) (e3 _ X hX)
      (r3 _ E hE) (t3 _ E hE) p q).trans ?_
    rw [groupedGrad, show (1536 + q.val) / 512 = 3 by omega]

section whole
variable (d : Vec Ideal S256x1024 .f32) (y z : Vec Ideal S256x2048 .f32) (g : Vec Ideal S1x2048 .f32) (w : Vec Ideal S2048x1024 .bf16)
  (D Y Z W : ℕ → ℕ → EReal) (G : ℕ → EReal)
  (hD : ∀ (p : Fin 256) (q : Fin 1024), d (ix2 p q) = D p q) (hY : ∀ (p : Fin 256) (q : Fin 2048), y (ix2 p q) = Y p q)
  (hZ : ∀ (p : Fin 256) (q : Fin 2048), z (ix2 p q) = Z p q) (hG : ∀ q : Fin 2048, g (ix2 0 q) = G q)
  (hW : ∀ (p : Fin 2048) (q : Fin 1024), w (ix2 p q) = W p q)

include hY hZ hG in
/-- The scaled tile. -/
theorem yn_apply (p : Fin 256) (q : Fin 2048) : ynV y z g (ix2 p q) = grouped (fun j => gatedOf (Y p j) (Z p j)) q * G q := by
  have h := n_apply y z (fun p j => gatedOf (Y p j) (Z p j)) (gated_apply y z Y Z hY hZ) p q
  unfold nV at h
  unfold ynV k0_pay43 k0_pay30
  generalize k0_pay29 (k0_pay10 y z) (k0_pay15 y z) (k0_pay16 y z) (k0_pay17 y z) (epsV (F := Ideal)) = n at h ⊢
  pointwise [k0_pay4]
  rw [h, hG]

include hD hY hZ hW in
/-- The gain's gradient with the tile's rows added. -/
theorem dg_apply (s : Vec Ideal S1x2048 .f32) (S : ℕ → EReal) (hS : ∀ q : Fin 2048, s (ix2 0 q) = S q) (q : Fin 2048) :
    dgV d y z w s (ix2 0 q)
      = S q + ∑ p ∈ Finset.range 256, grouped (fun j => gatedOf (Y p j) (Z p j)) q * ∑ k ∈ Finset.range 1024, D p k * W q k := by
  have h := n_apply y z (fun p j => gatedOf (Y p j) (Z p j)) (gated_apply y z Y Z hY hZ)
  have h' := du_apply d w D W hD hW
  unfold nV at h
  unfold dgV k0_pay2 k0_pay33 k0_pay32
  generalize k0_pay29 (k0_pay10 y z) (k0_pay15 y z) (k0_pay16 y z) (k0_pay17 y z) (epsV (F := Ideal)) = n at h ⊢
  generalize k0_pay31 d w = u at h' ⊢
  pointwise []
  simp only [hS, h, h', Finset.sum_range]

include hD hY hZ hG hW

/-- The gradient of the gated tile. -/
theorem de_apply (p : Fin 256) (q : Fin 2048) : deV d y z g w (ix2 p q)
    = groupedGrad (fun j => gatedOf (Y p j) (Z p j)) (fun j => (∑ k ∈ Finset.range 1024, D p k * W j k) * G j) q :=
  de_apply_of d y z g w (fun p j => gatedOf (Y p j) (Z p j)) (fun p j => (∑ k ∈ Finset.range 1024, D p k * W j k) * G j)
    (gated_apply y z Y Z hY hZ)
    (gain_apply (k0_pay31 d w) g (fun p j => ∑ k ∈ Finset.range 1024, D p k * W j k) G (du_apply d w D W hD hW) hG) p q

/-- The gradient of the tile that is gated. -/
theorem dy_apply (p : Fin 256) (q : Fin 2048) : dyV d y z g w (ix2 p q)
    = groupedGrad (fun j => gatedOf (Y p j) (Z p j)) (fun j => (∑ k ∈ Finset.range 1024, D p k * W j k) * G j) q
      * (Z p q * logiOf (Z p q)) := by
  have h := de_apply d y z g w D Y Z W G hD hY hZ hG hW p q
  rw [dy_eq]
  generalize deV d y z g w = e at h ⊢
  pointwise [k0_pay9, k0_pay7, k0_pay6, k0_pay5]
  rw [h, hZ, logiOf]

/-- The gradient of the gates' tile. -/
theorem dz_apply (p : Fin 256) (q : Fin 2048) : dzV d y z g w (ix2 p q)
    = gateGrad (Y p q) (Z p q)
        (groupedGrad (fun j => gatedOf (Y p j) (Z p j)) (fun j => (∑ k ∈ Finset.range 1024, D p k * W j k) * G j) q) := by
  have h := de_apply d y z g w D Y Z W G hD hY hZ hG hW p q
  rw [dz_eq]
  generalize deV d y z g w = e at h ⊢
  pointwise [gateV, k0_pay8, k0_pay7, k0_pay6, k0_pay5]
  rw [h, hY, hZ, gateGrad, ← logi_slope, zero_sub (_ * Ideal.exp _), zero_sub (_ * Ideal.div _ _), EReal.neg_mul, neg_neg, logiOf]

end whole

end Cert.GateBwdIdeal.Proj

end
-- ==== Proof.Proj.GateGradRun.lean ====
/-
  What the run of the gated product's gradient leaves in its four results.
-/
module

public import proofs.«01_k».proof.Proof.Proj.GateGradPay
public import proofs.«01_k».proof.Proof.Gen.GateBwdIdeal.Frame
public import Idealize.ShloMosaic.Lib.Pipeline.ReadBack
public import Idealize.ShloMosaic.Lib.Claim
public import Idealize.ShloMosaic.Lib.Quiescent

@[expose] public section

set_option maxRecDepth 16384

noncomputable section

namespace Cert.GateBwdIdeal.Proj

open Cert.GateBwdIdeal Cert.GateBwdIdeal.Gen Cert.Fwd Cert.Proj
open Idealize.ShloMosaic Idealize.ShloMosaic.TcCoe Idealize.ShloMosaic.Pipeline Idealize.SL.Sem
open scoped BigOperators

section terms
variable {F : FTy → Type} [FloatOps F]
variable (m : (ℓ : Loc nD τ sig) → Buf (Elt F) ℓ) (c : Dev nD)

abbrev hF : Vec F S8192x1024 .f32 := m ((c.tc : Thread nD τ).loc main_arg0)
abbrev yF : Vec F S8192x2048 .f32 := m ((c.tc : Thread nD τ).loc main_arg1)
abbrev zF : Vec F S8192x5632 .f32 := m ((c.tc : Thread nD τ).loc main_arg2)
abbrev gF : Vec F S2048 .f32 := m ((c.tc : Thread nD τ).loc main_arg3)
abbrev wF : Vec F S2048x1024 .f32 := m ((c.tc : Thread nD τ).loc main_arg4)

/-- The three row arrays are the arguments'. -/
theorem v_arg0 : V m c main_arg0 = hF m c := by
  unfold V V0 hostOps0
  simp only [List.flatten_cons, List.flatten_nil, List.append_nil]
  after_results_simp

theorem v_arg1 : V m c main_arg1 = yF m c := by
  unfold V V0 hostOps0
  simp only [List.flatten_cons, List.flatten_nil, List.append_nil]
  after_results_simp

theorem v_arg2 : V m c main_arg2 = zF m c := by
  unfold V V0 hostOps0
  simp only [List.flatten_cons, List.flatten_nil, List.append_nil]
  after_results_simp

/-- The gain, as one row. -/
theorem v_0 : V m c main_v0 = shapeCast S1x2048 (gF m c) shapeCasts_S2048_S1x2048 := by
  unfold V V0 hostOps0
  simp only [List.flatten_cons, List.flatten_nil, List.append_nil]
  after_results_simp
  rfl

/-- The weight, rounded. -/
theorem v_1 : V m c main_v1 = truncf .bf16 (wF m c) bitsLt_bf16_f32 := by
  unfold V V0 hostOps0
  simp only [List.flatten_cons, List.flatten_nil, List.append_nil]
  after_results_simp

/-! ## What a point stores -/

/-- The gradient of the gates. -/
theorem dz_at (t : Fin cfg0.N) :
    (outsAt0 m c t.val t.isLt).1 = dzV (iblk m c 0 t) (iblk m c 1 t) (X0_2 m c t) (iblk m c 3 t) (iblk m c 4 t) := by
  unfold dzV
  by_cases h : t.val % 32 = 0
  · rw [outsAt0_A m c t h]
    frame_out
  · rw [outsAt0_B m c t h]
    frame_out

/-- The gradient of the rows that are gated. -/
theorem dy_at (t : Fin cfg0.N) :
    (outsAt0 m c t.val t.isLt).2.1 = dyV (iblk m c 0 t) (iblk m c 1 t) (X0_2 m c t) (iblk m c 3 t) (iblk m c 4 t) := by
  unfold dyV
  by_cases h : t.val % 32 = 0
  · rw [outsAt0_A m c t h]
    frame_out
  · rw [outsAt0_B m c t h]
    frame_out

/-- The scaled rows. -/
theorem yn_at (t : Fin cfg0.N) :
    (outsAt0 m c t.val t.isLt).2.2.1 = ynV (iblk m c 1 t) (X0_2 m c t) (iblk m c 3 t) := by
  unfold ynV
  by_cases h : t.val % 32 = 0
  · rw [outsAt0_A m c t h]
    frame_out
  · rw [outsAt0_B m c t h]
    frame_out

/-- The first point adds its rows' gradient of the gain to zero. -/
theorem dg_first (t : Fin cfg0.N) (h : t.val % 32 = 0) :
    (outsAt0 m c t.val t.isLt).2.2.2 = dgV (iblk m c 0 t) (iblk m c 1 t) (X0_2 m c t) (iblk m c 4 t) k0_pay3 := by
  unfold dgV
  rw [outsAt0_A m c t h]
  frame_out

/-- The other points add theirs to what the point before left. -/
theorem dg_next (t : Fin cfg0.N) (h : ¬t.val % 32 = 0) :
    (outsAt0 m c t.val t.isLt).2.2.2 = dgV (iblk m c 0 t) (iblk m c 1 t) (X0_2 m c t) (iblk m c 4 t)
      (outsAt0 m c (t.val - 1) (Nat.lt_of_le_of_lt (Nat.sub_le _ _) t.isLt)).2.2.2 := by
  unfold dgV
  rw [outsAt0_B m c t h]
  frame_out

end terms

/-- The gain as one row. -/
theorem row_apply (a : Vec Ideal S2048 .f32) (q : Fin 2048) : shapeCast S1x2048 a shapeCasts_S2048_S1x2048 (ix2 0 q) = a (ix1 q) := by
  pointwise []

/-- The row of zeros. -/
theorem zero_row_apply (q : Fin 2048) : k0_pay3 (F := Ideal) (ix2 0 q) = 0 := by
  pointwise [k0_pay3]

/-! ## Which block each window is on -/

theorem ix0' : ∀ t : Fin cfg0.N, win0_0.index t = ![t.val, 0] := (by decide +kernel : ∀ t : Fin grid0.N, _)
theorem ix1' : ∀ t : Fin cfg0.N, win0_1.index t = ![t.val, 0] := (by decide +kernel : ∀ t : Fin grid0.N, _)
theorem ix2' : ∀ t : Fin cfg0.N, win0_2.index t = ![t.val, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix5' : ∀ t : Fin cfg0.N, win0_5.index t = ![t.val, 0] := (by decide +kernel : ∀ t : Fin grid0.N, _)
theorem ix6' : ∀ t : Fin cfg0.N, win0_6.index t = ![t.val, 0] := (by decide +kernel : ∀ t : Fin grid0.N, _)
theorem ix7' : ∀ t : Fin cfg0.N, win0_7.index t = ![t.val, 0] := (by decide +kernel : ∀ t : Fin grid0.N, _)

theorem t_lt (t : Fin cfg0.N) : t.val < 32 := t.isLt

section run
variable (m : (ℓ : Loc nD τ sig) → Buf (Elt Ideal) ℓ) (c : Dev nD)

section at_tab
variable (x : Gated) (hx : x.Is (hF m c) (yF m c) (zF m c) (gF m c) (wF m c))
include hx

/-- The tile of the product's gradient. -/
theorem blk0 (t : Fin cfg0.N) (p : Fin 256) (q : Fin 1024) : iblk m c 0 t (ix2 p q) = x.h (256 * t.val + p) q := by
  have ht := t_lt t
  blk_simp [iblk]
  have e : (win0_0.blk t).view.emb (ix2 p q) = ix2 ⟨256 * t.val + p, by omega⟩ q := by blk_ext [ix0']
  rw [e, v_arg0]
  exact hx.h _ _

/-- The tile of the rows that are gated. -/
theorem blk1 (t : Fin cfg0.N) (p : Fin 256) (q : Fin 2048) : iblk m c 1 t (ix2 p q) = x.y (256 * t.val + p) q := by
  have ht := t_lt t
  blk_simp [iblk]
  have e : (win0_1.blk t).view.emb (ix2 p q) = ix2 ⟨256 * t.val + p, by omega⟩ q := by blk_ext [ix1']
  rw [e, v_arg1]
  exact hx.y _ _

/-- The tile of the gates: the leading columns. -/
theorem blk2 (t : Fin cfg0.N) (p : Fin 256) (q : Fin 2048) : X0_2 m c t (ix2 p q) = x.z (256 * t.val + p) q := by
  have ht := t_lt t
  unfold X0_2 Pipeline.Window.fill
  rw [dif_pos (moved0_2 t (ix2 p q))]
  have e (j : (win0_2.xblock (grid0.coords t)).Idx) (h0 : (j 0).val = p.val) (h1 : (j 1).val = q.val) :
      (win0_2.blk t).view.emb j = ix2 ⟨256 * t.val + p, by omega⟩ ⟨q, by omega⟩ := by
    blk_ext [ix2'] <;> omega
  blk_simp [iblk]
  rw [e _ rfl rfl, v_arg2]
  exact hx.z _ _

/-- The gain. -/
theorem blk3 (t : Fin cfg0.N) (q : Fin 2048) : iblk m c 3 t (ix2 0 q) = x.g q := by
  blk_simp [iblk]
  have e : (win0_3.blk t).view.emb (ix2 0 q) = ix2 0 q := by blk_ext [ix3']
  rw [e, v_0]
  exact (row_apply _ q).trans (hx.g q)

/-- The weight. -/
theorem blk4 (t : Fin cfg0.N) (p : Fin 2048) (q : Fin 1024) : iblk m c 4 t (ix2 p q) = x.w p q := by
  blk_simp [iblk]
  have e : (win0_4.blk t).view.emb (ix2 p q) = ix2 p q := by blk_ext [ix4']
  rw [e, v_1]
  exact hx.w _ _

/-- The gradient of the gates: the leading columns of an array with more. -/
theorem out5 (p : Fin 8192) (q : Fin 2048) :
    ((dats m 0 c).arrAt 5 cfg0.N : Vec Ideal S8192x5632 .bf16) (ix2 p ⟨q, by omega⟩) = x.dz p q := by
  refine ((dats m 0 c).arrAt_apply_of_coversWhere 5 (mat .bf16 x.dz : Vec Ideal S8192x5632 .bf16)
    (P := fun i => (i 1).val / 2048 = 0) (fun β => β 1 = 0) (by decide +kernel) (fun t hf y => ?_)
    (fun j => Iff.rfl) (ix2 p ⟨q, by omega⟩)).trans ?_
  · have ht := t_lt t
    obtain ⟨p, q, hy⟩ : ∃ (p : Fin 256) (q : Fin 2048), win0_5.xinj (grid0.coords t) y = (ix2 p q : S256x2048.Idx) :=
      ⟨_, _, eq_ix2 _⟩
    have h0 : (y 0).val = p.val := congrArg (fun j : S256x2048.Idx => (j 0).val) hy
    have h1 : (y 1).val = q.val := congrArg (fun j : S256x2048.Idx => (j 1).val) hy
    have e : (win0_5.blk t).view.emb y = (ix2 ⟨256 * t.val + p, by omega⟩ ⟨q, by omega⟩ : S8192x5632.Idx) := by
      blk_ext [ix5'] <;> omega
    refine Eq.trans ?_ (congrArg (mat .bf16 x.dz : Vec Ideal S8192x5632 .bf16) e).symm
    refine (congrArg ((dats m 0 c).after 5 t : Vec Ideal S256x2048 .bf16) hy).trans ?_
    rw [after0_5, dz_at m c t]
    exact dz_apply _ _ _ _ _ (fun p q => x.h (256 * t.val + p) q) (fun p q => x.y (256 * t.val + p) q)
      (fun p q => x.z (256 * t.val + p) q) x.w x.g (blk0 m c x hx t) (blk1 m c x hx t) (blk2 m c x hx t) (blk3 m c x hx t)
      (blk4 m c x hx t) p q
  · rw [if_pos (by show q.val / 2048 = 0; omega)]
    rfl

/-- The gradient of the rows that are gated. -/
theorem out6 : (dats m 0 c).arrAt 6 cfg0.N = (mat .f32 x.dy : Vec Ideal S8192x2048 .f32) := by
  refine (dats m 0 c).arrAt_eq_of_covers 6 (mat .f32 x.dy : Vec Ideal S8192x2048 .f32) (by decide +kernel) fun t hf y => ?_
  have ht := t_lt t
  obtain ⟨p, q, rfl⟩ : ∃ (p : Fin 256) (q : Fin 2048), y = ix2 p q := ⟨y 0, y 1, eq_ix2 y⟩
  blk_simp
  rw [after0_6, dy_at m c t]
  refine (dy_apply _ _ _ _ _ (fun p q => x.h (256 * t.val + p) q) (fun p q => x.y (256 * t.val + p) q)
    (fun p q => x.z (256 * t.val + p) q) x.w x.g (blk0 m c x hx t) (blk1 m c x hx t) (blk2 m c x hx t) (blk3 m c x hx t)
    (blk4 m c x hx t) p q).trans ?_
  have e : (win0_6.blk t).view.emb (ix2 p q) = ix2 ⟨256 * t.val + p, by omega⟩ q := by blk_ext [ix6']
  exact (congrArg (mat .f32 x.dy : Vec Ideal S8192x2048 .f32) e).symm

/-- The scaled rows. -/
theorem out7 : (dats m 0 c).arrAt 7 cfg0.N = (mat .bf16 x.n : Vec Ideal S8192x2048 .bf16) := by
  refine (dats m 0 c).arrAt_eq_of_covers 7 (mat .bf16 x.n : Vec Ideal S8192x2048 .bf16) (by decide +kernel) fun t hf y => ?_
  have ht := t_lt t
  obtain ⟨p, q, rfl⟩ : ∃ (p : Fin 256) (q : Fin 2048), y = ix2 p q := ⟨y 0, y 1, eq_ix2 y⟩
  blk_simp
  rw [after0_7, yn_at m c t]
  refine (yn_apply _ _ _ (fun p q => x.y (256 * t.val + p) q) (fun p q => x.z (256 * t.val + p) q) x.g (blk1 m c x hx t)
    (blk2 m c x hx t) (blk3 m c x hx t) p q).trans ?_
  have e : (win0_7.blk t).view.emb (ix2 p q) = ix2 ⟨256 * t.val + p, by omega⟩ q := by blk_ext [ix7']
  exact (congrArg (mat .bf16 x.n : Vec Ideal S8192x2048 .bf16) e).symm

/-- After every point the gain's gradient is over the tiles done. -/
theorem dg_done (n : ℕ) (hn : n < cfg0.N) (q : Fin 2048) : (outsAt0 m c n hn).2.2.2 (ix2 0 q) = x.dgTo (256 * (n + 1)) q := by
  have step (n : ℕ) (hn : n < cfg0.N) (s : Vec Ideal S1x2048 .f32) (hs : ∀ q : Fin 2048, s (ix2 0 q) = x.dgTo (256 * n) q) (q : Fin 2048) :
      dgV (iblk m c 0 ⟨n, hn⟩) (iblk m c 1 ⟨n, hn⟩) (X0_2 m c ⟨n, hn⟩) (iblk m c 4 ⟨n, hn⟩) s (ix2 0 q) = x.dgTo (256 * (n + 1)) q := by
    refine (dg_apply _ _ _ _ (fun p q => x.h (256 * n + p) q) (fun p q => x.y (256 * n + p) q)
      (fun p q => x.z (256 * n + p) q) x.w (blk0 m c x hx ⟨n, hn⟩) (blk1 m c x hx ⟨n, hn⟩) (blk2 m c x hx ⟨n, hn⟩)
      (blk4 m c x hx ⟨n, hn⟩) s (x.dgTo (256 * n)) hs q).trans ?_
    rw [Nat.mul_add, Nat.mul_one, x.dgTo_add]
    rfl
  induction n generalizing q with
  | zero =>
    rw [dg_first m c ⟨0, hn⟩ rfl]
    exact step 0 hn _ (fun q => (zero_row_apply q).trans (x.dgTo_zero q).symm) q
  | succ n ih =>
    have hb : n + 1 < 32 := hn
    rw [dg_next m c ⟨n + 1, hn⟩ (by show ¬(n + 1) % 32 = 0; omega)]
    exact step (n + 1) hn _ (ih (Nat.lt_of_succ_lt hn)) q

/-- The gain's gradient, in one row. -/
theorem out8 : (dats m 0 c).arrAt 8 cfg0.N = (fun i => x.dg (i 1) : Vec Ideal S1x2048 .f32) := by
  obtain ⟨t, ht⟩ : ∃ t : Fin cfg0.N, t.val = 31 := ⟨⟨31, by decide +kernel⟩, rfl⟩
  refine (dats m 0 c).arrAt_eq_of_after_last 8 t (by rw [show t = ⟨31, by decide +kernel⟩ from Fin.ext ht]; decide +kernel)
    (fun i => x.dg (i 1) : Vec Ideal S1x2048 .f32) (fun j => ?_)
  obtain ⟨q, rfl⟩ : ∃ q : Fin 2048, j = ix2 0 q := ⟨j 1, eq_ix2_one j⟩
  have h := dg_done m c x hx t.val t.isLt q
  rw [show 256 * (t.val + 1) = 8192 by omega] at h
  rw [after0_8]
  exact h

end at_tab

/-- The run's result at the gates' gradient: the leading columns. -/
theorem w_4 : Pipeline.afterTail₀ cfgs (dats m) 0 (V0 m) [hostOps1] c main_v4
    = extractStridedSlice S8192x2048 ![0, 0] ((dats m 0 c).arrAt 5 cfg0.N : Vec Ideal S8192x5632 .bf16)
        slices_S8192x5632_S8192x2048_0_0 := by
  unfold Pipeline.afterTail₀ hostOps1
  simp only [List.flatten_cons, List.flatten_nil, List.append_nil]
  after_results_simp
  erw [Pipeline.withArrays_arr _ launch0.win.arr_inj c _ _ 5]

/-- The run's result at the gain's gradient. -/
theorem w_5 : Pipeline.afterTail₀ cfgs (dats m) 0 (V0 m) [hostOps1] c main_v5
    = shapeCast S2048 ((dats m 0 c).arrAt 8 cfg0.N : Vec Ideal S1x2048 .f32) shapeCasts_S1x2048_S2048 := by
  unfold Pipeline.afterTail₀ hostOps1
  simp only [List.flatten_cons, List.flatten_nil, List.append_nil]
  after_results_simp
  erw [Pipeline.withArrays_arr _ launch0.win.arr_inj c _ _ 8]
  exact congrArg (fun A : Vec Ideal S1x2048 .f32 => shapeCast S2048 A shapeCasts_S1x2048_S2048)
    (show ((dats m 0 c).arrAt 8 (cfgs 0).N : Vec Ideal S1x2048 .f32) = (dats m 0 c).arrAt 8 cfg0.N from rfl)

end run

/-- One row, without its leading dimension. -/
theorem row_eq (f : ℕ → EReal) : shapeCast S2048 (fun i => f (i 1) : Vec Ideal S1x2048 .f32) shapeCasts_S1x2048_S2048
    = (row .f32 f : Vec Ideal S2048 .f32) := by
  funext j
  obtain ⟨q, rfl⟩ : ∃ q : Fin 2048, j = ix1 q := ⟨j 0, (ix1_eta j).symm⟩
  pointwise
  rfl

/-- The leading columns at an index. -/
theorem lead_apply (a : Vec Ideal S8192x5632 .bf16) (f : ℕ → ℕ → EReal)
    (ha : ∀ (p : Fin 8192) (q : Fin 2048), a (ix2 p ⟨q, by omega⟩) = f p q) (p : Fin 8192) (q : Fin 2048) :
    extractStridedSlice S8192x2048 ![0, 0] a slices_S8192x5632_S8192x2048_0_0 (ix2 p q) = f p q := by
  refine Eq.trans ?_ (ha p q)
  pointwise []

/-- The call's run: its four results are the three gradients and the scaled rows, and the arguments end unchanged. -/
theorem run_value (m : (ℓ : Loc nD τ sig) → Buf (Elt Ideal) ℓ) (ρ : Dev nD → PrngReg) (x : Dev nD → Gated)
    (hx : ∀ c, (x c).Is (hF m c) (yF m c) (zF m c) (gF m c) (wF m c)) :
    θ_run defs (onTc (τ := τ) (main (F := Ideal))) ⟨m, fun _ => 0, ρ⟩ (fun r => ∀ c : Dev nD,
      r.2.mem ((c.tc : Thread nD τ).loc main_v4) = (mat .bf16 (x c).dz : Vec Ideal S8192x2048 .bf16)
      ∧ r.2.mem ((c.tc : Thread nD τ).loc main_v3_1) = (mat .f32 (x c).dy : Vec Ideal S8192x2048 .f32)
      ∧ r.2.mem ((c.tc : Thread nD τ).loc main_v3_2) = (mat .bf16 (x c).n : Vec Ideal S8192x2048 .bf16)
      ∧ r.2.mem ((c.tc : Thread nD τ).loc main_v5) = (row .f32 (x c).dg : Vec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  refine ⟨(h.1.rest_eq c main_v4 (by decide)).trans ?_, (h.1.out_eq c 6).trans (out6 m c (x c) (hx c)),
    (h.1.out_eq c 7).trans (out7 m c (x c) (hx c)), (h.1.rest_eq c main_v5 (by decide)).trans ?_, h.2 c⟩
  · rw [w_4]
    exact mat_ext .bf16 _ (lead_apply _ (x c).dz (out5 m c (x c) (hx c)))
  · rw [w_5, out8 m c (x c) (hx c)]
    exact row_eq (x c).dg

end Cert.GateBwdIdeal.Proj

end
-- ==== Proof.Proj.GateGradRef.lean ====
/-
  The reference of the gated product's gradient: it runs, and its results are the three gradients and the scaled rows.
-/
module

public import proofs.«01_k».proof.Proof.Proj.GateGrad
public import proofs.«01_k».proof.Proof.Gen.GateBwdReferenceIdeal.Run
public import Idealize.ShloMosaic.Lib.Claim
public import Idealize.ShloMosaic.Lib.Quiescent

@[expose] public section

set_option maxRecDepth 16384

noncomputable section

namespace Cert.GateBwdReferenceIdeal.Proj

open Cert.GateBwdReferenceIdeal Cert.GateBwdReferenceIdeal.Gen Cert.Fwd Cert.Proj
open Idealize.ShloMosaic Idealize.ShloMosaic.TcCoe Idealize.SL.Sem
open scoped BigOperators

/-- The gates: the leading columns. -/
def leadT (z : Vec Ideal S8192x5632 .f32) : FVec Ideal S8192x2048 .f32 :=
  extractStridedSlice S8192x2048 ![0, 0] z slices_S8192x5632_S8192x2048_0_0

/-- The logistic function. -/
def logiT (z : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf z)))

/-- The gated rows in groups. -/
def gatedT (y z : FVec Ideal S8192x2048 .f32) : FVec Ideal S8192x4x512 .f32 :=
  shapeCast S8192x4x512 (mulf y (mulf z (logiT z))) shapeCasts_S8192x2048_S8192x4x512

/-- Each group's mean square, and the constant under the root. -/
def meanT (v : FVec Ideal S8192x4x512 .f32) : FVec Ideal S8192x4x1 .f32 :=
  addf (Host.divf (broadcastInDim S8192x4x1 ![0, 1] bcast_S8192x4_S8192x4x1_0_1
      (Host.reduceAdd (mulf v v) (constant S_ .f32 0x00000000#32) reducesTo_S8192x4x512_S8192x4_d2 h_S_))
    (broadcastInDim S8192x4x1 ![] bcast_S_S8192x4x1 (constant S_ .f32 0x44000000#32)))
    (broadcastInDim S8192x4x1 ![] bcast_S_S8192x4x1 (constant S_ .f32 0x358637BD#32))

/-- The derivative of the root's reciprocal. -/
def slopeT (v : FVec Ideal S8192x4x512 .f32) : FVec Ideal S8192x4x1 .f32 :=
  mulf (broadcastInDim S8192x4x1 ![] bcast_S_S8192x4x1 (constant S_ .f32 0xBF000000#32))
    (Host.divf (Host.rsqrt (meanT v)) (meanT v))

/-- The gain, once for every row. -/
def gainT (g : Vec Ideal S2048 .f32) : FVec Ideal S8192x4x512 .f32 :=
  broadcastInDim S8192x4x512 ![0, 1, 2] bcast_S1x4x512_S8192x4x512_0_1_2
    (broadcastInDim S1x4x512 ![1, 2] bcast_S4x512_S1x4x512_1_2 (shapeCast S4x512 g shapeCasts_S2048_S4x512))

/-- The gradient of the scaled rows in groups. -/
def duT (h : Vec Ideal S8192x1024 .f32) (w : Vec Ideal S2048x1024 .f32) : FVec Ideal S8192x4x512 .f32 :=
  shapeCast S8192x4x512 (Host.dotGeneral (F := Ideal) (φ₁ := .f32) (φ₂ := .f32)
    dot_S8192x1024_S2048x1024_S8192x2048_1_1_0_0_n_n none h w : FVec Ideal S8192x2048 .f32) shapeCasts_S8192x2048_S8192x4x512

/-- The normalised groups. -/
def normT (v : FVec Ideal S8192x4x512 .f32) : FVec Ideal S8192x4x512 .f32 :=
  mulf v (broadcastInDim S8192x4x512 ![0, 1, 2] bcast_S8192x4x1_S8192x4x512_0_1_2 (Host.rsqrt (meanT v)))

/-- The gradient of a group's sum of squares. -/
def squaresT (v X : FVec Ideal S8192x4x512 .f32) : FVec Ideal S8192x4 .f32 :=
  Host.reduceAdd (Host.divf (mulf (shapeCast S8192x4x1
      (Host.reduceAdd (mulf v X) (constant S_ .f32 0x00000000#32) reducesTo_S8192x4x512_S8192x4_d2 h_S_) shapeCasts_S8192x4_S8192x4x1) (slopeT v))
    (broadcastInDim S8192x4x1 ![] bcast_S_S8192x4x1 (constant S_ .f32 0x44000000#32))) (constant S_ .f32 0x00000000#32)
    reducesTo_S8192x4x1_S8192x4_d2 h_S_

/-- The gradient of the gated rows. -/
def deT (v X : FVec Ideal S8192x4x512 .f32) : FVec Ideal S8192x2048 .f32 :=
  shapeCast S8192x2048 (addf (addf
      (mulf X (broadcastInDim S8192x4x512 ![0, 1, 2] bcast_S8192x4x1_S8192x4x512_0_1_2 (Host.rsqrt (meanT v))))
      (mulf v (broadcastInDim S8192x4x512 ![0, 1] bcast_S8192x4_S8192x4x512_0_1 (squaresT v X))))
    (mulf (broadcastInDim S8192x4x512 ![0, 1] bcast_S8192x4_S8192x4x512_0_1 (squaresT v X)) v)) shapeCasts_S8192x4x512_S8192x2048

/-- The scaled rows. -/
def ynT (n G : FVec Ideal S8192x4x512 .f32) : FVec Ideal S8192x2048 .bf16 :=
  truncf .bf16 (shapeCast S8192x2048 (mulf n G) shapeCasts_S8192x4x512_S8192x2048) bitsLt_bf16_f32

/-- The gradient of the rows that are gated. -/
def dyT (e z : FVec Ideal S8192x2048 .f32) : FVec Ideal S8192x2048 .f32 := mulf e (mulf z (logiT z))

/-- The gradient of the gates. -/
def dzT (y z e : FVec Ideal S8192x2048 .f32) : FVec Ideal S8192x2048 .bf16 :=
  truncf .bf16 (addf (mulf (mulf y e) (logiT z)) (mulf (mulf z (mulf y e)) (mulf (logiT z)
    (subf (broadcastInDim S8192x2048 ![] bcast_S_S8192x2048 (constant S_ .f32 0x3F800000#32)) (logiT z))))) bitsLt_bf16_f32

/-- The gradient of the gain. -/
def dgT (n U : FVec Ideal S8192x4x512 .f32) : FVec Ideal S2048 .f32 :=
  shapeCast S2048 (Host.reduceAdd (shapeCast S1x4x512
      (Host.reduceAdd (mulf n U) (constant S_ .f32 0x00000000#32) reducesTo_S8192x4x512_S4x512_d0 h_S_) shapeCasts_S4x512_S1x4x512)
    (constant S_ .f32 0x00000000#32) reducesTo_S1x4x512_S4x512_d0 h_S_) shapeCasts_S4x512_S2048

/-! ## At an index -/

theorem lead_apply (z : Vec Ideal S8192x5632 .f32) (Z : ℕ → ℕ → EReal) (hZ : ∀ (p : Fin 8192) (q : Fin 5632), z (ix2 p q) = Z p q)
    (p : Fin 8192) (q : Fin 2048) : leadT z (ix2 p q) = Z p q := by
  pointwise [leadT]
  simp only [hZ]

theorem logi_apply (z : FVec Ideal S8192x2048 .f32) (Z : ℕ → ℕ → EReal) (hZ : ∀ (p : Fin 8192) (q : Fin 2048), z (ix2 p q) = Z p q)
    (p : Fin 8192) (q : Fin 2048) : logiT z (ix2 p q) = logiOf (Z p q) := by
  pointwise [logiT]
  simp only [hZ, logiOf, zero_sub]

theorem split_apply (v : FVec Ideal S8192x2048 .f32) (E : ℕ → ℕ → EReal) (hE : ∀ (p : Fin 8192) (q : Fin 2048), v (ix2 p q) = E p q)
    (p : Fin 8192) (a : Fin 4) (b : Fin 512) : shapeCast S8192x4x512 v shapeCasts_S8192x2048_S8192x4x512 (ix3 p a b) = E p (512 * a + b) := by
  pointwise []
  simp only [hE]
  exact congrArg (E p) (by omega)

theorem gated_apply (y z : FVec Ideal S8192x2048 .f32) (Y Z : ℕ → ℕ → EReal)
    (hY : ∀ (p : Fin 8192) (q : Fin 2048), y (ix2 p q) = Y p q) (hZ : ∀ (p : Fin 8192) (q : Fin 2048), z (ix2 p q) = Z p q)
    (p : Fin 8192) (a : Fin 4) (b : Fin 512) :
    gatedT y z (ix3 p a b) = gatedOf (Y p (512 * a + b)) (Z p (512 * a + b)) := by
  have hl := logi_apply z Z hZ
  unfold gatedT
  generalize logiT z = l at hl ⊢
  refine split_apply _ (fun p j => gatedOf (Y p j) (Z p j)) (fun p q => ?_) p a b
  pointwise []
  rw [hY, hZ, hl]
  rfl

theorem gain_apply (g : Vec Ideal S2048 .f32) (G : ℕ → EReal) (hG : ∀ q : Fin 2048, g (ix1 q) = G q)
    (p : Fin 8192) (a : Fin 4) (b : Fin 512) : gainT g (ix3 p a b) = G (512 * a + b) := by
  pointwise [gainT]
  simp only [hG]
  exact congrArg G (by omega)

theorem du_apply (h : Vec Ideal S8192x1024 .f32) (w : Vec Ideal S2048x1024 .f32) (H W : ℕ → ℕ → EReal)
    (hH : ∀ (p : Fin 8192) (q : Fin 1024), h (ix2 p q) = H p q) (hW : ∀ (p : Fin 2048) (q : Fin 1024), w (ix2 p q) = W p q)
    (p : Fin 8192) (a : Fin 4) (b : Fin 512) : duT h w (ix3 p a b) = ∑ k ∈ Finset.range 1024, H p k * W (512 * a + b) k := by
  unfold duT
  refine split_apply _ (fun p j => ∑ k ∈ Finset.range 1024, H p k * W j k) (fun p q => ?_) p a b
  pointwise []
  simp only [hH, hW, Finset.sum_range]

section groups
variable (v : FVec Ideal S8192x4x512 .f32) (E : ℕ → ℕ → EReal)
  (hE : ∀ (p : Fin 8192) (a : Fin 4) (b : Fin 512), v (ix3 p a b) = E p (512 * a + b))
include hE

theorem mean_apply (p : Fin 8192) (a : Fin 4) : meanT v (ix3 p a 0) = meanOf fun k => E p (512 * a + k) := by
  pointwise [meanT]
  simp only [hE, meanOf, Finset.sum_range]

theorem slope_apply (p : Fin 8192) (a : Fin 4) : slopeT v (ix3 p a 0) = slopeOf fun k => E p (512 * a + k) := by
  have h := mean_apply v E hE p a
  unfold slopeT
  generalize meanT v = u at h ⊢
  pointwise []
  rw [h, slopeOf, rmsOf_eq]

theorem norm_apply (p : Fin 8192) (a : Fin 4) (b : Fin 512) : normT v (ix3 p a b) = grouped (E p) (512 * a + b) := by
  have h := mean_apply v E hE p a
  unfold normT
  generalize meanT v = u at h ⊢
  pointwise []
  rw [hE, h, grouped, rmsOf_eq, show (512 * a.val + b.val) / 512 = a.val by omega]

variable (X : FVec Ideal S8192x4x512 .f32) (Y : ℕ → ℕ → EReal)
  (hX : ∀ (p : Fin 8192) (a : Fin 4) (b : Fin 512), X (ix3 p a b) = Y p (512 * a + b))
include hX

theorem squares_apply (p : Fin 8192) (a : Fin 4) :
    squaresT v X (ix2 p a) = squaresOf (fun k => E p (512 * a + k)) (fun k => Y p (512 * a + k)) := by
  have h := slope_apply v E hE p a
  unfold squaresT
  generalize slopeT v = t at h ⊢
  pointwise []
  simp only [Fin.sum_univ_one, hE, hX, h, squaresOf, Finset.sum_range]

theorem de_apply (p : Fin 8192) (q : Fin 2048) : deT v X (ix2 p q) = groupedGrad (E p) (Y p) q := by
  have h := mean_apply v E hE p
  have h' := squares_apply v E hE X Y hX p
  unfold deT
  generalize meanT v = u at h ⊢
  generalize squaresT v X = s at h' ⊢
  pointwise []
  simp only [hE, hX, h, h', groupedGrad, entryGrad, rmsOf_eq]
  rw [show 512 * (q.val / 512) + q.val % 512 = q.val by omega]

end groups

theorem yn_apply (n G : FVec Ideal S8192x4x512 .f32) (N : ℕ → ℕ → EReal) (g : ℕ → EReal)
    (hN : ∀ (p : Fin 8192) (a : Fin 4) (b : Fin 512), n (ix3 p a b) = N p (512 * a + b))
    (hG : ∀ (p : Fin 8192) (a : Fin 4) (b : Fin 512), G (ix3 p a b) = g (512 * a + b))
    (p : Fin 8192) (q : Fin 2048) : ynT n G (ix2 p q) = N p q * g q := by
  pointwise [ynT]
  simp only [hN, hG]
  rw [show 512 * (q.val / 512) + q.val % 512 = q.val by omega]

theorem dy_apply (e z : FVec Ideal S8192x2048 .f32) (E Z : ℕ → ℕ → EReal)
    (hE : ∀ (p : Fin 8192) (q : Fin 2048), e (ix2 p q) = E p q) (hZ : ∀ (p : Fin 8192) (q : Fin 2048), z (ix2 p q) = Z p q)
    (p : Fin 8192) (q : Fin 2048) : dyT e z (ix2 p q) = E p q * (Z p q * logiOf (Z p q)) := by
  have hl := logi_apply z Z hZ p q
  unfold dyT
  generalize logiT z = l at hl ⊢
  pointwise []
  rw [hE, hZ, hl]

theorem dz_apply (y z e : FVec Ideal S8192x2048 .f32) (Y Z E : ℕ → ℕ → EReal)
    (hY : ∀ (p : Fin 8192) (q : Fin 2048), y (ix2 p q) = Y p q) (hZ : ∀ (p : Fin 8192) (q : Fin 2048), z (ix2 p q) = Z p q)
    (hE : ∀ (p : Fin 8192) (q : Fin 2048), e (ix2 p q) = E p q)
    (p : Fin 8192) (q : Fin 2048) : dzT y z e (ix2 p q) = gateGrad (Y p q) (Z p q) (E p q) := by
  have hl := logi_apply z Z hZ p q
  unfold dzT
  generalize logiT z = l at hl ⊢
  pointwise []
  rw [hY, hE, hZ, hl, gateGrad]

theorem dg_apply (n U : FVec Ideal S8192x4x512 .f32) (N D : ℕ → ℕ → EReal)
    (hN : ∀ (p : Fin 8192) (a : Fin 4) (b : Fin 512), n (ix3 p a b) = N p (512 * a + b))
    (hU : ∀ (p : Fin 8192) (a : Fin 4) (b : Fin 512), U (ix3 p a b) = D p (512 * a + b)) (q : Fin 2048) :
    dgT n U (ix1 q) = ∑ p ∈ Finset.range 8192, N p q * D p q := by
  pointwise [dgT]
  simp only [Fin.sum_univ_one, hN, hU, Finset.sum_range]
  rw [show 512 * (q.val / 512) + q.val % 512 = q.val by omega]

section whole
variable (h : Vec Ideal S8192x1024 .f32) (y : Vec Ideal S8192x2048 .f32) (z : Vec Ideal S8192x5632 .f32) (g : Vec Ideal S2048 .f32)
  (w : Vec Ideal S2048x1024 .f32)

/-- The gradient of the gated rows, of the arguments. -/
abbrev deR : FVec Ideal S8192x2048 .f32 := deT (gatedT y (leadT z)) (mulf (duT h w) (gainT g))

variable (x : Gated) (hx : x.Is h y z g w)
include hx

theorem e_eq (p : Fin 8192) (a : Fin 4) (b : Fin 512) : gatedT y (leadT z) (ix3 p a b) = x.e p (512 * a + b) :=
  gated_apply y (leadT z) x.y x.z hx.y (lead_apply z x.z hx.z) p a b

theorem de_eq (p : Fin 8192) (q : Fin 2048) : deR h y z g w (ix2 p q) = x.de p q := by
  refine de_apply _ x.e (e_eq h y z g w x hx) _ (fun p j => x.du p j * x.g j) (fun p a b => ?_) p q
  have h1 := du_apply h w x.h x.w hx.h hx.w p a b
  have h2 := gain_apply g x.g hx.g p a b
  generalize duT h w = u at h1 ⊢
  generalize gainT g = k at h2 ⊢
  pointwise []
  rw [h1, h2]
  rfl

theorem dz_eq (p : Fin 8192) (q : Fin 2048) : dzT y (leadT z) (deR h y z g w) (ix2 p q) = x.dz p q :=
  dz_apply _ _ _ x.y x.z x.de hx.y (lead_apply z x.z hx.z) (de_eq h y z g w x hx) p q

theorem dy_eq (p : Fin 8192) (q : Fin 2048) : dyT (deR h y z g w) (leadT z) (ix2 p q) = x.dy p q :=
  dy_apply _ _ x.de x.z (de_eq h y z g w x hx) (lead_apply z x.z hx.z) p q

theorem yn_eq (p : Fin 8192) (q : Fin 2048) : ynT (normT (gatedT y (leadT z))) (gainT g) (ix2 p q) = x.n p q :=
  yn_apply _ _ (fun p => grouped (x.e p)) x.g (norm_apply _ x.e (e_eq h y z g w x hx)) (gain_apply g x.g hx.g) p q

theorem dg_eq (q : Fin 2048) : dgT (normT (gatedT y (leadT z))) (duT h w) (ix1 q) = x.dg q :=
  dg_apply _ _ (fun p => grouped (x.e p)) x.du (norm_apply _ x.e (e_eq h y z g w x hx)) (du_apply h w x.h x.w hx.h hx.w) q

end whole

/-! ## The run -/

section run
variable (m : (ℓ : Loc nD τ sig) → Buf (Elt Ideal) ℓ) (c : Dev nD)

abbrev hR : Vec Ideal S8192x1024 .f32 := m ((c.tc : Thread nD τ).loc main_arg0)
abbrev yR : Vec Ideal S8192x2048 .f32 := m ((c.tc : Thread nD τ).loc main_arg1)
abbrev zR : Vec Ideal S8192x5632 .f32 := m ((c.tc : Thread nD τ).loc main_arg2)
abbrev gR : Vec Ideal S2048 .f32 := m ((c.tc : Thread nD τ).loc main_arg3)
abbrev wR : Vec Ideal S2048x1024 .f32 := m ((c.tc : Thread nD τ).loc main_arg4)

theorem res_dz : Cert.GateBwdReferenceIdeal.Value.res_main_v50 m c
    = dzT (yR m c) (leadT (zR m c)) (deR (hR m c) (yR m c) (zR m c) (gR m c) (wR m c)) := rfl

theorem res_dy : Cert.GateBwdReferenceIdeal.Value.res_main_v48 m c
    = dyT (deR (hR m c) (yR m c) (zR m c) (gR m c) (wR m c)) (leadT (zR m c)) := rfl

end run

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, sem_eq_zero_of_no_sems (by decide) _⟩) (Cert.GateBwdReferenceIdeal.Value.run m ρ)
  obtain ⟨-, -, -, -, h⟩ := h c
  exact h

/-- The reference's run: its four results, and the arguments end unchanged. -/
theorem run_value (m : (ℓ : Loc nD τ sig) → Buf (Elt Ideal) ℓ) (ρ : Dev nD → PrngReg) (x : Dev nD → Gated)
    (hx : ∀ c, (x c).Is (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    θ_run defs (onTc (τ := τ) (main (F := Ideal))) ⟨m, fun _ => 0, ρ⟩ (fun r => ∀ c : Dev nD,
      r.2.mem ((c.tc : Thread nD τ).loc main_v50) = (mat .bf16 (x c).dz : Vec Ideal S8192x2048 .bf16)
      ∧ r.2.mem ((c.tc : Thread nD τ).loc main_v48) = (mat .f32 (x c).dy : Vec Ideal S8192x2048 .f32)
      ∧ r.2.mem ((c.tc : Thread nD τ).loc main_v69) = (mat .bf16 (x c).n : Vec Ideal S8192x2048 .bf16)
      ∧ r.2.mem ((c.tc : Thread nD τ).loc main_v45) = (row .f32 (x c).dg : Vec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.GateBwdReferenceIdeal.Value.run m ρ)
  obtain ⟨h0, h1, h2, h3, hrest⟩ := h c
  exact ⟨h0.trans ((res_dz m c).trans (mat_ext .bf16 _ (dz_eq _ _ _ _ _ (x c) (hx c)))),
    h1.trans ((res_dy m c).trans (mat_ext .f32 _ (dy_eq _ _ _ _ _ (x c) (hx c)))),
    h2.trans (mat_ext .bf16 _ (yn_eq _ _ _ _ _ (x c) (hx c))),
    h3.trans (row_ext .f32 _ (dg_eq _ _ _ _ _ (x c) (hx c))), hrest⟩

end Cert.GateBwdReferenceIdeal.Proj

end
-- ==== Proof.Proj.Outer.lean ====
/-
  What the run of the call for the gradient of the mixer's outer weight leaves in its result.
-/
module

public import proofs.«01_k».proof.Proof.Grad.Spec
public import proofs.«01_k».proof.Proof.Gen.OuterIdeal.Frame
public import Idealize.ShloMosaic.Lib.Claim
public import Idealize.ShloMosaic.Lib.Quiescent

@[expose] public section

set_option maxRecDepth 16384

noncomputable section

namespace Cert.OuterIdeal.Proj

open Cert.OuterIdeal Cert.OuterIdeal.Gen Cert.Fwd Cert.Grad
open Idealize.ShloMosaic Idealize.ShloMosaic.TcCoe Idealize.SL.Sem
open scoped BigOperators

section terms
variable {F : FTy → Type} [FloatOps F]
variable (m : (ℓ : Loc nD τ sig) → Buf (Elt F) ℓ) (c : Dev nD)

abbrev uF : Vec F S8192x2048 .bf16 := m ((c.tc : Thread nD τ).loc main_arg0)
abbrev dF : Vec F S8192x1024 .f32 := m ((c.tc : Thread nD τ).loc main_arg1)

theorem v_arg0 : V m c main_arg0 = uF m c := rfl
theorem v_arg1 : V m c main_arg1 = dF m c := rfl

/-- What the result's buffer holds after a point. -/
abbrev accAt (t : Fin cfg0.N) : Vec F S2048x512 .f32 := outsAt0 m c t.val t.isLt
/-- The point before. -/
abbrev prev (t : Fin cfg0.N) : Fin cfg0.N := ⟨t.val - 1, Nat.lt_of_le_of_lt (Nat.sub_le _ _) t.isLt⟩

/-- A block's first point adds the first tokens' product to zero. -/
theorem acc_first (t : Fin cfg0.N) (h : t.val % 8 = 0) : accAt m c t = k0_pay2 k0_pay1 (iblk m c 0 t) (iblk m c 1 t) := by
  unfold accAt
  rw [outsAt0_A m c t h]
  frame_out

/-- The other points add their tokens' product to what the point before left. -/
theorem acc_next (t : Fin cfg0.N) (h : ¬t.val % 8 = 0) :
    accAt m c t = k0_pay2 (accAt m c (prev t)) (iblk m c 0 t) (iblk m c 1 t) := by
  unfold accAt
  rw [outsAt0_B m c t h]
  frame_out

end terms

/-- The sum with one point's product added. -/
theorem acc_apply (v : Vec Ideal S2048x512 .f32) (u : Vec Ideal S1024x2048 .bf16) (d : Vec Ideal S1024x512 .f32)
    (V U D : ℕ → ℕ → EReal) (hv : ∀ (p : Fin 2048) (q : Fin 512), v (ix2 p q) = V p q)
    (hu : ∀ (p : Fin 1024) (q : Fin 2048), u (ix2 p q) = U p q)
    (hd : ∀ (p : Fin 1024) (q : Fin 512), d (ix2 p q) = D p q) (p : Fin 2048) (q : Fin 512) :
    k0_pay2 v u d (ix2 p q) = V p q + ∑ k ∈ Finset.range 1024, U k p * D k q := by
  pointwise [k0_pay2]
  simp only [hv, hu, hd, Finset.sum_range]

/-- The zero block. -/
theorem zero_apply (p : Fin 2048) (q : Fin 512) : (k0_pay1 (F := Ideal)) (ix2 p q) = 0 := by
  pointwise [k0_pay1]

/-! ## Which block each window is on -/

theorem ix0' : ∀ t : Fin cfg0.N, win0_0.index t = ![t.val % 8, 0] := (by decide +kernel : ∀ t : Fin grid0.N, _)
theorem ix1' : ∀ t : Fin cfg0.N, win0_1.index t = ![t.val % 8, t.val / 8] := (by decide +kernel : ∀ t : Fin grid0.N, _)
theorem ix2' : ∀ t : Fin cfg0.N, win0_2.index t = ![0, t.val / 8] := (by decide +kernel : ∀ t : Fin grid0.N, _)

theorem t_lt (t : Fin cfg0.N) : t.val < 16 := t.isLt

/-- The arguments' entries are those of two functions. -/
structure Is (U D : ℕ → ℕ → EReal) (u : FVec Ideal (⟨2, ![8192, 2048]⟩ : Shape) .bf16)
    (d : FVec Ideal (⟨2, ![8192, 1024]⟩ : Shape) .f32) : Prop where
  u : ∀ (p : Fin 8192) (q : Fin 2048), u (ix2 p q) = U p q
  d : ∀ (p : Fin 8192) (q : Fin 1024), d (ix2 p q) = D p q

theorem is_ent (u : FVec Ideal (⟨2, ![8192, 2048]⟩ : Shape) .bf16) (d : FVec Ideal (⟨2, ![8192, 1024]⟩ : Shape) .f32) :
    Is (ent u) (ent d) u d := ⟨ent_eq u, ent_eq d⟩

section run
variable (m : (ℓ : Loc nD τ sig) → Buf (Elt Ideal) ℓ) (c : Dev nD)

section at_tab
variable (U D : ℕ → ℕ → EReal) (hx : Is U D (uF m c) (dF m c))
include hx

/-- The tokens' rows. -/
theorem blk0 (t : Fin cfg0.N) (p : Fin 1024) (q : Fin 2048) : iblk m c 0 t (ix2 p q) = U (1024 * (t.val % 8) + p) q := by
  have ht := t_lt t
  blk_simp [iblk]
  have e : (win0_0.blk t).view.emb (ix2 p q) = ix2 ⟨1024 * (t.val % 8) + p, by omega⟩ q := by blk_ext [ix0']
  rw [e, v_arg0]
  exact hx.u _ _

/-- The tokens' entries in the block's columns. -/
theorem blk1 (t : Fin cfg0.N) (p : Fin 1024) (q : Fin 512) :
    iblk m c 1 t (ix2 p q) = D (1024 * (t.val % 8) + p) (512 * (t.val / 8) + q) := by
  have ht := t_lt t
  blk_simp [iblk]
  have e : (win0_1.blk t).view.emb (ix2 p q) = ix2 ⟨1024 * (t.val % 8) + p, by omega⟩ ⟨512 * (t.val / 8) + q, by omega⟩ := by
    blk_ext [ix1']
  rw [e, v_arg1]
  exact hx.d _ _

/-- After every point the sum is the product over the tokens so far. -/
theorem acc_eq (n : ℕ) (hn : n < cfg0.N) (p : Fin 2048) (q : Fin 512) :
    accAt m c ⟨n, hn⟩ (ix2 p q) = part U D (1024 * (n % 8) + 1024) p (512 * (n / 8) + q) := by
  rw [part_add]
  have first (n : ℕ) (hn : n < cfg0.N) (h : n % 8 = 0) (p : Fin 2048) (q : Fin 512) : accAt m c ⟨n, hn⟩ (ix2 p q)
      = part U D (1024 * (n % 8)) p (512 * (n / 8) + q)
        + ∑ k ∈ Finset.range 1024, U (1024 * (n % 8) + k) p * D (1024 * (n % 8) + k) (512 * (n / 8) + q) := by
    rw [acc_first m c ⟨n, hn⟩ h]
    refine (acc_apply _ _ _ (fun _ _ => 0) (fun p q => U (1024 * (n % 8) + p) q)
      (fun p q => D (1024 * (n % 8) + p) (512 * (n / 8) + q)) zero_apply (blk0 m c U D hx ⟨n, hn⟩) (blk1 m c U D hx ⟨n, hn⟩) p q).trans ?_
    rw [h, Nat.mul_zero, part_zero]
  induction n generalizing p q with
  | zero => exact first 0 hn rfl p q
  | succ n ih =>
    by_cases h : (n + 1) % 8 = 0
    · exact first (n + 1) hn h p q
    · rw [acc_next m c ⟨n + 1, hn⟩ h]
      refine acc_apply _ _ _ (fun p q => part U D (1024 * ((n + 1) % 8)) p (512 * ((n + 1) / 8) + q))
        (fun p q => U (1024 * ((n + 1) % 8) + p) q)
        (fun p q => D (1024 * ((n + 1) % 8) + p) (512 * ((n + 1) / 8) + q)) (fun p q => ?_)
        (blk0 m c U D hx ⟨n + 1, hn⟩) (blk1 m c U D hx ⟨n + 1, hn⟩) p q
      have e : 1024 * ((n + 1) % 8) = 1024 * (n % 8) + 1024 := by omega
      rw [e, show (n + 1) / 8 = n / 8 by omega, part_add]
      exact ih (Nat.lt_of_succ_lt hn) p q

/-- The gradient. -/
theorem out2 : (dats m 0 c).arrAt 2 cfg0.N = (mat .f32 (part U D 8192) : Vec Ideal S2048x1024 .f32) := by
  refine (dats m 0 c).arrAt_eq_of_covers 2 (mat .f32 (part U D 8192) : Vec Ideal S2048x1024 .f32) (by decide +kernel) fun t hf y => ?_
  have ht := t_lt t
  have h3 : t.val % 8 = 7 := (flush0_2 t).mp hf
  obtain ⟨p, q, rfl⟩ : ∃ (p : Fin 2048) (q : Fin 512), y = ix2 p q := ⟨y 0, y 1, eq_ix2 y⟩
  blk_simp
  rw [after0_2]
  refine (acc_eq m c U D hx t.val t.isLt p q).trans ?_
  rw [h3]
  have e : (win0_2.blk t).view.emb (ix2 p q) = ix2 p ⟨512 * (t.val / 8) + q, by omega⟩ := by blk_ext [ix2']
  exact (congrArg (mat .f32 (part U D 8192) : Vec Ideal S2048x1024 .f32) e).symm

end at_tab

end run

/-- The call's run: its result is the product summed over all tokens, and the arguments end unchanged. -/
theorem run_value (m : (ℓ : Loc nD τ sig) → Buf (Elt Ideal) ℓ) (ρ : Dev nD → PrngReg) (U D : Dev nD → ℕ → ℕ → EReal)
    (hx : ∀ c, Is (U c) (D c) (uF m c) (dF m c)) :
    θ_run defs (onTc (τ := τ) (main (F := Ideal))) ⟨m, fun _ => 0, ρ⟩ (fun r => ∀ c : Dev nD,
      r.2.mem ((c.tc : Thread nD τ).loc main_v0) = (mat .f32 (part (U c) (D c) 8192) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  exact ⟨(h.1.out_eq c 2).trans (out2 m c _ _ (hx c)), h.2 c⟩

end Cert.OuterIdeal.Proj

end
-- ==== Proof.Proj.OuterRef.lean ====
/-
  The reference of the gradient of the mixer's outer weight: it runs, and its result is the product summed over the tokens.
-/
module

public import proofs.«01_k».proof.Proof.Grad.Spec
public import proofs.«01_k».proof.Proof.Gen.OuterReferenceIdeal.Run
public import Idealize.ShloMosaic.Lib.Claim
public import Idealize.ShloMosaic.Lib.Quiescent

@[expose] public section

set_option maxRecDepth 16384

noncomputable section

namespace Cert.OuterReferenceIdeal.Proj

open Cert.OuterReferenceIdeal Cert.OuterReferenceIdeal.Gen Cert.Fwd Cert.Grad
open Idealize.ShloMosaic Idealize.ShloMosaic.TcCoe Idealize.SL.Sem
open scoped BigOperators

/-- The reference's product at an index. -/
theorem grad_apply (u : Vec Ideal S8192x2048 .bf16) (d : Vec Ideal S8192x1024 .f32) (U D : ℕ → ℕ → EReal)
    (hu : ∀ (p : Fin 8192) (q : Fin 2048), u (ix2 p q) = U p q) (hd : ∀ (p : Fin 8192) (q : Fin 1024), d (ix2 p q) = D p q)
    (p : Fin 2048) (q : Fin 1024) :
    (transpose S2048x1024 [1, 0] (Host.dotGeneral (φ₁ := .f32) (φ₂ := .f32) dot_S8192x1024_S8192x2048_S1024x2048_0_0_1_1_n_n none
        d (extf (F := Ideal) .f32 u bitsLt_bf16_f32)) transposes_S1024x2048_S2048x1024_1_0
      : Vec Ideal S2048x1024 .f32) (ix2 p q) = part U D 8192 p q := by
  pointwise []
  simp only [hu, hd, part, Finset.sum_range]
  exact Finset.sum_congr rfl fun k _ => mul_comm _ _

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, sem_eq_zero_of_no_sems (by decide) _⟩) (Cert.OuterReferenceIdeal.Value.run m ρ)
  obtain ⟨-, h⟩ := h c
  exact h

/-- The reference's run: its result, and the arguments end unchanged. -/
theorem run_value (m : (ℓ : Loc nD τ sig) → Buf (Elt Ideal) ℓ) (ρ : Dev nD → PrngReg) (U D : Dev nD → ℕ → ℕ → EReal)
    (hu : ∀ c (p : Fin 8192) (q : Fin 2048),
      (m ((c.tc : Thread nD τ).loc main_arg0) : Vec Ideal S8192x2048 .bf16) (ix2 p q) = U c p q)
    (hd : ∀ c (p : Fin 8192) (q : Fin 1024),
      (m ((c.tc : Thread nD τ).loc main_arg1) : Vec Ideal S8192x1024 .f32) (ix2 p q) = D c p q) :
    θ_run defs (onTc (τ := τ) (main (F := Ideal))) ⟨m, fun _ => 0, ρ⟩ (fun r => ∀ c : Dev nD,
      r.2.mem ((c.tc : Thread nD τ).loc main_v4) = (mat .f32 (part (U c) (D c) 8192) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.OuterReferenceIdeal.Value.run m ρ)
  obtain ⟨h0, hrest⟩ := h c
  exact ⟨h0.trans (mat_ext .f32 _ (grad_apply _ _ _ _ (hu c) (hd c))), hrest⟩

end Cert.OuterReferenceIdeal.Proj

end
-- ==== Proof.lean ====
/-
  The proof of the certificate's claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.Wide
public import proofs.«01_k».proof.Proof.Gen.Wide.Skeleton
public import proofs.«01_k».proof.Proof.Gen.Wide.Launch
public import proofs.«01_k».proof.Proof.Gen.Wide.Points
public import proofs.«01_k».proof.Proof.Gen.Wide.Frame
public import proofs.«01_k».proof.Proof.Gen.WideIdeal
public import proofs.«01_k».proof.Proof.Gen.WideIdeal.Skeleton
public import proofs.«01_k».proof.Proof.Gen.WideIdeal.Launch
public import proofs.«01_k».proof.Proof.Gen.WideIdeal.Points
public import proofs.«01_k».proof.Proof.Gen.WideIdeal.Frame
public import proofs.«01_k».proof.Proof.Gen.Tall
public import proofs.«01_k».proof.Proof.Gen.Tall.Skeleton
public import proofs.«01_k».proof.Proof.Gen.Tall.Launch
public import proofs.«01_k».proof.Proof.Gen.Tall.Points
public import proofs.«01_k».proof.Proof.Gen.Tall.Frame
public import proofs.«01_k».proof.Proof.Gen.TallIdeal
public import proofs.«01_k».proof.Proof.Gen.TallIdeal.Skeleton
public import proofs.«01_k».proof.Proof.Gen.TallIdeal.Launch
public import proofs.«01_k».proof.Proof.Gen.TallIdeal.Points
public import proofs.«01_k».proof.Proof.Gen.TallIdeal.Frame
public import proofs.«01_k».proof.Proof.Gen.ForwardReferenceIdeal
public import proofs.«01_k».proof.Proof.Gen.ForwardReferenceIdeal.Run
public import proofs.«01_k».proof.Proof.Gen.WideReferenceIdeal
public import proofs.«01_k».proof.Proof.Gen.WideReferenceIdeal.Run
public import proofs.«01_k».proof.Proof.Gen.TallReferenceIdeal
public import proofs.«01_k».proof.Proof.Gen.TallReferenceIdeal.Run
public import proofs.«01_k».proof.Proof.Bwd.KernelFrame
public import proofs.«01_k».proof.Proof.Val.KRun
public import proofs.«01_k».proof.Proof.Val.RefRun
public import proofs.«01_k».proof.Proof.Fwd.Run
public import proofs.«01_k».proof.Proof.Fwd.Ref
public import proofs.«01_k».proof.Proof.Grad.Wide
public import proofs.«01_k».proof.Proof.Grad.WideRef
public import proofs.«01_k».proof.Proof.Grad.Tall
public import proofs.«01_k».proof.Proof.Grad.TallRef
public import Idealize.ShloMosaic.Adequacy
public import Idealize.ShloMosaic.Init
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.ProjectBwd
public import proofs.«01_k».proof.Proof.Gen.ProjectBwd.Skeleton
public import proofs.«01_k».proof.Proof.Gen.ProjectBwd.Launch
public import proofs.«01_k».proof.Proof.Gen.ProjectBwd.Points
public import proofs.«01_k».proof.Proof.Gen.ProjectBwd.Frame
public import proofs.«01_k».proof.Proof.Gen.ProjectBwdIdeal
public import proofs.«01_k».proof.Proof.Gen.ProjectBwdIdeal.Skeleton
public import proofs.«01_k».proof.Proof.Gen.ProjectBwdIdeal.Launch
public import proofs.«01_k».proof.Proof.Gen.ProjectBwdIdeal.Points
public import proofs.«01_k».proof.Proof.Gen.ProjectBwdIdeal.Frame
public import proofs.«01_k».proof.Proof.Gen.ProjectBwdReferenceIdeal
public import proofs.«01_k».proof.Proof.Gen.ProjectBwdReferenceIdeal.Run
public import proofs.«01_k».proof.Proof.Gen.Inner
public import proofs.«01_k».proof.Proof.Gen.Inner.Skeleton
public import proofs.«01_k».proof.Proof.Gen.Inner.Launch
public import proofs.«01_k».proof.Proof.Gen.Inner.Points
public import proofs.«01_k».proof.Proof.Gen.Inner.Frame
public import proofs.«01_k».proof.Proof.Gen.InnerIdeal
public import proofs.«01_k».proof.Proof.Gen.InnerIdeal.Skeleton
public import proofs.«01_k».proof.Proof.Gen.InnerIdeal.Launch
public import proofs.«01_k».proof.Proof.Gen.InnerIdeal.Points
public import proofs.«01_k».proof.Proof.Gen.InnerIdeal.Frame
public import proofs.«01_k».proof.Proof.Gen.InnerReferenceIdeal
public import proofs.«01_k».proof.Proof.Gen.InnerReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.GateReferenceIdeal.Run
public import proofs.«01_k».proof.Proof.Gen.Outer
public import proofs.«01_k».proof.Proof.Gen.Outer.Skeleton
public import proofs.«01_k».proof.Proof.Gen.Outer.Launch
public import proofs.«01_k».proof.Proof.Gen.Outer.Points
public import proofs.«01_k».proof.Proof.Gen.Outer.Frame
public import proofs.«01_k».proof.Proof.Gen.OuterIdeal
public import proofs.«01_k».proof.Proof.Gen.OuterIdeal.Skeleton
public import proofs.«01_k».proof.Proof.Gen.OuterIdeal.Launch
public import proofs.«01_k».proof.Proof.Gen.OuterIdeal.Points
public import proofs.«01_k».proof.Proof.Gen.OuterIdeal.Frame
public import proofs.«01_k».proof.Proof.Gen.OuterReferenceIdeal
public import proofs.«01_k».proof.Proof.Gen.OuterReferenceIdeal.Run
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdReferenceIdeal
public import proofs.«01_k».proof.Proof.Gen.GateBwdReferenceIdeal.Run
public import proofs.«01_k».proof.Proof.Proj.Run
public import proofs.«01_k».proof.Proof.Proj.Ref
public import proofs.«01_k».proof.Proof.Proj.Fwd
public import proofs.«01_k».proof.Proof.Proj.FwdRef
public import proofs.«01_k».proof.Proof.Proj.Inner
public import proofs.«01_k».proof.Proof.Proj.InnerRef
public import proofs.«01_k».proof.Proof.Proj.Gate
public import proofs.«01_k».proof.Proof.Proj.GateRef
public import proofs.«01_k».proof.Proof.Proj.GateGradRun
public import proofs.«01_k».proof.Proof.Proj.GateGradRef
public import proofs.«01_k».proof.Proof.Proj.Outer
public import proofs.«01_k».proof.Proof.Proj.OuterRef

@[expose] public section

noncomputable section

namespace Cert.Proof

open Idealize.ShloMosaic Idealize.SL.Sem Cert.Val

/-- Kernel and reference have the same six results, of finite arguments, and leave the arguments unchanged. -/
theorem algebraic : letI := Cert.KernelIdeal.Gen.facts; letI := Cert.ReferenceIdeal.Gen.facts; letI := Cert.Pre_finite.Gen.facts
    Cert.algebraic_KernelIdeal_ReferenceIdeal_pre_finite := by
  letI := Cert.KernelIdeal.Gen.facts
  letI := Cert.ReferenceIdeal.Gen.facts
  letI := Cert.Pre_finite.Gen.facts
  intro m g m' g' hpre hargs
  have hx := fun c => Classical.choose_spec (exists_arg _ _ _ _ _ _ (hpre c))
  refine ⟨_, _, _, _, _, _, Cert.KernelIdeal.Bwd.run_value m g _ hx, Cert.ReferenceIdeal.Value.run_value m' g' _ fun c => ?_⟩
  obtain ⟨h0, h1, h2, h3, h4, h5⟩ := hargs c
  unfold Cert.ReferenceIdeal.Value.hR Cert.ReferenceIdeal.Value.dyR Cert.ReferenceIdeal.Value.gR Cert.ReferenceIdeal.Value.w1R
    Cert.ReferenceIdeal.Value.w3R Cert.ReferenceIdeal.Value.w2R
  rw [h0, h1, h2, h3, h4, h5]
  exact hx c

/-- The forward half step and its reference have the same three results and leave the arguments unchanged. -/
theorem algebraic_forward : letI := Cert.ForwardIdeal.Gen.facts; letI := Cert.ForwardReferenceIdeal.Gen.facts
    Cert.algebraic_ForwardIdeal_ForwardReferenceIdeal := by
  letI := Cert.ForwardIdeal.Gen.facts
  letI := Cert.ForwardReferenceIdeal.Gen.facts
  intro m g m' g' _ hargs
  refine ⟨_, _, _, Cert.ForwardIdeal.Fwd.run_value m g _ (fun c => Cert.Fwd.tab_is _ _ _ _ _),
    Cert.ForwardReferenceIdeal.Fwd.run_value m' g' _ fun c => ?_⟩
  obtain ⟨h0, h1, h2, h3, h4⟩ := hargs c
  unfold Cert.ForwardReferenceIdeal.Fwd.hR Cert.ForwardReferenceIdeal.Fwd.gR Cert.ForwardReferenceIdeal.Fwd.w1R
    Cert.ForwardReferenceIdeal.Fwd.w3R Cert.ForwardReferenceIdeal.Fwd.w2R
  rw [h0, h1, h2, h3, h4]
  exact Cert.Fwd.tab_is _ _ _ _ _

/-- The gradients of the first layer's weights: the call and its reference have the same result and leave the arguments unchanged. -/
theorem algebraic_wide : letI := Cert.WideIdeal.Gen.facts; letI := Cert.WideReferenceIdeal.Gen.facts
    Cert.algebraic_WideIdeal_WideReferenceIdeal := by
  letI := Cert.WideIdeal.Gen.facts
  letI := Cert.WideReferenceIdeal.Gen.facts
  intro m g m' g' _ hargs
  refine ⟨_, Cert.WideIdeal.Grad.run_value m g _ _ (fun c => Cert.WideIdeal.Grad.is_ent _ _),
    Cert.WideReferenceIdeal.Grad.run_value m' g' _ _ (fun c p q => ?_) fun c p q => ?_⟩
  · rw [(hargs c).1]; exact Cert.Fwd.ent_eq _ p q
  · rw [(hargs c).2]; exact Cert.Fwd.ent_eq _ p q

/-- The gradient of the second layer's weight: the call and its reference have the same result and leave the arguments unchanged. -/
theorem algebraic_tall : letI := Cert.TallIdeal.Gen.facts; letI := Cert.TallReferenceIdeal.Gen.facts
    Cert.algebraic_TallIdeal_TallReferenceIdeal := by
  letI := Cert.TallIdeal.Gen.facts
  letI := Cert.TallReferenceIdeal.Gen.facts
  intro m g m' g' _ hargs
  refine ⟨_, Cert.TallIdeal.Grad.run_value m g _ _ (fun c => Cert.TallIdeal.Grad.is_ent _ _),
    Cert.TallReferenceIdeal.Grad.run_value m' g' _ _ (fun c p q => ?_) fun c p q => ?_⟩
  · rw [(hargs c).1]; exact Cert.Fwd.ent_eq _ p q
  · rw [(hargs c).2]; exact Cert.Fwd.ent_eq _ p q

/-- The mixer's first product: the call and its reference have the same result and leave the arguments unchanged. -/
theorem algebraic_project : letI := Cert.ProjectIdeal.Gen.facts; letI := Cert.ProjectReferenceIdeal.Gen.facts
    Cert.algebraic_ProjectIdeal_ProjectReferenceIdeal := by
  letI := Cert.ProjectIdeal.Gen.facts
  letI := Cert.ProjectReferenceIdeal.Gen.facts
  intro m g m' g' _ hargs
  refine ⟨_, Cert.ProjectIdeal.Proj.run_value m g _ (fun c => Cert.Proj.rows_is _ _ _),
    Cert.ProjectReferenceIdeal.Proj.run_value m' g' _ fun c => ?_⟩
  obtain ⟨h0, h1, h2⟩ := hargs c
  rw [h0, h1, h2]
  exact Cert.Proj.rows_is _ _ _

/-- The gradient of the mixer's first product: the call and its reference have the same three results and leave the arguments unchanged. -/
theorem algebraic_project_bwd : letI := Cert.ProjectBwdIdeal.Gen.facts; letI := Cert.ProjectBwdReferenceIdeal.Gen.facts
    Cert.algebraic_ProjectBwdIdeal_ProjectBwdReferenceIdeal := by
  letI := Cert.ProjectBwdIdeal.Gen.facts
  letI := Cert.ProjectBwdReferenceIdeal.Gen.facts
  intro m g m' g' _ hargs
  refine ⟨_, _, _, Cert.ProjectBwdIdeal.Proj.run_value m g _ (fun c => Cert.Proj.back_is _ _ _ _ _),
    Cert.ProjectBwdReferenceIdeal.Proj.run_value m' g' _ fun c => ?_⟩
  obtain ⟨h0, h1, h2, h3, h4⟩ := hargs c
  unfold Cert.ProjectBwdReferenceIdeal.Proj.hR Cert.ProjectBwdReferenceIdeal.Proj.oR Cert.ProjectBwdReferenceIdeal.Proj.drR
    Cert.ProjectBwdReferenceIdeal.Proj.gR Cert.ProjectBwdReferenceIdeal.Proj.wR
  rw [h0, h1, h2, h3, h4]
  exact Cert.Proj.back_is _ _ _ _ _

/-- The gradient of the mixer's first weight: the call and its reference have the same result and leave the arguments unchanged. -/
theorem algebraic_inner : letI := Cert.InnerIdeal.Gen.facts; letI := Cert.InnerReferenceIdeal.Gen.facts
    Cert.algebraic_InnerIdeal_InnerReferenceIdeal := by
  letI := Cert.InnerIdeal.Gen.facts
  letI := Cert.InnerReferenceIdeal.Gen.facts
  intro m g m' g' _ hargs
  refine ⟨_, Cert.InnerIdeal.Proj.run_value m g _ _ (fun c => Cert.InnerIdeal.Proj.is_ent _ _),
    Cert.InnerReferenceIdeal.Proj.run_value m' g' _ _ (fun c p q => ?_) fun c p q => ?_⟩
  · rw [(hargs c).1]; exact Cert.Fwd.ent_eq _ p q
  · rw [(hargs c).2]; exact Cert.Fwd.ent_eq _ p q

/-- The mixer's gate and last product: the call and its reference have the same result and leave the arguments unchanged. -/
theorem algebraic_gate : letI := Cert.GateIdeal.Gen.facts; letI := Cert.GateReferenceIdeal.Gen.facts
    Cert.algebraic_GateIdeal_GateReferenceIdeal := by
  letI := Cert.GateIdeal.Gen.facts
  letI := Cert.GateReferenceIdeal.Gen.facts
  intro m g m' g' _ hargs
  refine ⟨_, Cert.GateIdeal.Proj.run_value m g _ (fun c => Cert.Proj.gates_is _ _ _ _ _),
    Cert.GateReferenceIdeal.Proj.run_value m' g' _ fun c => ?_⟩
  obtain ⟨h0, h1, h2, h3, h4⟩ := hargs c
  rw [h0, h1, h2, h3, h4]
  exact Cert.Proj.gates_is _ _ _ _ _

/-- The gradient of the mixer's last weight: the call and its reference have the same result and leave the arguments unchanged. -/
theorem algebraic_outer : letI := Cert.OuterIdeal.Gen.facts; letI := Cert.OuterReferenceIdeal.Gen.facts
    Cert.algebraic_OuterIdeal_OuterReferenceIdeal := by
  letI := Cert.OuterIdeal.Gen.facts
  letI := Cert.OuterReferenceIdeal.Gen.facts
  intro m g m' g' _ hargs
  refine ⟨_, Cert.OuterIdeal.Proj.run_value m g _ _ (fun c => Cert.OuterIdeal.Proj.is_ent _ _),
    Cert.OuterReferenceIdeal.Proj.run_value m' g' _ _ (fun c p q => ?_) fun c p q => ?_⟩
  · rw [(hargs c).1]; exact Cert.Fwd.ent_eq _ p q
  · rw [(hargs c).2]; exact Cert.Fwd.ent_eq _ p q

/-- The gradient of the mixer's gate and last product: the call and its reference have the same four results and leave the arguments
    unchanged. -/
theorem algebraic_gate_bwd : letI := Cert.GateBwdIdeal.Gen.facts; letI := Cert.GateBwdReferenceIdeal.Gen.facts
    Cert.algebraic_GateBwdIdeal_GateBwdReferenceIdeal := by
  letI := Cert.GateBwdIdeal.Gen.facts
  letI := Cert.GateBwdReferenceIdeal.Gen.facts
  intro m g m' g' _ hargs
  refine ⟨_, _, _, _, Cert.GateBwdIdeal.Proj.run_value m g _ (fun c => Cert.Proj.gates_is _ _ _ _ _),
    Cert.GateBwdReferenceIdeal.Proj.run_value m' g' _ fun c => ?_⟩
  obtain ⟨h0, h1, h2, h3, h4⟩ := hargs c
  rw [h0, h1, h2, h3, h4]
  exact Cert.Proj.gates_is _ _ _ _ _

/-- Every claim of the certificate. -/
theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.Wide.Gen.facts, Cert.WideIdeal.Gen.facts, Cert.WideReferenceIdeal.Gen.facts,
  Cert.Tall.Gen.facts, Cert.TallIdeal.Gen.facts, Cert.TallReferenceIdeal.Gen.facts,
  Cert.Project.Gen.facts, Cert.ProjectIdeal.Gen.facts, Cert.ProjectReferenceIdeal.Gen.facts,
  Cert.ProjectBwd.Gen.facts, Cert.ProjectBwdIdeal.Gen.facts, Cert.ProjectBwdReferenceIdeal.Gen.facts,
  Cert.Inner.Gen.facts, Cert.InnerIdeal.Gen.facts, Cert.InnerReferenceIdeal.Gen.facts,
  Cert.Gate.Gen.facts, Cert.GateIdeal.Gen.facts, Cert.GateReferenceIdeal.Gen.facts,
  Cert.Outer.Gen.facts, Cert.OuterIdeal.Gen.facts, Cert.OuterReferenceIdeal.Gen.facts,
  Cert.GateBwd.Gen.facts, Cert.GateBwdIdeal.Gen.facts, Cert.GateBwdReferenceIdeal.Gen.facts,
  Cert.Pre_finite.Gen.facts, by
  letI := Cert.Kernel.Gen.facts
  letI := Cert.KernelIdeal.Gen.facts
  letI := Cert.ReferenceIdeal.Gen.facts
  letI := Cert.Pre_finite.Gen.facts
  exact ⟨Cert.KernelIdeal.Bwd.frame_kernel, fun m ρ _ => Cert.KernelIdeal.Bwd.frame m ρ,
    fun m ρ _ => Cert.KernelIdeal.Bwd.frame m ρ, fun m ρ _ => Cert.ReferenceIdeal.Value.frame m ρ,
    fun m ρ _ => Cert.ReferenceIdeal.Value.frame m ρ,
    fun m ρ _ => Cert.Forward.Gen.frame m ρ, fun m ρ _ => Cert.ForwardIdeal.Gen.frame m ρ,
    fun m ρ _ => Cert.ForwardReferenceIdeal.Fwd.frame m ρ,
    fun m ρ _ => Cert.Wide.Gen.frame m ρ, fun m ρ _ => Cert.WideIdeal.Gen.frame m ρ,
    fun m ρ _ => Cert.WideReferenceIdeal.Grad.frame m ρ,
    fun m ρ _ => Cert.Tall.Gen.frame m ρ, fun m ρ _ => Cert.TallIdeal.Gen.frame m ρ,
    fun m ρ _ => Cert.TallReferenceIdeal.Grad.frame m ρ,
    fun m ρ _ => Cert.Project.Gen.frame m ρ, fun m ρ _ => Cert.ProjectIdeal.Gen.frame m ρ,
    fun m ρ _ => Cert.ProjectReferenceIdeal.Proj.frame m ρ,
    fun m ρ _ => Cert.ProjectBwd.Gen.frame m ρ, fun m ρ _ => Cert.ProjectBwdIdeal.Gen.frame m ρ,
    fun m ρ _ => Cert.ProjectBwdReferenceIdeal.Proj.frame m ρ,
    fun m ρ _ => Cert.Inner.Gen.frame m ρ, fun m ρ _ => Cert.InnerIdeal.Gen.frame m ρ,
    fun m ρ _ => Cert.InnerReferenceIdeal.Proj.frame m ρ,
    fun m ρ _ => Cert.Gate.Gen.frame m ρ, fun m ρ _ => Cert.GateIdeal.Gen.frame m ρ,
    fun m ρ _ => Cert.GateReferenceIdeal.Proj.frame m ρ,
    fun m ρ _ => Cert.Outer.Gen.frame m ρ, fun m ρ _ => Cert.OuterIdeal.Gen.frame m ρ,
    fun m ρ _ => Cert.OuterReferenceIdeal.Proj.frame m ρ,
    fun m ρ _ => Cert.GateBwd.Gen.frame m ρ, fun m ρ _ => Cert.GateBwdIdeal.Gen.frame m ρ,
    fun m ρ _ => Cert.GateBwdReferenceIdeal.Proj.frame m ρ,
    trivial, algebraic, trivial, algebraic_forward, trivial, algebraic_wide, trivial, algebraic_tall,
    trivial, algebraic_project, trivial, algebraic_project_bwd, trivial, algebraic_inner, trivial, algebraic_gate,
    trivial, algebraic_outer, trivial, algebraic_gate_bwd⟩⟩

end Cert.Proof

end
